-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)) (v3 : (c : Dev Cert.MergeIdeal.nD) → Buf (Elt Ideal) ((c.tc : Thread Cert.MergeIdeal.nD Cert.MergeIdeal.τ).loc Cert.MergeIdeal.main_v8_3)) (v4 : (c : Dev Cert.MergeIdeal.nD) → Buf (Elt Ideal) ((c.tc : Thread Cert.MergeIdeal.nD Cert.MergeIdeal.τ).loc Cert.MergeIdeal.main_v8_4)) (v5 : (c : Dev Cert.MergeIdeal.nD) → Buf (Elt Ideal) ((c.tc : Thread Cert.MergeIdeal.nD Cert.MergeIdeal.τ).loc Cert.MergeIdeal.main_v8_5)) (v6 : (c : Dev Cert.MergeIdeal.nD) → Buf (Elt Ideal) ((c.tc : Thread Cert.MergeIdeal.nD Cert.MergeIdeal.τ).loc Cert.MergeIdeal.main_v8_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_v8_3) = v3 c
          ∧ r.2.mem ((c.tc : Thread Cert.MergeIdeal.nD Cert.MergeIdeal.τ).loc Cert.MergeIdeal.main_v8_4) = v4 c
          ∧ r.2.mem ((c.tc : Thread Cert.MergeIdeal.nD Cert.MergeIdeal.τ).loc Cert.MergeIdeal.main_v8_5) = v5 c
          ∧ r.2.mem ((c.tc : Thread Cert.MergeIdeal.nD Cert.MergeIdeal.τ).loc Cert.MergeIdeal.main_v8_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_v64) = v1 c
          ∧ r.2.mem ((c.tc : Thread Cert.MergeRefIdeal.nD Cert.MergeRefIdeal.τ).loc Cert.MergeRefIdeal.main_v65) = v2 c
          ∧ r.2.mem ((c.tc : Thread Cert.MergeRefIdeal.nD Cert.MergeRefIdeal.τ).loc Cert.MergeRefIdeal.main_v66) = v3 c
          ∧ r.2.mem ((c.tc : Thread Cert.MergeRefIdeal.nD Cert.MergeRefIdeal.τ).loc Cert.MergeRefIdeal.main_v68) = v4 c
          ∧ r.2.mem ((c.tc : Thread Cert.MergeRefIdeal.nD Cert.MergeRefIdeal.τ).loc Cert.MergeRefIdeal.main_v69) = v5 c
          ∧ r.2.mem ((c.tc : Thread Cert.MergeRefIdeal.nD Cert.MergeRefIdeal.τ).loc Cert.MergeRefIdeal.main_v60) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0_0)) (v1 : (c : Dev Cert.SquareIdeal.nD) → Buf (Elt Ideal) ((c.tc : Thread Cert.SquareIdeal.nD Cert.SquareIdeal.τ).loc Cert.SquareIdeal.main_v0_1)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0_0) = v0 c
          ∧ r.2.mem ((c.tc : Thread Cert.SquareIdeal.nD Cert.SquareIdeal.τ).loc Cert.SquareIdeal.main_v0_1) = v1 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v6) = v0 c
          ∧ r.2.mem ((c.tc : Thread Cert.SquareRefIdeal.nD Cert.SquareRefIdeal.τ).loc Cert.SquareRefIdeal.main_v8) = v1 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)
      ∧ m' ((c.tc : Thread Cert.PairRefIdeal.nD Cert.PairRefIdeal.τ).loc Cert.PairRefIdeal.main_arg2) = m ((c.tc : Thread Cert.PairIdeal.nD Cert.PairIdeal.τ).loc Cert.PairIdeal.main_arg2)) →
    ∃ (v0 : (c : Dev Cert.PairIdeal.nD) → Buf (Elt Ideal) ((c.tc : Thread Cert.PairIdeal.nD Cert.PairIdeal.τ).loc Cert.PairIdeal.main_v0_0)) (v1 : (c : Dev Cert.PairIdeal.nD) → Buf (Elt Ideal) ((c.tc : Thread Cert.PairIdeal.nD Cert.PairIdeal.τ).loc Cert.PairIdeal.main_v0_1)) (v2 : (c : Dev Cert.PairIdeal.nD) → Buf (Elt Ideal) ((c.tc : Thread Cert.PairIdeal.nD Cert.PairIdeal.τ).loc Cert.PairIdeal.main_v0_2)) (v3 : (c : Dev Cert.PairIdeal.nD) → Buf (Elt Ideal) ((c.tc : Thread Cert.PairIdeal.nD Cert.PairIdeal.τ).loc Cert.PairIdeal.main_v0_3)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v0_0) = v0 c
          ∧ r.2.mem ((c.tc : Thread Cert.PairIdeal.nD Cert.PairIdeal.τ).loc Cert.PairIdeal.main_v0_1) = v1 c
          ∧ r.2.mem ((c.tc : Thread Cert.PairIdeal.nD Cert.PairIdeal.τ).loc Cert.PairIdeal.main_v0_2) = v2 c
          ∧ r.2.mem ((c.tc : Thread Cert.PairIdeal.nD Cert.PairIdeal.τ).loc Cert.PairIdeal.main_v0_3) = v3 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v6) = v0 c
          ∧ r.2.mem ((c.tc : Thread Cert.PairRefIdeal.nD Cert.PairRefIdeal.τ).loc Cert.PairRefIdeal.main_v14) = v1 c
          ∧ r.2.mem ((c.tc : Thread Cert.PairRefIdeal.nD Cert.PairRefIdeal.τ).loc Cert.PairRefIdeal.main_v13) = v2 c
          ∧ r.2.mem ((c.tc : Thread Cert.PairRefIdeal.nD Cert.PairRefIdeal.τ).loc Cert.PairRefIdeal.main_v15) = v3 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0_0)) (v1 : (c : Dev Cert.WinIdeal.nD) → Buf (Elt Ideal) ((c.tc : Thread Cert.WinIdeal.nD Cert.WinIdeal.τ).loc Cert.WinIdeal.main_v0_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0_0) = v0 c
          ∧ r.2.mem ((c.tc : Thread Cert.WinIdeal.nD Cert.WinIdeal.τ).loc Cert.WinIdeal.main_v0_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_v8) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v40) = v0 c
          ∧ r.2.mem ((c.tc : Thread Cert.InprojRefIdeal.nD Cert.InprojRefIdeal.τ).loc Cert.InprojRefIdeal.main_v23) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_v30) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg1) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg1) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)) (v3 : (c : Dev Cert.MergeFwdIdeal.nD) → Buf (Elt Ideal) ((c.tc : Thread Cert.MergeFwdIdeal.nD Cert.MergeFwdIdeal.τ).loc Cert.MergeFwdIdeal.main_v0_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_v0_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v35) = v0 c
          ∧ r.2.mem ((c.tc : Thread Cert.MergeFwdRefIdeal.nD Cert.MergeFwdRefIdeal.τ).loc Cert.MergeFwdRefIdeal.main_v36) = v1 c
          ∧ r.2.mem ((c.tc : Thread Cert.MergeFwdRefIdeal.nD Cert.MergeFwdRefIdeal.τ).loc Cert.MergeFwdRefIdeal.main_v37) = v2 c
          ∧ r.2.mem ((c.tc : Thread Cert.MergeFwdRefIdeal.nD Cert.MergeFwdRefIdeal.τ).loc Cert.MergeFwdRefIdeal.main_v40) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v23) = v0 c
          ∧ r.2.mem ((c.tc : Thread Cert.FfnFwdRefIdeal.nD Cert.FfnFwdRefIdeal.τ).loc Cert.FfnFwdRefIdeal.main_v24) = v1 c
          ∧ r.2.mem ((c.tc : Thread Cert.FfnFwdRefIdeal.nD Cert.FfnFwdRefIdeal.τ).loc Cert.FfnFwdRefIdeal.main_v25) = v2 c
          ∧ r.2.mem ((c.tc : Thread Cert.FfnFwdRefIdeal.nD Cert.FfnFwdRefIdeal.τ).loc Cert.FfnFwdRefIdeal.main_v22) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v4)) (v1 : (c : Dev Cert.AdamGateIdeal.nD) → Buf (Elt Ideal) ((c.tc : Thread Cert.AdamGateIdeal.nD Cert.AdamGateIdeal.τ).loc Cert.AdamGateIdeal.main_v5)) (v2 : (c : Dev Cert.AdamGateIdeal.nD) → Buf (Elt Ideal) ((c.tc : Thread Cert.AdamGateIdeal.nD Cert.AdamGateIdeal.τ).loc Cert.AdamGateIdeal.main_v6)) (v3 : (c : Dev Cert.AdamGateIdeal.nD) → Buf (Elt Ideal) ((c.tc : Thread Cert.AdamGateIdeal.nD Cert.AdamGateIdeal.τ).loc Cert.AdamGateIdeal.main_v7)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v4) = v0 c
          ∧ r.2.mem ((c.tc : Thread Cert.AdamGateIdeal.nD Cert.AdamGateIdeal.τ).loc Cert.AdamGateIdeal.main_v5) = v1 c
          ∧ r.2.mem ((c.tc : Thread Cert.AdamGateIdeal.nD Cert.AdamGateIdeal.τ).loc Cert.AdamGateIdeal.main_v6) = v2 c
          ∧ r.2.mem ((c.tc : Thread Cert.AdamGateIdeal.nD Cert.AdamGateIdeal.τ).loc Cert.AdamGateIdeal.main_v7) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v24) = v0 c
          ∧ r.2.mem ((c.tc : Thread Cert.AdamGateRefIdeal.nD Cert.AdamGateRefIdeal.τ).loc Cert.AdamGateRefIdeal.main_v5) = v1 c
          ∧ r.2.mem ((c.tc : Thread Cert.AdamGateRefIdeal.nD Cert.AdamGateRefIdeal.τ).loc Cert.AdamGateRefIdeal.main_v11) = v2 c
          ∧ r.2.mem ((c.tc : Thread Cert.AdamGateRefIdeal.nD Cert.AdamGateRefIdeal.τ).loc Cert.AdamGateRefIdeal.main_v0) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)) (v27 : (c : Dev Cert.AdamSmallIdeal.nD) → Buf (Elt Ideal) ((c.tc : Thread Cert.AdamSmallIdeal.nD Cert.AdamSmallIdeal.τ).loc Cert.AdamSmallIdeal.main_v0_27)) (v28 : (c : Dev Cert.AdamSmallIdeal.nD) → Buf (Elt Ideal) ((c.tc : Thread Cert.AdamSmallIdeal.nD Cert.AdamSmallIdeal.τ).loc Cert.AdamSmallIdeal.main_v0_28)) (v29 : (c : Dev Cert.AdamSmallIdeal.nD) → Buf (Elt Ideal) ((c.tc : Thread Cert.AdamSmallIdeal.nD Cert.AdamSmallIdeal.τ).loc Cert.AdamSmallIdeal.main_v0_29)) (v30 : (c : Dev Cert.AdamSmallIdeal.nD) → Buf (Elt Ideal) ((c.tc : Thread Cert.AdamSmallIdeal.nD Cert.AdamSmallIdeal.τ).loc Cert.AdamSmallIdeal.main_v0_30)) (v31 : (c : Dev Cert.AdamSmallIdeal.nD) → Buf (Elt Ideal) ((c.tc : Thread Cert.AdamSmallIdeal.nD Cert.AdamSmallIdeal.τ).loc Cert.AdamSmallIdeal.main_v0_31)) (v32 : (c : Dev Cert.AdamSmallIdeal.nD) → Buf (Elt Ideal) ((c.tc : Thread Cert.AdamSmallIdeal.nD Cert.AdamSmallIdeal.τ).loc Cert.AdamSmallIdeal.main_v0_32)) (v33 : (c : Dev Cert.AdamSmallIdeal.nD) → Buf (Elt Ideal) ((c.tc : Thread Cert.AdamSmallIdeal.nD Cert.AdamSmallIdeal.τ).loc Cert.AdamSmallIdeal.main_v0_33)) (v34 : (c : Dev Cert.AdamSmallIdeal.nD) → Buf (Elt Ideal) ((c.tc : Thread Cert.AdamSmallIdeal.nD Cert.AdamSmallIdeal.τ).loc Cert.AdamSmallIdeal.main_v0_34)) (v35 : (c : Dev Cert.AdamSmallIdeal.nD) → Buf (Elt Ideal) ((c.tc : Thread Cert.AdamSmallIdeal.nD Cert.AdamSmallIdeal.τ).loc Cert.AdamSmallIdeal.main_v0_35)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_v0_27) = v27 c
          ∧ r.2.mem ((c.tc : Thread Cert.AdamSmallIdeal.nD Cert.AdamSmallIdeal.τ).loc Cert.AdamSmallIdeal.main_v0_28) = v28 c
          ∧ r.2.mem ((c.tc : Thread Cert.AdamSmallIdeal.nD Cert.AdamSmallIdeal.τ).loc Cert.AdamSmallIdeal.main_v0_29) = v29 c
          ∧ r.2.mem ((c.tc : Thread Cert.AdamSmallIdeal.nD Cert.AdamSmallIdeal.τ).loc Cert.AdamSmallIdeal.main_v0_30) = v30 c
          ∧ r.2.mem ((c.tc : Thread Cert.AdamSmallIdeal.nD Cert.AdamSmallIdeal.τ).loc Cert.AdamSmallIdeal.main_v0_31) = v31 c
          ∧ r.2.mem ((c.tc : Thread Cert.AdamSmallIdeal.nD Cert.AdamSmallIdeal.τ).loc Cert.AdamSmallIdeal.main_v0_32) = v32 c
          ∧ r.2.mem ((c.tc : Thread Cert.AdamSmallIdeal.nD Cert.AdamSmallIdeal.τ).loc Cert.AdamSmallIdeal.main_v0_33) = v33 c
          ∧ r.2.mem ((c.tc : Thread Cert.AdamSmallIdeal.nD Cert.AdamSmallIdeal.τ).loc Cert.AdamSmallIdeal.main_v0_34) = v34 c
          ∧ r.2.mem ((c.tc : Thread Cert.AdamSmallIdeal.nD Cert.AdamSmallIdeal.τ).loc Cert.AdamSmallIdeal.main_v0_35) = v35 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v263) = v10 c
          ∧ r.2.mem ((c.tc : Thread Cert.AdamSmallRefIdeal.nD Cert.AdamSmallRefIdeal.τ).loc Cert.AdamSmallRefIdeal.main_v287) = v11 c
          ∧ r.2.mem ((c.tc : Thread Cert.AdamSmallRefIdeal.nD Cert.AdamSmallRefIdeal.τ).loc Cert.AdamSmallRefIdeal.main_v4) = v12 c
          ∧ r.2.mem ((c.tc : Thread Cert.AdamSmallRefIdeal.nD Cert.AdamSmallRefIdeal.τ).loc Cert.AdamSmallRefIdeal.main_v28) = v13 c
          ∧ r.2.mem ((c.tc : Thread Cert.AdamSmallRefIdeal.nD Cert.AdamSmallRefIdeal.τ).loc Cert.AdamSmallRefIdeal.main_v52) = v14 c
          ∧ r.2.mem ((c.tc : Thread Cert.AdamSmallRefIdeal.nD Cert.AdamSmallRefIdeal.τ).loc Cert.AdamSmallRefIdeal.main_v76) = v15 c
          ∧ r.2.mem ((c.tc : Thread Cert.AdamSmallRefIdeal.nD Cert.AdamSmallRefIdeal.τ).loc Cert.AdamSmallRefIdeal.main_v100) = v16 c
          ∧ r.2.mem ((c.tc : Thread Cert.AdamSmallRefIdeal.nD Cert.AdamSmallRefIdeal.τ).loc Cert.AdamSmallRefIdeal.main_v124) = v17 c
          ∧ r.2.mem ((c.tc : Thread Cert.AdamSmallRefIdeal.nD Cert.AdamSmallRefIdeal.τ).loc Cert.AdamSmallRefIdeal.main_v148) = v18 c
          ∧ r.2.mem ((c.tc : Thread Cert.AdamSmallRefIdeal.nD Cert.AdamSmallRefIdeal.τ).loc Cert.AdamSmallRefIdeal.main_v172) = v19 c
          ∧ r.2.mem ((c.tc : Thread Cert.AdamSmallRefIdeal.nD Cert.AdamSmallRefIdeal.τ).loc Cert.AdamSmallRefIdeal.main_v196) = v20 c
          ∧ r.2.mem ((c.tc : Thread Cert.AdamSmallRefIdeal.nD Cert.AdamSmallRefIdeal.τ).loc Cert.AdamSmallRefIdeal.main_v220) = v21 c
          ∧ r.2.mem ((c.tc : Thread Cert.AdamSmallRefIdeal.nD Cert.AdamSmallRefIdeal.τ).loc Cert.AdamSmallRefIdeal.main_v244) = v22 c
          ∧ r.2.mem ((c.tc : Thread Cert.AdamSmallRefIdeal.nD Cert.AdamSmallRefIdeal.τ).loc Cert.AdamSmallRefIdeal.main_v268) = v23 c
          ∧ r.2.mem ((c.tc : Thread Cert.AdamSmallRefIdeal.nD Cert.AdamSmallRefIdeal.τ).loc Cert.AdamSmallRefIdeal.main_v10) = v24 c
          ∧ r.2.mem ((c.tc : Thread Cert.AdamSmallRefIdeal.nD Cert.AdamSmallRefIdeal.τ).loc Cert.AdamSmallRefIdeal.main_v34) = v25 c
          ∧ r.2.mem ((c.tc : Thread Cert.AdamSmallRefIdeal.nD Cert.AdamSmallRefIdeal.τ).loc Cert.AdamSmallRefIdeal.main_v58) = v26 c
          ∧ r.2.mem ((c.tc : Thread Cert.AdamSmallRefIdeal.nD Cert.AdamSmallRefIdeal.τ).loc Cert.AdamSmallRefIdeal.main_v82) = v27 c
          ∧ r.2.mem ((c.tc : Thread Cert.AdamSmallRefIdeal.nD Cert.AdamSmallRefIdeal.τ).loc Cert.AdamSmallRefIdeal.main_v106) = v28 c
          ∧ r.2.mem ((c.tc : Thread Cert.AdamSmallRefIdeal.nD Cert.AdamSmallRefIdeal.τ).loc Cert.AdamSmallRefIdeal.main_v130) = v29 c
          ∧ r.2.mem ((c.tc : Thread Cert.AdamSmallRefIdeal.nD Cert.AdamSmallRefIdeal.τ).loc Cert.AdamSmallRefIdeal.main_v154) = v30 c
          ∧ r.2.mem ((c.tc : Thread Cert.AdamSmallRefIdeal.nD Cert.AdamSmallRefIdeal.τ).loc Cert.AdamSmallRefIdeal.main_v178) = v31 c
          ∧ r.2.mem ((c.tc : Thread Cert.AdamSmallRefIdeal.nD Cert.AdamSmallRefIdeal.τ).loc Cert.AdamSmallRefIdeal.main_v202) = v32 c
          ∧ r.2.mem ((c.tc : Thread Cert.AdamSmallRefIdeal.nD Cert.AdamSmallRefIdeal.τ).loc Cert.AdamSmallRefIdeal.main_v226) = v33 c
          ∧ r.2.mem ((c.tc : Thread Cert.AdamSmallRefIdeal.nD Cert.AdamSmallRefIdeal.τ).loc Cert.AdamSmallRefIdeal.main_v250) = v34 c
          ∧ r.2.mem ((c.tc : Thread Cert.AdamSmallRefIdeal.nD Cert.AdamSmallRefIdeal.τ).loc Cert.AdamSmallRefIdeal.main_v274) = v35 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47))

def Claim : Prop :=
  ∃ (hMerge : Cert.Merge.Facts) (hMergeIdeal : Cert.MergeIdeal.Facts) (hMergeRefIdeal : Cert.MergeRefIdeal.Facts) (hSquare : Cert.Square.Facts) (hSquareIdeal : Cert.SquareIdeal.Facts) (hSquareRefIdeal : Cert.SquareRefIdeal.Facts) (hDown : Cert.Down.Facts) (hDownIdeal : Cert.DownIdeal.Facts) (hDownRefIdeal : Cert.DownRefIdeal.Facts) (hPair : Cert.Pair.Facts) (hPairIdeal : Cert.PairIdeal.Facts) (hPairRefIdeal : Cert.PairRefIdeal.Facts) (hWin : Cert.Win.Facts) (hWinIdeal : Cert.WinIdeal.Facts) (hWinRefIdeal : Cert.WinRefIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamFfn : Cert.AdamFfn.Facts) (hAdamFfnIdeal : Cert.AdamFfnIdeal.Facts) (hAdamFfnRefIdeal : Cert.AdamFfnRefIdeal.Facts) (hMergeFwd : Cert.MergeFwd.Facts) (hMergeFwdIdeal : Cert.MergeFwdIdeal.Facts) (hMergeFwdRefIdeal : Cert.MergeFwdRefIdeal.Facts) (hFfnFwd : Cert.FfnFwd.Facts) (hFfnFwdIdeal : Cert.FfnFwdIdeal.Facts) (hFfnFwdRefIdeal : Cert.FfnFwdRefIdeal.Facts) (hAdamGate : Cert.AdamGate.Facts) (hAdamGateIdeal : Cert.AdamGateIdeal.Facts) (hAdamGateRefIdeal : Cert.AdamGateRefIdeal.Facts) (hAdamSmall : Cert.AdamSmall.Facts) (hAdamSmallIdeal : Cert.AdamSmallIdeal.Facts) (hAdamSmallRefIdeal : Cert.AdamSmallRefIdeal.Facts),
    quiescent_Merge (hMerge := hMerge)
    ∧ quiescent_MergeIdeal (hMergeIdeal := hMergeIdeal)
    ∧ quiescent_MergeRefIdeal (hMergeRefIdeal := hMergeRefIdeal)
    ∧ quiescent_Square (hSquare := hSquare)
    ∧ quiescent_SquareIdeal (hSquareIdeal := hSquareIdeal)
    ∧ quiescent_SquareRefIdeal (hSquareRefIdeal := hSquareRefIdeal)
    ∧ quiescent_Down (hDown := hDown)
    ∧ quiescent_DownIdeal (hDownIdeal := hDownIdeal)
    ∧ quiescent_DownRefIdeal (hDownRefIdeal := hDownRefIdeal)
    ∧ quiescent_Pair (hPair := hPair)
    ∧ quiescent_PairIdeal (hPairIdeal := hPairIdeal)
    ∧ quiescent_PairRefIdeal (hPairRefIdeal := hPairRefIdeal)
    ∧ quiescent_Win (hWin := hWin)
    ∧ quiescent_WinIdeal (hWinIdeal := hWinIdeal)
    ∧ quiescent_WinRefIdeal (hWinRefIdeal := hWinRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Merge_MergeIdeal
    ∧ algebraic_MergeIdeal_MergeRefIdeal (hMergeIdeal := hMergeIdeal) (hMergeRefIdeal := hMergeRefIdeal)
    ∧ preserves_Square_SquareIdeal
    ∧ algebraic_SquareIdeal_SquareRefIdeal (hSquareIdeal := hSquareIdeal) (hSquareRefIdeal := hSquareRefIdeal)
    ∧ preserves_Down_DownIdeal
    ∧ algebraic_DownIdeal_DownRefIdeal (hDownIdeal := hDownIdeal) (hDownRefIdeal := hDownRefIdeal)
    ∧ preserves_Pair_PairIdeal
    ∧ algebraic_PairIdeal_PairRefIdeal (hPairIdeal := hPairIdeal) (hPairRefIdeal := hPairRefIdeal)
    ∧ preserves_Win_WinIdeal
    ∧ algebraic_WinIdeal_WinRefIdeal (hWinIdeal := hWinIdeal) (hWinRefIdeal := hWinRefIdeal)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Merge.lean ====
abbrev S8192x7168 : Shape := ⟨2, ![8192, 7168]⟩
abbrev S8192x1024 : Shape := ⟨2, ![8192, 1024]⟩
abbrev S1024x1024 : Shape := ⟨2, ![1024, 1024]⟩
abbrev S2x1024 : Shape := ⟨2, ![2, 1024]⟩
abbrev S8192x2048 : Shape := ⟨2, ![8192, 2048]⟩
abbrev S512x1024 : Shape := ⟨2, ![512, 1024]⟩
abbrev S512x2048 : Shape := ⟨2, ![512, 2048]⟩
abbrev S2x8x1024 : Shape := ⟨3, ![2, 8, 1024]⟩
abbrev S1x1024 : Shape := ⟨2, ![1, 1024]⟩
abbrev S1x8x1024 : Shape := ⟨3, ![1, 8, 1024]⟩
abbrev S8x1024 : Shape := ⟨2, ![8, 1024]⟩
abbrev S64x8x1024 : Shape := ⟨3, ![64, 8, 1024]⟩
abbrev S1024 : Shape := ⟨1, ![1024]⟩

abbrev nBuf : Space → Nat
  | .hbm => 23
  | .vmem => 28
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x2048, .bf16⟩
  | .hbm, ⟨21, _⟩ => ⟨S8192x1024, .bf16⟩
  | .hbm, ⟨22, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S2x1024, .f32⟩
  | .local _ .vmem, ⟨27, _⟩ => ⟨S2x8x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v82 : BitVec 1 := Scalar.cmpi .eq arg0 c15_i32
  let v83 : BitVec 32 := Scalar.extui v82
  let c0_i32_56 : BitVec 32 := 0#32
  let v84 : BitVec 1 := Scalar.cmpi .ne v83 c0_i32_56
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeRefIdeal.lean ====
abbrev S8192x7168 : Shape := ⟨2, ![8192, 7168]⟩
abbrev S8192x1024 : Shape := ⟨2, ![8192, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S8192x2048 : Shape := ⟨2, ![8192, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S2x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S8192x1024, .f32⟩
  | .hbm, ⟨82, _⟩ => ⟨S8192x1024, .bf16⟩
  | .hbm, ⟨83, _⟩ => ⟨S8192x1024, .f32⟩
  | .hbm, ⟨84, _⟩ => ⟨S8192x1024, .bf16⟩
  | .hbm, ⟨85, _⟩ => ⟨S8192x1024, .bf16⟩
  | .hbm, ⟨86, _⟩ => ⟨S8192x1024, .bf16⟩
  | .hbm, ⟨87, _⟩ => ⟨S8192x2048, .f32⟩
  | .hbm, ⟨88, _⟩ => ⟨S8192x2048, .bf16⟩
  | .hbm, ⟨89, _⟩ => ⟨S8192x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Square.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== SquareRefIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 4
  | .vmem => 8
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | .local _ .vmem, ⟨6, _⟩ => ⟨S1x704x1024, .bf16⟩
  | .local _ .vmem, ⟨7, _⟩ => ⟨S1x704x1024, .bf16⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DownRefIdeal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S4x704x1024, .f32⟩
  | .hbm, ⟨4, _⟩ => ⟨S4x8192x704, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Pair.lean ====
abbrev S8192x1024 : Shape := ⟨2, ![8192, 1024]⟩
abbrev S4x8192x704 : Shape := ⟨3, ![4, 8192, 704]⟩
abbrev S4x704x1024 : Shape := ⟨3, ![4, 704, 1024]⟩
abbrev S2048x1024 : Shape := ⟨2, ![2048, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S4x704x1024, .f32⟩
  | .hbm, ⟨4, _⟩ => ⟨S4x704x1024, .bf16⟩
  | .hbm, ⟨5, _⟩ => ⟨S4x704x1024, .f32⟩
  | .hbm, ⟨6, _⟩ => ⟨S4x704x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x704x1024, .f32⟩
  | .local _ .vmem, ⟨7, _⟩ => ⟨S1x704x1024, .f32⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .bf16⟩
  | .local _ .vmem, ⟨13, _⟩ => ⟨S1x704x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_21 : BitVec 32 := 0#32
  let v24 : BitVec 1 := Scalar.cmpi .ne v23 c0_i32_21
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PairRefIdeal.lean ====
abbrev S8192x1024 : Shape := ⟨2, ![8192, 1024]⟩
abbrev S4x8192x704 : Shape := ⟨3, ![4, 8192, 704]⟩
abbrev S_ : Shape := ⟨0, ![]⟩
abbrev S4x704x1024 : Shape := ⟨3, ![4, 704, 1024]⟩
abbrev S4x704x8192 : Shape := ⟨3, ![4, 704, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x8192x704, .bf16⟩
  | .hbm, ⟨3, _⟩ => ⟨S_, .f32⟩
  | .hbm, ⟨4, _⟩ => ⟨S4x704x1024, .f32⟩
  | .hbm, ⟨5, _⟩ => ⟨S8192x1024, .f32⟩
  | .hbm, ⟨6, _⟩ => ⟨S4x704x8192, .f32⟩
  | .hbm, ⟨7, _⟩ => ⟨S4x8192x704, .f32⟩
  | .hbm, ⟨8, _⟩ => ⟨S4x8192x704, .f32⟩
  | .hbm, ⟨9, _⟩ => ⟨S4x704x8192, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S8192x1024, .f32⟩
  | .hbm, ⟨14, _⟩ => ⟨S4x704x8192, .f32⟩
  | .hbm, ⟨15, _⟩ => ⟨S4x8192x704, .f32⟩
  | .hbm, ⟨16, _⟩ => ⟨S4x8192x704, .f32⟩
  | .hbm, ⟨17, _⟩ => ⟨S4x704x8192, .f32⟩
  | .hbm, ⟨18, _⟩ => ⟨S4x704x1024, .f32⟩
  | .hbm, ⟨19, _⟩ => ⟨S4x704x1024, .bf16⟩
  | .hbm, ⟨20, _⟩ => ⟨S4x704x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Win.lean ====
abbrev S8192x1024 : Shape := ⟨2, ![8192, 1024]⟩
abbrev S8192x7168 : Shape := ⟨2, ![8192, 7168]⟩
abbrev S4x1024x1792 : Shape := ⟨3, ![4, 1024, 1792]⟩
abbrev S2048x1024 : Shape := ⟨2, ![2048, 1024]⟩
abbrev S2048x1792 : Shape := ⟨2, ![2048, 1792]⟩
abbrev S1x1024x1792 : Shape := ⟨3, ![1, 1024, 1792]⟩
abbrev S1024x1792 : Shape := ⟨2, ![1024, 1792]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S4x1024x1792, .f32⟩
  | .hbm, ⟨3, _⟩ => ⟨S4x1024x1792, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1x1024x1792, .f32⟩
  | .local _ .vmem, ⟨5, _⟩ => ⟨S1x1024x1792, .f32⟩
  | .local _ .vmem, ⟨6, _⟩ => ⟨S1x1024x1792, .bf16⟩
  | .local _ .vmem, ⟨7, _⟩ => ⟨S1x1024x1792, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WinRefIdeal.lean ====
abbrev S8192x1024 : Shape := ⟨2, ![8192, 1024]⟩
abbrev S8192x7168 : Shape := ⟨2, ![8192, 7168]⟩
abbrev S_ : Shape := ⟨0, ![]⟩
abbrev S4x1024x1792 : Shape := ⟨3, ![4, 1024, 1792]⟩
abbrev S8192x4x1792 : Shape := ⟨3, ![8192, 4, 1792]⟩
abbrev S4x1792x1024 : Shape := ⟨3, ![4, 1792, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S4x1024x1792, .f32⟩
  | .hbm, ⟨4, _⟩ => ⟨S8192x1024, .f32⟩
  | .hbm, ⟨5, _⟩ => ⟨S8192x4x1792, .f32⟩
  | .hbm, ⟨6, _⟩ => ⟨S8192x7168, .f32⟩
  | .hbm, ⟨7, _⟩ => ⟨S8192x7168, .f32⟩
  | .hbm, ⟨8, _⟩ => ⟨S8192x4x1792, .f32⟩
  | .hbm, ⟨9, _⟩ => ⟨S4x1792x1024, .f32⟩
  | .hbm, ⟨10, _⟩ => ⟨S4x1024x1792, .f32⟩
  | .hbm, ⟨11, _⟩ => ⟨S4x1024x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Inproj.lean ====
abbrev S8192x7168 : Shape := ⟨2, ![8192, 7168]⟩
abbrev S8192x1024 : Shape := ⟨2, ![8192, 1024]⟩
abbrev S1x1024 : Shape := ⟨2, ![1, 1024]⟩
abbrev S4x1024x1792 : Shape := ⟨3, ![4, 1024, 1792]⟩
abbrev S1024x1792 : Shape := ⟨2, ![1024, 1792]⟩
abbrev S1024x1024 : Shape := ⟨2, ![1024, 1024]⟩
abbrev S1x1024x1792 : Shape := ⟨3, ![1, 1024, 1792]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S4x1024x1792, .bf16⟩
  | .hbm, ⟨5, _⟩ => ⟨S8192x1024, .f32⟩
  | .hbm, ⟨6, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024x1792, .bf16⟩
  | .local _ .vmem, ⟨8, _⟩ => ⟨S1x1024x1792, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S8x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def k0_cond4 (i : grid0.Coords) : BitVec 1 :=
  let arg0 : BitVec 32 := BitVec.ofNat 32 (i 0).val
  let c7_i32 : BitVec 32 := 7#32
  let v20 : BitVec 1 := Scalar.cmpi .eq arg0 c7_i32
  let arg1 : BitVec 32 := BitVec.ofNat 32 (i 1).val
  let c3_i32_13 : BitVec 32 := 3#32
  let v21 : BitVec 1 := Scalar.cmpi .eq arg1 c3_i32_13
  let v22 : BitVec 1 := Scalar.andi v20 v21
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InprojRefIdeal.lean ====
abbrev S8192x7168 : Shape := ⟨2, ![8192, 7168]⟩
abbrev S8192x1024 : Shape := ⟨2, ![8192, 1024]⟩
abbrev S1x1024 : Shape := ⟨2, ![1, 1024]⟩
abbrev S4x1024x1792 : Shape := ⟨3, ![4, 1024, 1792]⟩
abbrev S_ : Shape := ⟨0, ![]⟩
abbrev S8192 : Shape := ⟨1, ![8192]⟩
abbrev S8192x1 : Shape := ⟨2, ![8192, 1]⟩
abbrev S8192x4x1792 : Shape := ⟨3, ![8192, 4, 1792]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S4x1024x1792, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S4x1024x1792, .f32⟩
  | .hbm, ⟨25, _⟩ => ⟨S8192x4x1792, .f32⟩
  | .hbm, ⟨26, _⟩ => ⟨S8192x7168, .f32⟩
  | .hbm, ⟨27, _⟩ => ⟨S8192x7168, .f32⟩
  | .hbm, ⟨28, _⟩ => ⟨S8192x4x1792, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Ffn.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S8x1024 : Shape := ⟨2, ![8, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x704x1024, .bf16⟩
  | .hbm, ⟨3, _⟩ => ⟨S4x704x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S8x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_20 : BitVec 32 := 0#32
  let v26 : BitVec 1 := Scalar.cmpi .ne v25 c0_i32_20
  v26

def k0_cond4 (i : grid0.Coords) : BitVec 1 :=
  let arg0 : BitVec 32 := BitVec.ofNat 32 (i 0).val
  let c7_i32 : BitVec 32 := 7#32
  let v27 : BitVec 1 := Scalar.cmpi .eq arg0 c7_i32
  let arg1 : BitVec 32 := BitVec.ofNat 32 (i 1).val
  let c3_i32_21 : BitVec 32 := 3#32
  let v28 : BitVec 1 := Scalar.cmpi .eq arg1 c3_i32_21
  let v29 : BitVec 1 := Scalar.andi v27 v28
  let v30 : BitVec 32 := Scalar.extui v29
  let c0_i32_22 : BitVec 32 := 0#32
  let v31 : BitVec 1 := Scalar.cmpi .ne v30 c0_i32_22
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnRefIdeal.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x704x1024, .bf16⟩
  | .hbm, ⟨3, _⟩ => ⟨S4x704x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S4x704x1024, .f32⟩
  | .hbm, ⟨27, _⟩ => ⟨S4x704x8192, .f32⟩
  | .hbm, ⟨28, _⟩ => ⟨S4x8192x704, .f32⟩
  | .hbm, ⟨29, _⟩ => ⟨S4x704x1024, .f32⟩
  | .hbm, ⟨30, _⟩ => ⟨S4x704x8192, .f32⟩
  | .hbm, ⟨31, _⟩ => ⟨S4x8192x704, .f32⟩
  | .hbm, ⟨32, _⟩ => ⟨S4x8192x704, .f32⟩
  | .hbm, ⟨33, _⟩ => ⟨S4x8192x704, .f32⟩
  | .hbm, ⟨34, _⟩ => ⟨S4x704x8192, .f32⟩
  | .hbm, ⟨35, _⟩ => ⟨S8192x1024, .f32⟩
  | .hbm, ⟨36, _⟩ => ⟨S4x704x8192, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== AdamIn.lean ====
abbrev S2x1024x1792 : Shape := ⟨3, ![2, 1024, 1792]⟩
abbrev S1x256x1792 : Shape := ⟨3, ![1, 256, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1792, .f32⟩
  | .hbm, ⟨1, _⟩ => ⟨S2x1024x1792, .f32⟩
  | .hbm, ⟨2, _⟩ => ⟨S2x1024x1792, .f32⟩
  | .hbm, ⟨3, _⟩ => ⟨S2x1024x1792, .f32⟩
  | .hbm, ⟨4, _⟩ => ⟨S2x1024x1792, .f32⟩
  | .hbm, ⟨5, _⟩ => ⟨S2x1024x1792, .f32⟩
  | .hbm, ⟨6, _⟩ => ⟨S2x1024x1792, .f32⟩
  | .hbm, ⟨7, _⟩ => ⟨S2x1024x1792, .f32⟩
  | .local _ .vmem, ⟨0, _⟩ => ⟨S1x256x1792, .f32⟩
  | .local _ .vmem, ⟨1, _⟩ => ⟨S1x256x1792, .f32⟩
  | .local _ .vmem, ⟨2, _⟩ => ⟨S1x256x1792, .f32⟩
  | .local _ .vmem, ⟨3, _⟩ => ⟨S1x256x1792, .f32⟩
  | .local _ .vmem, ⟨4, _⟩ => ⟨S1x256x1792, .f32⟩
  | .local _ .vmem, ⟨5, _⟩ => ⟨S1x256x1792, .f32⟩
  | .local _ .vmem, ⟨6, _⟩ => ⟨S1x256x1792, .f32⟩
  | .local _ .vmem, ⟨7, _⟩ => ⟨S1x256x1792, .f32⟩
  | .local _ .vmem, ⟨8, _⟩ => ⟨S1x256x1792, .f32⟩
  | .local _ .vmem, ⟨9, _⟩ => ⟨S1x256x1792, .f32⟩
  | .local _ .vmem, ⟨10, _⟩ => ⟨S1x256x1792, .f32⟩
  | .local _ .vmem, ⟨11, _⟩ => ⟨S1x256x1792, .f32⟩
  | .local _ .vmem, ⟨12, _⟩ => ⟨S1x256x1792, .f32⟩
  | .local _ .vmem, ⟨13, _⟩ => ⟨S1x256x1792, .f32⟩
  | .local _ .vmem, ⟨14, _⟩ => ⟨S1x256x1792, .f32⟩
  | .local _ .vmem, ⟨15, _⟩ => ⟨S1x256x1792, .f32⟩
  | _, _ => ⟨S2x1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2x1024x1792 : Shape := ⟨3, ![2, 1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1792, .f32⟩
  | .hbm, ⟨1, _⟩ => ⟨S2x1024x1792, .f32⟩
  | .hbm, ⟨2, _⟩ => ⟨S2x1024x1792, .f32⟩
  | .hbm, ⟨3, _⟩ => ⟨S2x1024x1792, .f32⟩
  | .hbm, ⟨4, _⟩ => ⟨S_, .f32⟩
  | .hbm, ⟨5, _⟩ => ⟨S2x1024x1792, .f32⟩
  | .hbm, ⟨6, _⟩ => ⟨S2x1024x1792, .f32⟩
  | .hbm, ⟨7, _⟩ => ⟨S_, .f32⟩
  | .hbm, ⟨8, _⟩ => ⟨S2x1024x1792, .f32⟩
  | .hbm, ⟨9, _⟩ => ⟨S2x1024x1792, .f32⟩
  | .hbm, ⟨10, _⟩ => ⟨S2x1024x1792, .f32⟩
  | .hbm, ⟨11, _⟩ => ⟨S_, .f32⟩
  | .hbm, ⟨12, _⟩ => ⟨S2x1024x1792, .f32⟩
  | .hbm, ⟨13, _⟩ => ⟨S2x1024x1792, .f32⟩
  | .hbm, ⟨14, _⟩ => ⟨S2x1024x1792, .f32⟩
  | .hbm, ⟨15, _⟩ => ⟨S_, .f32⟩
  | .hbm, ⟨16, _⟩ => ⟨S2x1024x1792, .f32⟩
  | .hbm, ⟨17, _⟩ => ⟨S2x1024x1792, .f32⟩
  | .hbm, ⟨18, _⟩ => ⟨S2x1024x1792, .f32⟩
  | .hbm, ⟨19, _⟩ => ⟨S_, .f32⟩
  | .hbm, ⟨20, _⟩ => ⟨S2x1024x1792, .f32⟩
  | .hbm, ⟨21, _⟩ => ⟨S2x1024x1792, .f32⟩
  | .hbm, ⟨22, _⟩ => ⟨S_, .f32⟩
  | .hbm, ⟨23, _⟩ => ⟨S2x1024x1792, .f32⟩
  | .hbm, ⟨24, _⟩ => ⟨S2x1024x1792, .f32⟩
  | .hbm, ⟨25, _⟩ => ⟨S2x1024x1792, .f32⟩
  | .hbm, ⟨26, _⟩ => ⟨S_, .f32⟩
  | .hbm, ⟨27, _⟩ => ⟨S2x1024x1792, .f32⟩
  | .hbm, ⟨28, _⟩ => ⟨S2x1024x1792, .f32⟩
  | .hbm, ⟨29, _⟩ => ⟨S2x1024x1792, .f32⟩
  | .hbm, ⟨30, _⟩ => ⟨S_, .f32⟩
  | .hbm, ⟨31, _⟩ => ⟨S2x1024x1792, .f32⟩
  | .hbm, ⟨32, _⟩ => ⟨S2x1024x1792, .f32⟩
  | .hbm, ⟨33, _⟩ => ⟨S2x1024x1792, .f32⟩
  | .hbm, ⟨34, _⟩ => ⟨S_, .f32⟩
  | .hbm, ⟨35, _⟩ => ⟨S2x1024x1792, .f32⟩
  | .hbm, ⟨36, _⟩ => ⟨S2x1024x1792, .f32⟩
  | _, _ => ⟨S2x1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSquareRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MergeFwd.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S512x1024 : Shape := ⟨2, ![512, 1024]⟩
abbrev S1x1024 : Shape := ⟨2, ![1, 1024]⟩

abbrev nBuf : Space → Nat
  | .hbm => 12
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S2x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdRefIdeal.lean ====
abbrev S8192x1024 : Shape := ⟨2, ![8192, 1024]⟩
abbrev S8192x7168 : Shape := ⟨2, ![8192, 7168]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S2x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S1024x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S8192x1024, .bf16⟩
  | .hbm, ⟨6, _⟩ => ⟨S4x8192x704, .bf16⟩
  | .hbm, ⟨7, _⟩ => ⟨S4x8192x704, .bf16⟩
  | .hbm, ⟨8, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_26 : BitVec 32 := 0#32
  let v39 : BitVec 1 := Scalar.cmpi .ne v38 c0_i32_26
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S8192x1024 : Shape := ⟨2, ![8192, 1024]⟩
abbrev S1x1024 : Shape := ⟨2, ![1, 1024]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S4x704x8192 : Shape := ⟨3, ![4, 704, 8192]⟩
abbrev S4x8192x704 : Shape := ⟨3, ![4, 8192, 704]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x704x1024, .bf16⟩
  | .hbm, ⟨3, _⟩ => ⟨S4x704x1024, .bf16⟩
  | .hbm, ⟨4, _⟩ => ⟨S4x704x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S4x704x1024, .f32⟩
  | .hbm, ⟨21, _⟩ => ⟨S4x704x8192, .f32⟩
  | .hbm, ⟨22, _⟩ => ⟨S4x8192x704, .f32⟩
  | .hbm, ⟨23, _⟩ => ⟨S4x704x1024, .f32⟩
  | .hbm, ⟨24, _⟩ => ⟨S4x704x8192, .f32⟩
  | .hbm, ⟨25, _⟩ => ⟨S4x8192x704, .f32⟩
  | .hbm, ⟨26, _⟩ => ⟨S4x8192x704, .f32⟩
  | .hbm, ⟨27, _⟩ => ⟨S4x8192x704, .f32⟩
  | .hbm, ⟨28, _⟩ => ⟨S_, .f32⟩
  | .hbm, ⟨29, _⟩ => ⟨S4x8192x704, .f32⟩
  | .hbm, ⟨30, _⟩ => ⟨S4x8192x704, .f32⟩
  | .hbm, ⟨31, _⟩ => ⟨S_, .f32⟩
  | .hbm, ⟨32, _⟩ => ⟨S4x8192x704, .f32⟩
  | .hbm, ⟨33, _⟩ => ⟨S4x8192x704, .f32⟩
  | .hbm, ⟨34, _⟩ => ⟨S4x8192x704, .f32⟩
  | .hbm, ⟨35, _⟩ => ⟨S4x8192x704, .f32⟩
  | .hbm, ⟨36, _⟩ => ⟨S4x704x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S4x8192x704, .bf16⟩
  | .hbm, ⟨41, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== AdamGate.lean ====
abbrev S2x1024x704 : Shape := ⟨3, ![2, 1024, 704]⟩
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2x1024x704, .f32⟩
  | .hbm, ⟨1, _⟩ => ⟨S2x704x1024, .f32⟩
  | .hbm, ⟨2, _⟩ => ⟨S2x1024x704, .f32⟩
  | .hbm, ⟨3, _⟩ => ⟨S2x1024x704, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGateRefIdeal.lean ====
abbrev S2x1024x704 : Shape := ⟨3, ![2, 1024, 704]⟩
abbrev S2x704x1024 : Shape := ⟨3, ![2, 704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S_, .f32⟩
  | .hbm, ⟨6, _⟩ => ⟨S2x1024x704, .f32⟩
  | .hbm, ⟨7, _⟩ => ⟨S2x1024x704, .f32⟩
  | .hbm, ⟨8, _⟩ => ⟨S_, .f32⟩
  | .hbm, ⟨9, _⟩ => ⟨S2x1024x704, .f32⟩
  | .hbm, ⟨10, _⟩ => ⟨S2x1024x704, .f32⟩
  | .hbm, ⟨11, _⟩ => ⟨S2x1024x704, .f32⟩
  | .hbm, ⟨12, _⟩ => ⟨S_, .f32⟩
  | .hbm, ⟨13, _⟩ => ⟨S2x1024x704, .f32⟩
  | .hbm, ⟨14, _⟩ => ⟨S2x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S2x1024x704, .f32⟩
  | .hbm, ⟨20, _⟩ => ⟨S_, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S2x1024x704, .f32⟩
  | .hbm, ⟨35, _⟩ => ⟨S_, .f32⟩
  | .hbm, ⟨36, _⟩ => ⟨S2x1024x704, .f32⟩
  | .hbm, ⟨37, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSmall.lean ====
abbrev S2x1024 : Shape := ⟨2, ![2, 1024]⟩
abbrev S2x3x256 : Shape := ⟨3, ![2, 3, 256]⟩
abbrev S2x4x256 : Shape := ⟨3, ![2, 4, 256]⟩
abbrev S2x16x64x64 : Shape := ⟨4, ![2, 16, 64, 64]⟩
abbrev S2x2x256 : Shape := ⟨3, ![2, 2, 256]⟩
abbrev S1024 : Shape := ⟨1, ![1024]⟩

abbrev nBuf : Space → Nat
  | .hbm => 84
  | .vmem => 84
  | .smem => 0
  | _ => 0

abbrev bufTy : (tb : Table) → Fin (tcTables nBuf tb) → BufTy
  | .hbm, ⟨0, _⟩ => ⟨S2x1024, .f32⟩
  | .hbm, ⟨1, _⟩ => ⟨S2x3x256, .f32⟩
  | .hbm, ⟨2, _⟩ => ⟨S2x4x256, .f32⟩
  | .hbm, ⟨3, _⟩ => ⟨S2x1024, .f32⟩
  | .hbm, ⟨4, _⟩ => ⟨S2x16x64x64, .f32⟩
  | .hbm, ⟨5, _⟩ => ⟨S2x1024, .f32⟩
  | .hbm, ⟨6, _⟩ => ⟨S2x16x64x64, .f32⟩
  | .hbm, ⟨7, _⟩ => ⟨S2x1024, .f32⟩
  | .hbm, ⟨8, _⟩ => ⟨S2x1024, .f32⟩
  | .hbm, ⟨9, _⟩ => ⟨S2x2x256, .f32⟩
  | .hbm, ⟨10, _⟩ => ⟨S2x1024, .f32⟩
  | .hbm, ⟨11, _⟩ => ⟨S1024, .f32⟩
  | .hbm, ⟨12, _⟩ => ⟨S2x1024, .f32⟩
  | .hbm, ⟨13, _⟩ => ⟨S2x3x256, .f32⟩
  | .hbm, ⟨14, _⟩ => ⟨S2x4x256, .f32⟩
  | .hbm, ⟨15, _⟩ => ⟨S2x1024, .f32⟩
  | .hbm, ⟨16, _⟩ => ⟨S2x16x64x64, .f32⟩
  | .hbm, ⟨17, _⟩ => ⟨S2x1024, .f32⟩
  | .hbm, ⟨18, _⟩ => ⟨S2x16x64x64, .f32⟩
  | .hbm, ⟨19, _⟩ => ⟨S2x1024, .f32⟩
  | .hbm, ⟨20, _⟩ => ⟨S2x1024, .f32⟩
  | .hbm, ⟨21, _⟩ => ⟨S2x2x256, .f32⟩
  | .hbm, ⟨22, _⟩ => ⟨S2x1024, .f32⟩
  | .hbm, ⟨23, _⟩ => ⟨S1024, .f32⟩
  | .hbm, ⟨24, _⟩ => ⟨S2x1024, .f32⟩
  | .hbm, ⟨25, _⟩ => ⟨S2x3x256, .f32⟩
  | .hbm, ⟨26, _⟩ => ⟨S2x4x256, .f32⟩
  | .hbm, ⟨27, _⟩ => ⟨S2x1024, .f32⟩
  | .hbm, ⟨28, _⟩ => ⟨S2x16x64x64, .f32⟩
  | .hbm, ⟨29, _⟩ => ⟨S2x1024, .f32⟩
  | .hbm, ⟨30, _⟩ => ⟨S2x16x64x64, .f32⟩
  | .hbm, ⟨31, _⟩ => ⟨S2x1024, .f32⟩
  | .hbm, ⟨32, _⟩ => ⟨S2x1024, .f32⟩
  | .hbm, ⟨33, _⟩ => ⟨S2x2x256, .f32⟩
  | .hbm, ⟨34, _⟩ => ⟨S2x1024, .f32⟩
  | .hbm, ⟨35, _⟩ => ⟨S1024, .f32⟩
  | .hbm, ⟨36, _⟩ => ⟨S2x1024, .f32⟩
  | .hbm, ⟨37, _⟩ => ⟨S2x3x256, .f32⟩
  | .hbm, ⟨38, _⟩ => ⟨S2x4x256, .f32⟩
  | .hbm, ⟨39, _⟩ => ⟨S2x1024, .f32⟩
  | .hbm, ⟨40, _⟩ => ⟨S2x16x64x64, .f32⟩
  | .hbm, ⟨41, _⟩ => ⟨S2x1024, .f32⟩
  | .hbm, ⟨42, _⟩ => ⟨S2x16x64x64, .f32⟩
  | .hbm, ⟨43, _⟩ => ⟨S2x1024, .f32⟩
  | .hbm, ⟨44, _⟩ => ⟨S2x1024, .f32⟩
  | .hbm, ⟨45, _⟩ => ⟨S2x2x256, .f32⟩
  | .hbm, ⟨46, _⟩ => ⟨S2x1024, .f32⟩
  | .hbm, ⟨47, _⟩ => ⟨S1024, .f32⟩
  | .hbm, ⟨48, _⟩ => ⟨S2x1024, .f32⟩
  | .hbm, ⟨49, _⟩ => ⟨S2x3x256, .f32⟩
  | .hbm, ⟨50, _⟩ => ⟨S2x4x256, .f32⟩
  | .hbm, ⟨51, _⟩ => ⟨S2x1024, .f32⟩
  | .hbm, ⟨52, _⟩ => ⟨S2x16x64x64, .f32⟩
  | .hbm, ⟨53, _⟩ => ⟨S2x1024, .f32⟩
  | .hbm, ⟨54, _⟩ => ⟨S2x16x64x64, .f32⟩
  | .hbm, ⟨55, _⟩ => ⟨S2x1024, .f32⟩
  | .hbm, ⟨56, _⟩ => ⟨S2x1024, .f32⟩
  | .hbm, ⟨57, _⟩ => ⟨S2x2x256, .f32⟩
  | .hbm, ⟨58, _⟩ => ⟨S2x1024, .f32⟩
  | .hbm, ⟨59, _⟩ => ⟨S1024, .f32⟩
  | .hbm, ⟨60, _⟩ => ⟨S2x1024, .f32⟩
  | .hbm, ⟨61, _⟩ => ⟨S2x3x256, .f32⟩
  | .hbm, ⟨62, _⟩ => ⟨S2x4x256, .f32⟩
  | .hbm, ⟨63, _⟩ => ⟨S2x1024, .f32⟩
  | .hbm, ⟨64, _⟩ => ⟨S2x16x64x64, .f32⟩
  | .hbm, ⟨65, _⟩ => ⟨S2x1024, .f32⟩
  | .hbm, ⟨66, _⟩ => ⟨S2x16x64x64, .f32⟩
  | .hbm, ⟨67, _⟩ => ⟨S2x1024, .f32⟩
  | .hbm, ⟨68, _⟩ => ⟨S2x1024, .f32⟩
  | .hbm, ⟨69, _⟩ => ⟨S2x2x256, .f32⟩
  | .hbm, ⟨70, _⟩ => ⟨S2x1024, .f32⟩
  | .hbm, ⟨71, _⟩ => ⟨S1024, .f32⟩
  | .hbm, ⟨72, _⟩ => ⟨S2x1024, .f32⟩
  | .hbm, ⟨73, _⟩ => ⟨S2x3x256, .f32⟩
  | .hbm, ⟨74, _⟩ => ⟨S2x4x256, .f32⟩
  | .hbm, ⟨75, _⟩ => ⟨S2x1024, .f32⟩
  | .hbm, ⟨76, _⟩ => ⟨S2x16x64x64, .f32⟩
  | .hbm, ⟨77, _⟩ => ⟨S2x1024, .f32⟩
  | .hbm, ⟨78, _⟩ => ⟨S2x16x64x64, .f32⟩
  | .hbm, ⟨79, _⟩ => ⟨S2x1024, .f32⟩
  | .hbm, ⟨80, _⟩ => ⟨S2x1024, .f32⟩
  | .hbm, ⟨81, _⟩ => ⟨S2x2x256, .f32⟩
  | .hbm, ⟨82, _⟩ => ⟨S2x1024, .f32⟩
  | .hbm, ⟨83, _⟩ => ⟨S1024, .f32⟩
  | .local _ .vmem, ⟨0, _⟩ => ⟨S2x1024, .f32⟩
  | .local _ .vmem, ⟨1, _⟩ => ⟨S2x3x256, .f32⟩
  | .local _ .vmem, ⟨2, _⟩ => ⟨S2x4x256, .f32⟩
  | .local _ .vmem, ⟨3, _⟩ => ⟨S2x1024, .f32⟩
  | .local _ .vmem, ⟨4, _⟩ => ⟨S2x16x64x64, .f32⟩
  | .local _ .vmem, ⟨5, _⟩ => ⟨S2x1024, .f32⟩
  | .local _ .vmem, ⟨6, _⟩ => ⟨S2x16x64x64, .f32⟩
  | .local _ .vmem, ⟨7, _⟩ => ⟨S2x1024, .f32⟩
  | .local _ .vmem, ⟨8, _⟩ => ⟨S2x1024, .f32⟩
  | .local _ .vmem, ⟨9, _⟩ => ⟨S2x2x256, .f32⟩
  | .local _ .vmem, ⟨10, _⟩ => ⟨S2x1024, .f32⟩
  | .local _ .vmem, ⟨11, _⟩ => ⟨S1024, .f32⟩
  | .local _ .vmem, ⟨12, _⟩ => ⟨S2x1024, .f32⟩
  | .local _ .vmem, ⟨13, _⟩ => ⟨S2x3x256, .f32⟩
  | .local _ .vmem, ⟨14, _⟩ => ⟨S2x4x256, .f32⟩
  | .local _ .vmem, ⟨15, _⟩ => ⟨S2x1024, .f32⟩
  | .local _ .vmem, ⟨16, _⟩ => ⟨S2x16x64x64, .f32⟩
  | .local _ .vmem, ⟨17, _⟩ => ⟨S2x1024, .f32⟩
  | .local _ .vmem, ⟨18, _⟩ => ⟨S2x16x64x64, .f32⟩
  | .local _ .vmem, ⟨19, _⟩ => ⟨S2x1024, .f32⟩
  | .local _ .vmem, ⟨20, _⟩ => ⟨S2x1024, .f32⟩
  | .local _ .vmem, ⟨21, _⟩ => ⟨S2x2x256, .f32⟩
  | .local _ .vmem, ⟨22, _⟩ => ⟨S2x1024, .f32⟩
  | .local _ .vmem, ⟨23, _⟩ => ⟨S1024, .f32⟩
  | .local _ .vmem, ⟨24, _⟩ => ⟨S2x1024, .f32⟩
  | .local _ .vmem, ⟨25, _⟩ => ⟨S2x3x256, .f32⟩
  | .local _ .vmem, ⟨26, _⟩ => ⟨S2x4x256, .f32⟩
  | .local _ .vmem, ⟨27, _⟩ => ⟨S2x1024, .f32⟩
  | .local _ .vmem, ⟨28, _⟩ => ⟨S2x16x64x64, .f32⟩
  | .local _ .vmem, ⟨29, _⟩ => ⟨S2x1024, .f32⟩
  | .local _ .vmem, ⟨30, _⟩ => ⟨S2x16x64x64, .f32⟩
  | .local _ .vmem, ⟨31, _⟩ => ⟨S2x1024, .f32⟩
  | .local _ .vmem, ⟨32, _⟩ => ⟨S2x1024, .f32⟩
  | .local _ .vmem, ⟨33, _⟩ => ⟨S2x2x256, .f32⟩
  | .local _ .vmem, ⟨34, _⟩ => ⟨S2x1024, .f32⟩
  | .local _ .vmem, ⟨35, _⟩ => ⟨S1024, .f32⟩
  | .local _ .vmem, ⟨36, _⟩ => ⟨S2x1024, .f32⟩
  | .local _ .vmem, ⟨37, _⟩ => ⟨S2x3x256, .f32⟩
  | .local _ .vmem, ⟨38, _⟩ => ⟨S2x4x256, .f32⟩
  | .local _ .vmem, ⟨39, _⟩ => ⟨S2x1024, .f32⟩
  | .local _ .vmem, ⟨40, _⟩ => ⟨S2x16x64x64, .f32⟩
  | .local _ .vmem, ⟨41, _⟩ => ⟨S2x1024, .f32⟩
  | .local _ .vmem, ⟨42, _⟩ => ⟨S2x16x64x64, .f32⟩
  | .local _ .vmem, ⟨43, _⟩ => ⟨S2x1024, .f32⟩
  | .local _ .vmem, ⟨44, _⟩ => ⟨S2x1024, .f32⟩
  | .local _ .vmem, ⟨45, _⟩ => ⟨S2x2x256, .f32⟩
  | .local _ .vmem, ⟨46, _⟩ => ⟨S2x1024, .f32⟩
  | .local _ .vmem, ⟨47, _⟩ => ⟨S1024, .f32⟩
  | .local _ .vmem, ⟨48, _⟩ => ⟨S2x1024, .f32⟩
  | .local _ .vmem, ⟨49, _⟩ => ⟨S2x3x256, .f32⟩
  | .local _ .vmem, ⟨50, _⟩ => ⟨S2x4x256, .f32⟩
  | .local _ .vmem, ⟨51, _⟩ => ⟨S2x1024, .f32⟩
  | .local _ .vmem, ⟨52, _⟩ => ⟨S2x16x64x64, .f32⟩
  | .local _ .vmem, ⟨53, _⟩ => ⟨S2x1024, .f32⟩
  | .local _ .vmem, ⟨54, _⟩ => ⟨S2x16x64x64, .f32⟩
  | .local _ .vmem, ⟨55, _⟩ => ⟨S2x1024, .f32⟩
  | .local _ .vmem, ⟨56, _⟩ => ⟨S2x1024, .f32⟩
  | .local _ .vmem, ⟨57, _⟩ => ⟨S2x2x256, .f32⟩
  | .local _ .vmem, ⟨58, _⟩ => ⟨S2x1024, .f32⟩
  | .local _ .vmem, ⟨59, _⟩ => ⟨S1024, .f32⟩
  | .local _ .vmem, ⟨60, _⟩ => ⟨S2x1024, .f32⟩
  | .local _ .vmem, ⟨61, _⟩ => ⟨S2x3x256, .f32⟩
  | .local _ .vmem, ⟨62, _⟩ => ⟨S2x4x256, .f32⟩
  | .local _ .vmem, ⟨63, _⟩ => ⟨S2x1024, .f32⟩
  | .local _ .vmem, ⟨64, _⟩ => ⟨S2x16x64x64, .f32⟩
  | .local _ .vmem, ⟨65, _⟩ => ⟨S2x1024, .f32⟩
  | .local _ .vmem, ⟨66, _⟩ => ⟨S2x16x64x64, .f32⟩
  | .local _ .vmem, ⟨67, _⟩ => ⟨S2x1024, .f32⟩
  | .local _ .vmem, ⟨68, _⟩ => ⟨S2x1024, .f32⟩
  | .local _ .vmem, ⟨69, _⟩ => ⟨S2x2x256, .f32⟩
  | .local _ .vmem, ⟨70, _⟩ => ⟨S2x1024, .f32⟩
  | .local _ .vmem, ⟨71, _⟩ => ⟨S1024, .f32⟩
  | .local _ .vmem, ⟨72, _⟩ => ⟨S2x1024, .f32⟩
  | .local _ .vmem, ⟨73, _⟩ => ⟨S2x3x256, .f32⟩
  | .local _ .vmem, ⟨74, _⟩ => ⟨S2x4x256, .f32⟩
  | .local _ .vmem, ⟨75, _⟩ => ⟨S2x1024, .f32⟩
  | .local _ .vmem, ⟨76, _⟩ => ⟨S2x16x64x64, .f32⟩
  | .local _ .vmem, ⟨77, _⟩ => ⟨S2x1024, .f32⟩
  | .local _ .vmem, ⟨78, _⟩ => ⟨S2x16x64x64, .f32⟩
  | .local _ .vmem, ⟨79, _⟩ => ⟨S2x1024, .f32⟩
  | .local _ .vmem, ⟨80, _⟩ => ⟨S2x1024, .f32⟩
  | .local _ .vmem, ⟨81, _⟩ => ⟨S2x2x256, .f32⟩
  | .local _ .vmem, ⟨82, _⟩ => ⟨S2x1024, .f32⟩
  | .local _ .vmem, ⟨83, _⟩ => ⟨S1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0_0 : Ref sig .tc := ⟨.hbm, 48, rfl⟩
abbrev main_v0_1 : Ref sig .tc := ⟨.hbm, 49, rfl⟩
abbrev main_v0_2 : Ref sig .tc := ⟨.hbm, 50, rfl⟩
abbrev main_v0_3 : Ref sig .tc := ⟨.hbm, 51, rfl⟩
abbrev main_v0_4 : Ref sig .tc := ⟨.hbm, 52, rfl⟩
abbrev main_v0_5 : Ref sig .tc := ⟨.hbm, 53, rfl⟩
abbrev main_v0_6 : Ref sig .tc := ⟨.hbm, 54, rfl⟩
abbrev main_v0_7 : Ref sig .tc := ⟨.hbm, 55, rfl⟩
abbrev main_v0_8 : Ref sig .tc := ⟨.hbm, 56, rfl⟩
abbrev main_v0_9 : Ref sig .tc := ⟨.hbm, 57, rfl⟩
abbrev main_v0_10 : Ref sig .tc := ⟨.hbm, 58, rfl⟩
abbrev main_v0_11 : Ref sig .tc := ⟨.hbm, 59, rfl⟩
abbrev main_v0_12 : Ref sig .tc := ⟨.hbm, 60, rfl⟩
abbrev main_v0_13 : Ref sig .tc := ⟨.hbm, 61, rfl⟩
abbrev main_v0_14 : Ref sig .tc := ⟨.hbm, 62, rfl⟩
abbrev main_v0_15 : Ref sig .tc := ⟨.hbm, 63, rfl⟩
abbrev main_v0_16 : Ref sig .tc := ⟨.hbm, 64, rfl⟩
abbrev main_v0_17 : Ref sig .tc := ⟨.hbm, 65, rfl⟩
abbrev main_v0_18 : Ref sig .tc := ⟨.hbm, 66, rfl⟩
abbrev main_v0_19 : Ref sig .tc := ⟨.hbm, 67, rfl⟩
abbrev main_v0_20 : Ref sig .tc := ⟨.hbm, 68, rfl⟩
abbrev main_v0_21 : Ref sig .tc := ⟨.hbm, 69, rfl⟩
abbrev main_v0_22 : Ref sig .tc := ⟨.hbm, 70, rfl⟩
abbrev main_v0_23 : Ref sig .tc := ⟨.hbm, 71, rfl⟩
abbrev main_v0_24 : Ref sig .tc := ⟨.hbm, 72, rfl⟩
abbrev main_v0_25 : Ref sig .tc := ⟨.hbm, 73, rfl⟩
abbrev main_v0_26 : Ref sig .tc := ⟨.hbm, 74, rfl⟩
abbrev main_v0_27 : Ref sig .tc := ⟨.hbm, 75, rfl⟩
abbrev main_v0_28 : Ref sig .tc := ⟨.hbm, 76, rfl⟩
abbrev main_v0_29 : Ref sig .tc := ⟨.hbm, 77, rfl⟩
abbrev main_v0_30 : Ref sig .tc := ⟨.hbm, 78, rfl⟩
abbrev main_v0_31 : Ref sig .tc := ⟨.hbm, 79, rfl⟩
abbrev main_v0_32 : Ref sig .tc := ⟨.hbm, 80, rfl⟩
abbrev main_v0_33 : Ref sig .tc := ⟨.hbm, 81, rfl⟩
abbrev main_v0_34 : Ref sig .tc := ⟨.hbm, 82, rfl⟩
abbrev main_v0_35 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x4x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x16x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x16x64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x2x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x3x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x4x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x16x64x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x16x64x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x2x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x3x256 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x4x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x16x64x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x16x64x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x2x256 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S2x3x256 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x4x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S2x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S2x16x64x64 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S2x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S2x16x64x64 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S2x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S2x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S2x2x256 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S2x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S2x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S2x3x256 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S2x4x256 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S2x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S2x16x64x64 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S2x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S2x16x64x64 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S2x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S2x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S2x2x256 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S2x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S2x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S2x3x256 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S2x4x256 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S2x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S2x16x64x64 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S2x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S2x16x64x64 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S2x1024 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S2x1024 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S2x2x256 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S2x1024 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S1024 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))
-- ==== AdamSmallRefIdeal.lean ====
abbrev S2x1024 : Shape := ⟨2, ![2, 1024]⟩
abbrev S2x3x256 : Shape := ⟨3, ![2, 3, 256]⟩
abbrev S2x4x256 : Shape := ⟨3, ![2, 4, 256]⟩
abbrev S2x16x64x64 : Shape := ⟨4, ![2, 16, 64, 64]⟩
abbrev S2x2x256 : Shape := ⟨3, ![2, 2, 256]⟩
abbrev S1024 : Shape := ⟨1, ![1024]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S2x1024, .f32⟩
  | 1 => ⟨S2x3x256, .f32⟩
  | 2 => ⟨S2x4x256, .f32⟩
  | 3 => ⟨S2x1024, .f32⟩
  | 4 => ⟨S2x16x64x64, .f32⟩
  | 5 => ⟨S2x1024, .f32⟩
  | 6 => ⟨S2x16x64x64, .f32⟩
  | 7 => ⟨S2x1024, .f32⟩
  | 8 => ⟨S2x1024, .f32⟩
  | 9 => ⟨S2x2x256, .f32⟩
  | 10 => ⟨S2x1024, .f32⟩
  | 11 => ⟨S1024, .f32⟩
  | 12 => ⟨S2x1024, .f32⟩
  | 13 => ⟨S2x3x256, .f32⟩
  | 14 => ⟨S2x4x256, .f32⟩
  | 15 => ⟨S2x1024, .f32⟩
  | 16 => ⟨S2x16x64x64, .f32⟩
  | 17 => ⟨S2x1024, .f32⟩
  | 18 => ⟨S2x16x64x64, .f32⟩
  | 19 => ⟨S2x1024, .f32⟩
  | 20 => ⟨S2x1024, .f32⟩
  | 21 => ⟨S2x2x256, .f32⟩
  | 22 => ⟨S2x1024, .f32⟩
  | 23 => ⟨S1024, .f32⟩
  | 24 => ⟨S2x1024, .f32⟩
  | 25 => ⟨S2x3x256, .f32⟩
  | 26 => ⟨S2x4x256, .f32⟩
  | 27 => ⟨S2x1024, .f32⟩
  | 28 => ⟨S2x16x64x64, .f32⟩
  | 29 => ⟨S2x1024, .f32⟩
  | 30 => ⟨S2x16x64x64, .f32⟩
  | 31 => ⟨S2x1024, .f32⟩
  | 32 => ⟨S2x1024, .f32⟩
  | 33 => ⟨S2x2x256, .f32⟩
  | 34 => ⟨S2x1024, .f32⟩
  | 35 => ⟨S1024, .f32⟩
  | 36 => ⟨S2x1024, .f32⟩
  | 37 => ⟨S2x3x256, .f32⟩
  | 38 => ⟨S2x4x256, .f32⟩
  | 39 => ⟨S2x1024, .f32⟩
  | 40 => ⟨S2x16x64x64, .f32⟩
  | 41 => ⟨S2x1024, .f32⟩
  | 42 => ⟨S2x16x64x64, .f32⟩
  | 43 => ⟨S2x1024, .f32⟩
  | 44 => ⟨S2x1024, .f32⟩
  | 45 => ⟨S2x2x256, .f32⟩
  | 46 => ⟨S2x1024, .f32⟩
  | 47 => ⟨S1024, .f32⟩
  | 48 => ⟨S_, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S_, .f32⟩
  | 82 => ⟨S2x3x256, .f32⟩
  | 83 => ⟨S2x3x256, .f32⟩
  | 84 => ⟨S_, .f32⟩
  | 85 => ⟨S2x3x256, .f32⟩
  | 86 => ⟨S2x3x256, .f32⟩
  | 87 => ⟨S2x3x256, .f32⟩
  | 88 => ⟨S_, .f32⟩
  | 89 => ⟨S2x3x256, .f32⟩
  | 90 => ⟨S2x3x256, .f32⟩
  | 91 => ⟨S2x3x256, .f32⟩
  | 92 => ⟨S_, .f32⟩
  | 93 => ⟨S2x3x256, .f32⟩
  | 94 => ⟨S2x3x256, .f32⟩
  | 95 => ⟨S2x3x256, .f32⟩
  | 96 => ⟨S_, .f32⟩
  | 97 => ⟨S2x3x256, .f32⟩
  | 98 => ⟨S2x3x256, .f32⟩
  | 99 => ⟨S_, .f32⟩
  | 100 => ⟨S2x3x256, .f32⟩
  | 101 => ⟨S2x3x256, .f32⟩
  | 102 => ⟨S2x3x256, .f32⟩
  | 103 => ⟨S_, .f32⟩
  | 104 => ⟨S2x3x256, .f32⟩
  | 105 => ⟨S2x3x256, .f32⟩
  | 106 => ⟨S2x3x256, .f32⟩
  | 107 => ⟨S_, .f32⟩
  | 108 => ⟨S2x3x256, .f32⟩
  | 109 => ⟨S2x3x256, .f32⟩
  | 110 => ⟨S2x3x256, .f32⟩
  | 111 => ⟨S_, .f32⟩
  | 112 => ⟨S2x3x256, .f32⟩
  | 113 => ⟨S2x3x256, .f32⟩
  | 114 => ⟨S_, .f32⟩
  | 115 => ⟨S2x4x256, .f32⟩
  | 116 => ⟨S2x4x256, .f32⟩
  | 117 => ⟨S_, .f32⟩
  | 118 => ⟨S2x4x256, .f32⟩
  | 119 => ⟨S2x4x256, .f32⟩
  | 120 => ⟨S2x4x256, .f32⟩
  | 121 => ⟨S_, .f32⟩
  | 122 => ⟨S2x4x256, .f32⟩
  | 123 => ⟨S2x4x256, .f32⟩
  | 124 => ⟨S2x4x256, .f32⟩
  | 125 => ⟨S_, .f32⟩
  | 126 => ⟨S2x4x256, .f32⟩
  | 127 => ⟨S2x4x256, .f32⟩
  | _ => ⟨S2x1024, .f32⟩

abbrev hbmTy0_1 (i : Nat) : BufTy := match i % 128 with
  | 0 => ⟨S2x4x256, .f32⟩
  | 1 => ⟨S_, .f32⟩
  | 2 => ⟨S2x4x256, .f32⟩
  | 3 => ⟨S2x4x256, .f32⟩
  | 4 => ⟨S_, .f32⟩
  | 5 => ⟨S2x4x256, .f32⟩
  | 6 => ⟨S2x4x256, .f32⟩
  | 7 => ⟨S2x4x256, .f32⟩
  | 8 => ⟨S_, .f32⟩
  | 9 => ⟨S2x4x256, .f32⟩
  | 10 => ⟨S2x4x256, .f32⟩
  | 11 => ⟨S2x4x256, .f32⟩
  | 12 => ⟨S_, .f32⟩
  | 13 => ⟨S2x4x256, .f32⟩
  | 14 => ⟨S2x4x256, .f32⟩
  | 15 => ⟨S2x4x256, .f32⟩
  | 16 => ⟨S_, .f32⟩
  | 17 => ⟨S2x4x256, .f32⟩
  | 18 => ⟨S2x4x256, .f32⟩
  | 19 => ⟨S_, .f32⟩
  | 20 => ⟨S2x1024, .f32⟩
  | 21 => ⟨S2x1024, .f32⟩
  | 22 => ⟨S_, .f32⟩
  | 23 => ⟨S2x1024, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S_, .f32⟩
  | 53 => ⟨S2x16x64x64, .f32⟩
  | 54 => ⟨S2x16x64x64, .f32⟩
  | 55 => ⟨S_, .f32⟩
  | 56 => ⟨S2x16x64x64, .f32⟩
  | 57 => ⟨S2x16x64x64, .f32⟩
  | 58 => ⟨S2x16x64x64, .f32⟩
  | 59 => ⟨S_, .f32⟩
  | 60 => ⟨S2x16x64x64, .f32⟩
  | 61 => ⟨S2x16x64x64, .f32⟩
  | 62 => ⟨S2x16x64x64, .f32⟩
  | 63 => ⟨S_, .f32⟩
  | 64 => ⟨S2x16x64x64, .f32⟩
  | 65 => ⟨S2x16x64x64, .f32⟩
  | 66 => ⟨S2x16x64x64, .f32⟩
  | 67 => ⟨S_, .f32⟩
  | 68 => ⟨S2x16x64x64, .f32⟩
  | 69 => ⟨S2x16x64x64, .f32⟩
  | 70 => ⟨S_, .f32⟩
  | 71 => ⟨S2x16x64x64, .f32⟩
  | 72 => ⟨S2x16x64x64, .f32⟩
  | 73 => ⟨S2x16x64x64, .f32⟩
  | 74 => ⟨S_, .f32⟩
  | 75 => ⟨S2x16x64x64, .f32⟩
  | 76 => ⟨S2x16x64x64, .f32⟩
  | 77 => ⟨S2x16x64x64, .f32⟩
  | 78 => ⟨S_, .f32⟩
  | 79 => ⟨S2x16x64x64, .f32⟩
  | 80 => ⟨S2x16x64x64, .f32⟩
  | 81 => ⟨S2x16x64x64, .f32⟩
  | 82 => ⟨S_, .f32⟩
  | 83 => ⟨S2x16x64x64, .f32⟩
  | 84 => ⟨S2x16x64x64, .f32⟩
  | 85 => ⟨S_, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S_, .f32⟩
  | 119 => ⟨S2x16x64x64, .f32⟩
  | 120 => ⟨S2x16x64x64, .f32⟩
  | 121 => ⟨S_, .f32⟩
  | 122 => ⟨S2x16x64x64, .f32⟩
  | 123 => ⟨S2x16x64x64, .f32⟩
  | 124 => ⟨S2x16x64x64, .f32⟩
  | 125 => ⟨S_, .f32⟩
  | 126 => ⟨S2x16x64x64, .f32⟩
  | 127 => ⟨S2x16x64x64, .f32⟩
  | _ => ⟨S2x1024, .f32⟩

abbrev hbmTy0_2 (i : Nat) : BufTy := match i % 128 with
  | 0 => ⟨S2x16x64x64, .f32⟩
  | 1 => ⟨S_, .f32⟩
  | 2 => ⟨S2x16x64x64, .f32⟩
  | 3 => ⟨S2x16x64x64, .f32⟩
  | 4 => ⟨S2x16x64x64, .f32⟩
  | 5 => ⟨S_, .f32⟩
  | 6 => ⟨S2x16x64x64, .f32⟩
  | 7 => ⟨S2x16x64x64, .f32⟩
  | 8 => ⟨S_, .f32⟩
  | 9 => ⟨S2x16x64x64, .f32⟩
  | 10 => ⟨S2x16x64x64, .f32⟩
  | 11 => ⟨S2x16x64x64, .f32⟩
  | 12 => ⟨S_, .f32⟩
  | 13 => ⟨S2x16x64x64, .f32⟩
  | 14 => ⟨S2x16x64x64, .f32⟩
  | 15 => ⟨S2x16x64x64, .f32⟩
  | 16 => ⟨S_, .f32⟩
  | 17 => ⟨S2x16x64x64, .f32⟩
  | 18 => ⟨S2x16x64x64, .f32⟩
  | 19 => ⟨S2x16x64x64, .f32⟩
  | 20 => ⟨S_, .f32⟩
  | 21 => ⟨S2x16x64x64, .f32⟩
  | 22 => ⟨S2x16x64x64, .f32⟩
  | 23 => ⟨S_, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x2x256, .f32⟩
  | 91 => ⟨S2x2x256, .f32⟩
  | 92 => ⟨S_, .f32⟩
  | 93 => ⟨S2x2x256, .f32⟩
  | 94 => ⟨S2x2x256, .f32⟩
  | 95 => ⟨S2x2x256, .f32⟩
  | 96 => ⟨S_, .f32⟩
  | 97 => ⟨S2x2x256, .f32⟩
  | 98 => ⟨S2x2x256, .f32⟩
  | 99 => ⟨S2x2x256, .f32⟩
  | 100 => ⟨S_, .f32⟩
  | 101 => ⟨S2x2x256, .f32⟩
  | 102 => ⟨S2x2x256, .f32⟩
  | 103 => ⟨S2x2x256, .f32⟩
  | 104 => ⟨S_, .f32⟩
  | 105 => ⟨S2x2x256, .f32⟩
  | 106 => ⟨S2x2x256, .f32⟩
  | 107 => ⟨S_, .f32⟩
  | 108 => ⟨S2x2x256, .f32⟩
  | 109 => ⟨S2x2x256, .f32⟩
  | 110 => ⟨S2x2x256, .f32⟩
  | 111 => ⟨S_, .f32⟩
  | 112 => ⟨S2x2x256, .f32⟩
  | 113 => ⟨S2x2x256, .f32⟩
  | 114 => ⟨S2x2x256, .f32⟩
  | 115 => ⟨S_, .f32⟩
  | 116 => ⟨S2x2x256, .f32⟩
  | 117 => ⟨S2x2x256, .f32⟩
  | 118 => ⟨S2x2x256, .f32⟩
  | 119 => ⟨S_, .f32⟩
  | 120 => ⟨S2x2x256, .f32⟩
  | 121 => ⟨S2x2x256, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S2x1024, .f32⟩

abbrev hbmTy0_3 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S_, .f32⟩
  | 35 => ⟨S1024, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S_, .f32⟩
  | 46 => ⟨S1024, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .f32⟩
  | 56 => ⟨S1024, .f32⟩
  | 57 => ⟨S_, .f32⟩
  | 58 => ⟨S1024, .f32⟩
  | 59 => ⟨S1024, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== Proof.FfnFwdIdealFrame.lean ====
/- The frame of the feed-forward block's forward call: what each point of the grid finds and leaves, and the run. -/
module

public import proofs.«01_k».proof.Proof.Gen.FfnFwdIdeal.Frame
public import proofs.«01_k».proof.Proof.Gen.FfnFwdIdeal.Skeleton
public import proofs.«01_k».proof.Proof.Gen.FfnFwdIdeal.Points
public import Idealize.ShloMosaic.Lib.Claim
public import Idealize.ShloMosaic.Lib.WritesUnit
public import Idealize.ShloMosaic.Lib.Pipeline.Value

@[expose] public section

set_option maxRecDepth 16384

noncomputable section

namespace Cert.FfnFwdIdeal.Hand

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem zero2 : (![0, 0] : Fin 2 → Nat) = fun _ => 0 := by decide
theorem zero3 : (![0, 0, 0] : Fin 3 → Nat) = fun _ => 0 := by decide

/-- A buffer whose last store was whole reads back as that store's payload. -/
theorem read_whole {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  funext y
  have e := View.read_writes_cons_emb (Val := Elt F) v f (Rect.whole S) w L y
  rwa [Rect.emb_whole_apply] at e

set_option maxHeartbeats 2000000 in
/-- At the first of a block row's four points: the normalised row is stored, the running sum is started from the residual, and the first column block is added. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .bf16) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1024x1024 .f32) (harg10 : arg10.IsWhole) (arg11 : Memref sig .tc .vmem S1024x1024 .f32) (harg11 : arg11.IsWhole)
    (hc1 : k0_cond1 i = 1#1) (hc2 : ¬k0_cond2 i = 1#1)
    (x0 : Vec F S1024x1024 .f32) (x1 : Vec F S1x1024 .f32) (x2 x3 x4 : Vec F S1x704x1024 .bf16) (d7 : Vec F S1024x1024 .bf16)
    (d8 d9 : Vec F S1x1024x704 .bf16) (d10 d11 : Vec F S1024x1024 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 x0 x1) ∗ owns (c : Thread nD τ) arg8 fullShare (k0_pay7 (k0_pay2 x0 x1) x2) ∗ owns (c : Thread nD τ) arg9 fullShare (k0_pay8 (k0_pay2 x0 x1) x3) ∗ owns (c : Thread nD τ) arg10 fullShare d10 ∗ owns (c : Thread nD τ) arg11 fullShare (k0_pay1 (k0_pay9 (k0_pay2 x0 x1) x2 x3) (k0_pay3 x0) x4)) -∗ K ⟨⟩))
      ⊢ wp frame (wpE (defs₀ (F := F)) Variants.none c none) E (cc0_ffn_fwd_1 i arg2 harg2 arg3 harg3 arg4 harg4 arg5 harg5 arg6 harg6 arg7 harg7 arg8 harg8 arg9 harg9 arg10 harg10 arg11 harg11) K := by
  simp only [cc0_ffn_fwd_1_eq_skeleton]; unfold cc0_ffn_fwd_1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H4]
  · iexists _; isplitr
    swap; · iexact H4
    ipureintro
    exact harg4.read_unread _
  isplitl [H5]
  · iexists _; isplitr
    swap; · iexact H5
    ipureintro
    exact harg5.read_unread _
  isplitl [H6]
  · iexists _; isplitr
    swap; · iexact H6
    ipureintro
    exact harg6.read_unread _
  isplitl [H7]
  · iexists _; isplitr
    swap; · iexact H7
    ipureintro
    sl_unfold_words
    refine (read_whole _ _ zero2 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  isplitl [H8]
  · iexists _; isplitr
    swap; · iexact H8
    ipureintro
    sl_unfold_words
    refine (read_whole _ _ zero3 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  isplitl [H9]
  · iexists _; isplitr
    swap; · iexact H9
    ipureintro
    sl_unfold_words
    refine (read_whole _ _ zero3 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  isplitl [H10]
  · iexists _; isplitr
    swap; · iexact H10
    ipureintro
    exact harg10.read_unread _
  iexists _; isplitr
  swap; · iexact H11
  ipureintro
  sl_unfold_words
  refine (read_whole _ _ zero2 _ _ _).trans ?_
  simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]

set_option maxHeartbeats 2000000 in
/-- At the second and third point: the stored row is read and kept, and one column block is added. -/
theorem run_middle (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .bf16) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1024x1024 .f32) (harg10 : arg10.IsWhole) (arg11 : Memref sig .tc .vmem S1024x1024 .f32) (harg11 : arg11.IsWhole)
    (hc1 : ¬k0_cond1 i = 1#1) (hc2 : ¬k0_cond2 i = 1#1)
    (x0 : Vec F S1024x1024 .f32) (x1 : Vec F S1x1024 .f32) (x2 x3 x4 : Vec F S1x704x1024 .bf16) (d7 : Vec F S1024x1024 .bf16)
    (d8 d9 : Vec F S1x1024x704 .bf16) (d10 d11 : Vec F S1024x1024 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare (k0_pay7 d7 x2) ∗ owns (c : Thread nD τ) arg9 fullShare (k0_pay8 d7 x3) ∗ owns (c : Thread nD τ) arg10 fullShare d10 ∗ owns (c : Thread nD τ) arg11 fullShare (k0_pay1 (k0_pay9 d7 x2 x3) d11 x4)) -∗ K ⟨⟩))
      ⊢ wp frame (wpE (defs₀ (F := F)) Variants.none c none) E (cc0_ffn_fwd_1 i arg2 harg2 arg3 harg3 arg4 harg4 arg5 harg5 arg6 harg6 arg7 harg7 arg8 harg8 arg9 harg9 arg10 harg10 arg11 harg11) K := by
  simp only [cc0_ffn_fwd_1_eq_skeleton]; unfold cc0_ffn_fwd_1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H4]
  · iexists _; isplitr
    swap; · iexact H4
    ipureintro
    exact harg4.read_unread _
  isplitl [H5]
  · iexists _; isplitr
    swap; · iexact H5
    ipureintro
    exact harg5.read_unread _
  isplitl [H6]
  · iexists _; isplitr
    swap; · iexact H6
    ipureintro
    exact harg6.read_unread _
  isplitl [H7]
  · iexists _; isplitr
    swap; · iexact H7
    ipureintro
    exact harg7.read_unread _
  isplitl [H8]
  · iexists _; isplitr
    swap; · iexact H8
    ipureintro
    sl_unfold_words
    refine (read_whole _ _ zero3 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  isplitl [H9]
  · iexists _; isplitr
    swap; · iexact H9
    ipureintro
    sl_unfold_words
    refine (read_whole _ _ zero3 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  isplitl [H10]
  · iexists _; isplitr
    swap; · iexact H10
    ipureintro
    exact harg10.read_unread _
  iexists _; isplitr
  swap; · iexact H11
  ipureintro
  sl_unfold_words
  refine (read_whole _ _ zero2 _ _ _).trans ?_
  simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]

set_option maxHeartbeats 2000000 in
/-- At the fourth point: the last column block is added and the sum is stored. -/
theorem run_last (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .bf16) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1024x1024 .f32) (harg10 : arg10.IsWhole) (arg11 : Memref sig .tc .vmem S1024x1024 .f32) (harg11 : arg11.IsWhole)
    (hc1 : ¬k0_cond1 i = 1#1) (hc2 : k0_cond2 i = 1#1)
    (x0 : Vec F S1024x1024 .f32) (x1 : Vec F S1x1024 .f32) (x2 x3 x4 : Vec F S1x704x1024 .bf16) (d7 : Vec F S1024x1024 .bf16)
    (d8 d9 : Vec F S1x1024x704 .bf16) (d10 d11 : Vec F S1024x1024 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare (k0_pay7 d7 x2) ∗ owns (c : Thread nD τ) arg9 fullShare (k0_pay8 d7 x3) ∗ owns (c : Thread nD τ) arg10 fullShare (k0_pay1 (k0_pay9 d7 x2 x3) d11 x4) ∗ owns (c : Thread nD τ) arg11 fullShare (k0_pay1 (k0_pay9 d7 x2 x3) d11 x4)) -∗ K ⟨⟩))
      ⊢ wp frame (wpE (defs₀ (F := F)) Variants.none c none) E (cc0_ffn_fwd_1 i arg2 harg2 arg3 harg3 arg4 harg4 arg5 harg5 arg6 harg6 arg7 harg7 arg8 harg8 arg9 harg9 arg10 harg10 arg11 harg11) K := by
  simp only [cc0_ffn_fwd_1_eq_skeleton]; unfold cc0_ffn_fwd_1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc1 | sl_exact hc2)
  sl_step
  iapply Hk
  isplitl [H2]
  · iexists _; isplitr
    swap; · iexact H2
    ipureintro
    exact harg2.read_unread _
  isplitl [H3]
  · iexists _; isplitr
    swap; · iexact H3
    ipureintro
    exact harg3.read_unread _
  isplitl [H4]
  · iexists _; isplitr
    swap; · iexact H4
    ipureintro
    exact harg4.read_unread _
  isplitl [H5]
  · iexists _; isplitr
    swap; · iexact H5
    ipureintro
    exact harg5.read_unread _
  isplitl [H6]
  · iexists _; isplitr
    swap; · iexact H6
    ipureintro
    exact harg6.read_unread _
  isplitl [H7]
  · iexists _; isplitr
    swap; · iexact H7
    ipureintro
    exact harg7.read_unread _
  isplitl [H8]
  · iexists _; isplitr
    swap; · iexact H8
    ipureintro
    sl_unfold_words
    refine (read_whole _ _ zero3 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  isplitl [H9]
  · iexists _; isplitr
    swap; · iexact H9
    ipureintro
    sl_unfold_words
    refine (read_whole _ _ zero3 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  isplitl [H10]
  · iexists _; isplitr
    swap; · iexact H10
    ipureintro
    sl_unfold_words
    refine (read_whole _ _ zero2 _ _ _).trans ?_
    simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]
  iexists _; isplitr
  swap; · iexact H11
  ipureintro
  sl_unfold_words
  refine (read_whole _ _ zero2 _ _ _).trans ?_
  simp only [View.readAt_eq_ld, View.readCov_unit_zero (S := S1024x1024) _ zero2, harg2.read_unread, harg3.read_unread, harg4.read_unread, harg5.read_unread, harg6.read_unread, harg7.read_unread, harg8.read_unread, harg9.read_unread, harg10.read_unread, harg11.read_unread, View.ld_unit_zero (S := S1024x1024) zero2, View.ld_unit_zero (S := S1x1024) zero2, View.ld_unit_zero (S := S1x704x1024) zero3]

/-! ## The points of the grid -/

/-- The first branch is taken at the first of every four points. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- The second branch is taken at the last of every four points. -/
theorem last_iff : ∀ t : Fin cfg0.N, k0_cond2 (grid0.coords t) = 1#1 ↔ t.val % 4 = 3 :=
  (by decide +kernel : ∀ t : Fin grid0.N, k0_cond2 (grid0.coords t) = 1#1 ↔ t.val % 4 = 3)
theorem idle5 : ∀ t : Fin cfg0.N, cfg0.idle 5 (grid0.coords t) = !decide (t.val % 4 = 0) :=
  (by decide +kernel : ∀ t : Fin grid0.N, idle0 5 (grid0.coords t) = !decide (t.val % 4 = 0))
theorem idle8 : ∀ t : Fin cfg0.N, cfg0.idle 8 (grid0.coords t) = !decide (t.val % 4 = 3) :=
  (by decide +kernel : ∀ t : Fin grid0.N, idle0 8 (grid0.coords t) = !decide (t.val % 4 = 3))
theorem keep5 (t : Fin cfg0.N) (h : ¬t.val % 4 = 3) : (cfg0.win 5).flush t = false :=
  Bool.eq_false_iff.mpr fun e => h ((flush0_5 t).mp e)
theorem keep8 (t : Fin cfg0.N) (h : ¬t.val % 4 = 3) : (cfg0.win 8).flush t = false :=
  Bool.eq_false_iff.mpr fun e => h ((flush0_8 t).mp e)

/-- The staging buffers at point `t`, and the scratch. -/
abbrev stg0 (t : Fin cfg0.N) : Memref sig .tc .vmem S1024x1024 .f32 := win0_0.stage (cfg0.slots t 0)
abbrev stg1 (t : Fin cfg0.N) : Memref sig .tc .vmem S1x1024 .f32 := win0_1.stage (cfg0.slots t 1)
abbrev stg2 (t : Fin cfg0.N) : Memref sig .tc .vmem S1x704x1024 .bf16 := win0_2.stage (cfg0.slots t 2)
abbrev stg3 (t : Fin cfg0.N) : Memref sig .tc .vmem S1x704x1024 .bf16 := win0_3.stage (cfg0.slots t 3)
abbrev stg4 (t : Fin cfg0.N) : Memref sig .tc .vmem S1x704x1024 .bf16 := win0_4.stage (cfg0.slots t 4)
abbrev stg5 (t : Fin cfg0.N) : Memref sig .tc .vmem S1024x1024 .bf16 := win0_5.stage (cfg0.slots t 5)
abbrev stg6 (t : Fin cfg0.N) : Memref sig .tc .vmem S1x1024x704 .bf16 := win0_6.stage (cfg0.slots t 6)
abbrev stg7 (t : Fin cfg0.N) : Memref sig .tc .vmem S1x1024x704 .bf16 := win0_7.stage (cfg0.slots t 7)
abbrev stg8 (t : Fin cfg0.N) : Memref sig .tc .vmem S1024x1024 .f32 := win0_8.stage (cfg0.slots t 8)
abbrev scr : Memref sig .tc .vmem S1024x1024 .f32 := Memref.whole cc0_scratch0

/-- The normalised row that the points of a block row share: stored at the first, read at all four. -/
def hAt (c : Dev nD) : (n : ℕ) → n < cfg0.N → Vec F S1024x1024 .bf16
  | 0, hn => k0_pay2 (iblk m c 0 ⟨0, hn⟩) (iblk m c 1 ⟨0, hn⟩)
  | n + 1, hn => if (n + 1) % 4 = 0 then k0_pay2 (iblk m c 0 ⟨n + 1, hn⟩) (iblk m c 1 ⟨n + 1, hn⟩) else hAt c n (Nat.lt_of_succ_lt hn)

theorem hAt_first (c : Dev nD) (t : Fin cfg0.N) (h : t.val % 4 = 0) :
    hAt m c t.val t.isLt = k0_pay2 (iblk m c 0 t) (iblk m c 1 t) := by
  obtain ⟨n, hn⟩ := t
  cases n with
  | zero => rfl
  | succ n => exact if_pos h

theorem hAt_next (c : Dev nD) (t : Fin cfg0.N) (h : ¬t.val % 4 = 0) :
    hAt m c t.val t.isLt = hAt m c (t.val - 1) (Nat.lt_of_le_of_lt (Nat.sub_le _ _) t.isLt) := by
  obtain ⟨n, hn⟩ := t
  cases n with
  | zero => exact absurd rfl h
  | succ n => exact if_neg h

/-- The gated activation of one column block, times its rows of the down projection, added to `a`. -/
def addBlock (c : Dev nD) (t : Fin cfg0.N) (a : Vec F S1024x1024 .f32) : Vec F S1024x1024 .f32 :=
  k0_pay1 (k0_pay9 (hAt m c t.val t.isLt) (iblk m c 2 t) (iblk m c 3 t)) a (iblk m c 4 t)

/-- The running sum after point `n`. -/
def accAt (c : Dev nD) : (n : ℕ) → n < cfg0.N → Vec F S1024x1024 .f32
  | 0, hn => addBlock m c ⟨0, hn⟩ (k0_pay3 (iblk m c 0 ⟨0, hn⟩))
  | n + 1, hn => addBlock m c ⟨n + 1, hn⟩
      (if (n + 1) % 4 = 0 then k0_pay3 (iblk m c 0 ⟨n + 1, hn⟩) else accAt c n (Nat.lt_of_succ_lt hn))

theorem accAt_first (c : Dev nD) (t : Fin cfg0.N) (h : t.val % 4 = 0) :
    accAt m c t.val t.isLt = addBlock m c t (k0_pay3 (iblk m c 0 t)) := by
  obtain ⟨n, hn⟩ := t
  cases n with
  | zero => rfl
  | succ n => exact congrArg _ (if_pos h)

theorem accAt_next (c : Dev nD) (t : Fin cfg0.N) (h : ¬t.val % 4 = 0) :
    accAt m c t.val t.isLt = addBlock m c t (accAt m c (t.val - 1) (Nat.lt_of_le_of_lt (Nat.sub_le _ _) t.isLt)) := by
  obtain ⟨n, hn⟩ := t
  cases n with
  | zero => exact absurd rfl h
  | succ n => exact congrArg _ (if_neg h)

/-- The invariant between points: the scratch at anything before the first, then at the running sum. -/
def Inv (c : Dev nD) : (n : ℕ) → n ≤ cfg0.N → sProp (MT nD τ sig Unit (Elt F) ℕ (UR sig nD τ) ℕ)
  | 0, _ => Pipeline.ΦA spec0 c
  | n + 1, hn => iprop(owns (c : Thread nD τ) scr fullShare (accAt m c n hn) ∗ (∃ r, prngReg c r))

theorem scratch_eq (c : Dev nD) :
    (Pipeline.ΦA spec0 c : sProp (MT nD τ sig Unit (Elt F) ℕ (UR sig nD τ) ℕ)) = iprop((∃ d, owns (c : Thread nD τ) scr fullShare d) ∗ (∃ r, prngReg c r)) := by
  unfold Pipeline.ΦA; rw [scopedRest0_eq]; simp only [scr, owns_whole]; try rfl

theorem Inv_pos (c : Dev nD) (n : ℕ) (h : n ≤ cfg0.N) (hz : n ≠ 0) :
    Inv m c n h = iprop(owns (c : Thread nD τ) scr fullShare (accAt m c (n - 1) (by omega)) ∗ (∃ r, prngReg c r)) := by
  cases n with
  | zero => exact absurd rfl hz
  | succ n => rfl

/-- Whatever the point, the invariant gives the scratch at some contents. -/
theorem Inv_some (c : Dev nD) (n : ℕ) (h : n ≤ cfg0.N) : Inv m c n h ⊢ Pipeline.ΦA spec0 c := by
  cases n with
  | zero => exact Idealize.SL.BI.Entails.refl _
  | succ n =>
    rw [show Inv m c (n + 1) h = iprop(owns (c : Thread nD τ) scr fullShare (accAt m c n h) ∗ (∃ r, prngReg c r)) from rfl, scratch_eq]
    iintro ⟨HS, Hg⟩
    isplitl [HS]; · iexists _; iexact HS
    iexact Hg

/-- What every point leaves in the staging buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hAt m c t.val t.isLt
    | ⟨6, _⟩ => k0_pay7 (hAt m c t.val t.isLt) (iblk m c 2 t)
    | ⟨7, _⟩ => k0_pay8 (hAt m c t.val t.isLt) (iblk m c 3 t)
    | ⟨8, _⟩ => accAt m c t.val t.isLt
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_start (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hAt m c t.val t.isLt := by dsimp only [dats]
theorem after6 (c : Dev nD) (t : Fin cfg0.N) : (dats m 0 c).after 6 t = k0_pay7 (hAt m c t.val t.isLt) (iblk m c 2 t) := by dsimp only [dats]
theorem after7 (c : Dev nD) (t : Fin cfg0.N) : (dats m 0 c).after 7 t = k0_pay8 (hAt m c t.val t.isLt) (iblk m c 3 t) := by dsimp only [dats]
theorem after8 (c : Dev nD) (t : Fin cfg0.N) : (dats m 0 c).after 8 t = accAt m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point of a block row the buffer of the normalised row still holds it: the points between leave it as
    they find it and it is written back after the fourth only. -/
theorem before5 (c : Dev nD) : ∀ (n : ℕ) (hn : n < cfg0.N), ¬n % 4 = 0 → ∀ d, (dats m 0 c).before 5 ⟨n, hn⟩ d = hAt m c n hn
  | 0, _, h, _ => absurd rfl h
  | n + 1, hn, h, d => by
    have hn' : n < cfg0.N := Nat.lt_of_succ_lt hn
    rw [Dat.before_of_pos (dats m 0 c) 5 ⟨n + 1, hn⟩ (Nat.succ_ne_zero n) ((cfg0.win 5).fetch_out rfl _) d]
    rw [show (cfg0.win 5).flush ⟨n + 1 - 1, Nat.lt_of_le_of_lt (Nat.sub_le _ _) hn⟩ = false from
      keep5 ⟨n, hn'⟩ (by dsimp only; omega), if_neg Bool.false_ne_true, hAt_next m c ⟨n + 1, hn⟩ h]
    show (dats m 0 c).left 5 ⟨n, hn'⟩ d = hAt m c n hn'
    unfold Dat.left
    by_cases h0 : n % 4 = 0
    · rw [idle5 ⟨n, hn'⟩, show (!decide (n % 4 = 0)) = false by rw [decide_eq_true h0]; rfl]
      show (dats m 0 c).kept 5 ⟨n, hn'⟩ d = _
      unfold Dat.kept
      rw [Pipeline.fill_of_clip_none 5 _ (fun _ => rfl) d ((dats m 0 c).after 5 ⟨n, hn'⟩), Window.fill_cut, after5]
    · rw [idle5 ⟨n, hn'⟩, show (!decide (n % 4 = 0)) = true by rw [decide_eq_false h0]; rfl]
      exact before5 c n hn' h0 d

/-! ## The body at any point -/

def Pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

def Post (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) :
    (dats m 0 c).leavesExact 0 t = owns (c : Thread nD τ) (stg0 t) fullShare (iblk m c 0 t) := by
  unfold Dat.leavesExact; rw [show cfg0.idle 0 (cfg0.grid.coords t) = false from rfl, after0]

theorem leaves1 (c : Dev nD) (t : Fin cfg0.N) :
    (dats m 0 c).leavesExact 1 t = owns (c : Thread nD τ) (stg1 t) fullShare (iblk m c 1 t) := by
  unfold Dat.leavesExact; rw [show cfg0.idle 1 (cfg0.grid.coords t) = false from rfl, after1]

theorem leaves2 (c : Dev nD) (t : Fin cfg0.N) :
    (dats m 0 c).leavesExact 2 t = owns (c : Thread nD τ) (stg2 t) fullShare (iblk m c 2 t) := by
  unfold Dat.leavesExact; rw [show cfg0.idle 2 (cfg0.grid.coords t) = false from rfl, after2]

theorem leaves3 (c : Dev nD) (t : Fin cfg0.N) :
    (dats m 0 c).leavesExact 3 t = owns (c : Thread nD τ) (stg3 t) fullShare (iblk m c 3 t) := by
  unfold Dat.leavesExact; rw [show cfg0.idle 3 (cfg0.grid.coords t) = false from rfl, after3]

theorem leaves4 (c : Dev nD) (t : Fin cfg0.N) :
    (dats m 0 c).leavesExact 4 t = owns (c : Thread nD τ) (stg4 t) fullShare (iblk m c 4 t) := by
  unfold Dat.leavesExact; rw [show cfg0.idle 4 (cfg0.grid.coords t) = false from rfl, after4]

theorem leaves6 (c : Dev nD) (t : Fin cfg0.N) :
    (dats m 0 c).leavesExact 6 t = owns (c : Thread nD τ) (stg6 t) fullShare (k0_pay7 (hAt m c t.val t.isLt) (iblk m c 2 t)) := by
  unfold Dat.leavesExact; rw [show cfg0.idle 6 (cfg0.grid.coords t) = false from rfl, after6]

theorem leaves7 (c : Dev nD) (t : Fin cfg0.N) :
    (dats m 0 c).leavesExact 7 t = owns (c : Thread nD τ) (stg7 t) fullShare (k0_pay8 (hAt m c t.val t.isLt) (iblk m c 3 t)) := by
  unfold Dat.leavesExact; rw [show cfg0.idle 7 (cfg0.grid.coords t) = false from rfl, after7]

theorem leaves5_idle (c : Dev nD) (t : Fin cfg0.N) (h0 : ¬t.val % 4 = 0) (h3 : ¬t.val % 4 = 3) :
    (dats m 0 c).leavesExact 5 t = iprop(∃ d, owns (c : Thread nD τ) (stg5 t) fullShare ((dats m 0 c).before 5 t d)) :=
  Dat.leavesExact_idle (dats m 0 c) 5 t ((idle5 t).trans (by rw [decide_eq_false h0]; rfl)) (keep5 t h3)

theorem leaves5_first (c : Dev nD) (t : Fin cfg0.N) (h0 : t.val % 4 = 0) :
    (dats m 0 c).leavesExact 5 t = owns (c : Thread nD τ) (stg5 t) fullShare (hAt m c t.val t.isLt) := by
  unfold Dat.leavesExact
  rw [show cfg0.idle 5 (cfg0.grid.coords t) = false from (idle5 t).trans (by rw [decide_eq_true h0]; rfl), after5]

theorem leaves5_last (c : Dev nD) (t : Fin cfg0.N) (h3 : t.val % 4 = 3) :
    (dats m 0 c).leavesExact 5 t = owns (c : Thread nD τ) (stg5 t) fullShare (hAt m c t.val t.isLt) := by
  unfold Dat.leavesExact
  rw [show cfg0.idle 5 (cfg0.grid.coords t) = true from
    (idle5 t).trans (by rw [decide_eq_false (by omega : ¬t.val % 4 = 0)]; rfl), (flush0_5 t).mpr h3, after5]

theorem leaves8_idle (c : Dev nD) (t : Fin cfg0.N) (h3 : ¬t.val % 4 = 3) :
    (dats m 0 c).leavesExact 8 t = iprop(∃ d, owns (c : Thread nD τ) (stg8 t) fullShare ((dats m 0 c).before 8 t d)) :=
  Dat.leavesExact_idle (dats m 0 c) 8 t ((idle8 t).trans (by rw [decide_eq_false h3]; rfl)) (keep8 t h3)

theorem leaves8_last (c : Dev nD) (t : Fin cfg0.N) (h3 : t.val % 4 = 3) :
    (dats m 0 c).leavesExact 8 t = owns (c : Thread nD τ) (stg8 t) fullShare (accAt m c t.val t.isLt) := by
  unfold Dat.leavesExact
  rw [show cfg0.idle 8 (cfg0.grid.coords t) = false from (idle8 t).trans (by rw [decide_eq_true h3]; rfl), after8]

set_option maxHeartbeats 16000000 in
/-- The body at any point, by the point's place in its block row. -/
theorem sound (c : Dev nD) (t : Fin cfg0.N) :
    Pre m c t ⊢ wp frame (wpE (defs₀ (F := F)) Variants.none c none) Set.univ (bodyAt0 t) (fun _ => Post m c t) := by
  unfold Pre Post bodyAt0
  simp only [before0, before1, before2, before3, before4]
  rw [show (dats m 0 c).owesAt () t.succ = (dats m 0 c).owesAt () t.castSucc from rfl]
  rw [show (dats m 0 c).Φ t.succ = iprop(owns (c : Thread nD τ) scr fullShare (accAt m c t.val t.isLt) ∗ (∃ r, prngReg c r)) from rfl]
  rw [leaves0, leaves1, leaves2, leaves3, leaves4, leaves6, leaves7]
  by_cases h0 : t.val % 4 = 0
  · have h3 : ¬t.val % 4 = 3 := by omega
    rw [leaves5_first m c t h0, leaves8_idle m c t h3, hAt_first m c t h0, accAt_first m c t h0]
    unfold addBlock
    rw [hAt_first m c t h0, Inv_start]
    refine (sep_mono_left (Inv_some m c _ _)).trans ?_
    rw [scratch_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ ((first_iff t).mpr h0) (fun h => h3 ((last_iff t).mp h))
      (iblk m c 0 t) (iblk m c 1 t) (iblk m c 2 t) (iblk m c 3 t) (iblk m c 4 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun h => h0 (by rw [h])
    have hb : ∀ d, (dats m 0 c).before 5 t d = hAt m c t.val t.isLt := before5 m c t.val t.isLt h0
    rw [Inv_start, Inv_pos m c _ _ hz, accAt_next m c t h0]
    unfold addBlock
    by_cases h3 : t.val % 4 = 3
    · rw [leaves5_last m c t h3, leaves8_last m c t h3, accAt_next m c t h0]
      unfold addBlock
      simp only [hb]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) _ _ _ _ _ _ _ _ _ _ _ _ _ _ _ _ _ _ _ _ (fun h => h0 ((first_iff t).mp h)) ((last_iff t).mpr h3)
        (iblk m c 0 t) (iblk m c 1 t) (iblk m c 2 t) (iblk m c 3 t) (iblk m c 4 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [leaves5_idle m c t h0 h3, leaves8_idle m c t h3]
      simp only [hb]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_middle c (grid0.coords t) _ _ _ _ _ _ _ _ _ _ _ _ _ _ _ _ _ _ _ _ (fun h => h0 ((first_iff t).mp h)) (fun h => h3 ((last_iff t).mp h))
        (iblk m c 0 t) (iblk m c 1 t) (iblk m c 2 t) (iblk m c 3 t) (iblk m c 4 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexact H6
      isplitl [H7]; · iexact H7
      iexists _; iexact H8

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => Idealize.SL.BI.Entails.refl _) (hout := fun c => Inv_some m c (Fin.last cfg0.N).val (Nat.le_of_lt_succ (Fin.last cfg0.N).isLt))

/-- Every run ends, with the arrays at what the points' blocks make them. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.FfnFwdIdeal.Hand

end
-- ==== Proof.FfnFwdFrame.lean ====
/- The frame of the feed-forward block's forward call as printed: no rule rewrote it, so its body and its region are
   the idealized text's own, and the frame proved there at every instance is its frame at the bits. -/
module

public import proofs.«01_k».proof.Defs
public import proofs.«01_k».proof.Proof.Gen.FfnFwd
public import proofs.«01_k».proof.Proof.FfnFwdIdealFrame

@[expose] public section

namespace Cert.FfnFwd.Hand

open Idealize.ShloMosaic

variable {F : FTy → Type} [FloatOps F]

theorem defs₀_eq : Cert.FfnFwd.defs₀ (F := F) = Cert.FfnFwdIdeal.defs₀ := by
  unfold Cert.FfnFwd.defs₀ Cert.FfnFwdIdeal.defs₀
  congr 1; funext l a
  match l, a with
  | 0, (t, s) => rfl
  | ⟨_ + 1, h⟩, _ => exact absurd h (Nat.not_lt.2 (Nat.le_add_left _ _))

theorem defs_eq : Cert.FfnFwd.defs (F := F) = Cert.FfnFwdIdeal.defs := congrArg (Pipeline.defs pcfgs) defs₀_eq

theorem frame : Cert.quiescent_FfnFwd := fun m ρ _ =>
  Eq.mpr (congrArg (fun d => θ_run d (onTc (τ := τ) (main (F := Bits))) ⟨m, fun _ => 0, ρ⟩ _) defs_eq)
    (Cert.FfnFwdIdeal.Hand.frame (F := Bits) m ρ)

end Cert.FfnFwd.Hand

end
-- ==== Proof.MergeTiles.lean ====
/- The tiles of `merge_bwd`: what one grid point leaves in each output window and in the carried column sums. -/
module

public import proofs.«01_k».proof.Proof.Gen.MergeIdeal.Value
public import Idealize.ShloMosaic.Lib.Pipeline.Value
public import Idealize.ShloMosaic.Lib.WritesUnit
public import Idealize.ShloMosaic.Lib.Pipeline.ReadBack
public import Idealize.ShloMosaic.Lib.Tactic

@[expose] public section

set_option maxRecDepth 16384

noncomputable section

namespace Cert.MergeIdeal.Tile

open Cert.MergeIdeal Cert.MergeIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem hit2 {Val : EltTy → Type} [∀ e, Nonempty (Val e)] {sg : RefSig} {κ : Kind} {sp : Space} {e : EltTy} {R C r c : Nat}
    (v : View sg κ sp (⟨2, ![R, C]⟩ : Shape) e) (f : BufTy.Contents Val v.ty) (o0 o1 : Nat) (inb : ∀ a, (![o0, o1] : Fin 2 → Nat) a + (![r, c] : Fin 2 → Nat) a ≤ (⟨2, ![R, C]⟩ : Shape).size a) (w : (⟨2, ![r, c]⟩ : Shape).Idx → Val e)
    (L : List (View.Piece Val (⟨2, ![R, C]⟩ : Shape) e)) (y : (⟨2, ![R, C]⟩ : Shape).Idx) (z : (⟨2, ![r, c]⟩ : Shape).Idx)
    (h0 : (y 0).val = o0 + (z 0).val) (h1 : (y 1).val = o1 + (z 1).val) :
    v.read Val (v.writes Val f ((⟨Rect.unit (s := (⟨2, ![R, C]⟩ : Shape)) ![o0, o1] ![r, c] inb, w⟩ : View.Piece Val (⟨2, ![R, C]⟩ : Shape) e) :: L)) y = w z :=
  View.read_writes_cons_unit_of_mem v f inb w L y z rfl (fun a => by match a with | ⟨0, _⟩ => exact h0 | ⟨1, _⟩ => exact h1)

theorem miss2 {Val : EltTy → Type} [∀ e, Nonempty (Val e)] {sg : RefSig} {κ : Kind} {sp : Space} {e : EltTy} {R C r c : Nat}
    (v : View sg κ sp (⟨2, ![R, C]⟩ : Shape) e) (f : BufTy.Contents Val v.ty) (o0 o1 : Nat) (inb : ∀ a, (![o0, o1] : Fin 2 → Nat) a + (![r, c] : Fin 2 → Nat) a ≤ (⟨2, ![R, C]⟩ : Shape).size a) (w : (⟨2, ![r, c]⟩ : Shape).Idx → Val e)
    (L : List (View.Piece Val (⟨2, ![R, C]⟩ : Shape) e)) (y : (⟨2, ![R, C]⟩ : Shape).Idx) (h : (y 0).val < o0 ∨ (y 1).val < o1) :
    v.read Val (v.writes Val f ((⟨Rect.unit (s := (⟨2, ![R, C]⟩ : Shape)) ![o0, o1] ![r, c] inb, w⟩ : View.Piece Val (⟨2, ![R, C]⟩ : Shape) e) :: L)) y = v.read Val (v.writes Val f L) y :=
  h.elim (fun h => View.read_writes_cons_unit_of_not_mem v f inb w L y rfl 0 (.inl h)) (fun h => View.read_writes_cons_unit_of_not_mem v f inb w L y rfl 1 (.inl h))

theorem hit3 {Val : EltTy → Type} [∀ e, Nonempty (Val e)] {sg : RefSig} {κ : Kind} {sp : Space} {e : EltTy} {Q R C q r c : Nat}
    (v : View sg κ sp (⟨3, ![Q, R, C]⟩ : Shape) e) (f : BufTy.Contents Val v.ty) (o0 o1 o2 : Nat) (inb : ∀ a, (![o0, o1, o2] : Fin 3 → Nat) a + (![q, r, c] : Fin 3 → Nat) a ≤ (⟨3, ![Q, R, C]⟩ : Shape).size a) (w : (⟨3, ![q, r, c]⟩ : Shape).Idx → Val e)
    (L : List (View.Piece Val (⟨3, ![Q, R, C]⟩ : Shape) e)) (y : (⟨3, ![Q, R, C]⟩ : Shape).Idx) (z : (⟨3, ![q, r, c]⟩ : Shape).Idx)
    (h0 : (y 0).val = o0 + (z 0).val) (h1 : (y 1).val = o1 + (z 1).val) (h2 : (y 2).val = o2 + (z 2).val) :
    v.read Val (v.writes Val f ((⟨Rect.unit (s := (⟨3, ![Q, R, C]⟩ : Shape)) ![o0, o1, o2] ![q, r, c] inb, w⟩ : View.Piece Val (⟨3, ![Q, R, C]⟩ : Shape) e) :: L)) y = w z :=
  View.read_writes_cons_unit_of_mem v f inb w L y z rfl (fun a => by match a with | ⟨0, _⟩ => exact h0 | ⟨1, _⟩ => exact h1 | ⟨2, _⟩ => exact h2)

theorem miss3 {Val : EltTy → Type} [∀ e, Nonempty (Val e)] {sg : RefSig} {κ : Kind} {sp : Space} {e : EltTy} {Q R C q r c : Nat}
    (v : View sg κ sp (⟨3, ![Q, R, C]⟩ : Shape) e) (f : BufTy.Contents Val v.ty) (o0 o1 o2 : Nat) (inb : ∀ a, (![o0, o1, o2] : Fin 3 → Nat) a + (![q, r, c] : Fin 3 → Nat) a ≤ (⟨3, ![Q, R, C]⟩ : Shape).size a) (w : (⟨3, ![q, r, c]⟩ : Shape).Idx → Val e)
    (L : List (View.Piece Val (⟨3, ![Q, R, C]⟩ : Shape) e)) (y : (⟨3, ![Q, R, C]⟩ : Shape).Idx) (h : (y 0).val < o0) :
    v.read Val (v.writes Val f ((⟨Rect.unit (s := (⟨3, ![Q, R, C]⟩ : Shape)) ![o0, o1, o2] ![q, r, c] inb, w⟩ : View.Piece Val (⟨3, ![Q, R, C]⟩ : Shape) e) :: L)) y = v.read Val (v.writes Val f L) y :=
  View.read_writes_cons_unit_of_not_mem v f inb w L y rfl 0 (.inl h)

theorem skip3 {Val : EltTy → Type} [∀ e, Nonempty (Val e)] {sg : RefSig} {κ : Kind} {sp : Space} {e : EltTy} {Q R C : Nat}
    (v : View sg κ sp (⟨3, ![Q, R, C]⟩ : Shape) e) (p q : Nat) (h : p ≠ q)
    (inb : ∀ a, (![p, 0, 0] : Fin 3 → Nat) a + (![1, R, C] : Fin 3 → Nat) a ≤ (⟨3, ![Q, R, C]⟩ : Shape).size a)
    (inb' : ∀ a, (![q, 0, 0] : Fin 3 → Nat) a + (![1, R, C] : Fin 3 → Nat) a ≤ (⟨3, ![Q, R, C]⟩ : Shape).size a)
    (w : (⟨3, ![1, R, C]⟩ : Shape).Idx → Val e) (L : List (View.Piece Val (⟨3, ![Q, R, C]⟩ : Shape) e)) :
    v.readCov ((⟨Rect.unit (s := (⟨3, ![Q, R, C]⟩ : Shape)) ![p, 0, 0] ![1, R, C] inb, w⟩ : View.Piece Val (⟨3, ![Q, R, C]⟩ : Shape) e) :: L)
        (Rect.unit (s := (⟨3, ![Q, R, C]⟩ : Shape)) ![q, 0, 0] ![1, R, C] inb').toLoadRect
      = v.readCov L (Rect.unit (s := (⟨3, ![Q, R, C]⟩ : Shape)) ![q, 0, 0] ![1, R, C] inb').toLoadRect := by
  rw [View.readCov_eq_canon', View.readCov_eq_canon']
  funext j
  refine View.canon_cons_of_not_mem _ L ?_
  rw [Rect.mem_set_unit]
  intro hall
  have h0 := hall 0
  have hj : (j 0).val < 1 := (j 0).isLt
  have e0 : (((Rect.unit (s := (⟨3, ![Q, R, C]⟩ : Shape)) ![q, 0, 0] ![1, R, C] inb').toLoadRect.idx j) 0).val = q + 1 * (j 0).val := rfl
  rw [e0] at h0
  have h1 : p ≤ q + 1 * (j 0).val ∧ q + 1 * (j 0).val < p + 1 := h0
  omega

/-- A row of the gate bias. -/
abbrev row0 (x : Vec F S2x1024 .f32) : Vec F S1x1024 .f32 := View.ld x (Rect.unit (s := S2x1024) ![0, 0] S1x1024.size inb_S2x1024_S1x1024_0_0)
abbrev row1 (x : Vec F S2x1024 .f32) : Vec F S1x1024 .f32 := View.ld x (Rect.unit (s := S2x1024) ![1, 0] S1x1024.size inb_S2x1024_S1x1024_1_0)
/-- A row of the column sums. -/
abbrev acc0 (x : Vec F S2x8x1024 .f32) : Vec F S1x8x1024 .f32 := View.ld x (Rect.unit (s := S2x8x1024) ![0, 0, 0] S1x8x1024.size inb_S2x8x1024_S1x8x1024_0_0_0)
abbrev acc1 (x : Vec F S2x8x1024 .f32) : Vec F S1x8x1024 .f32 := View.ld x (Rect.unit (s := S2x8x1024) ![1, 0, 0] S1x8x1024.size inb_S2x8x1024_S1x8x1024_1_0_0)

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x2048 .bf16) (harg14 : arg14.IsWhole) (arg15 : Memref sig .tc .vmem S512x1024 .bf16) (harg15 : arg15.IsWhole) (arg16 : Memref sig .tc .vmem S2x1024 .f32) (harg16 : arg16.IsWhole) (arg17 : Memref sig .tc .vmem S2x8x1024 .f32) (harg17 : arg17.IsWhole) (hc0 : cond0_0 i) (hc1 : ¬cond0_1 i)
    (x0 : Vec F S512x1024 .f32) (x1 : Vec F S512x1024 .bf16) (x2 : Vec F S512x1024 .bf16) (x3 : Vec F S512x1024 .bf16) (x4 : Vec F S512x1024 .bf16) (x5 : Vec F S1024x1024 .bf16) (x6 : Vec F S1024x1024 .bf16) (x7 : Vec F S1024x1024 .bf16) (x8 : Vec F S2x1024 .f32)

theorem out_A_9  :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay2 (k0_pay11 x0 x7 x1 (row0 x8)) x5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_A_10  :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay3 (k0_pay12 (k0_pay8 x0 x7) (k0_pay10 x2 (row1 x8))) x6 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_A_11  :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay11 x0 x7 x1 (row0 x8) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_A_12  :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay12 (k0_pay8 x0 x7) (k0_pay10 x2 (row1 x8)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_A_14  :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay7 x0 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_A_13_lo  (y : S512x2048.Idx) (z : S512x1024.Idx) (h0 : (y 0).val = (z 0).val) (h1 : (y 1).val = 0 + (z 1).val) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 y = k0_pay15 (k0_pay8 x0 x7) (k0_pay9 x1 (row0 x8)) x3 z := by
  unfold out0_A_13 kernelRun0_A
  dsimp only
  sl_unfold_words
  refine (miss2 _ _ _ _ _ _ _ y (.inr (by have h : (z 1).val < 1024 := (z 1).isLt; omega))).trans ?_
  refine (hit2 _ _ _ _ _ _ _ y z (h0.trans (Nat.zero_add _).symm) h1).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_A_13_hi  (y : S512x2048.Idx) (z : S512x1024.Idx) (h0 : (y 0).val = (z 0).val) (h1 : (y 1).val = 1024 + (z 1).val) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 y = k0_pay16 (k0_pay8 x0 x7) (k0_pay10 x2 (row1 x8)) x4 z := by
  unfold out0_A_13 kernelRun0_A
  dsimp only
  sl_unfold_words
  refine (hit2 _ _ _ _ _ _ _ y z (h0.trans (Nat.zero_add _).symm) h1).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem sout_A_r0  (y : S2x8x1024.Idx) (z : S1x8x1024.Idx) (h0 : (y 0).val = 0) (h1 : (y 1).val = (z 1).val) (h2 : (y 2).val = (z 2).val) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 y = k0_pay17 (k0_pay8 x0 x7) (k0_pay9 x1 (row0 x8)) x3 (acc0 (k0_pay6 (F := F))) z := by
  have hz0 : (z 0).val = 0 := by have h : (z 0).val < 1 := (z 0).isLt; omega
  unfold sout0_A_0 kernelRun0_A
  dsimp only
  sl_unfold_words
  refine (miss3 _ _ _ _ _ _ _ _ y (by omega)).trans ?_
  refine (hit3 _ _ _ _ _ _ _ _ y z (h0.trans (by rw [hz0])) (h1.trans (Nat.zero_add _).symm) (h2.trans (Nat.zero_add _).symm)).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]
  refine congrArg (fun u => k0_pay17 (F := F) _ _ _ u z) ?_
  exact View.readCov_fill arg17.view _ _ _ _ (by decide)

theorem sout_A_r1  (y : S2x8x1024.Idx) (z : S1x8x1024.Idx) (h0 : (y 0).val = 1) (h1 : (y 1).val = (z 1).val) (h2 : (y 2).val = (z 2).val) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 y = k0_pay1 (k0_pay14 (k0_pay8 x0 x7) (k0_pay10 x2 (row1 x8)) x4) (acc1 (k0_pay6 (F := F))) z := by
  have hz0 : (z 0).val = 0 := by have h : (z 0).val < 1 := (z 0).isLt; omega
  unfold sout0_A_0 kernelRun0_A
  dsimp only
  sl_unfold_words
  refine (hit3 _ _ _ _ _ _ _ _ y z (h0.trans (by rw [hz0])) (h1.trans (Nat.zero_add _).symm) (h2.trans (Nat.zero_add _).symm)).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]
  refine congrArg (fun u => k0_pay1 (F := F) _ u z) ?_
  refine (skip3 arg17.view 0 1 (by decide) _ _ _ _).trans ?_
  exact View.readCov_fill arg17.view _ _ _ _ (by decide)

end

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x2048 .bf16) (harg14 : arg14.IsWhole) (arg15 : Memref sig .tc .vmem S512x1024 .bf16) (harg15 : arg15.IsWhole) (arg16 : Memref sig .tc .vmem S2x1024 .f32) (harg16 : arg16.IsWhole) (arg17 : Memref sig .tc .vmem S2x8x1024 .f32) (harg17 : arg17.IsWhole) (hc0 : ¬cond0_0 i) (hc1 : ¬cond0_1 i)
    (x0 : Vec F S512x1024 .f32) (x1 : Vec F S512x1024 .bf16) (x2 : Vec F S512x1024 .bf16) (x3 : Vec F S512x1024 .bf16) (x4 : Vec F S512x1024 .bf16) (x5 : Vec F S1024x1024 .bf16) (x6 : Vec F S1024x1024 .bf16) (x7 : Vec F S1024x1024 .bf16) (x8 : Vec F S2x1024 .f32) (xs0 : Vec F S2x8x1024 .f32)

theorem out_B_9  :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay2 (k0_pay11 x0 x7 x1 (row0 x8)) x5 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_B_10  :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay3 (k0_pay12 (k0_pay8 x0 x7) (k0_pay10 x2 (row1 x8))) x6 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_B_11  :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay11 x0 x7 x1 (row0 x8) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_B_12  :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay12 (k0_pay8 x0 x7) (k0_pay10 x2 (row1 x8)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_B_14  :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay7 x0 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_B_13_lo  (y : S512x2048.Idx) (z : S512x1024.Idx) (h0 : (y 0).val = (z 0).val) (h1 : (y 1).val = 0 + (z 1).val) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay15 (k0_pay8 x0 x7) (k0_pay9 x1 (row0 x8)) x3 z := by
  unfold out0_B_13 kernelRun0_B
  dsimp only
  sl_unfold_words
  refine (miss2 _ _ _ _ _ _ _ y (.inr (by have h : (z 1).val < 1024 := (z 1).isLt; omega))).trans ?_
  refine (hit2 _ _ _ _ _ _ _ y z (h0.trans (Nat.zero_add _).symm) h1).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_B_13_hi  (y : S512x2048.Idx) (z : S512x1024.Idx) (h0 : (y 0).val = (z 0).val) (h1 : (y 1).val = 1024 + (z 1).val) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay16 (k0_pay8 x0 x7) (k0_pay10 x2 (row1 x8)) x4 z := by
  unfold out0_B_13 kernelRun0_B
  dsimp only
  sl_unfold_words
  refine (hit2 _ _ _ _ _ _ _ y z (h0.trans (Nat.zero_add _).symm) h1).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem sout_B_r0  (y : S2x8x1024.Idx) (z : S1x8x1024.Idx) (h0 : (y 0).val = 0) (h1 : (y 1).val = (z 1).val) (h2 : (y 2).val = (z 2).val) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay17 (k0_pay8 x0 x7) (k0_pay9 x1 (row0 x8)) x3 (acc0 xs0) z := by
  have hz0 : (z 0).val = 0 := by have h : (z 0).val < 1 := (z 0).isLt; omega
  unfold sout0_B_0 kernelRun0_B
  dsimp only
  sl_unfold_words
  refine (miss3 _ _ _ _ _ _ _ _ y (by omega)).trans ?_
  refine (hit3 _ _ _ _ _ _ _ _ y z (h0.trans (by rw [hz0])) (h1.trans (Nat.zero_add _).symm) (h2.trans (Nat.zero_add _).symm)).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem sout_B_r1  (y : S2x8x1024.Idx) (z : S1x8x1024.Idx) (h0 : (y 0).val = 1) (h1 : (y 1).val = (z 1).val) (h2 : (y 2).val = (z 2).val) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay1 (k0_pay14 (k0_pay8 x0 x7) (k0_pay10 x2 (row1 x8)) x4) (acc1 xs0) z := by
  have hz0 : (z 0).val = 0 := by have h : (z 0).val < 1 := (z 0).isLt; omega
  unfold sout0_B_0 kernelRun0_B
  dsimp only
  sl_unfold_words
  refine (hit3 _ _ _ _ _ _ _ _ y z (h0.trans (by rw [hz0])) (h1.trans (Nat.zero_add _).symm) (h2.trans (Nat.zero_add _).symm)).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

end

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S2x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x2048 .bf16) (harg14 : arg14.IsWhole) (arg15 : Memref sig .tc .vmem S512x1024 .bf16) (harg15 : arg15.IsWhole) (arg16 : Memref sig .tc .vmem S2x1024 .f32) (harg16 : arg16.IsWhole) (arg17 : Memref sig .tc .vmem S2x8x1024 .f32) (harg17 : arg17.IsWhole) (hc0 : ¬cond0_0 i) (hc1 : cond0_1 i)
    (x0 : Vec F S512x1024 .f32) (x1 : Vec F S512x1024 .bf16) (x2 : Vec F S512x1024 .bf16) (x3 : Vec F S512x1024 .bf16) (x4 : Vec F S512x1024 .bf16) (x5 : Vec F S1024x1024 .bf16) (x6 : Vec F S1024x1024 .bf16) (x7 : Vec F S1024x1024 .bf16) (x8 : Vec F S2x1024 .f32) (xs0 : Vec F S2x8x1024 .f32)

theorem out_C_9  :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay2 (k0_pay11 x0 x7 x1 (row0 x8)) x5 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_10  :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay3 (k0_pay12 (k0_pay8 x0 x7) (k0_pay10 x2 (row1 x8))) x6 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_11  :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay11 x0 x7 x1 (row0 x8) := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_12  :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay12 (k0_pay8 x0 x7) (k0_pay10 x2 (row1 x8)) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_14  :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 = k0_pay7 x0 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_13_lo  (y : S512x2048.Idx) (z : S512x1024.Idx) (h0 : (y 0).val = (z 0).val) (h1 : (y 1).val = 0 + (z 1).val) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay15 (k0_pay8 x0 x7) (k0_pay9 x1 (row0 x8)) x3 z := by
  unfold out0_C_13 kernelRun0_C
  dsimp only
  sl_unfold_words
  refine (miss2 _ _ _ _ _ _ _ y (.inr (by have h : (z 1).val < 1024 := (z 1).isLt; omega))).trans ?_
  refine (hit2 _ _ _ _ _ _ _ y z (h0.trans (Nat.zero_add _).symm) h1).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_13_hi  (y : S512x2048.Idx) (z : S512x1024.Idx) (h0 : (y 0).val = (z 0).val) (h1 : (y 1).val = 1024 + (z 1).val) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay16 (k0_pay8 x0 x7) (k0_pay10 x2 (row1 x8)) x4 z := by
  unfold out0_C_13 kernelRun0_C
  dsimp only
  sl_unfold_words
  refine (hit2 _ _ _ _ _ _ _ y z (h0.trans (Nat.zero_add _).symm) h1).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem sout_C_r0  (y : S2x8x1024.Idx) (z : S1x8x1024.Idx) (h0 : (y 0).val = 0) (h1 : (y 1).val = (z 1).val) (h2 : (y 2).val = (z 2).val) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay17 (k0_pay8 x0 x7) (k0_pay9 x1 (row0 x8)) x3 (acc0 xs0) z := by
  have hz0 : (z 0).val = 0 := by have h : (z 0).val < 1 := (z 0).isLt; omega
  unfold sout0_C_0 kernelRun0_C
  dsimp only
  sl_unfold_words
  refine (miss3 _ _ _ _ _ _ _ _ y (by omega)).trans ?_
  refine (hit3 _ _ _ _ _ _ _ _ y z (h0.trans (by rw [hz0])) (h1.trans (Nat.zero_add _).symm) (h2.trans (Nat.zero_add _).symm)).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem sout_C_r1  (y : S2x8x1024.Idx) (z : S1x8x1024.Idx) (h0 : (y 0).val = 1) (h1 : (y 1).val = (z 1).val) (h2 : (y 2).val = (z 2).val) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay1 (k0_pay14 (k0_pay8 x0 x7) (k0_pay10 x2 (row1 x8)) x4) (acc1 xs0) z := by
  have hz0 : (z 0).val = 0 := by have h : (z 0).val < 1 := (z 0).isLt; omega
  unfold sout0_C_0 kernelRun0_C
  dsimp only
  sl_unfold_words
  refine (hit3 _ _ _ _ _ _ _ _ y z (h0.trans (by rw [hz0])) (h1.trans (Nat.zero_add _).symm) (h2.trans (Nat.zero_add _).symm)).trans ?_
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_15_r0  (y : S2x1024.Idx) (z : S1x1024.Idx) (h0 : (y 0).val = 0) (h1 : (y 1).val = (z 1).val) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay4 (k0_pay17 (k0_pay8 x0 x7) (k0_pay9 x1 (row0 x8)) x3 (acc0 xs0)) z := by
  have hz0 : (z 0).val = 0 := by have h : (z 0).val < 1 := (z 0).isLt; omega
  unfold out0_C_15 kernelRun0_C
  dsimp only
  sl_unfold_words
  refine (miss2 _ _ _ _ _ _ _ y (.inl (by omega))).trans ?_
  refine (hit2 _ _ _ _ _ _ _ y z (h0.trans (by rw [hz0])) (h1.trans (Nat.zero_add _).symm)).trans ?_
  rw [skip3 arg17.view 1 0 (by decide), View.readCov_cons_toLoadRect]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

theorem out_C_15_r1  (y : S2x1024.Idx) (z : S1x1024.Idx) (h0 : (y 0).val = 1) (h1 : (y 1).val = (z 1).val) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs0 y = k0_pay5 (k0_pay1 (k0_pay14 (k0_pay8 x0 x7) (k0_pay10 x2 (row1 x8)) x4) (acc1 xs0)) z := by
  have hz0 : (z 0).val = 0 := by have h : (z 0).val < 1 := (z 0).isLt; omega
  unfold out0_C_15 kernelRun0_C
  dsimp only
  sl_unfold_words
  refine (hit2 _ _ _ _ _ _ _ y z (h0.trans (by rw [hz0])) (h1.trans (Nat.zero_add _).symm)).trans ?_
  rw [View.readCov_cons_toLoadRect]
  simp only [View.readAt_eq_ld, harg1.read_unread, harg2.read_unread, harg3.read_unread, harg4.read_unread, harg5.read_unread, harg6.read_unread, harg7.read_unread, harg8.read_unread, harg9.read_unread, harg17.read_unread, View.ld_unit_zero (S := S512x1024) hz2, View.ld_unit_zero (S := S1024x1024) hz2]

end

end Cert.MergeIdeal.Tile

end
-- ==== Proof.MergeOuts.lean ====
/- `merge_bwd` against the gradient of the gated merge: every grid point's tile, read at an index, is the reference's value there. -/
module

public import proofs.«01_k».proof.Proof.MergeTiles
public import proofs.«01_k».proof.Proof.Gen.MergeRefIdeal.Read
public import Idealize.ShloMosaic.Lib.Pointwise

@[expose] public section

set_option maxRecDepth 16384

noncomputable section

namespace Cert.MergeIdeal.Val

open Cert.MergeIdeal Cert.MergeIdeal.Gen Cert.MergeIdeal.Tile Idealize.ShloMosaic Idealize.ShloMosaic.TcCoe Idealize.SL.Sem Idealize.ShloMosaic.ValueIdx
open Cert.MergeRefIdeal.Read

section
variable {F : FTy → Type} [FloatOps F] (m : (ℓ : Loc nD τ sig) → Buf (Elt F) ℓ) (c : Dev nD)

theorem outs_9 (t : Fin cfg0.N) : (outsAt0 m c t.val t.isLt).1 = k0_pay2 (k0_pay11 (iblk m c 0 t) (iblk m c 7 t) (iblk m c 1 t) (row0 (iblk m c 8 t))) (iblk m c 5 t) := by
  by_cases h0 : t.val % 16 = 0
  · have h1 : ¬t.val % 16 = 15 := by omega
    rw [outsAt0_A m c t h0 h1]; dsimp only; exact out_A_9 _ _ _ _ _ _ _ _ _ _ _ _ _ _ _ _ _ _ _ _ _ _ _ _ _ _ _ _ _ _ _ _ _ _ _ _ _ _ _ _ _ _ _ _ _ _ _
  · by_cases h1 : t.val % 16 = 15
    · rw [outsAt0_C m c t h0 h1]; dsimp only; exact out_C_9 _ _ _ _ _ _ _ _ _ _ _ _ _ _ _ _ _ _ _ _ _ _ _ _ _ _ _ _ _ _ _ _ _ _ _ _ _ _ _ _ _ _ _ _ _ _ _ _
    · rw [outsAt0_B m c t h0 h1]; dsimp only; exact out_B_9 _ _ _ _ _ _ _ _ _ _ _ _ _ _ _ _ _ _ _ _ _ _ _ _ _ _ _ _ _ _ _ _ _ _ _ _ _ _ _ _ _ _ _ _ _ _ _ _

theorem outs_10 (t : Fin cfg0.N) : (outsAt0 m c t.val t.isLt).2.1 = k0_pay3 (k0_pay12 (k0_pay8 (iblk m c 0 t) (iblk m c 7 t)) (k0_pay10 (iblk m c 2 t) (row1 (iblk m c 8 t)))) (iblk m c 6 t) := by
  by_cases h0 : t.val % 16 = 0
  · have h1 : ¬t.val % 16 = 15 := by omega
    rw [outsAt0_A m c t h0 h1]; dsimp only; exact out_A_10 _ _ _ _ _ _ _ _ _ _ _ _ _ _ _ _ _ _ _ _ _ _ _ _ _ _ _ _ _ _ _ _ _ _ _ _ _ _ _ _ _ _ _ _ _ _ _
  · by_cases h1 : t.val % 16 = 15
    · rw [outsAt0_C m c t h0 h1]; dsimp only; exact out_C_10 _ _ _ _ _ _ _ _ _ _ _ _ _ _ _ _ _ _ _ _ _ _ _ _ _ _ _ _ _ _ _ _ _ _ _ _ _ _ _ _ _ _ _ _ _ _ _ _
    · rw [outsAt0_B m c t h0 h1]; dsimp only; exact out_B_10 _ _ _ _ _ _ _ _ _ _ _ _ _ _ _ _ _ _ _ _ _ _ _ _ _ _ _ _ _ _ _ _ _ _ _ _ _ _ _ _ _ _ _ _ _ _ _ _

theorem outs_11 (t : Fin cfg0.N) : (outsAt0 m c t.val t.isLt).2.2.1 = k0_pay11 (iblk m c 0 t) (iblk m c 7 t) (iblk m c 1 t) (row0 (iblk m c 8 t)) := by
  by_cases h0 : t.val % 16 = 0
  · have h1 : ¬t.val % 16 = 15 := by omega
    rw [outsAt0_A m c t h0 h1]; dsimp only; exact out_A_11 _ _ _ _ _ _ _ _ _ _ _ _ _ _ _ _ _ _ _ _ _ _ _ _ _ _ _ _ _ _ _ _ _ _ _ _ _ _ _ _ _ _ _ _ _ _ _
  · by_cases h1 : t.val % 16 = 15
    · rw [outsAt0_C m c t h0 h1]; dsimp only; exact out_C_11 _ _ _ _ _ _ _ _ _ _ _ _ _ _ _ _ _ _ _ _ _ _ _ _ _ _ _ _ _ _ _ _ _ _ _ _ _ _ _ _ _ _ _ _ _ _ _ _
    · rw [outsAt0_B m c t h0 h1]; dsimp only; exact out_B_11 _ _ _ _ _ _ _ _ _ _ _ _ _ _ _ _ _ _ _ _ _ _ _ _ _ _ _ _ _ _ _ _ _ _ _ _ _ _ _ _ _ _ _ _ _ _ _ _

theorem outs_12 (t : Fin cfg0.N) : (outsAt0 m c t.val t.isLt).2.2.2.1 = k0_pay12 (k0_pay8 (iblk m c 0 t) (iblk m c 7 t)) (k0_pay10 (iblk m c 2 t) (row1 (iblk m c 8 t))) := by
  by_cases h0 : t.val % 16 = 0
  · have h1 : ¬t.val % 16 = 15 := by omega
    rw [outsAt0_A m c t h0 h1]; dsimp only; exact out_A_12 _ _ _ _ _ _ _ _ _ _ _ _ _ _ _ _ _ _ _ _ _ _ _ _ _ _ _ _ _ _ _ _ _ _ _ _ _ _ _ _ _ _ _ _ _ _ _
  · by_cases h1 : t.val % 16 = 15
    · rw [outsAt0_C m c t h0 h1]; dsimp only; exact out_C_12 _ _ _ _ _ _ _ _ _ _ _ _ _ _ _ _ _ _ _ _ _ _ _ _ _ _ _ _ _ _ _ _ _ _ _ _ _ _ _ _ _ _ _ _ _ _ _ _
    · rw [outsAt0_B m c t h0 h1]; dsimp only; exact out_B_12 _ _ _ _ _ _ _ _ _ _ _ _ _ _ _ _ _ _ _ _ _ _ _ _ _ _ _ _ _ _ _ _ _ _ _ _ _ _ _ _ _ _ _ _ _ _ _ _

theorem outs_14 (t : Fin cfg0.N) : (outsAt0 m c t.val t.isLt).2.2.2.2.2.1 = k0_pay7 (iblk m c 0 t) := by
  by_cases h0 : t.val % 16 = 0
  · have h1 : ¬t.val % 16 = 15 := by omega
    rw [outsAt0_A m c t h0 h1]; dsimp only; exact out_A_14 _ _ _ _ _ _ _ _ _ _ _ _ _ _ _ _ _ _ _ _ _ _ _ _ _ _ _ _ _ _ _ _ _ _ _ _ _ _ _ _ _ _ _ _ _ _ _
  · by_cases h1 : t.val % 16 = 15
    · rw [outsAt0_C m c t h0 h1]; dsimp only; exact out_C_14 _ _ _ _ _ _ _ _ _ _ _ _ _ _ _ _ _ _ _ _ _ _ _ _ _ _ _ _ _ _ _ _ _ _ _ _ _ _ _ _ _ _ _ _ _ _ _ _
    · rw [outsAt0_B m c t h0 h1]; dsimp only; exact out_B_14 _ _ _ _ _ _ _ _ _ _ _ _ _ _ _ _ _ _ _ _ _ _ _ _ _ _ _ _ _ _ _ _ _ _ _ _ _ _ _ _ _ _ _ _ _ _ _ _

theorem outs_13_lo (t : Fin cfg0.N) (y : S512x2048.Idx) (z : S512x1024.Idx) (h0 : (y 0).val = (z 0).val) (h1 : (y 1).val = 0 + (z 1).val) :
    (outsAt0 m c t.val t.isLt).2.2.2.2.1 y = k0_pay15 (k0_pay8 (iblk m c 0 t) (iblk m c 7 t)) (k0_pay9 (iblk m c 1 t) (row0 (iblk m c 8 t))) (iblk m c 3 t) z := by
  by_cases g0 : t.val % 16 = 0
  · have g1 : ¬t.val % 16 = 15 := by omega
    rw [outsAt0_A m c t g0 g1]; dsimp only; exact out_A_13_lo _ _ _ _ _ _ _ _ _ _ _ _ _ _ _ _ _ _ _ _ _ _ _ _ _ _ _ _ _ _ _ _ _ _ _ _ _ _ _ _ _ _ _ _ _ _ _ y z h0 h1
  · by_cases g1 : t.val % 16 = 15
    · rw [outsAt0_C m c t g0 g1]; dsimp only; exact out_C_13_lo _ _ _ _ _ _ _ _ _ _ _ _ _ _ _ _ _ _ _ _ _ _ _ _ _ _ _ _ _ _ _ _ _ _ _ _ _ _ _ _ _ _ _ _ _ _ _ _ y z h0 h1
    · rw [outsAt0_B m c t g0 g1]; dsimp only; exact out_B_13_lo _ _ _ _ _ _ _ _ _ _ _ _ _ _ _ _ _ _ _ _ _ _ _ _ _ _ _ _ _ _ _ _ _ _ _ _ _ _ _ _ _ _ _ _ _ _ _ _ y z h0 h1

theorem outs_13_hi (t : Fin cfg0.N) (y : S512x2048.Idx) (z : S512x1024.Idx) (h0 : (y 0).val = (z 0).val) (h1 : (y 1).val = 1024 + (z 1).val) :
    (outsAt0 m c t.val t.isLt).2.2.2.2.1 y = k0_pay16 (k0_pay8 (iblk m c 0 t) (iblk m c 7 t)) (k0_pay10 (iblk m c 2 t) (row1 (iblk m c 8 t))) (iblk m c 4 t) z := by
  by_cases g0 : t.val % 16 = 0
  · have g1 : ¬t.val % 16 = 15 := by omega
    rw [outsAt0_A m c t g0 g1]; dsimp only; exact out_A_13_hi _ _ _ _ _ _ _ _ _ _ _ _ _ _ _ _ _ _ _ _ _ _ _ _ _ _ _ _ _ _ _ _ _ _ _ _ _ _ _ _ _ _ _ _ _ _ _ y z h0 h1
  · by_cases g1 : t.val % 16 = 15
    · rw [outsAt0_C m c t g0 g1]; dsimp only; exact out_C_13_hi _ _ _ _ _ _ _ _ _ _ _ _ _ _ _ _ _ _ _ _ _ _ _ _ _ _ _ _ _ _ _ _ _ _ _ _ _ _ _ _ _ _ _ _ _ _ _ _ y z h0 h1
    · rw [outsAt0_B m c t g0 g1]; dsimp only; exact out_B_13_hi _ _ _ _ _ _ _ _ _ _ _ _ _ _ _ _ _ _ _ _ _ _ _ _ _ _ _ _ _ _ _ _ _ _ _ _ _ _ _ _ _ _ _ _ _ _ _ _ y z h0 h1

theorem sum_first_r0 (t : Fin cfg0.N) (g0 : t.val % 16 = 0) (y : S2x8x1024.Idx) (z : S1x8x1024.Idx) (h0 : (y 0).val = 0) (h1 : (y 1).val = (z 1).val) (h2 : (y 2).val = (z 2).val) :
    (outsAt0 m c t.val t.isLt).2.2.2.2.2.2.2 y = k0_pay17 (k0_pay8 (iblk m c 0 t) (iblk m c 7 t)) (k0_pay9 (iblk m c 1 t) (row0 (iblk m c 8 t))) (iblk m c 3 t) (acc0 k0_pay6) z := by
  have g1 : ¬t.val % 16 = 15 := by omega
  rw [outsAt0_A m c t g0 g1]; dsimp only; exact sout_A_r0 _ _ _ _ _ _ _ _ _ _ _ _ _ _ _ _ _ _ _ _ _ _ _ _ _ _ _ _ _ _ _ _ _ _ _ _ _ _ _ _ _ _ _ _ _ _ _ y z h0 h1 h2

theorem sum_next_r0 (t : Fin cfg0.N) (g0 : ¬t.val % 16 = 0) (y : S2x8x1024.Idx) (z : S1x8x1024.Idx) (h0 : (y 0).val = 0) (h1 : (y 1).val = (z 1).val) (h2 : (y 2).val = (z 2).val) :
    (outsAt0 m c t.val t.isLt).2.2.2.2.2.2.2 y = k0_pay17 (k0_pay8 (iblk m c 0 t) (iblk m c 7 t)) (k0_pay9 (iblk m c 1 t) (row0 (iblk m c 8 t))) (iblk m c 3 t) (acc0 (outsAt0 m c (t.val - 1) (Nat.lt_of_le_of_lt (Nat.sub_le _ _) t.isLt)).2.2.2.2.2.2.2) z := by
  by_cases g1 : t.val % 16 = 15
  · rw [outsAt0_C m c t g0 g1]; dsimp only; exact sout_C_r0 _ _ _ _ _ _ _ _ _ _ _ _ _ _ _ _ _ _ _ _ _ _ _ _ _ _ _ _ _ _ _ _ _ _ _ _ _ _ _ _ _ _ _ _ _ _ _ _ y z h0 h1 h2
  · rw [outsAt0_B m c t g0 g1]; dsimp only; exact sout_B_r0 _ _ _ _ _ _ _ _ _ _ _ _ _ _ _ _ _ _ _ _ _ _ _ _ _ _ _ _ _ _ _ _ _ _ _ _ _ _ _ _ _ _ _ _ _ _ _ _ y z h0 h1 h2

theorem red_r0 (t : Fin cfg0.N) (g1 : t.val % 16 = 15) (y : S2x1024.Idx) (z : S1x1024.Idx) (h0 : (y 0).val = 0) (h1 : (y 1).val = (z 1).val) :
    (outsAt0 m c t.val t.isLt).2.2.2.2.2.2.1 y = k0_pay4 (acc0 (outsAt0 m c t.val t.isLt).2.2.2.2.2.2.2) z := by
  have g0 : ¬t.val % 16 = 0 := by omega
  have e : (acc0 (outsAt0 m c t.val t.isLt).2.2.2.2.2.2.2 : Vec F S1x8x1024 .f32)
      = k0_pay17 (k0_pay8 (iblk m c 0 t) (iblk m c 7 t)) (k0_pay9 (iblk m c 1 t) (row0 (iblk m c 8 t))) (iblk m c 3 t) (acc0 (outsAt0 m c (t.val - 1) (Nat.lt_of_le_of_lt (Nat.sub_le _ _) t.isLt)).2.2.2.2.2.2.2) := funext fun w => by
    have hw : (w 0).val = 0 := by have h : (w 0).val < 1 := (w 0).isLt; omega
    exact sum_next_r0 m c t g0 ((Rect.unit (s := S2x8x1024) ![0, 0, 0] S1x8x1024.size inb_S2x8x1024_S1x8x1024_0_0_0).emb w) w
      (by show 0 + 1 * (w 0).val = 0; omega) (by show 0 + 1 * (w 1).val = (w 1).val; omega) (by show 0 + 1 * (w 2).val = (w 2).val; omega)
  rw [e, outsAt0_C m c t g0 g1]
  dsimp only
  exact out_C_15_r0 _ _ _ _ _ _ _ _ _ _ _ _ _ _ _ _ _ _ _ _ _ _ _ _ _ _ _ _ _ _ _ _ _ _ _ _ _ _ _ _ _ _ _ _ _ _ _ _ y z h0 h1

theorem sum_first_r1 (t : Fin cfg0.N) (g0 : t.val % 16 = 0) (y : S2x8x1024.Idx) (z : S1x8x1024.Idx) (h0 : (y 0).val = 1) (h1 : (y 1).val = (z 1).val) (h2 : (y 2).val = (z 2).val) :
    (outsAt0 m c t.val t.isLt).2.2.2.2.2.2.2 y = k0_pay1 (k0_pay14 (k0_pay8 (iblk m c 0 t) (iblk m c 7 t)) (k0_pay10 (iblk m c 2 t) (row1 (iblk m c 8 t))) (iblk m c 4 t)) (acc1 k0_pay6) z := by
  have g1 : ¬t.val % 16 = 15 := by omega
  rw [outsAt0_A m c t g0 g1]; dsimp only; exact sout_A_r1 _ _ _ _ _ _ _ _ _ _ _ _ _ _ _ _ _ _ _ _ _ _ _ _ _ _ _ _ _ _ _ _ _ _ _ _ _ _ _ _ _ _ _ _ _ _ _ y z h0 h1 h2

theorem sum_next_r1 (t : Fin cfg0.N) (g0 : ¬t.val % 16 = 0) (y : S2x8x1024.Idx) (z : S1x8x1024.Idx) (h0 : (y 0).val = 1) (h1 : (y 1).val = (z 1).val) (h2 : (y 2).val = (z 2).val) :
    (outsAt0 m c t.val t.isLt).2.2.2.2.2.2.2 y = k0_pay1 (k0_pay14 (k0_pay8 (iblk m c 0 t) (iblk m c 7 t)) (k0_pay10 (iblk m c 2 t) (row1 (iblk m c 8 t))) (iblk m c 4 t)) (acc1 (outsAt0 m c (t.val - 1) (Nat.lt_of_le_of_lt (Nat.sub_le _ _) t.isLt)).2.2.2.2.2.2.2) z := by
  by_cases g1 : t.val % 16 = 15
  · rw [outsAt0_C m c t g0 g1]; dsimp only; exact sout_C_r1 _ _ _ _ _ _ _ _ _ _ _ _ _ _ _ _ _ _ _ _ _ _ _ _ _ _ _ _ _ _ _ _ _ _ _ _ _ _ _ _ _ _ _ _ _ _ _ _ y z h0 h1 h2
  · rw [outsAt0_B m c t g0 g1]; dsimp only; exact sout_B_r1 _ _ _ _ _ _ _ _ _ _ _ _ _ _ _ _ _ _ _ _ _ _ _ _ _ _ _ _ _ _ _ _ _ _ _ _ _ _ _ _ _ _ _ _ _ _ _ _ y z h0 h1 h2

theorem red_r1 (t : Fin cfg0.N) (g1 : t.val % 16 = 15) (y : S2x1024.Idx) (z : S1x1024.Idx) (h0 : (y 0).val = 1) (h1 : (y 1).val = (z 1).val) :
    (outsAt0 m c t.val t.isLt).2.2.2.2.2.2.1 y = k0_pay5 (acc1 (outsAt0 m c t.val t.isLt).2.2.2.2.2.2.2) z := by
  have g0 : ¬t.val % 16 = 0 := by omega
  have e : (acc1 (outsAt0 m c t.val t.isLt).2.2.2.2.2.2.2 : Vec F S1x8x1024 .f32)
      = k0_pay1 (k0_pay14 (k0_pay8 (iblk m c 0 t) (iblk m c 7 t)) (k0_pay10 (iblk m c 2 t) (row1 (iblk m c 8 t))) (iblk m c 4 t)) (acc1 (outsAt0 m c (t.val - 1) (Nat.lt_of_le_of_lt (Nat.sub_le _ _) t.isLt)).2.2.2.2.2.2.2) := funext fun w => by
    have hw : (w 0).val = 0 := by have h : (w 0).val < 1 := (w 0).isLt; omega
    exact sum_next_r1 m c t g0 ((Rect.unit (s := S2x8x1024) ![1, 0, 0] S1x8x1024.size inb_S2x8x1024_S1x8x1024_1_0_0).emb w) w
      (by show 1 + 1 * (w 0).val = 1; omega) (by show 0 + 1 * (w 1).val = (w 1).val; omega) (by show 0 + 1 * (w 2).val = (w 2).val; omega)
  rw [e, outsAt0_C m c t g0 g1]
  dsimp only
  exact out_C_15_r1 _ _ _ _ _ _ _ _ _ _ _ _ _ _ _ _ _ _ _ _ _ _ _ _ _ _ _ _ _ _ _ _ _ _ _ _ _ _ _ _ _ _ _ _ _ _ _ _ y z h0 h1

theorem idx_0 : ∀ t : Fin cfg0.N, win0_0.index t (0 : Fin 2) = t.val ∧ win0_0.index t (1 : Fin 2) = 0 := by decide +kernel

theorem blk_0 (t : Fin cfg0.N) (z : S512x1024.Idx) (i : S8192x1024.Idx) (h0 : (i 0).val = 512 * t.val + (z 0).val) (h1 : (i 1).val = 0 + (z 1).val) :
    (iblk m c 0 t : Vec F S512x1024 .f32) z = (V m c main_arg7 : Vec F S8192x1024 .f32) i := by
  unfold iblk
  rw [View.read_apply]
  show V m c main_arg7 _ = V m c main_arg7 i
  congr 1
  funext a
  apply Fin.ext
  match a with
  | ⟨0, _⟩ => show win0_0.index t (0 : Fin 2) * 512 + 1 * (z 0).val = (i 0).val; rw [(idx_0 t).1]; omega
  | ⟨1, _⟩ => show win0_0.index t (1 : Fin 2) * 1024 + 1 * (z 1).val = (i 1).val; rw [(idx_0 t).2]; omega

theorem idx_1 : ∀ t : Fin cfg0.N, win0_1.index t (0 : Fin 2) = t.val ∧ win0_1.index t (1 : Fin 2) = 5 := by decide +kernel

theorem blk_1 (t : Fin cfg0.N) (z : S512x1024.Idx) (i : S8192x7168.Idx) (h0 : (i 0).val = 512 * t.val + (z 0).val) (h1 : (i 1).val = 5120 + (z 1).val) :
    (iblk m c 1 t : Vec F S512x1024 .bf16) z = (V m c main_arg0 : Vec F S8192x7168 .bf16) i := by
  unfold iblk
  rw [View.read_apply]
  show V m c main_arg0 _ = V m c main_arg0 i
  congr 1
  funext a
  apply Fin.ext
  match a with
  | ⟨0, _⟩ => show win0_1.index t (0 : Fin 2) * 512 + 1 * (z 0).val = (i 0).val; rw [(idx_1 t).1]; omega
  | ⟨1, _⟩ => show win0_1.index t (1 : Fin 2) * 1024 + 1 * (z 1).val = (i 1).val; rw [(idx_1 t).2]; omega

theorem idx_2 : ∀ t : Fin cfg0.N, win0_2.index t (0 : Fin 2) = t.val ∧ win0_2.index t (1 : Fin 2) = 6 := by decide +kernel

theorem blk_2 (t : Fin cfg0.N) (z : S512x1024.Idx) (i : S8192x7168.Idx) (h0 : (i 0).val = 512 * t.val + (z 0).val) (h1 : (i 1).val = 6144 + (z 1).val) :
    (iblk m c 2 t : Vec F S512x1024 .bf16) z = (V m c main_arg0 : Vec F S8192x7168 .bf16) i := by
  unfold iblk
  rw [View.read_apply]
  show V m c main_arg0 _ = V m c main_arg0 i
  congr 1
  funext a
  apply Fin.ext
  match a with
  | ⟨0, _⟩ => show win0_2.index t (0 : Fin 2) * 512 + 1 * (z 0).val = (i 0).val; rw [(idx_2 t).1]; omega
  | ⟨1, _⟩ => show win0_2.index t (1 : Fin 2) * 1024 + 1 * (z 1).val = (i 1).val; rw [(idx_2 t).2]; omega

theorem idx_3 : ∀ t : Fin cfg0.N, win0_3.index t (0 : Fin 2) = t.val ∧ win0_3.index t (1 : Fin 2) = 0 := by decide +kernel

theorem blk_3 (t : Fin cfg0.N) (z : S512x1024.Idx) (i : S8192x1024.Idx) (h0 : (i 0).val = 512 * t.val + (z 0).val) (h1 : (i 1).val = 0 + (z 1).val) :
    (iblk m c 3 t : Vec F S512x1024 .bf16) z = (V m c main_v3 : Vec F S8192x1024 .bf16) i := by
  unfold iblk
  rw [View.read_apply]
  show V m c main_v3 _ = V m c main_v3 i
  congr 1
  funext a
  apply Fin.ext
  match a with
  | ⟨0, _⟩ => show win0_3.index t (0 : Fin 2) * 512 + 1 * (z 0).val = (i 0).val; rw [(idx_3 t).1]; omega
  | ⟨1, _⟩ => show win0_3.index t (1 : Fin 2) * 1024 + 1 * (z 1).val = (i 1).val; rw [(idx_3 t).2]; omega

theorem idx_4 : ∀ t : Fin cfg0.N, win0_4.index t (0 : Fin 2) = t.val ∧ win0_4.index t (1 : Fin 2) = 0 := by decide +kernel

theorem blk_4 (t : Fin cfg0.N) (z : S512x1024.Idx) (i : S8192x1024.Idx) (h0 : (i 0).val = 512 * t.val + (z 0).val) (h1 : (i 1).val = 0 + (z 1).val) :
    (iblk m c 4 t : Vec F S512x1024 .bf16) z = (V m c main_v7 : Vec F S8192x1024 .bf16) i := by
  unfold iblk
  rw [View.read_apply]
  show V m c main_v7 _ = V m c main_v7 i
  congr 1
  funext a
  apply Fin.ext
  match a with
  | ⟨0, _⟩ => show win0_4.index t (0 : Fin 2) * 512 + 1 * (z 0).val = (i 0).val; rw [(idx_4 t).1]; omega
  | ⟨1, _⟩ => show win0_4.index t (1 : Fin 2) * 1024 + 1 * (z 1).val = (i 1).val; rw [(idx_4 t).2]; omega

theorem idx_5 : ∀ t : Fin cfg0.N, win0_5.index t (0 : Fin 2) = 0 ∧ win0_5.index t (1 : Fin 2) = 0 := by decide +kernel

theorem blk_5 (t : Fin cfg0.N) : (iblk m c 5 t : Vec F S1024x1024 .bf16) = m ((c : Thread nD τ).loc main_arg3) := by
  refine Eq.trans (funext fun z => ?_) (V_main_arg3 m c)
  unfold iblk
  rw [View.read_apply]
  show V m c main_arg3 _ = V m c main_arg3 z
  congr 1
  funext a
  apply Fin.ext
  match a with
  | ⟨0, _⟩ => show win0_5.index t (0 : Fin 2) * 1024 + 1 * (z 0).val = (z 0).val; rw [(idx_5 t).1]; omega
  | ⟨1, _⟩ => show win0_5.index t (1 : Fin 2) * 1024 + 1 * (z 1).val = (z 1).val; rw [(idx_5 t).2]; omega

theorem idx_6 : ∀ t : Fin cfg0.N, win0_6.index t (0 : Fin 2) = 0 ∧ win0_6.index t (1 : Fin 2) = 0 := by decide +kernel

theorem blk_6 (t : Fin cfg0.N) : (iblk m c 6 t : Vec F S1024x1024 .bf16) = m ((c : Thread nD τ).loc main_arg4) := by
  refine Eq.trans (funext fun z => ?_) (V_main_arg4 m c)
  unfold iblk
  rw [View.read_apply]
  show V m c main_arg4 _ = V m c main_arg4 z
  congr 1
  funext a
  apply Fin.ext
  match a with
  | ⟨0, _⟩ => show win0_6.index t (0 : Fin 2) * 1024 + 1 * (z 0).val = (z 0).val; rw [(idx_6 t).1]; omega
  | ⟨1, _⟩ => show win0_6.index t (1 : Fin 2) * 1024 + 1 * (z 1).val = (z 1).val; rw [(idx_6 t).2]; omega

theorem idx_7 : ∀ t : Fin cfg0.N, win0_7.index t (0 : Fin 2) = 0 ∧ win0_7.index t (1 : Fin 2) = 0 := by decide +kernel

theorem blk_7 (t : Fin cfg0.N) : (iblk m c 7 t : Vec F S1024x1024 .bf16) = m ((c : Thread nD τ).loc main_arg5) := by
  refine Eq.trans (funext fun z => ?_) (V_main_arg5 m c)
  unfold iblk
  rw [View.read_apply]
  show V m c main_arg5 _ = V m c main_arg5 z
  congr 1
  funext a
  apply Fin.ext
  match a with
  | ⟨0, _⟩ => show win0_7.index t (0 : Fin 2) * 1024 + 1 * (z 0).val = (z 0).val; rw [(idx_7 t).1]; omega
  | ⟨1, _⟩ => show win0_7.index t (1 : Fin 2) * 1024 + 1 * (z 1).val = (z 1).val; rw [(idx_7 t).2]; omega

theorem idx_8 : ∀ t : Fin cfg0.N, win0_8.index t (0 : Fin 2) = 0 ∧ win0_8.index t (1 : Fin 2) = 0 := by decide +kernel

theorem blk_8 (t : Fin cfg0.N) : (iblk m c 8 t : Vec F S2x1024 .f32) = m ((c : Thread nD τ).loc main_arg6) := by
  refine Eq.trans (funext fun z => ?_) (V_main_arg6 m c)
  unfold iblk
  rw [View.read_apply]
  show V m c main_arg6 _ = V m c main_arg6 z
  congr 1
  funext a
  apply Fin.ext
  match a with
  | ⟨0, _⟩ => show win0_8.index t (0 : Fin 2) * 2 + 1 * (z 0).val = (z 0).val; rw [(idx_8 t).1]; omega
  | ⟨1, _⟩ => show win0_8.index t (1 : Fin 2) * 1024 + 1 * (z 1).val = (z 1).val; rw [(idx_8 t).2]; omega

theorem V_main_v3 : V m c main_v3 = (truncf .bf16 (val_main_v6 (F := F) (m ((c : Thread nD τ).loc main_arg1)) (m ((c : Thread nD τ).loc main_arg3))) bitsLt_bf16_f32 : Vec F S8192x1024 .bf16) := by
  unfold V hostOps0
  after_results_simp
  rfl

theorem V_main_v7 : V m c main_v7 = (truncf .bf16 (val_main_v9 (F := F) (m ((c : Thread nD τ).loc main_arg2)) (m ((c : Thread nD τ).loc main_arg4))) bitsLt_bf16_f32 : Vec F S8192x1024 .bf16) := by
  unfold V hostOps0
  after_results_simp
  rfl

end

end Cert.MergeIdeal.Val

end
-- ==== Proof.MergeVals.lean ====
/- `merge_bwd`: every grid point's tile, read at an index, is the reference's value there; the accumulated bias gradient is the whole column sum. -/
module

public import proofs.«01_k».proof.Proof.MergeOuts

@[expose] public section

set_option maxRecDepth 16384

noncomputable section

namespace Cert.MergeIdeal.Val

open Cert.MergeIdeal Cert.MergeIdeal.Gen Cert.MergeIdeal.Tile Idealize.ShloMosaic Idealize.ShloMosaic.TcCoe Idealize.SL.Sem
open Cert.MergeRefIdeal.Read

/-! The reference's values at an index. -/

section
variable (x0 : Vec Ideal S8192x7168 .bf16) (x1 x2 : Vec Ideal S8192x1024 .bf16) (x3 x4 x5 : Vec Ideal S1024x1024 .bf16) (x6 : Vec Ideal S2x1024 .f32) (x7 : Vec Ideal S8192x1024 .f32)

theorem e43 (i) : val_main_v43 (F := Ideal) x5 x7 i = ∑ x, x7 (ix2 (i 0) x) * x5 (ix2 (i 1) x) := by
  unfold val_main_v43 val_main_v41
  pointwise

theorem e20 (i) : val_main_v20 (F := Ideal) x0 x6 i
    = Ideal.div 1 (1 + Ideal.exp (-(x0 (ix2 (i 0) ⟨5120 + (i 1).val, by have := (i 1).isLt; change (i 1).val < 1024 at this; omega⟩) + x6 (ix2 0 (i 1))))) := by
  unfold val_main_v20 val_main_v19 val_main_v18 val_main_v17 val_main_v16 val_main_v15 val_main_v14 val_main_v13 val_main_v12 val_main_v11 val_main_v10 val_main_v1 val_main_v0 val_main_cst_0 val_main_cst
  pointwise

theorem e35 (i) : val_main_v35 (F := Ideal) x0 x6 i
    = Ideal.div 1 (1 + Ideal.exp (-(x0 (ix2 (i 0) ⟨6144 + (i 1).val, by have := (i 1).isLt; change (i 1).val < 1024 at this; omega⟩) + x6 (ix2 1 (i 1))))) := by
  unfold val_main_v35 val_main_v34 val_main_v33 val_main_v32 val_main_v31 val_main_v30 val_main_v29 val_main_v28 val_main_v27 val_main_v26 val_main_v25 val_main_v3 val_main_v2 val_main_cst_2 val_main_cst_3
  pointwise

theorem e54 (i) : val_main_v54 (F := Ideal) x0 x1 x3 x5 x6 x7 i
    = val_main_v43 (F := Ideal) x5 x7 i * val_main_v6 (F := Ideal) x1 x3 i * (val_main_v20 (F := Ideal) x0 x6 i * (1 - val_main_v20 (F := Ideal) x0 x6 i)) := by
  unfold val_main_v54 val_main_v53 val_main_v23 val_main_v22 val_main_v21 val_main_cst_1
  pointwise

theorem e46 (i) : val_main_v46 (F := Ideal) x0 x2 x4 x5 x6 x7 i
    = val_main_v43 (F := Ideal) x5 x7 i * val_main_v9 (F := Ideal) x2 x4 i * (val_main_v35 (F := Ideal) x0 x6 i * (1 - val_main_v35 (F := Ideal) x0 x6 i)) := by
  unfold val_main_v46 val_main_v45 val_main_v38 val_main_v37 val_main_v36 val_main_cst_4
  pointwise

theorem e58 (i) : val_main_v58 (F := Ideal) x0 x1 x3 x5 x6 x7 i = ∑ _y : Fin 1, ∑ x, val_main_v54 (F := Ideal) x0 x1 x3 x5 x6 x7 (ix2 x (i 1)) := by
  unfold val_main_v58 val_main_v57 val_main_v56 val_main_v55 val_main_cst_8 val_main_cst_9
  pointwise

theorem e50 (i) : val_main_v50 (F := Ideal) x0 x2 x4 x5 x6 x7 i = ∑ _y : Fin 1, ∑ x, val_main_v46 (F := Ideal) x0 x2 x4 x5 x6 x7 (ix2 x (i 1)) := by
  unfold val_main_v50 val_main_v49 val_main_v48 val_main_v47 val_main_cst_5 val_main_cst_6
  pointwise

theorem e62 (i) : val_main_v62 (F := Ideal) x0 x3 x5 x6 x7 i = ∑ x, val_main_v52 (F := Ideal) x0 x5 x6 x7 (ix2 (i 0) x) * x3 (ix2 (i 1) x) := by
  unfold val_main_v62 val_main_v61 val_main_v5
  pointwise

theorem e64 (i) : val_main_v64 (F := Ideal) x0 x4 x5 x6 x7 i = ∑ x, val_main_v44 (F := Ideal) x0 x5 x6 x7 (ix2 (i 0) x) * x4 (ix2 (i 1) x) := by
  unfold val_main_v64 val_main_v63 val_main_v8
  pointwise

theorem e52 (i) : val_main_v52 (F := Ideal) x0 x5 x6 x7 i = val_main_v20 (F := Ideal) x0 x6 i * val_main_v43 (F := Ideal) x5 x7 i := by
  unfold val_main_v52
  pointwise

theorem e44 (i) : val_main_v44 (F := Ideal) x0 x5 x6 x7 i = val_main_v35 (F := Ideal) x0 x6 i * val_main_v43 (F := Ideal) x5 x7 i := by
  unfold val_main_v44
  pointwise

theorem e68_lo (i : S8192x2048.Idx) (w : S8192x1024.Idx) (h0 : (i 0).val = (w 0).val) (h1 : (i 1).val = (w 1).val) :
    val_main_v68 (F := Ideal) x0 x1 x2 x3 x4 x5 x6 x7 i = val_main_v54 (F := Ideal) x0 x1 x3 x5 x6 x7 w := by
  have hw : (w 1).val < 1024 := (w 1).isLt
  unfold val_main_v68 val_main_v67
  generalize val_main_v54 (F := Ideal) x0 x1 x3 x5 x6 x7 = y
  pointwise
  rw [dif_pos (show (i 1).val < 1024 by omega)]
  exact congrArg y (funext fun a => Fin.ext (by match a with | ⟨0, _⟩ => exact h0 | ⟨1, _⟩ => exact h1))

theorem e68_hi (i : S8192x2048.Idx) (w : S8192x1024.Idx) (h0 : (i 0).val = (w 0).val) (h1 : (i 1).val = 1024 + (w 1).val) :
    val_main_v68 (F := Ideal) x0 x1 x2 x3 x4 x5 x6 x7 i = val_main_v46 (F := Ideal) x0 x2 x4 x5 x6 x7 w := by
  unfold val_main_v68 val_main_v67
  generalize val_main_v46 (F := Ideal) x0 x2 x4 x5 x6 x7 = y
  pointwise
  rw [dif_neg (show ¬(i 1).val < 1024 by omega)]
  exact congrArg y (funext fun a => Fin.ext (by match a with | ⟨0, _⟩ => exact h0 | ⟨1, _⟩ => show (i 1).val - 1024 = (w 1).val; omega))

theorem e60_0 (i : S2x1024.Idx) (w : S1x1024.Idx) (h0 : (i 0).val = 0) (h1 : (i 1).val = (w 1).val) :
    val_main_v60 (F := Ideal) x0 x1 x2 x3 x4 x5 x6 x7 i = ∑ x, val_main_v54 (F := Ideal) x0 x1 x3 x5 x6 x7 (ix2 x (w 1)) := by
  have e : (i 1 : Fin 1024) = w 1 := Fin.ext h1
  have key : val_main_v60 (F := Ideal) x0 x1 x2 x3 x4 x5 x6 x7 i = val_main_v58 (F := Ideal) x0 x1 x3 x5 x6 x7 w := by
    unfold val_main_v60 val_main_v51 val_main_v59 val_main_cst_7 val_main_cst_10
    generalize val_main_v58 (F := Ideal) x0 x1 x3 x5 x6 x7 = y
    generalize val_main_v50 (F := Ideal) x0 x2 x4 x5 x6 x7 = y'
    pointwise
    rw [dif_neg (by omega), dif_pos (show (i 0).val < 1 by omega)]
    have hw : (w 0).val < 1 := (w 0).isLt
    simp only [zero_add]
    exact congrArg y (funext fun a => Fin.ext (by match a with | ⟨0, _⟩ => show (i 0).val = (w 0).val; omega | ⟨1, _⟩ => exact h1))
  rw [key, e58]
  simp only [Finset.univ_unique, Finset.sum_const, Finset.card_singleton, one_smul]

theorem e60_1 (i : S2x1024.Idx) (w : S1x1024.Idx) (h0 : (i 0).val = 1) (h1 : (i 1).val = (w 1).val) :
    val_main_v60 (F := Ideal) x0 x1 x2 x3 x4 x5 x6 x7 i = ∑ x, val_main_v46 (F := Ideal) x0 x2 x4 x5 x6 x7 (ix2 x (w 1)) := by
  have e : (i 1 : Fin 1024) = w 1 := Fin.ext h1
  have key : val_main_v60 (F := Ideal) x0 x1 x2 x3 x4 x5 x6 x7 i = val_main_v50 (F := Ideal) x0 x2 x4 x5 x6 x7 w := by
    unfold val_main_v60 val_main_v51 val_main_v59 val_main_cst_7 val_main_cst_10
    generalize val_main_v58 (F := Ideal) x0 x1 x3 x5 x6 x7 = y
    generalize val_main_v50 (F := Ideal) x0 x2 x4 x5 x6 x7 = y'
    pointwise
    rw [dif_pos (by omega), dif_neg (show ¬(i 0).val < 1 by omega)]
    have hw : (w 0).val < 1 := (w 0).isLt
    simp only [add_zero]
    exact congrArg y' (funext fun a => Fin.ext (by match a with | ⟨0, _⟩ => show (i 0).val - 1 = (w 0).val; omega | ⟨1, _⟩ => exact h1))
  rw [key, e50]
  simp only [Finset.univ_unique, Finset.sum_const, Finset.card_singleton, one_smul]

end

/-! The kernel's payloads at an index. -/

section
variable (c0 c7 : Vec Ideal S512x1024 .f32) (c1 c2 c3 c4 : Vec Ideal S512x1024 .bf16) (c5 c6 : Vec Ideal S1024x1024 .bf16) (r : Vec Ideal S1x1024 .f32) (z : S512x1024.Idx)

theorem p8 : k0_pay8 c0 c5 z = ∑ x, c0 (ix2 (z 0) x) * c5 (ix2 (z 1) x) := by
  unfold k0_pay8 k0_pay7
  pointwise

theorem p9 : k0_pay9 c2 r z = Ideal.div 1 (1 + Ideal.exp (0 - (c2 z + r (ix2 0 (z 1))))) := by
  unfold k0_pay9
  pointwise

theorem p10 : k0_pay10 c2 r z = Ideal.div 1 (1 + Ideal.exp (0 - (c2 z + r (ix2 0 (z 1))))) := by
  unfold k0_pay10
  pointwise

theorem p11 : k0_pay11 c0 c5 c1 r z = k0_pay8 c0 c5 z * k0_pay9 c1 r z := by
  unfold k0_pay11
  pointwise

theorem p12 : k0_pay12 (F := Ideal) c0 c7 z = c0 z * c7 z := by
  unfold k0_pay12
  pointwise

theorem p13 : k0_pay13 (F := Ideal) c0 c7 c3 z = c0 z * c3 z * (c7 z * (1 - c7 z)) := by
  unfold k0_pay13
  pointwise

theorem p14 : k0_pay14 (F := Ideal) c0 c7 c4 z = c0 z * c4 z * (c7 z * (1 - c7 z)) := by
  unfold k0_pay14
  pointwise

theorem p15 : k0_pay15 (F := Ideal) c0 c7 c3 z = k0_pay13 (F := Ideal) c0 c7 c3 z := by
  unfold k0_pay15
  pointwise

theorem p16 : k0_pay16 (F := Ideal) c0 c7 c4 z = k0_pay14 (F := Ideal) c0 c7 c4 z := by
  unfold k0_pay16
  pointwise

theorem p2 : k0_pay2 (F := Ideal) c1 c5 z = ∑ k, c1 (ix2 (z 0) k) * c5 (ix2 (z 1) k) := by
  unfold k0_pay2
  pointwise

theorem p3 : k0_pay3 (F := Ideal) c1 c5 z = ∑ k, c1 (ix2 (z 0) k) * c5 (ix2 (z 1) k) := by
  unfold k0_pay3
  pointwise

theorem p1 (a : FVec Ideal S512x1024 .f32) (b : Vec Ideal S1x8x1024 .f32) (z : S1x8x1024.Idx) : k0_pay1 (F := Ideal) a b z
    = b z + ∑ x : Fin 64, a (ix2 ⟨x.val * 8 + (z 1).val, by have := (z 1).isLt; change (z 1).val < 8 at this; have := x.isLt; omega⟩ (z 2)) := by
  unfold k0_pay1
  pointwise

theorem p17 (b : Vec Ideal S1x8x1024 .f32) (z : S1x8x1024.Idx) : k0_pay17 (F := Ideal) c0 c7 c3 b z
    = b z + ∑ x : Fin 64, k0_pay13 (F := Ideal) c0 c7 c3 (ix2 ⟨x.val * 8 + (z 1).val, by have := (z 1).isLt; change (z 1).val < 8 at this; have := x.isLt; omega⟩ (z 2)) := by
  unfold k0_pay17
  pointwise

theorem p4 (b : Vec Ideal S1x8x1024 .f32) (z : S1x1024.Idx) : k0_pay4 b z = ∑ x, b (ix3 0 x (z 1)) := by
  unfold k0_pay4
  pointwise

theorem p5 (b : Vec Ideal S1x8x1024 .f32) (z : S1x1024.Idx) : k0_pay5 b z = ∑ x, b (ix3 0 x (z 1)) := by
  unfold k0_pay5
  pointwise

theorem p6 (z) : k0_pay6 (F := Ideal) z = 0 := by
  unfold k0_pay6
  pointwise

theorem p7 : k0_pay7 (F := Ideal) c0 z = c0 z := by
  unfold k0_pay7
  pointwise

end

/-! A point's payloads over its blocks are the reference's values. -/

section
variable (m : (ℓ : Loc nD τ sig) → Buf (Elt Ideal) ℓ) (c : Dev nD)

abbrev A0 : Vec Ideal S8192x7168 .bf16 := m ((c : Thread nD τ).loc main_arg0)
abbrev A1 : Vec Ideal S8192x1024 .bf16 := m ((c : Thread nD τ).loc main_arg1)
abbrev A2 : Vec Ideal S8192x1024 .bf16 := m ((c : Thread nD τ).loc main_arg2)
abbrev A3 : Vec Ideal S1024x1024 .bf16 := m ((c : Thread nD τ).loc main_arg3)
abbrev A4 : Vec Ideal S1024x1024 .bf16 := m ((c : Thread nD τ).loc main_arg4)
abbrev A5 : Vec Ideal S1024x1024 .bf16 := m ((c : Thread nD τ).loc main_arg5)
abbrev A6 : Vec Ideal S2x1024 .f32 := m ((c : Thread nD τ).loc main_arg6)
abbrev A7 : Vec Ideal S8192x1024 .f32 := m ((c : Thread nD τ).loc main_arg7)

section
variable (t : Fin cfg0.N) (z : S512x1024.Idx) (i : S8192x1024.Idx) (h0 : (i 0).val = 512 * t.val + (z 0).val) (h1 : (i 1).val = (z 1).val)
include h0 h1

theorem b8 : k0_pay8 (iblk m c 0 t) (iblk m c 7 t) z = val_main_v43 (F := Ideal) (A5 m c) (A7 m c) i := by
  have e : (i 1 : Fin 1024) = z 1 := Fin.ext h1
  rw [e43, p8, e]
  refine Finset.sum_congr rfl fun x _ => ?_
  rw [blk_7 m c t, blk_0 m c t (ix2 (z 0) x) (ix2 (i 0) x) h0 (Nat.zero_add _).symm, V_main_arg7]

theorem b9 : k0_pay9 (iblk m c 1 t) (row0 (iblk m c 8 t)) z = val_main_v20 (F := Ideal) (A0 m c) (A6 m c) i := by
  have e : (i 1 : Fin 1024) = z 1 := Fin.ext h1
  have hz : (z 1).val < 1024 := (z 1).isLt
  rw [e20, p9, blk_8 m c t, blk_1 m c t z (ix2 (i 0) ⟨5120 + (i 1).val, by omega⟩) h0 (congrArg (5120 + ·) h1), V_main_arg0, zero_sub]
  have er : row0 (A6 m c) (ix2 0 (z 1)) = A6 m c (ix2 0 (i 1)) := congrArg (A6 m c) (funext fun a => Fin.ext (by
    match a with
    | ⟨0, _⟩ => rfl
    | ⟨1, _⟩ => show 0 + 1 * (z 1).val = (i 1).val; omega))
  rw [← er]

theorem b10 : k0_pay10 (iblk m c 2 t) (row1 (iblk m c 8 t)) z = val_main_v35 (F := Ideal) (A0 m c) (A6 m c) i := by
  have e : (i 1 : Fin 1024) = z 1 := Fin.ext h1
  have hz : (z 1).val < 1024 := (z 1).isLt
  rw [e35, p10, blk_8 m c t, blk_2 m c t z (ix2 (i 0) ⟨6144 + (i 1).val, by omega⟩) h0 (congrArg (6144 + ·) h1), V_main_arg0, zero_sub]
  have er : row1 (A6 m c) (ix2 0 (z 1)) = A6 m c (ix2 1 (i 1)) := congrArg (A6 m c) (funext fun a => Fin.ext (by
    match a with
    | ⟨0, _⟩ => rfl
    | ⟨1, _⟩ => show 0 + 1 * (z 1).val = (i 1).val; omega))
  rw [← er]

theorem b3 : (iblk m c 3 t : Vec Ideal S512x1024 .bf16) z = val_main_v6 (F := Ideal) (A1 m c) (A3 m c) i := by
  rw [blk_3 m c t z i h0 (h1.trans (Nat.zero_add _).symm), V_main_v3]; rfl

theorem b4 : (iblk m c 4 t : Vec Ideal S512x1024 .bf16) z = val_main_v9 (F := Ideal) (A2 m c) (A4 m c) i := by
  rw [blk_4 m c t z i h0 (h1.trans (Nat.zero_add _).symm), V_main_v7]; rfl

theorem b7 : k0_pay7 (iblk m c 0 t) z = A7 m c i := by
  rw [p7, blk_0 m c t z i h0 (h1.trans (Nat.zero_add _).symm), V_main_arg7]

theorem b11 : k0_pay11 (iblk m c 0 t) (iblk m c 7 t) (iblk m c 1 t) (row0 (iblk m c 8 t)) z = val_main_v52 (F := Ideal) (A0 m c) (A5 m c) (A6 m c) (A7 m c) i := by
  rw [p11, b8 m c t z i h0 h1, b9 m c t z i h0 h1, e52, mul_comm]

theorem b12 : k0_pay12 (k0_pay8 (iblk m c 0 t) (iblk m c 7 t)) (k0_pay10 (iblk m c 2 t) (row1 (iblk m c 8 t))) z = val_main_v44 (F := Ideal) (A0 m c) (A5 m c) (A6 m c) (A7 m c) i := by
  rw [p12, b8 m c t z i h0 h1, b10 m c t z i h0 h1, e44, mul_comm]

theorem b13 : k0_pay13 (k0_pay8 (iblk m c 0 t) (iblk m c 7 t)) (k0_pay9 (iblk m c 1 t) (row0 (iblk m c 8 t))) (iblk m c 3 t) z = val_main_v54 (F := Ideal) (A0 m c) (A1 m c) (A3 m c) (A5 m c) (A6 m c) (A7 m c) i := by
  rw [p13, b8 m c t z i h0 h1, b9 m c t z i h0 h1, b3 m c t z i h0 h1, e54]

theorem b14 : k0_pay14 (k0_pay8 (iblk m c 0 t) (iblk m c 7 t)) (k0_pay10 (iblk m c 2 t) (row1 (iblk m c 8 t))) (iblk m c 4 t) z = val_main_v46 (F := Ideal) (A0 m c) (A2 m c) (A4 m c) (A5 m c) (A6 m c) (A7 m c) i := by
  rw [p14, b8 m c t z i h0 h1, b10 m c t z i h0 h1, b4 m c t z i h0 h1, e46]

theorem b2 : k0_pay2 (k0_pay11 (iblk m c 0 t) (iblk m c 7 t) (iblk m c 1 t) (row0 (iblk m c 8 t))) (iblk m c 5 t) z = val_main_v62 (F := Ideal) (A0 m c) (A3 m c) (A5 m c) (A6 m c) (A7 m c) i := by
  have e : (i 1 : Fin 1024) = z 1 := Fin.ext h1
  rw [e62, p2, e]
  refine Finset.sum_congr rfl fun x _ => ?_
  rw [blk_5 m c t, b11 m c t (ix2 (z 0) x) (ix2 (i 0) x) h0 rfl]

theorem b33 : k0_pay3 (k0_pay12 (k0_pay8 (iblk m c 0 t) (iblk m c 7 t)) (k0_pay10 (iblk m c 2 t) (row1 (iblk m c 8 t)))) (iblk m c 6 t) z = val_main_v64 (F := Ideal) (A0 m c) (A4 m c) (A5 m c) (A6 m c) (A7 m c) i := by
  have e : (i 1 : Fin 1024) = z 1 := Fin.ext h1
  rw [e64, p3, e]
  refine Finset.sum_congr rfl fun x _ => ?_
  rw [blk_6 m c t, b12 m c t (ix2 (z 0) x) (ix2 (i 0) x) h0 rfl]

end

/-! The accumulated column sums. -/

/-- `D`'s column `j` by row number, zero past the last row. -/
def colAt (D : S8192x1024.Idx → EReal) (j : Fin 1024) (k : ℕ) : EReal := if h : k < 8192 then D (ix2 ⟨k, h⟩ j) else 0

theorem sum_blocks {M : Type} [AddCommMonoid M] (a b : ℕ) (f : ℕ → M) :
    ∑ k ∈ Finset.range (a * b), f k = ∑ p ∈ Finset.range a, ∑ q ∈ Finset.range b, f (p * b + q) := by
  induction a with
  | zero => simp
  | succ a ih => rw [Nat.succ_mul, Finset.sum_range_add, ih, Finset.sum_range_succ]

theorem col_sum (D : S8192x1024.Idx → EReal) (j : Fin 1024) :
    ∑ s : Fin 8, ∑ t ∈ Finset.range 16, ∑ x : Fin 64, colAt D j (512 * t + (x.val * 8 + s.val)) = ∑ x, D (ix2 x j) := by
  have e : ∑ x, D (ix2 x j) = ∑ k ∈ Finset.range (16 * (64 * 8)), colAt D j k := by
    rw [Finset.sum_range]
    refine Finset.sum_congr rfl fun x _ => ?_
    unfold colAt; rw [dif_pos x.isLt]
  rw [e, sum_blocks, Finset.sum_comm]
  refine Finset.sum_congr rfl fun t _ => ?_
  rw [sum_blocks, Finset.sum_comm, Finset.sum_range]
  refine Finset.sum_congr rfl fun x _ => ?_
  rw [Finset.sum_range]
  refine Finset.sum_congr rfl fun s _ => ?_
  congr 1
  omega

theorem part_r0 (t : Fin cfg0.N) (z : S1x8x1024.Idx) (b : Vec Ideal S1x8x1024 .f32) :
    k0_pay17 (k0_pay8 (iblk m c 0 t) (iblk m c 7 t)) (k0_pay9 (iblk m c 1 t) (row0 (iblk m c 8 t))) (iblk m c 3 t) b z
      = b z + ∑ x : Fin 64, colAt (val_main_v54 (F := Ideal) (A0 m c) (A1 m c) (A3 m c) (A5 m c) (A6 m c) (A7 m c)) (z 2) (512 * t.val + (x.val * 8 + (z 1).val)) := by
  have ht : t.val < 16 := t.isLt
  have hz : (z 1).val < 8 := (z 1).isLt
  rw [p17]
  congr 1
  refine Finset.sum_congr rfl fun x _ => ?_
  have hx : x.val < 64 := x.isLt
  have hk : 512 * t.val + (x.val * 8 + (z 1).val) < 8192 := by omega
  rw [b13 m c t (ix2 ⟨x.val * 8 + (z 1).val, by omega⟩ (z 2)) (ix2 ⟨512 * t.val + (x.val * 8 + (z 1).val), hk⟩ (z 2)) rfl rfl]
  unfold colAt; rw [dif_pos hk]

theorem acc_r0 (n : ℕ) (hn : n < cfg0.N) (y : S2x8x1024.Idx) (h0 : (y 0).val = 0) :
    (outsAt0 m c n hn).2.2.2.2.2.2.2 y = ∑ t ∈ Finset.range (n + 1), ∑ x : Fin 64, colAt (val_main_v54 (F := Ideal) (A0 m c) (A1 m c) (A3 m c) (A5 m c) (A6 m c) (A7 m c)) (y 2) (512 * t + (x.val * 8 + (y 1).val)) := by
  induction n generalizing y with
  | zero =>
    rw [sum_first_r0 m c ⟨0, hn⟩ rfl y (ix3 0 (y 1) (y 2)) h0 rfl rfl, part_r0, Finset.sum_range_succ, Finset.sum_range_zero]
    congr 1
    exact p6 _
  | succ n ih =>
    have hN : n + 1 < 16 := hn
    have hs := sum_next_r0 m c ⟨n + 1, hn⟩ (show ¬(n + 1) % 16 = 0 by omega) y (ix3 0 (y 1) (y 2)) h0 rfl rfl
    refine hs.trans ?_
    rw [part_r0, Finset.sum_range_succ]
    refine congrArg (· + _) ?_
    refine (ih (Nat.lt_of_succ_lt hn) ((Rect.unit (s := S2x8x1024) ![0, 0, 0] S1x8x1024.size inb_S2x8x1024_S1x8x1024_0_0_0).emb (ix3 0 (y 1) (y 2))) rfl).trans ?_
    have e1 : (Rect.unit (s := S2x8x1024) ![0, 0, 0] S1x8x1024.size inb_S2x8x1024_S1x8x1024_0_0_0).emb (ix3 0 (y 1) (y 2)) 1 = y 1 := Fin.ext (show 0 + 1 * (y 1).val = (y 1).val by omega)
    have e2 : (Rect.unit (s := S2x8x1024) ![0, 0, 0] S1x8x1024.size inb_S2x8x1024_S1x8x1024_0_0_0).emb (ix3 0 (y 1) (y 2)) 2 = y 2 := Fin.ext (show 0 + 1 * (y 2).val = (y 2).val by omega)
    rw [e1, e2]

theorem bias_r0 (t : Fin cfg0.N) (ht : t.val = 15) (y : S2x1024.Idx) (h0 : (y 0).val = 0) :
    (outsAt0 m c t.val t.isLt).2.2.2.2.2.2.1 y = val_main_v60 (F := Ideal) (A0 m c) (A1 m c) (A2 m c) (A3 m c) (A4 m c) (A5 m c) (A6 m c) (A7 m c) y := by
  rw [red_r0 m c t (by omega) y (ix2 0 (y 1)) h0 rfl, e60_0 _ _ _ _ _ _ _ _ y (ix2 0 (y 1)) h0 rfl, p4]
  refine Eq.trans ?_ (col_sum (val_main_v54 (F := Ideal) (A0 m c) (A1 m c) (A3 m c) (A5 m c) (A6 m c) (A7 m c)) (y 1))
  refine Finset.sum_congr rfl fun s _ => ?_
  refine (acc_r0 m c t.val t.isLt ((Rect.unit (s := S2x8x1024) ![0, 0, 0] S1x8x1024.size inb_S2x8x1024_S1x8x1024_0_0_0).emb (ix3 0 s (y 1))) rfl).trans ?_
  rw [ht]
  have e1 : (Rect.unit (s := S2x8x1024) ![0, 0, 0] S1x8x1024.size inb_S2x8x1024_S1x8x1024_0_0_0).emb (ix3 0 s (y 1)) 1 = s := Fin.ext (show 0 + 1 * s.val = s.val by omega)
  have e2 : (Rect.unit (s := S2x8x1024) ![0, 0, 0] S1x8x1024.size inb_S2x8x1024_S1x8x1024_0_0_0).emb (ix3 0 s (y 1)) 2 = y 1 := Fin.ext (show 0 + 1 * (y 1).val = (y 1).val by omega)
  rw [e1, e2]

theorem part_r1 (t : Fin cfg0.N) (z : S1x8x1024.Idx) (b : Vec Ideal S1x8x1024 .f32) :
    k0_pay1 (k0_pay14 (k0_pay8 (iblk m c 0 t) (iblk m c 7 t)) (k0_pay10 (iblk m c 2 t) (row1 (iblk m c 8 t))) (iblk m c 4 t)) b z
      = b z + ∑ x : Fin 64, colAt (val_main_v46 (F := Ideal) (A0 m c) (A2 m c) (A4 m c) (A5 m c) (A6 m c) (A7 m c)) (z 2) (512 * t.val + (x.val * 8 + (z 1).val)) := by
  have ht : t.val < 16 := t.isLt
  have hz : (z 1).val < 8 := (z 1).isLt
  rw [p1]
  congr 1
  refine Finset.sum_congr rfl fun x _ => ?_
  have hx : x.val < 64 := x.isLt
  have hk : 512 * t.val + (x.val * 8 + (z 1).val) < 8192 := by omega
  rw [b14 m c t (ix2 ⟨x.val * 8 + (z 1).val, by omega⟩ (z 2)) (ix2 ⟨512 * t.val + (x.val * 8 + (z 1).val), hk⟩ (z 2)) rfl rfl]
  unfold colAt; rw [dif_pos hk]

theorem acc_r1 (n : ℕ) (hn : n < cfg0.N) (y : S2x8x1024.Idx) (h0 : (y 0).val = 1) :
    (outsAt0 m c n hn).2.2.2.2.2.2.2 y = ∑ t ∈ Finset.range (n + 1), ∑ x : Fin 64, colAt (val_main_v46 (F := Ideal) (A0 m c) (A2 m c) (A4 m c) (A5 m c) (A6 m c) (A7 m c)) (y 2) (512 * t + (x.val * 8 + (y 1).val)) := by
  induction n generalizing y with
  | zero =>
    rw [sum_first_r1 m c ⟨0, hn⟩ rfl y (ix3 0 (y 1) (y 2)) h0 rfl rfl, part_r1, Finset.sum_range_succ, Finset.sum_range_zero]
    congr 1
    exact p6 _
  | succ n ih =>
    have hN : n + 1 < 16 := hn
    have hs := sum_next_r1 m c ⟨n + 1, hn⟩ (show ¬(n + 1) % 16 = 0 by omega) y (ix3 0 (y 1) (y 2)) h0 rfl rfl
    refine hs.trans ?_
    rw [part_r1, Finset.sum_range_succ]
    refine congrArg (· + _) ?_
    refine (ih (Nat.lt_of_succ_lt hn) ((Rect.unit (s := S2x8x1024) ![1, 0, 0] S1x8x1024.size inb_S2x8x1024_S1x8x1024_1_0_0).emb (ix3 0 (y 1) (y 2))) rfl).trans ?_
    have e1 : (Rect.unit (s := S2x8x1024) ![1, 0, 0] S1x8x1024.size inb_S2x8x1024_S1x8x1024_1_0_0).emb (ix3 0 (y 1) (y 2)) 1 = y 1 := Fin.ext (show 0 + 1 * (y 1).val = (y 1).val by omega)
    have e2 : (Rect.unit (s := S2x8x1024) ![1, 0, 0] S1x8x1024.size inb_S2x8x1024_S1x8x1024_1_0_0).emb (ix3 0 (y 1) (y 2)) 2 = y 2 := Fin.ext (show 0 + 1 * (y 2).val = (y 2).val by omega)
    rw [e1, e2]

theorem bias_r1 (t : Fin cfg0.N) (ht : t.val = 15) (y : S2x1024.Idx) (h0 : (y 0).val = 1) :
    (outsAt0 m c t.val t.isLt).2.2.2.2.2.2.1 y = val_main_v60 (F := Ideal) (A0 m c) (A1 m c) (A2 m c) (A3 m c) (A4 m c) (A5 m c) (A6 m c) (A7 m c) y := by
  rw [red_r1 m c t (by omega) y (ix2 0 (y 1)) h0 rfl, e60_1 _ _ _ _ _ _ _ _ y (ix2 0 (y 1)) h0 rfl, p5]
  refine Eq.trans ?_ (col_sum (val_main_v46 (F := Ideal) (A0 m c) (A2 m c) (A4 m c) (A5 m c) (A6 m c) (A7 m c)) (y 1))
  refine Finset.sum_congr rfl fun s _ => ?_
  refine (acc_r1 m c t.val t.isLt ((Rect.unit (s := S2x8x1024) ![1, 0, 0] S1x8x1024.size inb_S2x8x1024_S1x8x1024_1_0_0).emb (ix3 0 s (y 1))) rfl).trans ?_
  rw [ht]
  have e1 : (Rect.unit (s := S2x8x1024) ![1, 0, 0] S1x8x1024.size inb_S2x8x1024_S1x8x1024_1_0_0).emb (ix3 0 s (y 1)) 1 = s := Fin.ext (show 0 + 1 * s.val = s.val by omega)
  have e2 : (Rect.unit (s := S2x8x1024) ![1, 0, 0] S1x8x1024.size inb_S2x8x1024_S1x8x1024_1_0_0).emb (ix3 0 s (y 1)) 2 = y 1 := Fin.ext (show 0 + 1 * (y 1).val = (y 1).val by omega)
  rw [e1, e2]

end

end Cert.MergeIdeal.Val

end
-- ==== Proof.MergeValue.lean ====
/- `merge_bwd` against the gradient of the gated merge: the arrays the kernel leaves are the reference's results. -/
module

public import proofs.«01_k».proof.Defs
public import proofs.«01_k».proof.Proof.MergeVals
public import proofs.«01_k».proof.Proof.Gen.MergeIdeal.Value
public import proofs.«01_k».proof.Proof.Gen.MergeRefIdeal.Run

@[expose] public section

set_option maxRecDepth 16384

noncomputable section

namespace Cert.MergeIdeal.Val

open Cert.MergeIdeal Cert.MergeIdeal.Gen Cert.MergeIdeal.Tile Cert.MergeIdeal.Value Idealize.ShloMosaic Idealize.ShloMosaic.TcCoe Idealize.SL.Sem
open Cert.MergeRefIdeal.Read

section
variable (m : (ℓ : Loc nD τ sig) → Buf (Elt Ideal) ℓ) (c : Dev nD)

theorem G9_eq : G9 m c = val_main_v62 (F := Ideal) (A0 m c) (A3 m c) (A5 m c) (A6 m c) (A7 m c) := by
  funext i
  have hi0 : (i 0).val < 8192 := (i 0).isLt
  have hi1 : (i 1).val < 1024 := (i 1).isLt
  have hp : pt9Of i = (i 0).val / 512 := by
    show 1 * ((i 0).val / 512 - 0) + 1 * ((i 1).val / 1024 - 0) = _
    omega
  have hN : pt9Of i < cfg0.N := by rw [hp]; exact lt_of_lt_of_eq (show (i 0).val / 512 < 16 by omega) N_0.symm
  unfold G9
  rw [dif_pos hN, ← outsAt0_sweep]
  refine (congrFun (outs_9 m c ⟨pt9Of i, hN⟩) (loc9Of i)).trans ?_
  exact b2 m c ⟨pt9Of i, hN⟩ (loc9Of i) i (by show (i 0).val = 512 * pt9Of i + (i 0).val % 512; rw [hp]; omega) (by show (i 1).val = (i 1).val % 1024; omega)

theorem G10_eq : G10 m c = val_main_v64 (F := Ideal) (A0 m c) (A4 m c) (A5 m c) (A6 m c) (A7 m c) := by
  funext i
  have hi0 : (i 0).val < 8192 := (i 0).isLt
  have hi1 : (i 1).val < 1024 := (i 1).isLt
  have hp : pt10Of i = (i 0).val / 512 := by
    show 1 * ((i 0).val / 512 - 0) + 1 * ((i 1).val / 1024 - 0) = _
    omega
  have hN : pt10Of i < cfg0.N := by rw [hp]; exact lt_of_lt_of_eq (show (i 0).val / 512 < 16 by omega) N_0.symm
  unfold G10
  rw [dif_pos hN, ← outsAt0_sweep]
  refine (congrFun (outs_10 m c ⟨pt10Of i, hN⟩) (loc10Of i)).trans ?_
  exact b33 m c ⟨pt10Of i, hN⟩ (loc10Of i) i (by show (i 0).val = 512 * pt10Of i + (i 0).val % 512; rw [hp]; omega) (by show (i 1).val = (i 1).val % 1024; omega)

theorem G11_eq : G11 m c = val_main_v65 (F := Ideal) (A0 m c) (A5 m c) (A6 m c) (A7 m c) := by
  funext i
  have hi0 : (i 0).val < 8192 := (i 0).isLt
  have hi1 : (i 1).val < 1024 := (i 1).isLt
  have hp : pt11Of i = (i 0).val / 512 := by
    show 1 * ((i 0).val / 512 - 0) + 1 * ((i 1).val / 1024 - 0) = _
    omega
  have hN : pt11Of i < cfg0.N := by rw [hp]; exact lt_of_lt_of_eq (show (i 0).val / 512 < 16 by omega) N_0.symm
  unfold G11
  rw [dif_pos hN, ← outsAt0_sweep]
  refine (congrFun (outs_11 m c ⟨pt11Of i, hN⟩) (loc11Of i)).trans ?_
  exact b11 m c ⟨pt11Of i, hN⟩ (loc11Of i) i (by show (i 0).val = 512 * pt11Of i + (i 0).val % 512; rw [hp]; omega) (by show (i 1).val = (i 1).val % 1024; omega)

theorem G12_eq : G12 m c = val_main_v66 (F := Ideal) (A0 m c) (A5 m c) (A6 m c) (A7 m c) := by
  funext i
  have hi0 : (i 0).val < 8192 := (i 0).isLt
  have hi1 : (i 1).val < 1024 := (i 1).isLt
  have hp : pt12Of i = (i 0).val / 512 := by
    show 1 * ((i 0).val / 512 - 0) + 1 * ((i 1).val / 1024 - 0) = _
    omega
  have hN : pt12Of i < cfg0.N := by rw [hp]; exact lt_of_lt_of_eq (show (i 0).val / 512 < 16 by omega) N_0.symm
  unfold G12
  rw [dif_pos hN, ← outsAt0_sweep]
  refine (congrFun (outs_12 m c ⟨pt12Of i, hN⟩) (loc12Of i)).trans ?_
  exact b12 m c ⟨pt12Of i, hN⟩ (loc12Of i) i (by show (i 0).val = 512 * pt12Of i + (i 0).val % 512; rw [hp]; omega) (by show (i 1).val = (i 1).val % 1024; omega)

theorem G14_eq : G14 m c = val_main_v69 (F := Ideal) (A7 m c) := by
  funext i
  have hi0 : (i 0).val < 8192 := (i 0).isLt
  have hi1 : (i 1).val < 1024 := (i 1).isLt
  have hp : pt14Of i = (i 0).val / 512 := by
    show 1 * ((i 0).val / 512 - 0) + 1 * ((i 1).val / 1024 - 0) = _
    omega
  have hN : pt14Of i < cfg0.N := by rw [hp]; exact lt_of_lt_of_eq (show (i 0).val / 512 < 16 by omega) N_0.symm
  unfold G14
  rw [dif_pos hN, ← outsAt0_sweep]
  refine (congrFun (outs_14 m c ⟨pt14Of i, hN⟩) (loc14Of i)).trans ?_
  exact b7 m c ⟨pt14Of i, hN⟩ (loc14Of i) i (by show (i 0).val = 512 * pt14Of i + (i 0).val % 512; rw [hp]; omega) (by show (i 1).val = (i 1).val % 1024; omega)

theorem G13_eq : G13 m c = val_main_v68 (F := Ideal) (A0 m c) (A1 m c) (A2 m c) (A3 m c) (A4 m c) (A5 m c) (A6 m c) (A7 m c) := by
  funext i
  have hi0 : (i 0).val < 8192 := (i 0).isLt
  have hi1 : (i 1).val < 2048 := (i 1).isLt
  have hp : pt13Of i = (i 0).val / 512 := by
    show 1 * ((i 0).val / 512 - 0) + 1 * ((i 1).val / 2048 - 0) = _
    omega
  have hN : pt13Of i < cfg0.N := by rw [hp]; exact lt_of_lt_of_eq (show (i 0).val / 512 < 16 by omega) N_0.symm
  unfold G13
  rw [dif_pos hN, ← outsAt0_sweep]
  by_cases hh : (i 1).val < 1024
  · refine (outs_13_lo m c ⟨pt13Of i, hN⟩ (loc13Of i) (ix2 ⟨(i 0).val % 512, Nat.mod_lt _ (by decide)⟩ ⟨(i 1).val, hh⟩) rfl (by show (i 1).val % 2048 = 0 + (i 1).val; omega)).trans ?_
    rw [p15, e68_lo _ _ _ _ _ _ _ _ i (ix2 (i 0) ⟨(i 1).val, hh⟩) rfl rfl]
    exact b13 m c ⟨pt13Of i, hN⟩ _ _ (by show (i 0).val = 512 * pt13Of i + (i 0).val % 512; rw [hp]; omega) rfl
  · have h2 : (i 1).val - 1024 < 1024 := by omega
    refine (outs_13_hi m c ⟨pt13Of i, hN⟩ (loc13Of i) (ix2 ⟨(i 0).val % 512, Nat.mod_lt _ (by decide)⟩ ⟨(i 1).val - 1024, h2⟩) rfl (by show (i 1).val % 2048 = 1024 + ((i 1).val - 1024); omega)).trans ?_
    rw [p16, e68_hi _ _ _ _ _ _ _ _ i (ix2 (i 0) ⟨(i 1).val - 1024, h2⟩) rfl (by show (i 1).val = 1024 + ((i 1).val - 1024); omega)]
    exact b14 m c ⟨pt13Of i, hN⟩ _ _ (by show (i 0).val = 512 * pt13Of i + (i 0).val % 512; rw [hp]; omega) rfl

theorem G15_eq : G15 m c = val_main_v60 (F := Ideal) (A0 m c) (A1 m c) (A2 m c) (A3 m c) (A4 m c) (A5 m c) (A6 m c) (A7 m c) := by
  obtain ⟨t, ht⟩ : ∃ t : Fin cfg0.N, t.val = 15 := ⟨⟨15, lt_of_lt_of_eq (by decide) N_0.symm⟩, rfl⟩
  have key : (outsAt0 m c t.val t.isLt).2.2.2.2.2.2.1 = val_main_v60 (F := Ideal) (A0 m c) (A1 m c) (A2 m c) (A3 m c) (A4 m c) (A5 m c) (A6 m c) (A7 m c) := funext fun i => by
    have hi : (i 0).val < 2 := (i 0).isLt
    by_cases h0 : (i 0).val = 0
    · exact bias_r0 m c t ht i h0
    · have h1 : (i 0).val = 1 := by omega
      exact bias_r1 m c t ht i h1
  rw [outsAt0_sweep m c t.val t.isLt] at key
  refine (G15_last m c).trans (Eq.trans ?_ key)
  rw [fold0_congr m c 15 _ t.val (by have := t.isLt; omega) ht.symm]

end

theorem algebraic_merge : Cert.algebraic_MergeIdeal_MergeRefIdeal := by
  intro m g m' g' _ hag
  refine ⟨G9 m, G10 m, G11 m, G12 m, G13 m, G14 m, G15 m, Value.run m g, ?_⟩
  refine (θ_run Cert.MergeRefIdeal.defs _ _).mono (fun r h c => ?_) (Cert.MergeRefIdeal.Value.run m' g')
  obtain ⟨h0, h1, h2, h3, h4, h5, h6, hargs⟩ := h c
  obtain ⟨a0, a1, a2, a3, a4, a5, a6, a7⟩ := hag c
  have e0 := G9_eq m c
  have e1 := G10_eq m c
  have e2 := G11_eq m c
  have e3 := G12_eq m c
  have e4 := G13_eq m c
  have e5 := G14_eq m c
  have e6 : G15 m c = Cert.MergeRefIdeal.Value.res_main_v60 m' c := by
    refine (G15_eq m c).trans ?_
    refine Eq.trans ?_ (val_main_v60_eq m' c).symm
    rw [a0, a1, a2, a3, a4, a5, a6, a7]
  refine ⟨(h0.trans (by rw [a0, a3, a5, a6, a7]; rfl)).trans e0.symm, (h1.trans (by rw [a0, a4, a5, a6, a7]; rfl)).trans e1.symm, (h2.trans (by rw [a0, a5, a6, a7]; rfl)).trans e2.symm, (h3.trans (by rw [a0, a5, a6, a7]; rfl)).trans e3.symm, (h4.trans (by rw [a0, a1, a2, a3, a4, a5, a6, a7]; rfl)).trans e4.symm, (h5.trans (by rw [a7]; rfl)).trans e5.symm, h6.trans e6.symm, hargs⟩

end Cert.MergeIdeal.Val

end
-- ==== Proof.Sums.lean ====
/- Sums over blocks of rows: a column sum taken block by block is the whole column sum. -/
module

public import Idealize.ShloMosaic.Lib.Pipeline.Value
public import Idealize.ShloMosaic.Lib.Pointwise
public import Idealize.ShloMosaic.Lib.Pipeline.ReadBack

@[expose] public section

namespace Cert.Sums

theorem hz2 : (![0, 0] : Fin 2 → Nat) = fun _ => 0 := funext fun a => by fin_cases a <;> rfl
theorem hz3 : (![0, 0, 0] : Fin 3 → Nat) = fun _ => 0 := funext fun a => by fin_cases a <;> rfl

/-- A family over the first `n` numbers, as one over all of them. -/
def at0 {M : Type} [AddCommMonoid M] {n : ℕ} (f : Fin n → M) (k : ℕ) : M := if h : k < n then f ⟨k, h⟩ else 0

theorem at0_of_lt {M : Type} [AddCommMonoid M] {n : ℕ} (f : Fin n → M) (k : ℕ) (h : k < n) : at0 f k = f ⟨k, h⟩ := by
  unfold at0; rw [dif_pos h]

theorem sum_at0 {M : Type} [AddCommMonoid M] {n : ℕ} (f : Fin n → M) : ∑ k ∈ Finset.range n, at0 f k = ∑ x, f x := by
  rw [Finset.sum_range]
  exact Finset.sum_congr rfl fun x _ => at0_of_lt f x.val x.isLt

theorem sum_blocks {M : Type} [AddCommMonoid M] (a b : ℕ) (f : ℕ → M) :
    ∑ k ∈ Finset.range (a * b), f k = ∑ p ∈ Finset.range a, ∑ q ∈ Finset.range b, f (p * b + q) := by
  induction a with
  | zero => simp
  | succ a ih => rw [Nat.succ_mul, Finset.sum_range_add, ih, Finset.sum_range_succ]

/-- One more block of `b` rows. -/
theorem sum_next {M : Type} [AddCommMonoid M] (b q : ℕ) (f : ℕ → M) (g : Fin b → M) (s : M)
    (hs : s = ∑ k ∈ Finset.range (b * q), f k) (hg : ∀ x : Fin b, g x = f (b * q + x.val)) :
    s + ∑ x, g x = ∑ k ∈ Finset.range (b * (q + 1)), f k := by
  rw [Nat.mul_succ, Finset.sum_range_add, ← hs, Finset.sum_range (fun k => f (b * q + k))]
  exact congrArg (s + ·) (Finset.sum_congr rfl fun x _ => hg x)

end Cert.Sums
-- ==== Proof.SquareValue.lean ====
/- The gradient of one square output projection: the blocks of 2048 tokens accumulate to the whole product. -/
module

public import proofs.«01_k».proof.Defs
public import proofs.«01_k».proof.Proof.Sums
public import proofs.«01_k».proof.Proof.Gen.SquareIdeal.Value
public import proofs.«01_k».proof.Proof.Gen.SquareRefIdeal.Run
public import proofs.«01_k».proof.Proof.Gen.SquareRefIdeal.Read
public import Idealize.ShloMosaic.Lib.WritesUnit
public import Idealize.ShloMosaic.Lib.Tactic

@[expose] public section

set_option maxRecDepth 16384

noncomputable section

namespace Cert.SquareIdeal.Val

open Cert.SquareIdeal Cert.SquareIdeal.Gen Cert.SquareIdeal.Value Idealize.ShloMosaic Idealize.ShloMosaic.TcCoe Idealize.SL.Sem Cert.Sums
open Idealize.ShloMosaic.Pipeline (Dat)
open Cert.SquareRefIdeal.Read

/-! What one point leaves in its output blocks. -/

section
variable {F : FTy → Type} [FloatOps F]

theorem out_A_2 (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1x1024x1024 .f32) (harg4 : arg4.IsWhole) (arg5 : Memref sig .tc .vmem S1x1024x1024 .bf16) (harg5 : arg5.IsWhole) (hc0 : cond0_0 i) (hc1 : ¬cond0_1 i)
    (x0 : Vec F S2048x1024 .bf16) (x1 : Vec F S2048x1024 .bf16) :
    out0_A_2 c i arg2 harg2 arg3 harg3 arg4 harg4 arg5 harg5 hc0 hc1 x0 x1 = k0_pay2 (k0_pay1 (F := F)) x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_cons_unit_zero hz3]
  simp only [View.readAt_eq_ld, View.readCov_unit_zero (S := S1x1024x1024) _ hz3, harg2.read_unread, harg3.read_unread, harg4.read_unread, harg5.read_unread, View.ld_unit_zero (S := S2048x1024) hz2, View.ld_unit_zero (S := S1x1024x1024) hz3]

theorem out_B_2 (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1x1024x1024 .f32) (harg4 : arg4.IsWhole) (arg5 : Memref sig .tc .vmem S1x1024x1024 .bf16) (harg5 : arg5.IsWhole) (hc0 : ¬cond0_0 i) (hc1 : ¬cond0_1 i)
    (x0 : Vec F S2048x1024 .bf16) (x1 : Vec F S2048x1024 .bf16) (xo2 : Vec F S1x1024x1024 .f32) :
    out0_B_2 c i arg2 harg2 arg3 harg3 arg4 harg4 arg5 harg5 hc0 hc1 x0 x1 xo2 = k0_pay2 xo2 x0 x1 := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  rw [View.canon_unit_zero hz3]
  simp only [View.readAt_eq_ld, View.readCov_unit_zero (S := S1x1024x1024) _ hz3, harg2.read_unread, harg3.read_unread, harg4.read_unread, harg5.read_unread, View.ld_unit_zero (S := S2048x1024) hz2, View.ld_unit_zero (S := S1x1024x1024) hz3]

theorem out_C_2 (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1x1024x1024 .f32) (harg4 : arg4.IsWhole) (arg5 : Memref sig .tc .vmem S1x1024x1024 .bf16) (harg5 : arg5.IsWhole) (hc0 : ¬cond0_0 i) (hc1 : cond0_1 i)
    (x0 : Vec F S2048x1024 .bf16) (x1 : Vec F S2048x1024 .bf16) (xo2 : Vec F S1x1024x1024 .f32) :
    out0_C_2 c i arg2 harg2 arg3 harg3 arg4 harg4 arg5 harg5 hc0 hc1 x0 x1 xo2 = k0_pay2 xo2 x0 x1 := by
  unfold out0_C_2
  rw [View.read_writes_eq_canon _ _ _ (cover0_C_2 c i arg2 harg2 arg3 harg3 arg4 harg4 arg5 harg5 hc0 hc1 x0 x1 xo2)]
  unfold kernelRun0_C
  dsimp only
  sl_unfold_words
  rw [View.canon_unit_zero hz3]
  simp only [View.readAt_eq_ld, View.readCov_unit_zero (S := S1x1024x1024) _ hz3, harg2.read_unread, harg3.read_unread, harg4.read_unread, harg5.read_unread, View.ld_unit_zero (S := S2048x1024) hz2, View.ld_unit_zero (S := S1x1024x1024) hz3]

theorem out_C_3 (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1x1024x1024 .f32) (harg4 : arg4.IsWhole) (arg5 : Memref sig .tc .vmem S1x1024x1024 .bf16) (harg5 : arg5.IsWhole) (hc0 : ¬cond0_0 i) (hc1 : cond0_1 i)
    (x0 : Vec F S2048x1024 .bf16) (x1 : Vec F S2048x1024 .bf16) (xo2 : Vec F S1x1024x1024 .f32) :
    out0_C_3 c i arg2 harg2 arg3 harg3 arg4 harg4 arg5 harg5 hc0 hc1 x0 x1 xo2 = k0_pay3 (k0_pay2 xo2 x0 x1) := by
  unfold out0_C_3
  rw [View.read_writes_eq_canon _ _ _ (cover0_C_3 c i arg2 harg2 arg3 harg3 arg4 harg4 arg5 harg5 hc0 hc1 x0 x1 xo2)]
  unfold kernelRun0_C
  dsimp only
  sl_unfold_words
  rw [View.canon_unit_zero hz3]
  simp only [View.readAt_eq_ld, View.readCov_unit_zero (S := S1x1024x1024) _ hz3, harg2.read_unread, harg3.read_unread, harg4.read_unread, harg5.read_unread, View.ld_unit_zero (S := S2048x1024) hz2, View.ld_unit_zero (S := S1x1024x1024) hz3]

variable (m : (ℓ : Loc nD τ sig) → Buf (Elt F) ℓ) (c : Dev nD)

theorem first_2 (t : Fin cfg0.N) (h0 : t.val % 4 = 0) : (outsAt0 m c t.val t.isLt).1 = k0_pay2 k0_pay1 (iblk m c 0 t) (iblk m c 1 t) := by
  have h1 : ¬t.val % 4 = 3 := by omega
  rw [outsAt0_A m c t h0 h1]; dsimp only; exact out_A_2 _ _ _ _ _ _ _ _ _ _ _ _ _ _

theorem next_2 (t : Fin cfg0.N) (h0 : ¬t.val % 4 = 0) : (outsAt0 m c t.val t.isLt).1 = k0_pay2 (outsAt0 m c (t.val - 1) (Nat.lt_of_le_of_lt (Nat.sub_le _ _) t.isLt)).1 (iblk m c 0 t) (iblk m c 1 t) := by
  by_cases h1 : t.val % 4 = 3
  · rw [outsAt0_C m c t h0 h1]; dsimp only; exact out_C_2 _ _ _ _ _ _ _ _ _ _ _ _ _ _ _
  · rw [outsAt0_B m c t h0 h1]; dsimp only; exact out_B_2 _ _ _ _ _ _ _ _ _ _ _ _ _ _ _

theorem last_2 (t : Fin cfg0.N) (h1 : t.val % 4 = 3) : (outsAt0 m c t.val t.isLt).2 = k0_pay3 (outsAt0 m c t.val t.isLt).1 := by
  have h0 : ¬t.val % 4 = 0 := by omega
  rw [next_2 m c t h0, outsAt0_C m c t h0 h1]; dsimp only; exact out_C_3 _ _ _ _ _ _ _ _ _ _ _ _ _ _ _

/-! The blocks of the arguments. -/

theorem idx_0 : ∀ t : Fin cfg0.N, win0_0.index t (0 : Fin 2) = t.val % 4 ∧ win0_0.index t (1 : Fin 2) = 0 := by decide +kernel

theorem blk_0 (t : Fin cfg0.N) (z : S2048x1024.Idx) (i : S8192x1024.Idx) (h0 : (i 0).val = 2048 * (t.val % 4) + (z 0).val) (h1 : (i 1).val = (z 1).val) :
    (iblk m c 0 t : Vec F S2048x1024 .bf16) z = (m ((c.tc : Thread nD τ).loc main_arg0) : Vec F S8192x1024 .bf16) i := by
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 2) * 2048 + 1 * (z 0).val = (i 0).val; rw [(idx_0 t).1]; omega
  | ⟨1, _⟩ => show win0_0.index t (1 : Fin 2) * 1024 + 1 * (z 1).val = (i 1).val; rw [(idx_0 t).2]; omega

theorem idx_1 : ∀ t : Fin cfg0.N, win0_1.index t (0 : Fin 2) = t.val % 4 ∧ win0_1.index t (1 : Fin 2) = 0 := by decide +kernel

theorem blk_1 (t : Fin cfg0.N) (z : S2048x1024.Idx) (i : S8192x1024.Idx) (h0 : (i 0).val = 2048 * (t.val % 4) + (z 0).val) (h1 : (i 1).val = (z 1).val) :
    (iblk m c 1 t : Vec F S2048x1024 .bf16) z = (m ((c.tc : Thread nD τ).loc main_arg1) : Vec F S8192x1024 .bf16) i := by
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 2) * 2048 + 1 * (z 0).val = (i 0).val; rw [(idx_1 t).1]; omega
  | ⟨1, _⟩ => show win0_1.index t (1 : Fin 2) * 1024 + 1 * (z 1).val = (i 1).val; rw [(idx_1 t).2]; omega

end

/-! The sums at the ideal instance. -/

section
variable (m : (ℓ : Loc nD τ sig) → Buf (Elt Ideal) ℓ) (c : Dev nD)

abbrev A0 : Vec Ideal S8192x1024 .bf16 := m ((c.tc : Thread nD τ).loc main_arg0)
abbrev X0 (t : Fin cfg0.N) : Vec Ideal S2048x1024 .bf16 := iblk m c 0 t
abbrev A1 : Vec Ideal S8192x1024 .bf16 := m ((c.tc : Thread nD τ).loc main_arg1)
abbrev X1 (t : Fin cfg0.N) : Vec Ideal S2048x1024 .bf16 := iblk m c 1 t

theorem zero_2 (i) : k0_pay1 (F := Ideal) i = 0 := by
  unfold k0_pay1
  pointwise

theorem step_2 (v : Vec Ideal S1x1024x1024 .f32) (va : Vec Ideal S2048x1024 .bf16) (vb : Vec Ideal S2048x1024 .bf16) (i) :
    k0_pay2 (F := Ideal) v va vb i = v i + ∑ x : Fin 2048, va (ix2 x (i 1)) * vb (ix2 x (i 2)) := by
  unfold k0_pay2
  pointwise
  all_goals done

theorem cast_2 (v : Vec Ideal S1x1024x1024 .f32) (i) : k0_pay3 (F := Ideal) v i = v i := by
  unfold k0_pay3
  pointwise
  all_goals done

/-- The addend of token `x` in the gradient at `i`. -/
def term_2 (i : S1x1024x1024.Idx) (x : Fin 8192) : EReal := A0 m c (ix2 x (i 1)) * A1 m c (ix2 x (i 2))

theorem ref_2 (i : S1x1024x1024.Idx) : val_main_v6 (F := Ideal) (A0 m c) (A1 m c) i = ∑ x, term_2 m c i x := by
  unfold val_main_v6 val_main_v5 val_main_v4 val_main_v1 val_main_v3 term_2
  pointwise
  all_goals exact Finset.sum_congr rfl fun x _ => mul_comm _ _

theorem block_2 (t : Fin cfg0.N) (i : S1x1024x1024.Idx) (y : S1x1024x1024.Idx) (h0 : (i 0).val = t.val / 4) (h1 : (i 1).val = (y 1).val) (h2 : (i 2).val = (y 2).val) (x : Fin 2048) :
    X0 m c t (ix2 x (y 1)) * X1 m c t (ix2 x (y 2))
      = at0 (term_2 m c i) (2048 * (t.val % 4) + x.val) := by
  have hx : x.val < 2048 := x.isLt
  have hk : 2048 * (t.val % 4) + x.val < 8192 := by omega
  rw [at0_of_lt _ _ hk]
  unfold term_2
  refine congrArg₂ (· * ·) ?_ ?_
  · exact blk_0 m c t _ _ rfl h1
  · exact blk_1 m c t _ _ rfl h2

theorem acc_2 (n : ℕ) (hn : n < cfg0.N) (i : S1x1024x1024.Idx) (y : S1x1024x1024.Idx) (h0 : (i 0).val = n / 4) (h1 : (i 1).val = (y 1).val) (h2 : (i 2).val = (y 2).val) :
    (outsAt0 m c n hn).1 y = ∑ k ∈ Finset.range (2048 * (n % 4 + 1)), at0 (term_2 m c i) k := by
  induction n with
  | zero =>
    refine (congrFun (first_2 m c ⟨0, hn⟩ rfl) y).trans ?_
    refine (step_2 _ _ _ y).trans ?_
    exact sum_next 2048 0 _ _ _ ((zero_2 y).trans (by simp)) fun x => block_2 m c ⟨0, hn⟩ i y h0 h1 h2 x
  | succ n ih =>
    by_cases g0 : (n + 1) % 4 = 0
    · refine (congrFun (first_2 m c ⟨n + 1, hn⟩ g0) y).trans ?_
      refine (step_2 _ _ _ y).trans ?_
      exact sum_next 2048 _ _ _ _ ((zero_2 y).trans (by rw [g0]; simp)) fun x => block_2 m c ⟨n + 1, hn⟩ i y h0 h1 h2 x
    · refine (congrFun (next_2 m c ⟨n + 1, hn⟩ g0) y).trans ?_
      refine (step_2 _ _ _ y).trans ?_
      exact sum_next 2048 _ _ _ _ ((ih (Nat.lt_of_succ_lt hn) (by omega)).trans (by rw [show n % 4 + 1 = (n + 1) % 4 by omega])) fun x => block_2 m c ⟨n + 1, hn⟩ i y h0 h1 h2 x

theorem full_2 (t : Fin cfg0.N) (h : t.val % 4 = 3) (i : S1x1024x1024.Idx) (y : S1x1024x1024.Idx) (h0 : (i 0).val = t.val / 4) (h1 : (i 1).val = (y 1).val) (h2 : (i 2).val = (y 2).val) :
    (outsAt0 m c t.val t.isLt).1 y = val_main_v6 (F := Ideal) (A0 m c) (A1 m c) i := by
  rw [acc_2 m c t.val t.isLt i y h0 h1 h2, ref_2, h]
  exact sum_at0 (term_2 m c i)

theorem widx_2 : ∀ t : Fin cfg0.N, win0_2.index t (0 : Fin 3) = t.val / 4 ∧ win0_2.index t (1 : Fin 3) = 0 ∧ win0_2.index t (2 : Fin 3) = 0 := by decide +kernel

theorem arr_2 : (dats m 0 c).arrAt 2 cfg0.N = val_main_v6 (F := Ideal) (A0 m c) (A1 m c) := by
  refine Dat.arrAt_eq_of_cover (dats m 0 c) 2 (val_main_v6 (F := Ideal) (A0 m c) (A1 m c)) (fun t hf => ?_) (fun i => ?_)
  · have ht : t.val % 4 = 3 := (flush0_2 t).mp hf
    rw [flushed2]
    funext y
    have hy : (y 0).val < 1 := (y 0).isLt
    rw [View.read_apply]
    refine (full_2 m c t ht _ y ?_ ?_ ?_)
    · show win0_2.index t (0 : Fin 3) * 1 + 1 * (y 0).val = t.val / 4
      rw [(widx_2 t).1]; omega
    · show win0_2.index t (1 : Fin 3) * 1024 + 1 * (y 1).val = (y 1).val
      rw [(widx_2 t).2.1]; omega
    · show win0_2.index t (2 : Fin 3) * 1024 + 1 * (y 2).val = (y 2).val
      rw [(widx_2 t).2.2]; omega
  · have hi0 : (i 0).val < 1 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_2 t).mpr (by omega), ?_⟩
    have e : ((cfg0.win 2).blk t).view.emb (ix3 (0 : Fin 1) (i 1) (i 2)) = i := by
      funext a
      apply Fin.ext
      match a with
      | ⟨0, _⟩ => show win0_2.index t (0 : Fin 3) * 1 + 1 * 0 = (i 0).val; rw [(widx_2 t).1]; omega
      | ⟨1, _⟩ => show win0_2.index t (1 : Fin 3) * 1024 + 1 * (i 1).val = (i 1).val; rw [(widx_2 t).2.1]; omega
      | ⟨2, _⟩ => show win0_2.index t (2 : Fin 3) * 1024 + 1 * (i 2).val = (i 2).val; rw [(widx_2 t).2.2]; omega
    exact e ▸ ((cfg0.win 2).blk t).view.emb_mem_set _

theorem widx_3 : ∀ t : Fin cfg0.N, win0_3.index t (0 : Fin 3) = t.val / 4 ∧ win0_3.index t (1 : Fin 3) = 0 ∧ win0_3.index t (2 : Fin 3) = 0 := by decide +kernel

theorem refb_2 (i : S1x1024x1024.Idx) : val_main_v8 (F := Ideal) (A0 m c) (A1 m c) i = val_main_v6 (F := Ideal) (A0 m c) (A1 m c) i := by
  unfold val_main_v8 val_main_v7 val_main_v6
  pointwise
  all_goals done

theorem arr_3 : (dats m 0 c).arrAt 3 cfg0.N = val_main_v8 (F := Ideal) (A0 m c) (A1 m c) := by
  refine Dat.arrAt_eq_of_cover (dats m 0 c) 3 (val_main_v8 (F := Ideal) (A0 m c) (A1 m c)) (fun t hf => ?_) (fun i => ?_)
  · have ht : t.val % 4 = 3 := (flush0_3 t).mp hf
    rw [flushed3]
    funext y
    have hy : (y 0).val < 1 := (y 0).isLt
    rw [View.read_apply]
    refine ((congrFun (last_2 m c t ht) y).trans ((cast_2 _ y).trans ((full_2 m c t ht _ y ?_ ?_ ?_).trans (refb_2 m c _).symm)))
    · show win0_3.index t (0 : Fin 3) * 1 + 1 * (y 0).val = t.val / 4
      rw [(widx_3 t).1]; omega
    · show win0_3.index t (1 : Fin 3) * 1024 + 1 * (y 1).val = (y 1).val
      rw [(widx_3 t).2.1]; omega
    · show win0_3.index t (2 : Fin 3) * 1024 + 1 * (y 2).val = (y 2).val
      rw [(widx_3 t).2.2]; omega
  · have hi0 : (i 0).val < 1 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_3 t).mpr (by omega), ?_⟩
    have e : ((cfg0.win 3).blk t).view.emb (ix3 (0 : Fin 1) (i 1) (i 2)) = i := by
      funext a
      apply Fin.ext
      match a with
      | ⟨0, _⟩ => show win0_3.index t (0 : Fin 3) * 1 + 1 * 0 = (i 0).val; rw [(widx_3 t).1]; omega
      | ⟨1, _⟩ => show win0_3.index t (1 : Fin 3) * 1024 + 1 * (i 1).val = (i 1).val; rw [(widx_3 t).2.1]; omega
      | ⟨2, _⟩ => show win0_3.index t (2 : Fin 3) * 1024 + 1 * (i 2).val = (i 2).val; rw [(widx_3 t).2.2]; omega
    exact e ▸ ((cfg0.win 3).blk t).view.emb_mem_set _

end

theorem algebraic : Cert.algebraic_SquareIdeal_SquareRefIdeal := by
  intro m g m' g' _ hag
  refine ⟨fun c => (dats m 0 c).arrAt 2 cfg0.N, fun c => (dats m 0 c).arrAt 3 cfg0.N, run_blocks m g, ?_⟩
  refine (θ_run Cert.SquareRefIdeal.defs _ _).mono (fun r h c => ?_) (Cert.SquareRefIdeal.Value.run m' g')
  obtain ⟨h0, h1, hargs⟩ := h c
  obtain ⟨a0, a1⟩ := hag c
  refine ⟨(h0.trans (by rw [a0, a1]; rfl)).trans (arr_2 m c).symm, (h1.trans (by rw [a0, a1]; rfl)).trans (arr_3 m c).symm, hargs⟩

/-- The reference leaves its arguments as they were; it declares no semaphore. -/
theorem frame_reference : Cert.quiescent_SquareRefIdeal := fun m ρ _ =>
  (θ_run Cert.SquareRefIdeal.defs _ _).mono
    (fun r h => ⟨fun c => by obtain ⟨_, _, hargs⟩ := h c; exact hargs,
      Idealize.ShloMosaic.sem_eq_zero_of_no_sems (by decide) r.2⟩)
    (Cert.SquareRefIdeal.Value.run (F := Ideal) m ρ)

end Cert.SquareIdeal.Val

end
-- ==== Proof.DownValue.lean ====
/- The gradient of the feed-forward block's down projection: the blocks of 2048 tokens accumulate to the whole product. -/
module

public import proofs.«01_k».proof.Defs
public import proofs.«01_k».proof.Proof.Sums
public import proofs.«01_k».proof.Proof.Gen.DownIdeal.Value
public import proofs.«01_k».proof.Proof.Gen.DownRefIdeal.Run
public import proofs.«01_k».proof.Proof.Gen.DownRefIdeal.Read
public import Idealize.ShloMosaic.Lib.WritesUnit
public import Idealize.ShloMosaic.Lib.Tactic

@[expose] public section

set_option maxRecDepth 16384

noncomputable section

namespace Cert.DownIdeal.Val

open Cert.DownIdeal Cert.DownIdeal.Gen Cert.DownIdeal.Value Idealize.ShloMosaic Idealize.ShloMosaic.TcCoe Idealize.SL.Sem Cert.Sums
open Idealize.ShloMosaic.Pipeline (Dat)
open Cert.DownRefIdeal.Read

/-! What one point leaves in its output blocks. -/

section
variable {F : FTy → Type} [FloatOps F]

theorem out_A_2 (c : Dev nD) (i : grid0.Coords) (arg2 : Memref sig .tc .vmem S1x2048x704 .bf16) (harg2 : arg2.IsWhole) (arg3 : Memref sig .tc .vmem S2048x1024 .bf16) (harg3 : arg3.IsWhole) (arg4 : Memref sig .tc .vmem S1x704x1024 .f32) (harg4 : arg4.IsWhole) (arg5 : Memref sig .tc .vmem S1x704x1024 .bf16) (harg5 : arg5.IsWhole) (hc0 : cond0_0 i) (hc1 : ¬cond0_1 i)
    (x0 : Vec F S1x2048x704 .bf16) (x1 : Vec F S2048x1024 .bf16) :
    out0_A_2 c i arg2 harg2 arg3 harg3 arg4 harg4 arg5 harg5 hc0 hc1 x0 x1 = k0_pay2 (k0_pay1 (F := F)) x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_cons_unit_zero hz3]
  simp only [View.readAt_eq_ld, View.readCov_unit_zero (S := S1x704x1024) _ hz3, harg2.read_unread, harg3.read_unread, harg4.read_unread, harg5.read_unread, View.ld_unit_zero (S := S1x2048x704) hz3, View.ld_unit_zero (S := S2048x1024) hz2, View.ld_unit_zero (S := S1x704x1024) hz3]

theorem out_B_2 (c : Dev nD) (i : grid0.Coords) (arg2 : Memref sig .tc .vmem S1x2048x704 .bf16) (harg2 : arg2.IsWhole) (arg3 : Memref sig .tc .vmem S2048x1024 .bf16) (harg3 : arg3.IsWhole) (arg4 : Memref sig .tc .vmem S1x704x1024 .f32) (harg4 : arg4.IsWhole) (arg5 : Memref sig .tc .vmem S1x704x1024 .bf16) (harg5 : arg5.IsWhole) (hc0 : ¬cond0_0 i) (hc1 : ¬cond0_1 i)
    (x0 : Vec F S1x2048x704 .bf16) (x1 : Vec F S2048x1024 .bf16) (xo2 : Vec F S1x704x1024 .f32) :
    out0_B_2 c i arg2 harg2 arg3 harg3 arg4 harg4 arg5 harg5 hc0 hc1 x0 x1 xo2 = k0_pay2 xo2 x0 x1 := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  rw [View.canon_unit_zero hz3]
  simp only [View.readAt_eq_ld, View.readCov_unit_zero (S := S1x704x1024) _ hz3, harg2.read_unread, harg3.read_unread, harg4.read_unread, harg5.read_unread, View.ld_unit_zero (S := S1x2048x704) hz3, View.ld_unit_zero (S := S2048x1024) hz2, View.ld_unit_zero (S := S1x704x1024) hz3]

theorem out_C_2 (c : Dev nD) (i : grid0.Coords) (arg2 : Memref sig .tc .vmem S1x2048x704 .bf16) (harg2 : arg2.IsWhole) (arg3 : Memref sig .tc .vmem S2048x1024 .bf16) (harg3 : arg3.IsWhole) (arg4 : Memref sig .tc .vmem S1x704x1024 .f32) (harg4 : arg4.IsWhole) (arg5 : Memref sig .tc .vmem S1x704x1024 .bf16) (harg5 : arg5.IsWhole) (hc0 : ¬cond0_0 i) (hc1 : cond0_1 i)
    (x0 : Vec F S1x2048x704 .bf16) (x1 : Vec F S2048x1024 .bf16) (xo2 : Vec F S1x704x1024 .f32) :
    out0_C_2 c i arg2 harg2 arg3 harg3 arg4 harg4 arg5 harg5 hc0 hc1 x0 x1 xo2 = k0_pay2 xo2 x0 x1 := by
  unfold out0_C_2
  rw [View.read_writes_eq_canon _ _ _ (cover0_C_2 c i arg2 harg2 arg3 harg3 arg4 harg4 arg5 harg5 hc0 hc1 x0 x1 xo2)]
  unfold kernelRun0_C
  dsimp only
  sl_unfold_words
  rw [View.canon_unit_zero hz3]
  simp only [View.readAt_eq_ld, View.readCov_unit_zero (S := S1x704x1024) _ hz3, harg2.read_unread, harg3.read_unread, harg4.read_unread, harg5.read_unread, View.ld_unit_zero (S := S1x2048x704) hz3, View.ld_unit_zero (S := S2048x1024) hz2, View.ld_unit_zero (S := S1x704x1024) hz3]

theorem out_C_3 (c : Dev nD) (i : grid0.Coords) (arg2 : Memref sig .tc .vmem S1x2048x704 .bf16) (harg2 : arg2.IsWhole) (arg3 : Memref sig .tc .vmem S2048x1024 .bf16) (harg3 : arg3.IsWhole) (arg4 : Memref sig .tc .vmem S1x704x1024 .f32) (harg4 : arg4.IsWhole) (arg5 : Memref sig .tc .vmem S1x704x1024 .bf16) (harg5 : arg5.IsWhole) (hc0 : ¬cond0_0 i) (hc1 : cond0_1 i)
    (x0 : Vec F S1x2048x704 .bf16) (x1 : Vec F S2048x1024 .bf16) (xo2 : Vec F S1x704x1024 .f32) :
    out0_C_3 c i arg2 harg2 arg3 harg3 arg4 harg4 arg5 harg5 hc0 hc1 x0 x1 xo2 = k0_pay3 (k0_pay2 xo2 x0 x1) := by
  unfold out0_C_3
  rw [View.read_writes_eq_canon _ _ _ (cover0_C_3 c i arg2 harg2 arg3 harg3 arg4 harg4 arg5 harg5 hc0 hc1 x0 x1 xo2)]
  unfold kernelRun0_C
  dsimp only
  sl_unfold_words
  rw [View.canon_unit_zero hz3]
  simp only [View.readAt_eq_ld, View.readCov_unit_zero (S := S1x704x1024) _ hz3, harg2.read_unread, harg3.read_unread, harg4.read_unread, harg5.read_unread, View.ld_unit_zero (S := S1x2048x704) hz3, View.ld_unit_zero (S := S2048x1024) hz2, View.ld_unit_zero (S := S1x704x1024) hz3]

variable (m : (ℓ : Loc nD τ sig) → Buf (Elt F) ℓ) (c : Dev nD)

theorem first_2 (t : Fin cfg0.N) (h0 : t.val % 4 = 0) : (outsAt0 m c t.val t.isLt).1 = k0_pay2 k0_pay1 (iblk m c 0 t) (iblk m c 1 t) := by
  have h1 : ¬t.val % 4 = 3 := by omega
  rw [outsAt0_A m c t h0 h1]; dsimp only; exact out_A_2 _ _ _ _ _ _ _ _ _ _ _ _ _ _

theorem next_2 (t : Fin cfg0.N) (h0 : ¬t.val % 4 = 0) : (outsAt0 m c t.val t.isLt).1 = k0_pay2 (outsAt0 m c (t.val - 1) (Nat.lt_of_le_of_lt (Nat.sub_le _ _) t.isLt)).1 (iblk m c 0 t) (iblk m c 1 t) := by
  by_cases h1 : t.val % 4 = 3
  · rw [outsAt0_C m c t h0 h1]; dsimp only; exact out_C_2 _ _ _ _ _ _ _ _ _ _ _ _ _ _ _
  · rw [outsAt0_B m c t h0 h1]; dsimp only; exact out_B_2 _ _ _ _ _ _ _ _ _ _ _ _ _ _ _

theorem last_2 (t : Fin cfg0.N) (h1 : t.val % 4 = 3) : (outsAt0 m c t.val t.isLt).2 = k0_pay3 (outsAt0 m c t.val t.isLt).1 := by
  have h0 : ¬t.val % 4 = 0 := by omega
  rw [next_2 m c t h0, outsAt0_C m c t h0 h1]; dsimp only; exact out_C_3 _ _ _ _ _ _ _ _ _ _ _ _ _ _ _

/-! The blocks of the arguments. -/

theorem idx_0 : ∀ t : Fin cfg0.N, win0_0.index t (0 : Fin 3) = t.val / 4 ∧ win0_0.index t (1 : Fin 3) = t.val % 4 ∧ win0_0.index t (2 : Fin 3) = 0 := by decide +kernel

theorem blk_0 (t : Fin cfg0.N) (z : S1x2048x704.Idx) (i : S4x8192x704.Idx) (h0 : (i 0).val = t.val / 4) (h1 : (i 1).val = 2048 * (t.val % 4) + (z 1).val) (h2 : (i 2).val = (z 2).val) :
    (iblk m c 0 t : Vec F S1x2048x704 .bf16) z = (m ((c.tc : Thread nD τ).loc main_arg0) : Vec F S4x8192x704 .bf16) i := by
  have hz : (z 0).val < 1 := (z 0).isLt
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 3) * 1 + 1 * (z 0).val = (i 0).val; rw [(idx_0 t).1]; omega
  | ⟨1, _⟩ => show win0_0.index t (1 : Fin 3) * 2048 + 1 * (z 1).val = (i 1).val; rw [(idx_0 t).2.1]; omega
  | ⟨2, _⟩ => show win0_0.index t (2 : Fin 3) * 704 + 1 * (z 2).val = (i 2).val; rw [(idx_0 t).2.2]; omega

theorem idx_1 : ∀ t : Fin cfg0.N, win0_1.index t (0 : Fin 2) = t.val % 4 ∧ win0_1.index t (1 : Fin 2) = 0 := by decide +kernel

theorem blk_1 (t : Fin cfg0.N) (z : S2048x1024.Idx) (i : S8192x1024.Idx) (h0 : (i 0).val = 2048 * (t.val % 4) + (z 0).val) (h1 : (i 1).val = (z 1).val) :
    (iblk m c 1 t : Vec F S2048x1024 .bf16) z = (m ((c.tc : Thread nD τ).loc main_arg1) : Vec F S8192x1024 .bf16) i := by
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 2) * 2048 + 1 * (z 0).val = (i 0).val; rw [(idx_1 t).1]; omega
  | ⟨1, _⟩ => show win0_1.index t (1 : Fin 2) * 1024 + 1 * (z 1).val = (i 1).val; rw [(idx_1 t).2]; omega

end

/-! The sums at the ideal instance. -/

section
variable (m : (ℓ : Loc nD τ sig) → Buf (Elt Ideal) ℓ) (c : Dev nD)

abbrev A0 : Vec Ideal S4x8192x704 .bf16 := m ((c.tc : Thread nD τ).loc main_arg0)
abbrev X0 (t : Fin cfg0.N) : Vec Ideal S1x2048x704 .bf16 := iblk m c 0 t
abbrev A1 : Vec Ideal S8192x1024 .bf16 := m ((c.tc : Thread nD τ).loc main_arg1)
abbrev X1 (t : Fin cfg0.N) : Vec Ideal S2048x1024 .bf16 := iblk m c 1 t

theorem zero_2 (i) : k0_pay1 (F := Ideal) i = 0 := by
  unfold k0_pay1
  pointwise

theorem step_2 (v : Vec Ideal S1x704x1024 .f32) (va : Vec Ideal S1x2048x704 .bf16) (vb : Vec Ideal S2048x1024 .bf16) (i) :
    k0_pay2 (F := Ideal) v va vb i = v i + ∑ x : Fin 2048, va (ix3 0 x (i 1)) * vb (ix2 x (i 2)) := by
  unfold k0_pay2
  pointwise
  all_goals done

theorem cast_2 (v : Vec Ideal S1x704x1024 .f32) (i) : k0_pay3 (F := Ideal) v i = v i := by
  unfold k0_pay3
  pointwise
  all_goals done

/-- The addend of token `x` in the gradient at `i`. -/
def term_2 (i : S4x704x1024.Idx) (x : Fin 8192) : EReal := A0 m c (ix3 (i 0) x (i 1)) * A1 m c (ix2 x (i 2))

theorem ref_2 (i : S4x704x1024.Idx) : val_main_v5 (F := Ideal) (A0 m c) (A1 m c) i = ∑ x, term_2 m c i x := by
  unfold val_main_v5 val_main_v4 val_main_v1 val_main_v3 term_2
  pointwise
  all_goals exact Finset.sum_congr rfl fun x _ => mul_comm _ _

theorem block_2 (t : Fin cfg0.N) (i : S4x704x1024.Idx) (y : S1x704x1024.Idx) (h0 : (i 0).val = t.val / 4) (h1 : (i 1).val = (y 1).val) (h2 : (i 2).val = (y 2).val) (x : Fin 2048) :
    X0 m c t (ix3 0 x (y 1)) * X1 m c t (ix2 x (y 2))
      = at0 (term_2 m c i) (2048 * (t.val % 4) + x.val) := by
  have hx : x.val < 2048 := x.isLt
  have hk : 2048 * (t.val % 4) + x.val < 8192 := by omega
  rw [at0_of_lt _ _ hk]
  unfold term_2
  refine congrArg₂ (· * ·) ?_ ?_
  · exact blk_0 m c t _ _ h0 rfl h1
  · exact blk_1 m c t _ _ rfl h2

theorem acc_2 (n : ℕ) (hn : n < cfg0.N) (i : S4x704x1024.Idx) (y : S1x704x1024.Idx) (h0 : (i 0).val = n / 4) (h1 : (i 1).val = (y 1).val) (h2 : (i 2).val = (y 2).val) :
    (outsAt0 m c n hn).1 y = ∑ k ∈ Finset.range (2048 * (n % 4 + 1)), at0 (term_2 m c i) k := by
  induction n with
  | zero =>
    refine (congrFun (first_2 m c ⟨0, hn⟩ rfl) y).trans ?_
    refine (step_2 _ _ _ y).trans ?_
    exact sum_next 2048 0 _ _ _ ((zero_2 y).trans (by simp)) fun x => block_2 m c ⟨0, hn⟩ i y h0 h1 h2 x
  | succ n ih =>
    by_cases g0 : (n + 1) % 4 = 0
    · refine (congrFun (first_2 m c ⟨n + 1, hn⟩ g0) y).trans ?_
      refine (step_2 _ _ _ y).trans ?_
      exact sum_next 2048 _ _ _ _ ((zero_2 y).trans (by rw [g0]; simp)) fun x => block_2 m c ⟨n + 1, hn⟩ i y h0 h1 h2 x
    · refine (congrFun (next_2 m c ⟨n + 1, hn⟩ g0) y).trans ?_
      refine (step_2 _ _ _ y).trans ?_
      exact sum_next 2048 _ _ _ _ ((ih (Nat.lt_of_succ_lt hn) (by omega)).trans (by rw [show n % 4 + 1 = (n + 1) % 4 by omega])) fun x => block_2 m c ⟨n + 1, hn⟩ i y h0 h1 h2 x

theorem full_2 (t : Fin cfg0.N) (h : t.val % 4 = 3) (i : S4x704x1024.Idx) (y : S1x704x1024.Idx) (h0 : (i 0).val = t.val / 4) (h1 : (i 1).val = (y 1).val) (h2 : (i 2).val = (y 2).val) :
    (outsAt0 m c t.val t.isLt).1 y = val_main_v5 (F := Ideal) (A0 m c) (A1 m c) i := by
  rw [acc_2 m c t.val t.isLt i y h0 h1 h2, ref_2, h]
  exact sum_at0 (term_2 m c i)

theorem widx_2 : ∀ t : Fin cfg0.N, win0_2.index t (0 : Fin 3) = t.val / 4 ∧ win0_2.index t (1 : Fin 3) = 0 ∧ win0_2.index t (2 : Fin 3) = 0 := by decide +kernel

theorem arr_2 : (dats m 0 c).arrAt 2 cfg0.N = val_main_v5 (F := Ideal) (A0 m c) (A1 m c) := by
  refine Dat.arrAt_eq_of_cover (dats m 0 c) 2 (val_main_v5 (F := Ideal) (A0 m c) (A1 m c)) (fun t hf => ?_) (fun i => ?_)
  · have ht : t.val % 4 = 3 := (flush0_2 t).mp hf
    rw [flushed2]
    funext y
    have hy : (y 0).val < 1 := (y 0).isLt
    rw [View.read_apply]
    refine (full_2 m c t ht _ y ?_ ?_ ?_)
    · show win0_2.index t (0 : Fin 3) * 1 + 1 * (y 0).val = t.val / 4
      rw [(widx_2 t).1]; omega
    · show win0_2.index t (1 : Fin 3) * 704 + 1 * (y 1).val = (y 1).val
      rw [(widx_2 t).2.1]; omega
    · show win0_2.index t (2 : Fin 3) * 1024 + 1 * (y 2).val = (y 2).val
      rw [(widx_2 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_2 t).mpr (by omega), ?_⟩
    have e : ((cfg0.win 2).blk t).view.emb (ix3 (0 : Fin 1) (i 1) (i 2)) = i := by
      funext a
      apply Fin.ext
      match a with
      | ⟨0, _⟩ => show win0_2.index t (0 : Fin 3) * 1 + 1 * 0 = (i 0).val; rw [(widx_2 t).1]; omega
      | ⟨1, _⟩ => show win0_2.index t (1 : Fin 3) * 704 + 1 * (i 1).val = (i 1).val; rw [(widx_2 t).2.1]; omega
      | ⟨2, _⟩ => show win0_2.index t (2 : Fin 3) * 1024 + 1 * (i 2).val = (i 2).val; rw [(widx_2 t).2.2]; omega
    exact e ▸ ((cfg0.win 2).blk t).view.emb_mem_set _

theorem widx_3 : ∀ t : Fin cfg0.N, win0_3.index t (0 : Fin 3) = t.val / 4 ∧ win0_3.index t (1 : Fin 3) = 0 ∧ win0_3.index t (2 : Fin 3) = 0 := by decide +kernel

theorem refb_2 (i : S4x704x1024.Idx) : val_main_v6 (F := Ideal) (A0 m c) (A1 m c) i = val_main_v5 (F := Ideal) (A0 m c) (A1 m c) i := by
  unfold val_main_v6
  pointwise
  all_goals done

theorem arr_3 : (dats m 0 c).arrAt 3 cfg0.N = val_main_v6 (F := Ideal) (A0 m c) (A1 m c) := by
  refine Dat.arrAt_eq_of_cover (dats m 0 c) 3 (val_main_v6 (F := Ideal) (A0 m c) (A1 m c)) (fun t hf => ?_) (fun i => ?_)
  · have ht : t.val % 4 = 3 := (flush0_3 t).mp hf
    rw [flushed3]
    funext y
    have hy : (y 0).val < 1 := (y 0).isLt
    rw [View.read_apply]
    refine ((congrFun (last_2 m c t ht) y).trans ((cast_2 _ y).trans ((full_2 m c t ht _ y ?_ ?_ ?_).trans (refb_2 m c _).symm)))
    · show win0_3.index t (0 : Fin 3) * 1 + 1 * (y 0).val = t.val / 4
      rw [(widx_3 t).1]; omega
    · show win0_3.index t (1 : Fin 3) * 704 + 1 * (y 1).val = (y 1).val
      rw [(widx_3 t).2.1]; omega
    · show win0_3.index t (2 : Fin 3) * 1024 + 1 * (y 2).val = (y 2).val
      rw [(widx_3 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_3 t).mpr (by omega), ?_⟩
    have e : ((cfg0.win 3).blk t).view.emb (ix3 (0 : Fin 1) (i 1) (i 2)) = i := by
      funext a
      apply Fin.ext
      match a with
      | ⟨0, _⟩ => show win0_3.index t (0 : Fin 3) * 1 + 1 * 0 = (i 0).val; rw [(widx_3 t).1]; omega
      | ⟨1, _⟩ => show win0_3.index t (1 : Fin 3) * 704 + 1 * (i 1).val = (i 1).val; rw [(widx_3 t).2.1]; omega
      | ⟨2, _⟩ => show win0_3.index t (2 : Fin 3) * 1024 + 1 * (i 2).val = (i 2).val; rw [(widx_3 t).2.2]; omega
    exact e ▸ ((cfg0.win 3).blk t).view.emb_mem_set _

end

theorem algebraic : Cert.algebraic_DownIdeal_DownRefIdeal := by
  intro m g m' g' _ hag
  refine ⟨fun c => (dats m 0 c).arrAt 2 cfg0.N, fun c => (dats m 0 c).arrAt 3 cfg0.N, run_blocks m g, ?_⟩
  refine (θ_run Cert.DownRefIdeal.defs _ _).mono (fun r h c => ?_) (Cert.DownRefIdeal.Value.run m' g')
  obtain ⟨h0, h1, hargs⟩ := h c
  obtain ⟨a0, a1⟩ := hag c
  refine ⟨(h0.trans (by rw [a0, a1]; rfl)).trans (arr_2 m c).symm, (h1.trans (by rw [a0, a1]; rfl)).trans (arr_3 m c).symm, hargs⟩

/-- The reference leaves its arguments as they were; it declares no semaphore. -/
theorem frame_reference : Cert.quiescent_DownRefIdeal := fun m ρ _ =>
  (θ_run Cert.DownRefIdeal.defs _ _).mono
    (fun r h => ⟨fun c => by obtain ⟨_, _, hargs⟩ := h c; exact hargs,
      Idealize.ShloMosaic.sem_eq_zero_of_no_sems (by decide) r.2⟩)
    (Cert.DownRefIdeal.Value.run (F := Ideal) m ρ)

end Cert.DownIdeal.Val

end
-- ==== Proof.PairValue.lean ====
/- The gradients of the feed-forward block's gate and up projections: the blocks of 2048 tokens accumulate to the whole product. -/
module

public import proofs.«01_k».proof.Defs
public import proofs.«01_k».proof.Proof.Sums
public import proofs.«01_k».proof.Proof.Gen.PairIdeal.Value
public import proofs.«01_k».proof.Proof.Gen.PairRefIdeal.Run
public import proofs.«01_k».proof.Proof.Gen.PairRefIdeal.Read
public import Idealize.ShloMosaic.Lib.WritesUnit
public import Idealize.ShloMosaic.Lib.Tactic

@[expose] public section

set_option maxRecDepth 16384

noncomputable section

namespace Cert.PairIdeal.Val

open Cert.PairIdeal Cert.PairIdeal.Gen Cert.PairIdeal.Value Idealize.ShloMosaic Idealize.ShloMosaic.TcCoe Idealize.SL.Sem Cert.Sums
open Idealize.ShloMosaic.Pipeline (Dat)
open Cert.PairRefIdeal.Read

/-! What one point leaves in its output blocks. -/

section
variable {F : FTy → Type} [FloatOps F]

theorem out_A_3 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : cond0_0 i) (hc1 : ¬cond0_1 i)
    (x0 : Vec F S2048x1024 .bf16) (x1 : Vec F S1x2048x704 .bf16) (x2 : Vec F S1x2048x704 .bf16) :
    out0_A_3 c i arg2 harg2 arg3 harg3 arg4 harg4 arg5 harg5 arg6 harg6 arg7 harg7 arg8 harg8 hc0 hc1 x0 x1 x2 = k0_pay3 x0 (k0_pay1 (F := F)) x1 := by
  unfold out0_A_3
  rw [View.read_writes_eq_canon _ _ _ (cover0_A_3 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

theorem out_B_3 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : ¬cond0_0 i) (hc1 : ¬cond0_1 i)
    (x0 : Vec F S2048x1024 .bf16) (x1 : Vec F S1x2048x704 .bf16) (x2 : Vec F S1x2048x704 .bf16) (xo3 : Vec F S1x704x1024 .f32) (xo5 : Vec F S1x704x1024 .f32) :
    out0_B_3 c i arg2 harg2 arg3 harg3 arg4 harg4 arg5 harg5 arg6 harg6 arg7 harg7 arg8 harg8 hc0 hc1 x0 x1 x2 xo3 xo5 = k0_pay3 x0 xo3 x1 := by
  unfold out0_B_3
  rw [View.read_writes_eq_canon _ _ _ (cover0_B_3 c i arg2 harg2 arg3 harg3 arg4 harg4 arg5 harg5 arg6 harg6 arg7 harg7 arg8 harg8 hc0 hc1 x0 x1 x2 xo3 xo5)]
  unfold kernelRun0_B
  dsimp only
  sl_unfold_words
  rw [View.canon_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

theorem out_C_3 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : ¬cond0_0 i) (hc1 : cond0_1 i)
    (x0 : Vec F S2048x1024 .bf16) (x1 : Vec F S1x2048x704 .bf16) (x2 : Vec F S1x2048x704 .bf16) (xo3 : Vec F S1x704x1024 .f32) (xo5 : Vec F S1x704x1024 .f32) :
    out0_C_3 c i arg2 harg2 arg3 harg3 arg4 harg4 arg5 harg5 arg6 harg6 arg7 harg7 arg8 harg8 hc0 hc1 x0 x1 x2 xo3 xo5 = k0_pay3 x0 xo3 x1 := by
  unfold out0_C_3
  rw [View.read_writes_eq_canon _ _ _ (cover0_C_3 c i arg2 harg2 arg3 harg3 arg4 harg4 arg5 harg5 arg6 harg6 arg7 harg7 arg8 harg8 hc0 hc1 x0 x1 x2 xo3 xo5)]
  unfold kernelRun0_C
  dsimp only
  sl_unfold_words
  rw [View.canon_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

theorem out_C_4 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : ¬cond0_0 i) (hc1 : cond0_1 i)
    (x0 : Vec F S2048x1024 .bf16) (x1 : Vec F S1x2048x704 .bf16) (x2 : Vec F S1x2048x704 .bf16) (xo3 : Vec F S1x704x1024 .f32) (xo5 : Vec F S1x704x1024 .f32) :
    out0_C_4 c i arg2 harg2 arg3 harg3 arg4 harg4 arg5 harg5 arg6 harg6 arg7 harg7 arg8 harg8 hc0 hc1 x0 x1 x2 xo3 xo5 = k0_pay5 (k0_pay3 x0 xo3 x1) := by
  unfold out0_C_4
  rw [View.read_writes_eq_canon _ _ _ (cover0_C_4 c i arg2 harg2 arg3 harg3 arg4 harg4 arg5 harg5 arg6 harg6 arg7 harg7 arg8 harg8 hc0 hc1 x0 x1 x2 xo3 xo5)]
  unfold kernelRun0_C
  dsimp only
  sl_unfold_words
  rw [View.canon_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

theorem out_A_5 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : cond0_0 i) (hc1 : ¬cond0_1 i)
    (x0 : Vec F S2048x1024 .bf16) (x1 : Vec F S1x2048x704 .bf16) (x2 : Vec F S1x2048x704 .bf16) :
    out0_A_5 c i arg2 harg2 arg3 harg3 arg4 harg4 arg5 harg5 arg6 harg6 arg7 harg7 arg8 harg8 hc0 hc1 x0 x1 x2 = k0_pay4 x0 (k0_pay2 (F := F)) x2 := by
  unfold out0_A_5
  rw [View.read_writes_eq_canon _ _ _ (cover0_A_5 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

theorem out_B_5 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : ¬cond0_0 i) (hc1 : ¬cond0_1 i)
    (x0 : Vec F S2048x1024 .bf16) (x1 : Vec F S1x2048x704 .bf16) (x2 : Vec F S1x2048x704 .bf16) (xo3 : Vec F S1x704x1024 .f32) (xo5 : Vec F S1x704x1024 .f32) :
    out0_B_5 c i arg2 harg2 arg3 harg3 arg4 harg4 arg5 harg5 arg6 harg6 arg7 harg7 arg8 harg8 hc0 hc1 x0 x1 x2 xo3 xo5 = k0_pay4 x0 xo5 x2 := by
  unfold out0_B_5
  rw [View.read_writes_eq_canon _ _ _ (cover0_B_5 c i arg2 harg2 arg3 harg3 arg4 harg4 arg5 harg5 arg6 harg6 arg7 harg7 arg8 harg8 hc0 hc1 x0 x1 x2 xo3 xo5)]
  unfold kernelRun0_B
  dsimp only
  sl_unfold_words
  rw [View.canon_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

theorem out_C_5 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : ¬cond0_0 i) (hc1 : cond0_1 i)
    (x0 : Vec F S2048x1024 .bf16) (x1 : Vec F S1x2048x704 .bf16) (x2 : Vec F S1x2048x704 .bf16) (xo3 : Vec F S1x704x1024 .f32) (xo5 : Vec F S1x704x1024 .f32) :
    out0_C_5 c i arg2 harg2 arg3 harg3 arg4 harg4 arg5 harg5 arg6 harg6 arg7 harg7 arg8 harg8 hc0 hc1 x0 x1 x2 xo3 xo5 = k0_pay4 x0 xo5 x2 := by
  unfold out0_C_5
  rw [View.read_writes_eq_canon _ _ _ (cover0_C_5 c i arg2 harg2 arg3 harg3 arg4 harg4 arg5 harg5 arg6 harg6 arg7 harg7 arg8 harg8 hc0 hc1 x0 x1 x2 xo3 xo5)]
  unfold kernelRun0_C
  dsimp only
  sl_unfold_words
  rw [View.canon_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

theorem out_C_6 (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x704x1024 .f32) (harg5 : arg5.IsWhole) (arg6 : Memref sig .tc .vmem S1x704x1024 .bf16) (harg6 : arg6.IsWhole) (arg7 : Memref sig .tc .vmem S1x704x1024 .f32) (harg7 : arg7.IsWhole) (arg8 : Memref sig .tc .vmem S1x704x1024 .bf16) (harg8 : arg8.IsWhole) (hc0 : ¬cond0_0 i) (hc1 : cond0_1 i)
    (x0 : Vec F S2048x1024 .bf16) (x1 : Vec F S1x2048x704 .bf16) (x2 : Vec F S1x2048x704 .bf16) (xo3 : Vec F S1x704x1024 .f32) (xo5 : Vec F S1x704x1024 .f32) :
    out0_C_6 c i arg2 harg2 arg3 harg3 arg4 harg4 arg5 harg5 arg6 harg6 arg7 harg7 arg8 harg8 hc0 hc1 x0 x1 x2 xo3 xo5 = k0_pay6 (k0_pay4 x0 xo5 x2) := by
  unfold out0_C_6
  rw [View.read_writes_eq_canon _ _ _ (cover0_C_6 c i arg2 harg2 arg3 harg3 arg4 harg4 arg5 harg5 arg6 harg6 arg7 harg7 arg8 harg8 hc0 hc1 x0 x1 x2 xo3 xo5)]
  unfold kernelRun0_C
  dsimp only
  sl_unfold_words
  rw [View.canon_unit_zero hz3]
  simp only [View.readAt_eq_ld, View.readCov_unit_zero (S := S1x704x1024) _ hz3, harg2.read_unread, harg3.read_unread, harg4.read_unread, harg5.read_unread, harg6.read_unread, harg7.read_unread, harg8.read_unread, View.ld_unit_zero (S := S2048x1024) hz2, View.ld_unit_zero (S := S1x2048x704) hz3, View.ld_unit_zero (S := S1x704x1024) hz3]

variable (m : (ℓ : Loc nD τ sig) → Buf (Elt F) ℓ) (c : Dev nD)

theorem first_3 (t : Fin cfg0.N) (h0 : t.val % 4 = 0) : (outsAt0 m c t.val t.isLt).1 = k0_pay3 (iblk m c 0 t) k0_pay1 (iblk m c 1 t) := by
  have h1 : ¬t.val % 4 = 3 := by omega
  rw [outsAt0_A m c t h0 h1]; dsimp only; exact out_A_3 _ _ _ _ _ _ _ _ _ _ _ _ _ _ _ _ _ _ _ _ _

theorem next_3 (t : Fin cfg0.N) (h0 : ¬t.val % 4 = 0) : (outsAt0 m c t.val t.isLt).1 = k0_pay3 (iblk m c 0 t) (outsAt0 m c (t.val - 1) (Nat.lt_of_le_of_lt (Nat.sub_le _ _) t.isLt)).1 (iblk m c 1 t) := by
  by_cases h1 : t.val % 4 = 3
  · rw [outsAt0_C m c t h0 h1]; dsimp only; exact out_C_3 _ _ _ _ _ _ _ _ _ _ _ _ _ _ _ _ _ _ _ _ _ _ _
  · rw [outsAt0_B m c t h0 h1]; dsimp only; exact out_B_3 _ _ _ _ _ _ _ _ _ _ _ _ _ _ _ _ _ _ _ _ _ _ _

theorem last_3 (t : Fin cfg0.N) (h1 : t.val % 4 = 3) : (outsAt0 m c t.val t.isLt).2.1 = k0_pay5 (outsAt0 m c t.val t.isLt).1 := by
  have h0 : ¬t.val % 4 = 0 := by omega
  rw [next_3 m c t h0, outsAt0_C m c t h0 h1]; dsimp only; exact out_C_4 _ _ _ _ _ _ _ _ _ _ _ _ _ _ _ _ _ _ _ _ _ _ _

theorem first_5 (t : Fin cfg0.N) (h0 : t.val % 4 = 0) : (outsAt0 m c t.val t.isLt).2.2.1 = k0_pay4 (iblk m c 0 t) k0_pay2 (iblk m c 2 t) := by
  have h1 : ¬t.val % 4 = 3 := by omega
  rw [outsAt0_A m c t h0 h1]; dsimp only; exact out_A_5 _ _ _ _ _ _ _ _ _ _ _ _ _ _ _ _ _ _ _ _ _

theorem next_5 (t : Fin cfg0.N) (h0 : ¬t.val % 4 = 0) : (outsAt0 m c t.val t.isLt).2.2.1 = k0_pay4 (iblk m c 0 t) (outsAt0 m c (t.val - 1) (Nat.lt_of_le_of_lt (Nat.sub_le _ _) t.isLt)).2.2.1 (iblk m c 2 t) := by
  by_cases h1 : t.val % 4 = 3
  · rw [outsAt0_C m c t h0 h1]; dsimp only; exact out_C_5 _ _ _ _ _ _ _ _ _ _ _ _ _ _ _ _ _ _ _ _ _ _ _
  · rw [outsAt0_B m c t h0 h1]; dsimp only; exact out_B_5 _ _ _ _ _ _ _ _ _ _ _ _ _ _ _ _ _ _ _ _ _ _ _

theorem last_5 (t : Fin cfg0.N) (h1 : t.val % 4 = 3) : (outsAt0 m c t.val t.isLt).2.2.2 = k0_pay6 (outsAt0 m c t.val t.isLt).2.2.1 := by
  have h0 : ¬t.val % 4 = 0 := by omega
  rw [next_5 m c t h0, outsAt0_C m c t h0 h1]; dsimp only; exact out_C_6 _ _ _ _ _ _ _ _ _ _ _ _ _ _ _ _ _ _ _ _ _ _ _

/-! The blocks of the arguments. -/

theorem idx_0 : ∀ t : Fin cfg0.N, win0_0.index t (0 : Fin 2) = t.val % 4 ∧ win0_0.index t (1 : Fin 2) = 0 := by decide +kernel

theorem blk_0 (t : Fin cfg0.N) (z : S2048x1024.Idx) (i : S8192x1024.Idx) (h0 : (i 0).val = 2048 * (t.val % 4) + (z 0).val) (h1 : (i 1).val = (z 1).val) :
    (iblk m c 0 t : Vec F S2048x1024 .bf16) z = (m ((c.tc : Thread nD τ).loc main_arg0) : Vec F S8192x1024 .bf16) i := by
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 2) * 2048 + 1 * (z 0).val = (i 0).val; rw [(idx_0 t).1]; omega
  | ⟨1, _⟩ => show win0_0.index t (1 : Fin 2) * 1024 + 1 * (z 1).val = (i 1).val; rw [(idx_0 t).2]; omega

theorem idx_1 : ∀ t : Fin cfg0.N, win0_1.index t (0 : Fin 3) = t.val / 4 ∧ win0_1.index t (1 : Fin 3) = t.val % 4 ∧ win0_1.index t (2 : Fin 3) = 0 := by decide +kernel

theorem blk_1 (t : Fin cfg0.N) (z : S1x2048x704.Idx) (i : S4x8192x704.Idx) (h0 : (i 0).val = t.val / 4) (h1 : (i 1).val = 2048 * (t.val % 4) + (z 1).val) (h2 : (i 2).val = (z 2).val) :
    (iblk m c 1 t : Vec F S1x2048x704 .bf16) z = (m ((c.tc : Thread nD τ).loc main_arg1) : Vec F S4x8192x704 .bf16) i := by
  have hz : (z 0).val < 1 := (z 0).isLt
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 3) * 1 + 1 * (z 0).val = (i 0).val; rw [(idx_1 t).1]; omega
  | ⟨1, _⟩ => show win0_1.index t (1 : Fin 3) * 2048 + 1 * (z 1).val = (i 1).val; rw [(idx_1 t).2.1]; omega
  | ⟨2, _⟩ => show win0_1.index t (2 : Fin 3) * 704 + 1 * (z 2).val = (i 2).val; rw [(idx_1 t).2.2]; omega

theorem idx_2 : ∀ t : Fin cfg0.N, win0_2.index t (0 : Fin 3) = t.val / 4 ∧ win0_2.index t (1 : Fin 3) = t.val % 4 ∧ win0_2.index t (2 : Fin 3) = 0 := by decide +kernel

theorem blk_2 (t : Fin cfg0.N) (z : S1x2048x704.Idx) (i : S4x8192x704.Idx) (h0 : (i 0).val = t.val / 4) (h1 : (i 1).val = 2048 * (t.val % 4) + (z 1).val) (h2 : (i 2).val = (z 2).val) :
    (iblk m c 2 t : Vec F S1x2048x704 .bf16) z = (m ((c.tc : Thread nD τ).loc main_arg2) : Vec F S4x8192x704 .bf16) i := by
  have hz : (z 0).val < 1 := (z 0).isLt
  refine Eq.trans ?_ (congrFun (V_main_arg2 m c) i)
  unfold iblk
  rw [View.read_apply]
  show V m c main_arg2 _ = V m c main_arg2 i
  congr 1
  funext a
  apply Fin.ext
  match a with
  | ⟨0, _⟩ => show win0_2.index t (0 : Fin 3) * 1 + 1 * (z 0).val = (i 0).val; rw [(idx_2 t).1]; omega
  | ⟨1, _⟩ => show win0_2.index t (1 : Fin 3) * 2048 + 1 * (z 1).val = (i 1).val; rw [(idx_2 t).2.1]; omega
  | ⟨2, _⟩ => show win0_2.index t (2 : Fin 3) * 704 + 1 * (z 2).val = (i 2).val; rw [(idx_2 t).2.2]; omega

end

/-! The sums at the ideal instance. -/

section
variable (m : (ℓ : Loc nD τ sig) → Buf (Elt Ideal) ℓ) (c : Dev nD)

abbrev A0 : Vec Ideal S8192x1024 .bf16 := m ((c.tc : Thread nD τ).loc main_arg0)
abbrev X0 (t : Fin cfg0.N) : Vec Ideal S2048x1024 .bf16 := iblk m c 0 t
abbrev A1 : Vec Ideal S4x8192x704 .bf16 := m ((c.tc : Thread nD τ).loc main_arg1)
abbrev X1 (t : Fin cfg0.N) : Vec Ideal S1x2048x704 .bf16 := iblk m c 1 t
abbrev A2 : Vec Ideal S4x8192x704 .bf16 := m ((c.tc : Thread nD τ).loc main_arg2)
abbrev X2 (t : Fin cfg0.N) : Vec Ideal S1x2048x704 .bf16 := iblk m c 2 t

theorem zero_3 (i) : k0_pay1 (F := Ideal) i = 0 := by
  unfold k0_pay1
  pointwise

theorem step_3 (v : Vec Ideal S1x704x1024 .f32) (va : Vec Ideal S1x2048x704 .bf16) (vb : Vec Ideal S2048x1024 .bf16) (i) :
    k0_pay3 (F := Ideal) vb v va i = v i + ∑ x : Fin 2048, va (ix3 0 x (i 1)) * vb (ix2 x (i 2)) := by
  unfold k0_pay3
  pointwise
  all_goals done

theorem cast_3 (v : Vec Ideal S1x704x1024 .f32) (i) : k0_pay5 (F := Ideal) v i = v i := by
  unfold k0_pay5
  pointwise
  all_goals done

/-- The addend of token `x` in the gradient at `i`. -/
def term_3 (i : S4x704x1024.Idx) (x : Fin 8192) : EReal := A1 m c (ix3 (i 0) x (i 1)) * A0 m c (ix2 x (i 2))

theorem ref_3 (i : S4x704x1024.Idx) : val_main_v6 (F := Ideal) (A0 m c) (A1 m c) i = ∑ x, term_3 m c i x := by
  unfold val_main_v6 val_main_v5 val_main_v4 val_main_v1 term_3
  pointwise
  all_goals exact Finset.sum_congr rfl fun x _ => mul_comm _ _

theorem block_3 (t : Fin cfg0.N) (i : S4x704x1024.Idx) (y : S1x704x1024.Idx) (h0 : (i 0).val = t.val / 4) (h1 : (i 1).val = (y 1).val) (h2 : (i 2).val = (y 2).val) (x : Fin 2048) :
    X1 m c t (ix3 0 x (y 1)) * X0 m c t (ix2 x (y 2))
      = at0 (term_3 m c i) (2048 * (t.val % 4) + x.val) := by
  have hx : x.val < 2048 := x.isLt
  have hk : 2048 * (t.val % 4) + x.val < 8192 := by omega
  rw [at0_of_lt _ _ hk]
  unfold term_3
  refine congrArg₂ (· * ·) ?_ ?_
  · exact blk_1 m c t _ _ h0 rfl h1
  · exact blk_0 m c t _ _ rfl h2

theorem acc_3 (n : ℕ) (hn : n < cfg0.N) (i : S4x704x1024.Idx) (y : S1x704x1024.Idx) (h0 : (i 0).val = n / 4) (h1 : (i 1).val = (y 1).val) (h2 : (i 2).val = (y 2).val) :
    (outsAt0 m c n hn).1 y = ∑ k ∈ Finset.range (2048 * (n % 4 + 1)), at0 (term_3 m c i) k := by
  induction n with
  | zero =>
    refine (congrFun (first_3 m c ⟨0, hn⟩ rfl) y).trans ?_
    refine (step_3 _ _ _ y).trans ?_
    exact sum_next 2048 0 _ _ _ ((zero_3 y).trans (by simp)) fun x => block_3 m c ⟨0, hn⟩ i y h0 h1 h2 x
  | succ n ih =>
    by_cases g0 : (n + 1) % 4 = 0
    · refine (congrFun (first_3 m c ⟨n + 1, hn⟩ g0) y).trans ?_
      refine (step_3 _ _ _ y).trans ?_
      exact sum_next 2048 _ _ _ _ ((zero_3 y).trans (by rw [g0]; simp)) fun x => block_3 m c ⟨n + 1, hn⟩ i y h0 h1 h2 x
    · refine (congrFun (next_3 m c ⟨n + 1, hn⟩ g0) y).trans ?_
      refine (step_3 _ _ _ y).trans ?_
      exact sum_next 2048 _ _ _ _ ((ih (Nat.lt_of_succ_lt hn) (by omega)).trans (by rw [show n % 4 + 1 = (n + 1) % 4 by omega])) fun x => block_3 m c ⟨n + 1, hn⟩ i y h0 h1 h2 x

theorem full_3 (t : Fin cfg0.N) (h : t.val % 4 = 3) (i : S4x704x1024.Idx) (y : S1x704x1024.Idx) (h0 : (i 0).val = t.val / 4) (h1 : (i 1).val = (y 1).val) (h2 : (i 2).val = (y 2).val) :
    (outsAt0 m c t.val t.isLt).1 y = val_main_v6 (F := Ideal) (A0 m c) (A1 m c) i := by
  rw [acc_3 m c t.val t.isLt i y h0 h1 h2, ref_3, h]
  exact sum_at0 (term_3 m c i)

theorem widx_3 : ∀ t : Fin cfg0.N, win0_3.index t (0 : Fin 3) = t.val / 4 ∧ win0_3.index t (1 : Fin 3) = 0 ∧ win0_3.index t (2 : Fin 3) = 0 := by decide +kernel

theorem arr_3 : (dats m 0 c).arrAt 3 cfg0.N = val_main_v6 (F := Ideal) (A0 m c) (A1 m c) := by
  refine Dat.arrAt_eq_of_cover (dats m 0 c) 3 (val_main_v6 (F := Ideal) (A0 m c) (A1 m c)) (fun t hf => ?_) (fun i => ?_)
  · have ht : t.val % 4 = 3 := (flush0_3 t).mp hf
    rw [flushed3]
    funext y
    have hy : (y 0).val < 1 := (y 0).isLt
    rw [View.read_apply]
    refine (full_3 m c t ht _ y ?_ ?_ ?_)
    · show win0_3.index t (0 : Fin 3) * 1 + 1 * (y 0).val = t.val / 4
      rw [(widx_3 t).1]; omega
    · show win0_3.index t (1 : Fin 3) * 704 + 1 * (y 1).val = (y 1).val
      rw [(widx_3 t).2.1]; omega
    · show win0_3.index t (2 : Fin 3) * 1024 + 1 * (y 2).val = (y 2).val
      rw [(widx_3 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_3 t).mpr (by omega), ?_⟩
    have e : ((cfg0.win 3).blk t).view.emb (ix3 (0 : Fin 1) (i 1) (i 2)) = i := by
      funext a
      apply Fin.ext
      match a with
      | ⟨0, _⟩ => show win0_3.index t (0 : Fin 3) * 1 + 1 * 0 = (i 0).val; rw [(widx_3 t).1]; omega
      | ⟨1, _⟩ => show win0_3.index t (1 : Fin 3) * 704 + 1 * (i 1).val = (i 1).val; rw [(widx_3 t).2.1]; omega
      | ⟨2, _⟩ => show win0_3.index t (2 : Fin 3) * 1024 + 1 * (i 2).val = (i 2).val; rw [(widx_3 t).2.2]; omega
    exact e ▸ ((cfg0.win 3).blk t).view.emb_mem_set _

theorem widx_4 : ∀ t : Fin cfg0.N, win0_4.index t (0 : Fin 3) = t.val / 4 ∧ win0_4.index t (1 : Fin 3) = 0 ∧ win0_4.index t (2 : Fin 3) = 0 := by decide +kernel

theorem refb_3 (i : S4x704x1024.Idx) : val_main_v14 (F := Ideal) (A0 m c) (A1 m c) i = val_main_v6 (F := Ideal) (A0 m c) (A1 m c) i := by
  unfold val_main_v14
  pointwise
  all_goals done

theorem arr_4 : (dats m 0 c).arrAt 4 cfg0.N = val_main_v14 (F := Ideal) (A0 m c) (A1 m c) := by
  refine Dat.arrAt_eq_of_cover (dats m 0 c) 4 (val_main_v14 (F := Ideal) (A0 m c) (A1 m c)) (fun t hf => ?_) (fun i => ?_)
  · have ht : t.val % 4 = 3 := (flush0_4 t).mp hf
    rw [flushed4]
    funext y
    have hy : (y 0).val < 1 := (y 0).isLt
    rw [View.read_apply]
    refine ((congrFun (last_3 m c t ht) y).trans ((cast_3 _ y).trans ((full_3 m c t ht _ y ?_ ?_ ?_).trans (refb_3 m c _).symm)))
    · show win0_4.index t (0 : Fin 3) * 1 + 1 * (y 0).val = t.val / 4
      rw [(widx_4 t).1]; omega
    · show win0_4.index t (1 : Fin 3) * 704 + 1 * (y 1).val = (y 1).val
      rw [(widx_4 t).2.1]; omega
    · show win0_4.index t (2 : Fin 3) * 1024 + 1 * (y 2).val = (y 2).val
      rw [(widx_4 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_4 t).mpr (by omega), ?_⟩
    have e : ((cfg0.win 4).blk t).view.emb (ix3 (0 : Fin 1) (i 1) (i 2)) = i := by
      funext a
      apply Fin.ext
      match a with
      | ⟨0, _⟩ => show win0_4.index t (0 : Fin 3) * 1 + 1 * 0 = (i 0).val; rw [(widx_4 t).1]; omega
      | ⟨1, _⟩ => show win0_4.index t (1 : Fin 3) * 704 + 1 * (i 1).val = (i 1).val; rw [(widx_4 t).2.1]; omega
      | ⟨2, _⟩ => show win0_4.index t (2 : Fin 3) * 1024 + 1 * (i 2).val = (i 2).val; rw [(widx_4 t).2.2]; omega
    exact e ▸ ((cfg0.win 4).blk t).view.emb_mem_set _

theorem zero_5 (i) : k0_pay2 (F := Ideal) i = 0 := by
  unfold k0_pay2
  pointwise

theorem step_5 (v : Vec Ideal S1x704x1024 .f32) (va : Vec Ideal S1x2048x704 .bf16) (vb : Vec Ideal S2048x1024 .bf16) (i) :
    k0_pay4 (F := Ideal) vb v va i = v i + ∑ x : Fin 2048, va (ix3 0 x (i 1)) * vb (ix2 x (i 2)) := by
  unfold k0_pay4
  pointwise
  all_goals done

theorem cast_5 (v : Vec Ideal S1x704x1024 .f32) (i) : k0_pay6 (F := Ideal) v i = v i := by
  unfold k0_pay6
  pointwise
  all_goals done

/-- The addend of token `x` in the gradient at `i`. -/
def term_5 (i : S4x704x1024.Idx) (x : Fin 8192) : EReal := A2 m c (ix3 (i 0) x (i 1)) * A0 m c (ix2 x (i 2))

theorem ref_5 (i : S4x704x1024.Idx) : val_main_v13 (F := Ideal) (A0 m c) (A2 m c) i = ∑ x, term_5 m c i x := by
  unfold val_main_v13 val_main_v12 val_main_v11 val_main_v8 term_5
  pointwise
  all_goals exact Finset.sum_congr rfl fun x _ => mul_comm _ _

theorem block_5 (t : Fin cfg0.N) (i : S4x704x1024.Idx) (y : S1x704x1024.Idx) (h0 : (i 0).val = t.val / 4) (h1 : (i 1).val = (y 1).val) (h2 : (i 2).val = (y 2).val) (x : Fin 2048) :
    X2 m c t (ix3 0 x (y 1)) * X0 m c t (ix2 x (y 2))
      = at0 (term_5 m c i) (2048 * (t.val % 4) + x.val) := by
  have hx : x.val < 2048 := x.isLt
  have hk : 2048 * (t.val % 4) + x.val < 8192 := by omega
  rw [at0_of_lt _ _ hk]
  unfold term_5
  refine congrArg₂ (· * ·) ?_ ?_
  · exact blk_2 m c t _ _ h0 rfl h1
  · exact blk_0 m c t _ _ rfl h2

theorem acc_5 (n : ℕ) (hn : n < cfg0.N) (i : S4x704x1024.Idx) (y : S1x704x1024.Idx) (h0 : (i 0).val = n / 4) (h1 : (i 1).val = (y 1).val) (h2 : (i 2).val = (y 2).val) :
    (outsAt0 m c n hn).2.2.1 y = ∑ k ∈ Finset.range (2048 * (n % 4 + 1)), at0 (term_5 m c i) k := by
  induction n with
  | zero =>
    refine (congrFun (first_5 m c ⟨0, hn⟩ rfl) y).trans ?_
    refine (step_5 _ _ _ y).trans ?_
    exact sum_next 2048 0 _ _ _ ((zero_5 y).trans (by simp)) fun x => block_5 m c ⟨0, hn⟩ i y h0 h1 h2 x
  | succ n ih =>
    by_cases g0 : (n + 1) % 4 = 0
    · refine (congrFun (first_5 m c ⟨n + 1, hn⟩ g0) y).trans ?_
      refine (step_5 _ _ _ y).trans ?_
      exact sum_next 2048 _ _ _ _ ((zero_5 y).trans (by rw [g0]; simp)) fun x => block_5 m c ⟨n + 1, hn⟩ i y h0 h1 h2 x
    · refine (congrFun (next_5 m c ⟨n + 1, hn⟩ g0) y).trans ?_
      refine (step_5 _ _ _ y).trans ?_
      exact sum_next 2048 _ _ _ _ ((ih (Nat.lt_of_succ_lt hn) (by omega)).trans (by rw [show n % 4 + 1 = (n + 1) % 4 by omega])) fun x => block_5 m c ⟨n + 1, hn⟩ i y h0 h1 h2 x

theorem full_5 (t : Fin cfg0.N) (h : t.val % 4 = 3) (i : S4x704x1024.Idx) (y : S1x704x1024.Idx) (h0 : (i 0).val = t.val / 4) (h1 : (i 1).val = (y 1).val) (h2 : (i 2).val = (y 2).val) :
    (outsAt0 m c t.val t.isLt).2.2.1 y = val_main_v13 (F := Ideal) (A0 m c) (A2 m c) i := by
  rw [acc_5 m c t.val t.isLt i y h0 h1 h2, ref_5, h]
  exact sum_at0 (term_5 m c i)

theorem widx_5 : ∀ t : Fin cfg0.N, win0_5.index t (0 : Fin 3) = t.val / 4 ∧ win0_5.index t (1 : Fin 3) = 0 ∧ win0_5.index t (2 : Fin 3) = 0 := by decide +kernel

theorem arr_5 : (dats m 0 c).arrAt 5 cfg0.N = val_main_v13 (F := Ideal) (A0 m c) (A2 m c) := by
  refine Dat.arrAt_eq_of_cover (dats m 0 c) 5 (val_main_v13 (F := Ideal) (A0 m c) (A2 m c)) (fun t hf => ?_) (fun i => ?_)
  · have ht : t.val % 4 = 3 := (flush0_5 t).mp hf
    rw [flushed5]
    funext y
    have hy : (y 0).val < 1 := (y 0).isLt
    rw [View.read_apply]
    refine (full_5 m c t ht _ y ?_ ?_ ?_)
    · show win0_5.index t (0 : Fin 3) * 1 + 1 * (y 0).val = t.val / 4
      rw [(widx_5 t).1]; omega
    · show win0_5.index t (1 : Fin 3) * 704 + 1 * (y 1).val = (y 1).val
      rw [(widx_5 t).2.1]; omega
    · show win0_5.index t (2 : Fin 3) * 1024 + 1 * (y 2).val = (y 2).val
      rw [(widx_5 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_5 t).mpr (by omega), ?_⟩
    have e : ((cfg0.win 5).blk t).view.emb (ix3 (0 : Fin 1) (i 1) (i 2)) = i := by
      funext a
      apply Fin.ext
      match a with
      | ⟨0, _⟩ => show win0_5.index t (0 : Fin 3) * 1 + 1 * 0 = (i 0).val; rw [(widx_5 t).1]; omega
      | ⟨1, _⟩ => show win0_5.index t (1 : Fin 3) * 704 + 1 * (i 1).val = (i 1).val; rw [(widx_5 t).2.1]; omega
      | ⟨2, _⟩ => show win0_5.index t (2 : Fin 3) * 1024 + 1 * (i 2).val = (i 2).val; rw [(widx_5 t).2.2]; omega
    exact e ▸ ((cfg0.win 5).blk t).view.emb_mem_set _

theorem widx_6 : ∀ t : Fin cfg0.N, win0_6.index t (0 : Fin 3) = t.val / 4 ∧ win0_6.index t (1 : Fin 3) = 0 ∧ win0_6.index t (2 : Fin 3) = 0 := by decide +kernel

theorem refb_5 (i : S4x704x1024.Idx) : val_main_v15 (F := Ideal) (A0 m c) (A2 m c) i = val_main_v13 (F := Ideal) (A0 m c) (A2 m c) i := by
  unfold val_main_v15
  pointwise
  all_goals done

theorem arr_6 : (dats m 0 c).arrAt 6 cfg0.N = val_main_v15 (F := Ideal) (A0 m c) (A2 m c) := by
  refine Dat.arrAt_eq_of_cover (dats m 0 c) 6 (val_main_v15 (F := Ideal) (A0 m c) (A2 m c)) (fun t hf => ?_) (fun i => ?_)
  · have ht : t.val % 4 = 3 := (flush0_6 t).mp hf
    rw [flushed6]
    funext y
    have hy : (y 0).val < 1 := (y 0).isLt
    rw [View.read_apply]
    refine ((congrFun (last_5 m c t ht) y).trans ((cast_5 _ y).trans ((full_5 m c t ht _ y ?_ ?_ ?_).trans (refb_5 m c _).symm)))
    · show win0_6.index t (0 : Fin 3) * 1 + 1 * (y 0).val = t.val / 4
      rw [(widx_6 t).1]; omega
    · show win0_6.index t (1 : Fin 3) * 704 + 1 * (y 1).val = (y 1).val
      rw [(widx_6 t).2.1]; omega
    · show win0_6.index t (2 : Fin 3) * 1024 + 1 * (y 2).val = (y 2).val
      rw [(widx_6 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_6 t).mpr (by omega), ?_⟩
    have e : ((cfg0.win 6).blk t).view.emb (ix3 (0 : Fin 1) (i 1) (i 2)) = i := by
      funext a
      apply Fin.ext
      match a with
      | ⟨0, _⟩ => show win0_6.index t (0 : Fin 3) * 1 + 1 * 0 = (i 0).val; rw [(widx_6 t).1]; omega
      | ⟨1, _⟩ => show win0_6.index t (1 : Fin 3) * 704 + 1 * (i 1).val = (i 1).val; rw [(widx_6 t).2.1]; omega
      | ⟨2, _⟩ => show win0_6.index t (2 : Fin 3) * 1024 + 1 * (i 2).val = (i 2).val; rw [(widx_6 t).2.2]; omega
    exact e ▸ ((cfg0.win 6).blk t).view.emb_mem_set _

end

theorem algebraic : Cert.algebraic_PairIdeal_PairRefIdeal := by
  intro m g m' g' _ hag
  refine ⟨fun c => (dats m 0 c).arrAt 3 cfg0.N, fun c => (dats m 0 c).arrAt 4 cfg0.N, fun c => (dats m 0 c).arrAt 5 cfg0.N, fun c => (dats m 0 c).arrAt 6 cfg0.N, run_blocks m g, ?_⟩
  refine (θ_run Cert.PairRefIdeal.defs _ _).mono (fun r h c => ?_) (Cert.PairRefIdeal.Value.run m' g')
  obtain ⟨h0, h1, h2, h3, hargs⟩ := h c
  obtain ⟨a0, a1, a2⟩ := hag c
  refine ⟨(h0.trans (by rw [a0, a1]; rfl)).trans (arr_3 m c).symm, (h1.trans (by rw [a0, a1]; rfl)).trans (arr_4 m c).symm, (h2.trans (by rw [a0, a2]; rfl)).trans (arr_5 m c).symm, (h3.trans (by rw [a0, a2]; rfl)).trans (arr_6 m c).symm, hargs⟩

/-- The reference leaves its arguments as they were; it declares no semaphore. -/
theorem frame_reference : Cert.quiescent_PairRefIdeal := fun m ρ _ =>
  (θ_run Cert.PairRefIdeal.defs _ _).mono
    (fun r h => ⟨fun c => by obtain ⟨_, _, _, _, hargs⟩ := h c; exact hargs,
      Idealize.ShloMosaic.sem_eq_zero_of_no_sems (by decide) r.2⟩)
    (Cert.PairRefIdeal.Value.run (F := Ideal) m ρ)

end Cert.PairIdeal.Val

end
-- ==== Proof.WinValue.lean ====
/- The gradient of the input projection: the blocks of 2048 tokens accumulate to the whole product. -/
module

public import proofs.«01_k».proof.Defs
public import proofs.«01_k».proof.Proof.Sums
public import proofs.«01_k».proof.Proof.Gen.WinIdeal.Value
public import proofs.«01_k».proof.Proof.Gen.WinRefIdeal.Run
public import proofs.«01_k».proof.Proof.Gen.WinRefIdeal.Read
public import Idealize.ShloMosaic.Lib.WritesUnit
public import Idealize.ShloMosaic.Lib.Tactic

@[expose] public section

set_option maxRecDepth 16384

noncomputable section

namespace Cert.WinIdeal.Val

open Cert.WinIdeal Cert.WinIdeal.Gen Cert.WinIdeal.Value Idealize.ShloMosaic Idealize.ShloMosaic.TcCoe Idealize.SL.Sem Cert.Sums
open Idealize.ShloMosaic.Pipeline (Dat)
open Cert.WinRefIdeal.Read

/-! What one point leaves in its output blocks. -/

section
variable {F : FTy → Type} [FloatOps F]

theorem out_A_2 (c : Dev nD) (i : grid0.Coords) (arg2 : Memref sig .tc .vmem S2048x1024 .bf16) (harg2 : arg2.IsWhole) (arg3 : Memref sig .tc .vmem S2048x1792 .bf16) (harg3 : arg3.IsWhole) (arg4 : Memref sig .tc .vmem S1x1024x1792 .f32) (harg4 : arg4.IsWhole) (arg5 : Memref sig .tc .vmem S1x1024x1792 .bf16) (harg5 : arg5.IsWhole) (hc0 : cond0_0 i) (hc1 : ¬cond0_1 i)
    (x0 : Vec F S2048x1024 .bf16) (x1 : Vec F S2048x1792 .bf16) :
    out0_A_2 c i arg2 harg2 arg3 harg3 arg4 harg4 arg5 harg5 hc0 hc1 x0 x1 = k0_pay2 (k0_pay1 (F := F)) x0 x1 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_cons_unit_zero hz3]
  simp only [View.readAt_eq_ld, View.readCov_unit_zero (S := S1x1024x1792) _ hz3, harg2.read_unread, harg3.read_unread, harg4.read_unread, harg5.read_unread, View.ld_unit_zero (S := S2048x1024) hz2, View.ld_unit_zero (S := S2048x1792) hz2, View.ld_unit_zero (S := S1x1024x1792) hz3]

theorem out_B_2 (c : Dev nD) (i : grid0.Coords) (arg2 : Memref sig .tc .vmem S2048x1024 .bf16) (harg2 : arg2.IsWhole) (arg3 : Memref sig .tc .vmem S2048x1792 .bf16) (harg3 : arg3.IsWhole) (arg4 : Memref sig .tc .vmem S1x1024x1792 .f32) (harg4 : arg4.IsWhole) (arg5 : Memref sig .tc .vmem S1x1024x1792 .bf16) (harg5 : arg5.IsWhole) (hc0 : ¬cond0_0 i) (hc1 : ¬cond0_1 i)
    (x0 : Vec F S2048x1024 .bf16) (x1 : Vec F S2048x1792 .bf16) (xo2 : Vec F S1x1024x1792 .f32) :
    out0_B_2 c i arg2 harg2 arg3 harg3 arg4 harg4 arg5 harg5 hc0 hc1 x0 x1 xo2 = k0_pay2 xo2 x0 x1 := by
  unfold out0_B_2
  rw [View.read_writes_eq_canon _ _ _ (cover0_B_2 c i arg2 harg2 arg3 harg3 arg4 harg4 arg5 harg5 hc0 hc1 x0 x1 xo2)]
  unfold kernelRun0_B
  dsimp only
  sl_unfold_words
  rw [View.canon_unit_zero hz3]
  simp only [View.readAt_eq_ld, View.readCov_unit_zero (S := S1x1024x1792) _ hz3, harg2.read_unread, harg3.read_unread, harg4.read_unread, harg5.read_unread, View.ld_unit_zero (S := S2048x1024) hz2, View.ld_unit_zero (S := S2048x1792) hz2, View.ld_unit_zero (S := S1x1024x1792) hz3]

theorem out_C_2 (c : Dev nD) (i : grid0.Coords) (arg2 : Memref sig .tc .vmem S2048x1024 .bf16) (harg2 : arg2.IsWhole) (arg3 : Memref sig .tc .vmem S2048x1792 .bf16) (harg3 : arg3.IsWhole) (arg4 : Memref sig .tc .vmem S1x1024x1792 .f32) (harg4 : arg4.IsWhole) (arg5 : Memref sig .tc .vmem S1x1024x1792 .bf16) (harg5 : arg5.IsWhole) (hc0 : ¬cond0_0 i) (hc1 : cond0_1 i)
    (x0 : Vec F S2048x1024 .bf16) (x1 : Vec F S2048x1792 .bf16) (xo2 : Vec F S1x1024x1792 .f32) :
    out0_C_2 c i arg2 harg2 arg3 harg3 arg4 harg4 arg5 harg5 hc0 hc1 x0 x1 xo2 = k0_pay2 xo2 x0 x1 := by
  unfold out0_C_2
  rw [View.read_writes_eq_canon _ _ _ (cover0_C_2 c i arg2 harg2 arg3 harg3 arg4 harg4 arg5 harg5 hc0 hc1 x0 x1 xo2)]
  unfold kernelRun0_C
  dsimp only
  sl_unfold_words
  rw [View.canon_unit_zero hz3]
  simp only [View.readAt_eq_ld, View.readCov_unit_zero (S := S1x1024x1792) _ hz3, harg2.read_unread, harg3.read_unread, harg4.read_unread, harg5.read_unread, View.ld_unit_zero (S := S2048x1024) hz2, View.ld_unit_zero (S := S2048x1792) hz2, View.ld_unit_zero (S := S1x1024x1792) hz3]

theorem out_C_3 (c : Dev nD) (i : grid0.Coords) (arg2 : Memref sig .tc .vmem S2048x1024 .bf16) (harg2 : arg2.IsWhole) (arg3 : Memref sig .tc .vmem S2048x1792 .bf16) (harg3 : arg3.IsWhole) (arg4 : Memref sig .tc .vmem S1x1024x1792 .f32) (harg4 : arg4.IsWhole) (arg5 : Memref sig .tc .vmem S1x1024x1792 .bf16) (harg5 : arg5.IsWhole) (hc0 : ¬cond0_0 i) (hc1 : cond0_1 i)
    (x0 : Vec F S2048x1024 .bf16) (x1 : Vec F S2048x1792 .bf16) (xo2 : Vec F S1x1024x1792 .f32) :
    out0_C_3 c i arg2 harg2 arg3 harg3 arg4 harg4 arg5 harg5 hc0 hc1 x0 x1 xo2 = k0_pay3 (k0_pay2 xo2 x0 x1) := by
  unfold out0_C_3
  rw [View.read_writes_eq_canon _ _ _ (cover0_C_3 c i arg2 harg2 arg3 harg3 arg4 harg4 arg5 harg5 hc0 hc1 x0 x1 xo2)]
  unfold kernelRun0_C
  dsimp only
  sl_unfold_words
  rw [View.canon_unit_zero hz3]
  simp only [View.readAt_eq_ld, View.readCov_unit_zero (S := S1x1024x1792) _ hz3, harg2.read_unread, harg3.read_unread, harg4.read_unread, harg5.read_unread, View.ld_unit_zero (S := S2048x1024) hz2, View.ld_unit_zero (S := S2048x1792) hz2, View.ld_unit_zero (S := S1x1024x1792) hz3]

variable (m : (ℓ : Loc nD τ sig) → Buf (Elt F) ℓ) (c : Dev nD)

theorem first_2 (t : Fin cfg0.N) (h0 : t.val % 4 = 0) : (outsAt0 m c t.val t.isLt).1 = k0_pay2 k0_pay1 (iblk m c 0 t) (iblk m c 1 t) := by
  have h1 : ¬t.val % 4 = 3 := by omega
  rw [outsAt0_A m c t h0 h1]; dsimp only; exact out_A_2 _ _ _ _ _ _ _ _ _ _ _ _ _ _

theorem next_2 (t : Fin cfg0.N) (h0 : ¬t.val % 4 = 0) : (outsAt0 m c t.val t.isLt).1 = k0_pay2 (outsAt0 m c (t.val - 1) (Nat.lt_of_le_of_lt (Nat.sub_le _ _) t.isLt)).1 (iblk m c 0 t) (iblk m c 1 t) := by
  by_cases h1 : t.val % 4 = 3
  · rw [outsAt0_C m c t h0 h1]; dsimp only; exact out_C_2 _ _ _ _ _ _ _ _ _ _ _ _ _ _ _
  · rw [outsAt0_B m c t h0 h1]; dsimp only; exact out_B_2 _ _ _ _ _ _ _ _ _ _ _ _ _ _ _

theorem last_2 (t : Fin cfg0.N) (h1 : t.val % 4 = 3) : (outsAt0 m c t.val t.isLt).2 = k0_pay3 (outsAt0 m c t.val t.isLt).1 := by
  have h0 : ¬t.val % 4 = 0 := by omega
  rw [next_2 m c t h0, outsAt0_C m c t h0 h1]; dsimp only; exact out_C_3 _ _ _ _ _ _ _ _ _ _ _ _ _ _ _

/-! The blocks of the arguments. -/

theorem idx_0 : ∀ t : Fin cfg0.N, win0_0.index t (0 : Fin 2) = t.val % 4 ∧ win0_0.index t (1 : Fin 2) = 0 := by decide +kernel

theorem blk_0 (t : Fin cfg0.N) (z : S2048x1024.Idx) (i : S8192x1024.Idx) (h0 : (i 0).val = 2048 * (t.val % 4) + (z 0).val) (h1 : (i 1).val = (z 1).val) :
    (iblk m c 0 t : Vec F S2048x1024 .bf16) z = (m ((c.tc : Thread nD τ).loc main_arg0) : Vec F S8192x1024 .bf16) i := by
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 2) * 2048 + 1 * (z 0).val = (i 0).val; rw [(idx_0 t).1]; omega
  | ⟨1, _⟩ => show win0_0.index t (1 : Fin 2) * 1024 + 1 * (z 1).val = (i 1).val; rw [(idx_0 t).2]; omega

theorem idx_1 : ∀ t : Fin cfg0.N, win0_1.index t (0 : Fin 2) = t.val % 4 ∧ win0_1.index t (1 : Fin 2) = t.val / 4 := by decide +kernel

theorem blk_1 (t : Fin cfg0.N) (z : S2048x1792.Idx) (i : S8192x7168.Idx) (h0 : (i 0).val = 2048 * (t.val % 4) + (z 0).val) (h1 : (i 1).val = 1792 * (t.val / 4) + (z 1).val) :
    (iblk m c 1 t : Vec F S2048x1792 .bf16) z = (m ((c.tc : Thread nD τ).loc main_arg1) : Vec F S8192x7168 .bf16) i := by
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 2) * 2048 + 1 * (z 0).val = (i 0).val; rw [(idx_1 t).1]; omega
  | ⟨1, _⟩ => show win0_1.index t (1 : Fin 2) * 1792 + 1 * (z 1).val = (i 1).val; rw [(idx_1 t).2]; omega

end

/-! The sums at the ideal instance. -/

section
variable (m : (ℓ : Loc nD τ sig) → Buf (Elt Ideal) ℓ) (c : Dev nD)

abbrev A0 : Vec Ideal S8192x1024 .bf16 := m ((c.tc : Thread nD τ).loc main_arg0)
abbrev X0 (t : Fin cfg0.N) : Vec Ideal S2048x1024 .bf16 := iblk m c 0 t
abbrev A1 : Vec Ideal S8192x7168 .bf16 := m ((c.tc : Thread nD τ).loc main_arg1)
abbrev X1 (t : Fin cfg0.N) : Vec Ideal S2048x1792 .bf16 := iblk m c 1 t

/-- Column `q` of the `j`-th part of the projections' cotangent. -/
def col (j : Fin 4) (q : Fin 1792) : Fin 7168 := ⟨j.val * 1792 + q.val, by omega⟩

theorem zero_2 (i) : k0_pay1 (F := Ideal) i = 0 := by
  unfold k0_pay1
  pointwise

theorem step_2 (v : Vec Ideal S1x1024x1792 .f32) (va : Vec Ideal S2048x1024 .bf16) (vb : Vec Ideal S2048x1792 .bf16) (i) :
    k0_pay2 (F := Ideal) v va vb i = v i + ∑ x : Fin 2048, va (ix2 x (i 1)) * vb (ix2 x (i 2)) := by
  unfold k0_pay2
  pointwise
  all_goals done

theorem cast_2 (v : Vec Ideal S1x1024x1792 .f32) (i) : k0_pay3 (F := Ideal) v i = v i := by
  unfold k0_pay3
  pointwise
  all_goals done

/-- The addend of token `x` in the gradient at `i`. -/
def term_2 (i : S4x1024x1792.Idx) (x : Fin 8192) : EReal := A0 m c (ix2 x (i 1)) * A1 m c (ix2 x (col (i 0) (i 2)))

theorem ref_2 (i : S4x1024x1792.Idx) : val_main_v7 (F := Ideal) (A0 m c) (A1 m c) i = ∑ x, term_2 m c i x := by
  unfold val_main_v7 val_main_v6 val_main_v5 val_main_v1 val_main_v4 term_2
  pointwise
  all_goals exact Finset.sum_congr rfl fun x _ => mul_comm _ _

theorem block_2 (t : Fin cfg0.N) (i : S4x1024x1792.Idx) (y : S1x1024x1792.Idx) (h0 : (i 0).val = t.val / 4) (h1 : (i 1).val = (y 1).val) (h2 : (i 2).val = (y 2).val) (x : Fin 2048) :
    X0 m c t (ix2 x (y 1)) * X1 m c t (ix2 x (y 2))
      = at0 (term_2 m c i) (2048 * (t.val % 4) + x.val) := by
  have hx : x.val < 2048 := x.isLt
  have hk : 2048 * (t.val % 4) + x.val < 8192 := by omega
  rw [at0_of_lt _ _ hk]
  unfold term_2
  refine congrArg₂ (· * ·) ?_ ?_
  · exact blk_0 m c t _ _ rfl h1
  · exact blk_1 m c t _ _ rfl (by show (i 0).val * 1792 + (i 2).val = 1792 * (t.val / 4) + (y 2).val; omega)

theorem acc_2 (n : ℕ) (hn : n < cfg0.N) (i : S4x1024x1792.Idx) (y : S1x1024x1792.Idx) (h0 : (i 0).val = n / 4) (h1 : (i 1).val = (y 1).val) (h2 : (i 2).val = (y 2).val) :
    (outsAt0 m c n hn).1 y = ∑ k ∈ Finset.range (2048 * (n % 4 + 1)), at0 (term_2 m c i) k := by
  induction n with
  | zero =>
    refine (congrFun (first_2 m c ⟨0, hn⟩ rfl) y).trans ?_
    refine (step_2 _ _ _ y).trans ?_
    exact sum_next 2048 0 _ _ _ ((zero_2 y).trans (by simp)) fun x => block_2 m c ⟨0, hn⟩ i y h0 h1 h2 x
  | succ n ih =>
    by_cases g0 : (n + 1) % 4 = 0
    · refine (congrFun (first_2 m c ⟨n + 1, hn⟩ g0) y).trans ?_
      refine (step_2 _ _ _ y).trans ?_
      exact sum_next 2048 _ _ _ _ ((zero_2 y).trans (by rw [g0]; simp)) fun x => block_2 m c ⟨n + 1, hn⟩ i y h0 h1 h2 x
    · refine (congrFun (next_2 m c ⟨n + 1, hn⟩ g0) y).trans ?_
      refine (step_2 _ _ _ y).trans ?_
      exact sum_next 2048 _ _ _ _ ((ih (Nat.lt_of_succ_lt hn) (by omega)).trans (by rw [show n % 4 + 1 = (n + 1) % 4 by omega])) fun x => block_2 m c ⟨n + 1, hn⟩ i y h0 h1 h2 x

theorem full_2 (t : Fin cfg0.N) (h : t.val % 4 = 3) (i : S4x1024x1792.Idx) (y : S1x1024x1792.Idx) (h0 : (i 0).val = t.val / 4) (h1 : (i 1).val = (y 1).val) (h2 : (i 2).val = (y 2).val) :
    (outsAt0 m c t.val t.isLt).1 y = val_main_v7 (F := Ideal) (A0 m c) (A1 m c) i := by
  rw [acc_2 m c t.val t.isLt i y h0 h1 h2, ref_2, h]
  exact sum_at0 (term_2 m c i)

theorem widx_2 : ∀ t : Fin cfg0.N, win0_2.index t (0 : Fin 3) = t.val / 4 ∧ win0_2.index t (1 : Fin 3) = 0 ∧ win0_2.index t (2 : Fin 3) = 0 := by decide +kernel

theorem arr_2 : (dats m 0 c).arrAt 2 cfg0.N = val_main_v7 (F := Ideal) (A0 m c) (A1 m c) := by
  refine Dat.arrAt_eq_of_cover (dats m 0 c) 2 (val_main_v7 (F := Ideal) (A0 m c) (A1 m c)) (fun t hf => ?_) (fun i => ?_)
  · have ht : t.val % 4 = 3 := (flush0_2 t).mp hf
    rw [flushed2]
    funext y
    have hy : (y 0).val < 1 := (y 0).isLt
    rw [View.read_apply]
    refine (full_2 m c t ht _ y ?_ ?_ ?_)
    · show win0_2.index t (0 : Fin 3) * 1 + 1 * (y 0).val = t.val / 4
      rw [(widx_2 t).1]; omega
    · show win0_2.index t (1 : Fin 3) * 1024 + 1 * (y 1).val = (y 1).val
      rw [(widx_2 t).2.1]; omega
    · show win0_2.index t (2 : Fin 3) * 1792 + 1 * (y 2).val = (y 2).val
      rw [(widx_2 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_2 t).mpr (by omega), ?_⟩
    have e : ((cfg0.win 2).blk t).view.emb (ix3 (0 : Fin 1) (i 1) (i 2)) = i := by
      funext a
      apply Fin.ext
      match a with
      | ⟨0, _⟩ => show win0_2.index t (0 : Fin 3) * 1 + 1 * 0 = (i 0).val; rw [(widx_2 t).1]; omega
      | ⟨1, _⟩ => show win0_2.index t (1 : Fin 3) * 1024 + 1 * (i 1).val = (i 1).val; rw [(widx_2 t).2.1]; omega
      | ⟨2, _⟩ => show win0_2.index t (2 : Fin 3) * 1792 + 1 * (i 2).val = (i 2).val; rw [(widx_2 t).2.2]; omega
    exact e ▸ ((cfg0.win 2).blk t).view.emb_mem_set _

theorem widx_3 : ∀ t : Fin cfg0.N, win0_3.index t (0 : Fin 3) = t.val / 4 ∧ win0_3.index t (1 : Fin 3) = 0 ∧ win0_3.index t (2 : Fin 3) = 0 := by decide +kernel

theorem refb_2 (i : S4x1024x1792.Idx) : val_main_v8 (F := Ideal) (A0 m c) (A1 m c) i = val_main_v7 (F := Ideal) (A0 m c) (A1 m c) i := by
  unfold val_main_v8
  pointwise
  all_goals done

theorem arr_3 : (dats m 0 c).arrAt 3 cfg0.N = val_main_v8 (F := Ideal) (A0 m c) (A1 m c) := by
  refine Dat.arrAt_eq_of_cover (dats m 0 c) 3 (val_main_v8 (F := Ideal) (A0 m c) (A1 m c)) (fun t hf => ?_) (fun i => ?_)
  · have ht : t.val % 4 = 3 := (flush0_3 t).mp hf
    rw [flushed3]
    funext y
    have hy : (y 0).val < 1 := (y 0).isLt
    rw [View.read_apply]
    refine ((congrFun (last_2 m c t ht) y).trans ((cast_2 _ y).trans ((full_2 m c t ht _ y ?_ ?_ ?_).trans (refb_2 m c _).symm)))
    · show win0_3.index t (0 : Fin 3) * 1 + 1 * (y 0).val = t.val / 4
      rw [(widx_3 t).1]; omega
    · show win0_3.index t (1 : Fin 3) * 1024 + 1 * (y 1).val = (y 1).val
      rw [(widx_3 t).2.1]; omega
    · show win0_3.index t (2 : Fin 3) * 1792 + 1 * (y 2).val = (y 2).val
      rw [(widx_3 t).2.2]; omega
  · have hi0 : (i 0).val < 4 := (i 0).isLt
    obtain ⟨t, ht⟩ : ∃ t : Fin cfg0.N, t.val = 4 * (i 0).val + 3 := ⟨⟨4 * (i 0).val + 3, lt_of_lt_of_eq (by omega) N_0.symm⟩, rfl⟩
    refine ⟨t, (flush0_3 t).mpr (by omega), ?_⟩
    have e : ((cfg0.win 3).blk t).view.emb (ix3 (0 : Fin 1) (i 1) (i 2)) = i := by
      funext a
      apply Fin.ext
      match a with
      | ⟨0, _⟩ => show win0_3.index t (0 : Fin 3) * 1 + 1 * 0 = (i 0).val; rw [(widx_3 t).1]; omega
      | ⟨1, _⟩ => show win0_3.index t (1 : Fin 3) * 1024 + 1 * (i 1).val = (i 1).val; rw [(widx_3 t).2.1]; omega
      | ⟨2, _⟩ => show win0_3.index t (2 : Fin 3) * 1792 + 1 * (i 2).val = (i 2).val; rw [(widx_3 t).2.2]; omega
    exact e ▸ ((cfg0.win 3).blk t).view.emb_mem_set _

end

theorem algebraic : Cert.algebraic_WinIdeal_WinRefIdeal := by
  intro m g m' g' _ hag
  refine ⟨fun c => (dats m 0 c).arrAt 2 cfg0.N, fun c => (dats m 0 c).arrAt 3 cfg0.N, run_blocks m g, ?_⟩
  refine (θ_run Cert.WinRefIdeal.defs _ _).mono (fun r h c => ?_) (Cert.WinRefIdeal.Value.run m' g')
  obtain ⟨h0, h1, hargs⟩ := h c
  obtain ⟨a0, a1⟩ := hag c
  refine ⟨(h0.trans (by rw [a0, a1]; rfl)).trans (arr_2 m c).symm, (h1.trans (by rw [a0, a1]; rfl)).trans (arr_3 m c).symm, hargs⟩

/-- The reference leaves its arguments as they were; it declares no semaphore. -/
theorem frame_reference : Cert.quiescent_WinRefIdeal := fun m ρ _ =>
  (θ_run Cert.WinRefIdeal.defs _ _).mono
    (fun r h => ⟨fun c => by obtain ⟨_, _, hargs⟩ := h c; exact hargs,
      Idealize.ShloMosaic.sem_eq_zero_of_no_sems (by decide) r.2⟩)
    (Cert.WinRefIdeal.Value.run (F := Ideal) m ρ)

end Cert.WinIdeal.Val

end
-- ==== Proof.RmsBwd.lean ====
/- The backward pass of a root-mean-square normalisation, one row: the row formula the kernels leave is the gradient, infinite entries included. -/
module

public import proofs.«01_k».proof.Proof.Sums
public import Idealize.ShloMosaic.Lib.Pointwise
public import Idealize.ShloMosaic.Lib.Tactic

@[expose] public section

set_option maxRecDepth 16384

noncomputable section

namespace Cert.RmsBwd

open Idealize.ShloMosaic

/-- The width of a row, as the programs' constant. -/
def cc : EReal := Ideal.ofBits FTy.f32 1149239296#32
/-- The constant added to the mean square. -/
def ee : EReal := Ideal.ofBits FTy.f32 897988541#32
/-- The exponent of the inverse root. -/
def hh : EReal := Ideal.ofBits FTy.f32 3204448256#32

theorem cc_eq : cc = ((1024 : ℝ) : EReal) := by
  unfold cc
  simp [Ideal.ofBits, Ideal.ieee, -EReal.coe_mul]; norm_num

theorem hh_eq : hh = ((-(1 / 2) : ℝ) : EReal) := by
  unfold hh
  simp [Ideal.ofBits, Ideal.ieee, -EReal.coe_mul]; norm_num

theorem ee_pos : ∃ r : ℝ, 0 < r ∧ ee = (r : EReal) := by
  unfold ee
  refine ⟨_, ?_, by simp [Ideal.ofBits, Ideal.ieee, -EReal.coe_mul]; rfl⟩
  norm_num

/-- The mean square of a row, with the constant added. -/
def var (x : Fin 1024 → EReal) : EReal := Ideal.div (∑ q, x q * x q) cc + ee
/-- Its inverse root. -/
def rinv (x : Fin 1024 → EReal) : EReal := Ideal.rsqrt (var x)
/-- What the kernels leave of a row: `a` the cotangent of the scaled row, `x` the row, `g` the scale, `d` what is added. -/
def tile (a x g : Fin 1024 → EReal) (d : EReal) (q : Fin 1024) : EReal :=
  d + rinv x * (a q * g q - x q * rinv x * Ideal.div (∑ p, a p * g p * (x p * rinv x)) cc)
/-- The cotangent of the square of a row's element, over the element. -/
def coef (a x g : Fin 1024 → EReal) : EReal :=
  ∑ _p : Fin 1, Ideal.div ((∑ p, x p * (a p * g p)) * (hh * Ideal.div (rinv x) (var x))) cc
/-- The gradient of a row. -/
def spec (a x g : Fin 1024 → EReal) (d : EReal) (q : Fin 1024) : EReal :=
  d + a q * g q * rinv x + x q * coef a x g + coef a x g * x q

theorem coe_sum {n : ℕ} (f : Fin n → ℝ) : (((∑ i, f i : ℝ)) : EReal) = ∑ i, ((f i : ℝ) : EReal) := by
  induction n with
  | zero => simp
  | succ n ih => rw [Fin.sum_univ_succ, Fin.sum_univ_succ, EReal.coe_add, ih]

theorem sum_mul_real {n : ℕ} (f : Fin n → EReal) {r : ℝ} (hr : 0 ≤ r) : (∑ p, f p) * (r : EReal) = ∑ p, f p * (r : EReal) := by
  induction n with
  | zero => simp
  | succ n ih =>
    rw [Fin.sum_univ_succ, Fin.sum_univ_succ, EReal.right_distrib_of_nonneg_of_ne_top (by exact_mod_cast hr) (EReal.coe_ne_top r), ih]

/-- Two halves of a multiple of one extended real. -/
theorem halves (s : EReal) (w : ℝ) : s * (w : EReal) + s * (w : EReal) = s * ((2 * w : ℝ) : EReal) := by
  induction s with
  | coe s => norm_cast; ring
  | top =>
    rcases lt_trichotomy w 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy w 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem row_core (A S : EReal) (x v r : ℝ) (hr : 0 < r) (hrv : r * r * v = 1) (hv : v ≠ 0) :
    (r : EReal) * (A - (x : EReal) * (r : EReal) * (S * (r : EReal) * ((1 / 1024 : ℝ) : EReal)))
      = A * (r : EReal) + ((x : EReal) * (S * ((-(1 / 2) * (r * (1 / v)) : ℝ) : EReal) * ((1 / 1024 : ℝ) : EReal))
        + S * ((-(1 / 2) * (r * (1 / v)) : ℝ) : EReal) * ((1 / 1024 : ℝ) : EReal) * (x : EReal)) := by
  have hv' : 1 / v = r * r := by field_simp; linarith
  have e1 : (x : EReal) * (r : EReal) * (S * (r : EReal) * ((1 / 1024 : ℝ) : EReal)) = S * ((x * r * r * (1 / 1024) : ℝ) : EReal) := by
    rw [mul_assoc S, mul_left_comm]; simp only [← EReal.coe_mul]; congr 2; ring
  have e2 : (x : EReal) * (S * ((-(1 / 2) * (r * (1 / v)) : ℝ) : EReal) * ((1 / 1024 : ℝ) : EReal)) = S * ((-(1 / 2) * (x * r * r * (1 / 1024) * r) : ℝ) : EReal) := by
    rw [hv', mul_assoc S, mul_left_comm]; simp only [← EReal.coe_mul]; congr 2; ring
  rw [mul_comm (S * _ * _) (x : EReal), e1, e2, halves, sub_eq_add_neg,
    EReal.left_distrib_of_nonneg_of_ne_top (by exact_mod_cast hr.le) (EReal.coe_ne_top r), mul_comm (r : EReal) A, mul_comm (r : EReal) (-_), ← mul_neg, ← EReal.coe_neg, mul_assoc S, ← EReal.coe_mul]
  congr 3; ring

theorem sq_nonneg' (a : EReal) : 0 ≤ a * a := by
  induction a with
  | coe a => exact_mod_cast mul_self_nonneg a
  | top => simp
  | bot => simp

theorem tile_eq_spec (a x g : Fin 1024 → EReal) (d : EReal) (q : Fin 1024) : tile a x g d q = spec a x g d q := by
  obtain ⟨e, he, hee⟩ := ee_pos
  by_cases hx : ∀ i, ∃ r : ℝ, x i = (r : EReal)
  · choose x' hx' using hx
    obtain rfl : x = fun i => (x' i : EReal) := funext hx'
    have h0 : (0 : ℝ) ≤ ∑ p, x' p * x' p := Finset.sum_nonneg fun p _ => mul_self_nonneg _
    obtain ⟨v, hv⟩ : ∃ v : ℝ, v = (∑ p, x' p * x' p) * (1 / 1024) + e := ⟨_, rfl⟩
    have vpos : 0 < v := by rw [hv]; positivity
    have hvar : var (fun i => (x' i : EReal)) = (v : EReal) := by
      unfold var
      rw [cc_eq, hee, Ideal.div_coe (by norm_num), hv]
      simp only [← EReal.coe_mul, ← coe_sum, ← EReal.coe_add]
    obtain ⟨r, hr⟩ : ∃ r : ℝ, r = (Real.sqrt v)⁻¹ := ⟨_, rfl⟩
    have hinv : rinv (fun i => (x' i : EReal)) = (r : EReal) := by
      unfold rinv
      rw [hvar, Ideal.rsqrt_coe, if_neg (not_lt.2 vpos.le), if_neg vpos.ne', hr]
    have rpos : 0 < r := by rw [hr]; exact inv_pos.2 (Real.sqrt_pos.2 vpos)
    have hrv : r * r * v = 1 := by
      rw [hr, ← mul_inv, Real.mul_self_sqrt vpos.le, inv_mul_cancel₀ vpos.ne']
    have hs : ∑ p, a p * g p * ((x' p : EReal) * (r : EReal)) = (∑ p, (x' p : EReal) * (a p * g p)) * (r : EReal) := by
      rw [sum_mul_real _ rpos.le]
      exact Finset.sum_congr rfl fun p _ => by rw [mul_left_comm, mul_assoc, mul_assoc, mul_assoc]
    unfold tile spec coef
    rw [hinv, hvar, hs, cc_eq, hh_eq, Ideal.div_coe vpos.ne', Ideal.div_coe (by norm_num), Ideal.div_coe (by norm_num), add_assoc, add_assoc]
    simp only [Finset.univ_unique, Finset.sum_const, Finset.card_singleton, one_smul]
    rw [show ((-(1 / 2) : ℝ) : EReal) * ((r : EReal) * ((1 / v : ℝ) : EReal)) = ((-(1 / 2) * (r * (1 / v)) : ℝ) : EReal) by simp only [EReal.coe_mul]]
    rw [row_core (a q * g q) _ (x' q) v r rpos hrv vpos.ne']
  · have hsum : ∑ p, x p * x p = ⊤ := by
      rw [not_forall] at hx
      obtain ⟨p, hp⟩ := hx
      have hp' : x p * x p = ⊤ := by
        revert hp
        generalize x p = y
        intro hp
        induction y with
        | coe y => exact absurd ⟨y, rfl⟩ hp
        | top => simp
        | bot => simp
      exact top_le_iff.1 (hp' ▸ Finset.single_le_sum (f := fun p => x p * x p) (fun i _ => sq_nonneg' _) (Finset.mem_univ p))
    have hvar : var x = ⊤ := by
      unfold var
      rw [hsum, cc_eq, hee, Ideal.div_coe (by norm_num), EReal.top_mul_coe_of_pos (by norm_num)]
      rfl
    have hinv : rinv x = 0 := by unfold rinv; rw [hvar]; rfl
    have h0 : Ideal.div 0 cc = 0 := by rw [cc_eq, Ideal.div_coe (by norm_num), zero_mul]
    have h1 : Ideal.div 0 (⊤ : EReal) = 0 := by unfold Ideal.div; simp
    unfold tile spec coef
    rw [hinv, hvar, h1]
    simp [h0]

/-- A column sum taken in blocks of 1024 rows, each in eight interleaved parts. -/
theorem sum_rows (f : ℕ → EReal) :
    ∑ y : Fin 8, ∑ p ∈ Finset.range 8, ∑ x : Fin 128, f (1024 * p + (x.val * 8 + y.val)) = ∑ k ∈ Finset.range 8192, f k := by
  rw [Finset.sum_comm, show (8192 : ℕ) = 8 * 1024 from rfl, Cert.Sums.sum_blocks]
  refine Finset.sum_congr rfl fun p _ => ?_
  rw [Finset.sum_comm, show (1024 : ℕ) = 128 * 8 from rfl, Cert.Sums.sum_blocks, Finset.sum_range]
  refine Finset.sum_congr rfl fun x _ => ?_
  rw [Finset.sum_range]
  exact Finset.sum_congr rfl fun y _ => congrArg f (by omega)

end Cert.RmsBwd
-- ==== Proof.InprojOuts.lean ====
/- The gradient of the input projection's input, through the normalisation before it: what one point leaves in its blocks and its scratch. -/
module

public import proofs.«01_k».proof.Defs
public import proofs.«01_k».proof.Proof.RmsBwd
public import proofs.«01_k».proof.Proof.Gen.InprojIdeal.Value
public import Idealize.ShloMosaic.Lib.WritesUnit
public import Idealize.ShloMosaic.Lib.Tactic

@[expose] public section

set_option maxRecDepth 16384

noncomputable section

namespace Cert.InprojIdeal.Val

open Cert.InprojIdeal Cert.InprojIdeal.Gen Cert.InprojIdeal.Value Idealize.ShloMosaic Idealize.ShloMosaic.TcCoe Idealize.SL.Sem Cert.Sums

section
variable {F : FTy → Type} [FloatOps F]

theorem sout0_A_0_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : cond0_0 i) (hc1 : cond0_1 i) (hc2 : ¬cond0_2 i) (hc3 : ¬cond0_3 i)
    (x0 : Vec F S1024x1792 .bf16) (x1 : Vec F S1024x1024 .f32) (x2 : Vec F S1024x1024 .f32) (x3 : Vec F S1x1024 .f32) (x4 : Vec F S1x1024x1792 .bf16) :
    sout0_A_0 c i arg2 harg2 arg3 harg3 arg4 harg4 arg5 harg5 arg6 harg6 arg7 harg7 arg8 harg8 arg9 harg9 arg10 harg10 hc0 hc1 hc2 hc3 x0 x1 x2 x3 x4 = k0_pay3 (k0_pay2 (F := F)) x0 x4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 hc3 x0 x1 x2 x3 x4)]
  unfold kernelRun0_A
  dsimp only
  sl_unfold_words
  rw [View.canon_cons_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem sout0_D_0_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : cond0_1 i) (hc2 : ¬cond0_2 i) (hc3 : ¬cond0_3 i)
    (x0 : Vec F S1024x1792 .bf16) (x1 : Vec F S1024x1024 .f32) (x2 : Vec F S1024x1024 .f32) (x3 : Vec F S1x1024 .f32) (x4 : Vec F S1x1024x1792 .bf16) (xs1 : Vec F S8x1024 .f32) :
    sout0_D_0 c i arg2 harg2 arg3 harg3 arg4 harg4 arg5 harg5 arg6 harg6 arg7 harg7 arg8 harg8 arg9 harg9 arg10 harg10 hc0 hc1 hc2 hc3 x0 x1 x2 x3 x4 xs1 = k0_pay3 (k0_pay2 (F := F)) x0 x4 := by
  unfold sout0_D_0
  rw [View.read_writes_eq_canon _ _ _ (scover0_D_0 c i arg2 harg2 arg3 harg3 arg4 harg4 arg5 harg5 arg6 harg6 arg7 harg7 arg8 harg8 arg9 harg9 arg10 harg10 hc0 hc1 hc2 hc3 x0 x1 x2 x3 x4 xs1)]
  unfold kernelRun0_D
  dsimp only
  sl_unfold_words
  rw [View.canon_cons_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem sout0_B_0_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : ¬cond0_2 i) (hc3 : ¬cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    sout0_B_0 c i arg2 harg2 arg3 harg3 arg4 harg4 arg5 harg5 arg6 harg6 arg7 harg7 arg8 harg8 arg9 harg9 arg10 harg10 hc0 hc1 hc2 hc3 x0 x1 x2 x3 x4 xs0 xs1 = k0_pay3 xs0 x0 x4 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_B
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem sout0_C_0_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : cond0_2 i) (hc3 : ¬cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    sout0_C_0 c i arg2 harg2 arg3 harg3 arg4 harg4 arg5 harg5 arg6 harg6 arg7 harg7 arg8 harg8 arg9 harg9 arg10 harg10 hc0 hc1 hc2 hc3 x0 x1 x2 x3 x4 xs0 xs1 = k0_pay3 xs0 x0 x4 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_C
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem sout0_E_0_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : cond0_2 i) (hc3 : cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    sout0_E_0 c i arg2 harg2 arg3 harg3 arg4 harg4 arg5 harg5 arg6 harg6 arg7 harg7 arg8 harg8 arg9 harg9 arg10 harg10 hc0 hc1 hc2 hc3 x0 x1 x2 x3 x4 xs0 xs1 = k0_pay3 xs0 x0 x4 := by
  unfold sout0_E_0
  rw [View.read_writes_eq_canon _ _ _ (scover0_E_0 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem sout0_A_1_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : cond0_0 i) (hc1 : cond0_1 i) (hc2 : ¬cond0_2 i) (hc3 : ¬cond0_3 i)
    (x0 : Vec F S1024x1792 .bf16) (x1 : Vec F S1024x1024 .f32) (x2 : Vec F S1024x1024 .f32) (x3 : Vec F S1x1024 .f32) (x4 : Vec F S1x1024x1792 .bf16) :
    sout0_A_1 c i arg2 harg2 arg3 harg3 arg4 harg4 arg5 harg5 arg6 harg6 arg7 harg7 arg8 harg8 arg9 harg9 arg10 harg10 hc0 hc1 hc2 hc3 x0 x1 x2 x3 x4 = k0_pay1 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 hc2 hc3 x0 x1 x2 x3 x4)]
  unfold kernelRun0_A
  dsimp only
  sl_unfold_words
  rw [View.canon_unit_zero hz2]

theorem sout0_C_1_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : cond0_2 i) (hc3 : ¬cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    sout0_C_1 c i arg2 harg2 arg3 harg3 arg4 harg4 arg5 harg5 arg6 harg6 arg7 harg7 arg8 harg8 arg9 harg9 arg10 harg10 hc0 hc1 hc2 hc3 x0 x1 x2 x3 x4 xs0 xs1 = k0_pay7 (k0_pay3 xs0 x0 x4) x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_C
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem sout0_E_1_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : cond0_2 i) (hc3 : cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    sout0_E_1 c i arg2 harg2 arg3 harg3 arg4 harg4 arg5 harg5 arg6 harg6 arg7 harg7 arg8 harg8 arg9 harg9 arg10 harg10 hc0 hc1 hc2 hc3 x0 x1 x2 x3 x4 xs0 xs1 = k0_pay7 (k0_pay3 xs0 x0 x4) x2 xs1 := by
  unfold sout0_E_1
  rw [View.read_writes_eq_canon _ _ _ (scover0_E_1 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem out0_C_5_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : cond0_2 i) (hc3 : ¬cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    out0_C_5 c i arg2 harg2 arg3 harg3 arg4 harg4 arg5 harg5 arg6 harg6 arg7 harg7 arg8 harg8 arg9 harg9 arg10 harg10 hc0 hc1 hc2 hc3 x0 x1 x2 x3 x4 xs0 xs1 = k0_pay6 (k0_pay3 xs0 x0 x4) x2 x3 x1 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_C
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem out0_E_5_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : cond0_2 i) (hc3 : cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    out0_E_5 c i arg2 harg2 arg3 harg3 arg4 harg4 arg5 harg5 arg6 harg6 arg7 harg7 arg8 harg8 arg9 harg9 arg10 harg10 hc0 hc1 hc2 hc3 x0 x1 x2 x3 x4 xs0 xs1 = k0_pay6 (k0_pay3 xs0 x0 x4) x2 x3 x1 := by
  unfold out0_E_5
  rw [View.read_writes_eq_canon _ _ _ (cover0_E_5 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

theorem out0_E_6_eq (c : Dev nD) (i : grid0.Coords) (arg2 : Memref sig .tc .vmem S1024x1792 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024x1792 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S8x1024 .f32) (harg10 : arg10.IsWhole) (hc0 : ¬cond0_0 i) (hc1 : ¬cond0_1 i) (hc2 : cond0_2 i) (hc3 : cond0_3 i)
    (x0 : Vec F S1024x1792 .bf16) (x1 : Vec F S1024x1024 .f32) (x2 : Vec F S1024x1024 .f32) (x3 : Vec F S1x1024 .f32) (x4 : Vec F S1x1024x1792 .bf16) (xs0 : Vec F S1024x1024 .f32) (xs1 : Vec F S8x1024 .f32) :
    out0_E_6 c i arg2 harg2 arg3 harg3 arg4 harg4 arg5 harg5 arg6 harg6 arg7 harg7 arg8 harg8 arg9 harg9 arg10 harg10 hc0 hc1 hc2 hc3 x0 x1 x2 x3 x4 xs0 xs1 = k0_pay8 (k0_pay7 (k0_pay3 xs0 x0 x4) x2 xs1) := by
  unfold out0_E_6
  rw [View.read_writes_eq_canon _ _ _ (cover0_E_6 c i arg2 harg2 arg3 harg3 arg4 harg4 arg5 harg5 arg6 harg6 arg7 harg7 arg8 harg8 arg9 harg9 arg10 harg10 hc0 hc1 hc2 hc3 x0 x1 x2 x3 x4 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, View.ld_unit_zero (S := S1024x1024) hz2, View.ld_unit_zero (S := S1x1024) hz2, View.ld_unit_zero (S := S8x1024) hz2, View.ld_unit_zero (S := S1024x1792) hz2, View.ld_unit_zero (S := S1x1024x1792) hz3]

variable (m : (ℓ : Loc nD τ sig) → Buf (Elt F) ℓ) (c : Dev nD)

theorem acc_first (t : Fin cfg0.N) (h1 : t.val % 4 = 0) : (outsAt0 m c t.val t.isLt).2.2.1 = k0_pay3 (k0_pay2 (F := F)) (iblk m c 0 t) (iblk m c 4 t) := by
  have h2 : ¬t.val % 4 = 3 := by omega
  have h3 : ¬t.val % 32 = 31 := by omega
  by_cases h0 : t.val % 32 = 0
  · rw [outsAt0_A m c t h0 h1 h2 h3]; dsimp only; exact sout0_A_0_eq _ _ _ _ _ _ _ _ _ _ _ _ _ _ _ _ _ _ _ _ _ _ _ _ _ _ _ _ _
  · rw [outsAt0_D m c t h0 h1 h2 h3]; dsimp only; exact sout0_D_0_eq _ _ _ _ _ _ _ _ _ _ _ _ _ _ _ _ _ _ _ _ _ _ _ _ _ _ _ _ _ _

theorem acc_next (t : Fin cfg0.N) (h1 : ¬t.val % 4 = 0) : (outsAt0 m c t.val t.isLt).2.2.1 = k0_pay3 (outsAt0 m c (t.val - 1) (Nat.lt_of_le_of_lt (Nat.sub_le _ _) t.isLt)).2.2.1 (iblk m c 0 t) (iblk m c 4 t) := by
  have h0 : ¬t.val % 32 = 0 := by omega
  by_cases h2 : t.val % 4 = 3
  · by_cases h3 : t.val % 32 = 31
    · rw [outsAt0_E m c t h0 h1 h2 h3]; dsimp only; exact sout0_E_0_eq _ _ _ _ _ _ _ _ _ _ _ _ _ _ _ _ _ _ _ _ _ _ _ _ _ _ _ _ _ _ _
    · rw [outsAt0_C m c t h0 h1 h2 h3]; dsimp only; exact sout0_C_0_eq _ _ _ _ _ _ _ _ _ _ _ _ _ _ _ _ _ _ _ _ _ _ _ _ _ _ _ _ _ _ _
  · have h3 : ¬t.val % 32 = 31 := by omega
    rw [outsAt0_B m c t h0 h1 h2 h3]; dsimp only; exact sout0_B_0_eq _ _ _ _ _ _ _ _ _ _ _ _ _ _ _ _ _ _ _ _ _ _ _ _ _ _ _ _ _ _ _

theorem red_first (t : Fin cfg0.N) (h0 : t.val % 32 = 0) : (outsAt0 m c t.val t.isLt).2.2.2 = k0_pay1 := by
  have h1 : t.val % 4 = 0 := by omega
  have h2 : ¬t.val % 4 = 3 := by omega
  have h3 : ¬t.val % 32 = 31 := by omega
  rw [outsAt0_A m c t h0 h1 h2 h3]; dsimp only; exact sout0_A_1_eq _ _ _ _ _ _ _ _ _ _ _ _ _ _ _ _ _ _ _ _ _ _ _ _ _ _ _ _ _

theorem red_keep (t : Fin cfg0.N) (h0 : ¬t.val % 32 = 0) (h2 : ¬t.val % 4 = 3) : (outsAt0 m c t.val t.isLt).2.2.2 = (outsAt0 m c (t.val - 1) (Nat.lt_of_le_of_lt (Nat.sub_le _ _) t.isLt)).2.2.2 := by
  have h3 : ¬t.val % 32 = 31 := by omega
  by_cases h1 : t.val % 4 = 0
  · rw [outsAt0_D m c t h0 h1 h2 h3]; dsimp only; unfold sout0_D_1; rfl
  · rw [outsAt0_B m c t h0 h1 h2 h3]; dsimp only; unfold sout0_B_1; rfl

theorem red_next (t : Fin cfg0.N) (h2 : t.val % 4 = 3) : (outsAt0 m c t.val t.isLt).2.2.2 = k0_pay7 (outsAt0 m c t.val t.isLt).2.2.1 (iblk m c 2 t) (outsAt0 m c (t.val - 1) (Nat.lt_of_le_of_lt (Nat.sub_le _ _) t.isLt)).2.2.2 := by
  have h0 : ¬t.val % 32 = 0 := by omega
  have h1 : ¬t.val % 4 = 0 := by omega
  rw [acc_next m c t h1]
  by_cases h3 : t.val % 32 = 31
  · rw [outsAt0_E m c t h0 h1 h2 h3]; dsimp only; exact sout0_E_1_eq _ _ _ _ _ _ _ _ _ _ _ _ _ _ _ _ _ _ _ _ _ _ _ _ _ _ _ _ _ _ _
  · rw [outsAt0_C m c t h0 h1 h2 h3]; dsimp only; exact sout0_C_1_eq _ _ _ _ _ _ _ _ _ _ _ _ _ _ _ _ _ _ _ _ _ _ _ _ _ _ _ _ _ _ _

theorem tok_last (t : Fin cfg0.N) (h2 : t.val % 4 = 3) : (outsAt0 m c t.val t.isLt).1 = k0_pay6 (outsAt0 m c t.val t.isLt).2.2.1 (iblk m c 2 t) (iblk m c 3 t) (iblk m c 1 t) := by
  have h0 : ¬t.val % 32 = 0 := by omega
  have h1 : ¬t.val % 4 = 0 := by omega
  rw [acc_next m c t h1]
  by_cases h3 : t.val % 32 = 31
  · rw [outsAt0_E m c t h0 h1 h2 h3]; dsimp only; exact out0_E_5_eq _ _ _ _ _ _ _ _ _ _ _ _ _ _ _ _ _ _ _ _ _ _ _ _ _ _ _ _ _ _ _
  · rw [outsAt0_C m c t h0 h1 h2 h3]; dsimp only; exact out0_C_5_eq _ _ _ _ _ _ _ _ _ _ _ _ _ _ _ _ _ _ _ _ _ _ _ _ _ _ _ _ _ _ _

theorem row_last (t : Fin cfg0.N) (h3 : t.val % 32 = 31) : (outsAt0 m c t.val t.isLt).2.1 = k0_pay8 (outsAt0 m c t.val t.isLt).2.2.2 := by
  have h0 : ¬t.val % 32 = 0 := by omega
  have h1 : ¬t.val % 4 = 0 := by omega
  have h2 : t.val % 4 = 3 := by omega
  rw [red_next m c t h2, acc_next m c t h1, outsAt0_E m c t h0 h1 h2 h3]; dsimp only; exact out0_E_6_eq _ _ _ _ _ _ _ _ _ _ _ _ _ _ _ _ _ _ _ _ _ _ _ _ _ _ _ _ _ _ _

/-! The blocks of the arguments. -/

theorem idx_0 : ∀ t : Fin cfg0.N, win0_0.index t (0 : Fin 2) = t.val / 4 ∧ win0_0.index t (1 : Fin 2) = t.val % 4 := by decide +kernel

theorem blk_0 (t : Fin cfg0.N) (z : S1024x1792.Idx) (i : S8192x7168.Idx) (h0 : (i 0).val = 1024 * (t.val / 4) + (z 0).val) (h1 : (i 1).val = 1792 * (t.val % 4) + (z 1).val) :
    (iblk m c 0 t : Vec F S1024x1792 .bf16) z = (m ((c.tc : Thread nD τ).loc main_arg0) : Vec F S8192x7168 .bf16) i := by
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 2) * 1024 + 1 * (z 0).val = (i 0).val; rw [(idx_0 t).1]; omega
  | ⟨1, _⟩ => show win0_0.index t (1 : Fin 2) * 1792 + 1 * (z 1).val = (i 1).val; rw [(idx_0 t).2]; omega

theorem idx_1 : ∀ t : Fin cfg0.N, win0_1.index t (0 : Fin 2) = t.val / 4 ∧ win0_1.index t (1 : Fin 2) = 0 := by decide +kernel

theorem blk_1 (t : Fin cfg0.N) (z : S1024x1024.Idx) (i : S8192x1024.Idx) (h0 : (i 0).val = 1024 * (t.val / 4) + (z 0).val) (h1 : (i 1).val = (z 1).val) :
    (iblk m c 1 t : Vec F S1024x1024 .f32) z = (m ((c.tc : Thread nD τ).loc main_arg1) : Vec F S8192x1024 .f32) i := by
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 2) * 1024 + 1 * (z 0).val = (i 0).val; rw [(idx_1 t).1]; omega
  | ⟨1, _⟩ => show win0_1.index t (1 : Fin 2) * 1024 + 1 * (z 1).val = (i 1).val; rw [(idx_1 t).2]; omega

theorem idx_2 : ∀ t : Fin cfg0.N, win0_2.index t (0 : Fin 2) = t.val / 4 ∧ win0_2.index t (1 : Fin 2) = 0 := by decide +kernel

theorem blk_2 (t : Fin cfg0.N) (z : S1024x1024.Idx) (i : S8192x1024.Idx) (h0 : (i 0).val = 1024 * (t.val / 4) + (z 0).val) (h1 : (i 1).val = (z 1).val) :
    (iblk m c 2 t : Vec F S1024x1024 .f32) z = (m ((c.tc : Thread nD τ).loc main_arg2) : Vec F S8192x1024 .f32) i := by
  refine Eq.trans ?_ (congrFun (V_main_arg2 m c) i)
  unfold iblk
  rw [View.read_apply]
  show V m c main_arg2 _ = V m c main_arg2 i
  congr 1
  funext a
  apply Fin.ext
  match a with
  | ⟨0, _⟩ => show win0_2.index t (0 : Fin 2) * 1024 + 1 * (z 0).val = (i 0).val; rw [(idx_2 t).1]; omega
  | ⟨1, _⟩ => show win0_2.index t (1 : Fin 2) * 1024 + 1 * (z 1).val = (i 1).val; rw [(idx_2 t).2]; omega

theorem idx_3 : ∀ t : Fin cfg0.N, win0_3.index t (0 : Fin 2) = 0 ∧ win0_3.index t (1 : Fin 2) = 0 := by decide +kernel

theorem blk_3 (t : Fin cfg0.N) (z : S1x1024.Idx) (i : S1x1024.Idx) (h0 : (i 0).val = 0) (h1 : (i 1).val = (z 1).val) :
    (iblk m c 3 t : Vec F S1x1024 .f32) z = (m ((c.tc : Thread nD τ).loc main_arg3) : Vec F S1x1024 .f32) i := by
  have hz0 : (z 0).val < 1 := (z 0).isLt
  refine Eq.trans ?_ (congrFun (V_main_arg3 m c) i)
  unfold iblk
  rw [View.read_apply]
  show V m c main_arg3 _ = V m c main_arg3 i
  congr 1
  funext a
  apply Fin.ext
  match a with
  | ⟨0, _⟩ => show win0_3.index t (0 : Fin 2) * 1 + 1 * (z 0).val = (i 0).val; rw [(idx_3 t).1]; omega
  | ⟨1, _⟩ => show win0_3.index t (1 : Fin 2) * 1024 + 1 * (z 1).val = (i 1).val; rw [(idx_3 t).2]; omega

theorem idx_4 : ∀ t : Fin cfg0.N, win0_4.index t (0 : Fin 3) = t.val % 4 ∧ win0_4.index t (1 : Fin 3) = 0 ∧ win0_4.index t (2 : Fin 3) = 0 := by decide +kernel

theorem blk_4 (t : Fin cfg0.N) (z : S1x1024x1792.Idx) (i : S4x1024x1792.Idx) (h0 : (i 0).val = t.val % 4) (h1 : (i 1).val = (z 1).val) (h2 : (i 2).val = (z 2).val) :
    (iblk m c 4 t : Vec F S1x1024x1792 .bf16) z = (m ((c.tc : Thread nD τ).loc main_arg4) : Vec F S4x1024x1792 .bf16) i := by
  have hz0 : (z 0).val < 1 := (z 0).isLt
  refine Eq.trans ?_ (congrFun (V_main_arg4 m c) i)
  unfold iblk
  rw [View.read_apply]
  show V m c main_arg4 _ = V m c main_arg4 i
  congr 1
  funext a
  apply Fin.ext
  match a with
  | ⟨0, _⟩ => show win0_4.index t (0 : Fin 3) * 1 + 1 * (z 0).val = (i 0).val; rw [(idx_4 t).1]; omega
  | ⟨1, _⟩ => show win0_4.index t (1 : Fin 3) * 1024 + 1 * (z 1).val = (i 1).val; rw [(idx_4 t).2.1]; omega
  | ⟨2, _⟩ => show win0_4.index t (2 : Fin 3) * 1792 + 1 * (z 2).val = (i 2).val; rw [(idx_4 t).2.2]; omega

end

end Cert.InprojIdeal.Val

end
-- ==== Proof.InprojValue.lean ====
/- The gradient of the input projection's input, through the normalisation before it: the arrays after the run are the reference's. -/
module

public import proofs.«01_k».proof.Proof.InprojOuts
public import proofs.«01_k».proof.Proof.Gen.InprojRefIdeal.Run
public import proofs.«01_k».proof.Proof.Gen.InprojRefIdeal.Read

@[expose] public section

set_option maxRecDepth 16384

noncomputable section

namespace Cert.InprojIdeal.Val

open Cert.InprojIdeal Cert.InprojIdeal.Gen Cert.InprojIdeal.Value Idealize.ShloMosaic Idealize.ShloMosaic.TcCoe Idealize.SL.Sem Cert.Sums Cert.RmsBwd
open Idealize.ShloMosaic.Pipeline (Dat)
open Cert.InprojRefIdeal.Read

/-! The payloads at an index. -/

theorem zero_acc (i) : k0_pay2 (F := Ideal) i = 0 := by
  unfold k0_pay2
  pointwise

theorem zero_red (i) : k0_pay1 (F := Ideal) i = 0 := by
  unfold k0_pay1
  pointwise

theorem step_acc (v : Vec Ideal S1024x1024 .f32) (va : Vec Ideal S1024x1792 .bf16) (vb : Vec Ideal S1x1024x1792 .bf16) (i) :
    k0_pay3 (F := Ideal) v va vb i = v i + ∑ f, va (ix2 (i 0) f) * vb (ix3 0 (i 1) f) := by
  unfold k0_pay3
  pointwise
  all_goals done

theorem tok_row (a x : Vec Ideal S1024x1024 .f32) (g : Vec Ideal S1x1024 .f32) (d : Vec Ideal S1024x1024 .f32) (i) :
    k0_pay6 (F := Ideal) a x g d i = tile (fun q => a (ix2 (i 0) q)) (fun q => x (ix2 (i 0) q)) (fun q => g (ix2 0 q)) (d i) (i 1) := by
  unfold k0_pay6 k0_pay5 k0_pay4 tile rinv var cc ee
  pointwise
  all_goals simp only [ix2_eta]

theorem red_row (a x : Vec Ideal S1024x1024 .f32) (v : Vec Ideal S8x1024 .f32) (i) :
    k0_pay7 (F := Ideal) a x v i = v i + ∑ y : Fin 128, a (ix2 ⟨y.val * 8 + (i 0).val, by have h : (i 0).val < 8 := (i 0).isLt; have := y.isLt; omega⟩ (i 1))
      * (x (ix2 ⟨y.val * 8 + (i 0).val, by have h : (i 0).val < 8 := (i 0).isLt; have := y.isLt; omega⟩ (i 1)) * rinv (fun q => x (ix2 ⟨y.val * 8 + (i 0).val, by have h : (i 0).val < 8 := (i 0).isLt; have := y.isLt; omega⟩ q))) := by
  unfold k0_pay7 k0_pay5 k0_pay4 rinv var cc ee
  pointwise
  all_goals done

theorem row_sum (v : Vec Ideal S8x1024 .f32) (i) : k0_pay8 (F := Ideal) v i = ∑ y, v (ix2 y (i 1)) := by
  unfold k0_pay8
  pointwise
  all_goals done

/-! The reference at an index. -/

section
variable (x0 : Vec Ideal S8192x7168 .bf16) (x1 : Vec Ideal S8192x1024 .f32) (x2 : Vec Ideal S8192x1024 .f32) (x3 : Vec Ideal S1x1024 .f32) (x4 : Vec Ideal S4x1024x1792 .bf16)

/-- The addend of column block `k` in the cotangent of the normalised row. -/
def part (x0 : Vec Ideal S8192x7168 .bf16) (x4 : Vec Ideal S4x1024x1792 .bf16) (i : S8192x1024.Idx) (k : Fin 4) : EReal :=
  ∑ f : Fin 1792, x0 (ix2 (i 0) ⟨k.val * 1792 + f.val, by have := k.isLt; have := f.isLt; omega⟩) * x4 (ix3 k (i 1) f)

theorem ref_dot (i : S8192x1024.Idx) : val_main_v20 (F := Ideal) x0 x4 i = ∑ k, part x0 x4 i k := by
  unfold part
  unfold val_main_v20 val_main_v19 val_main_v18 val_main_v15
  pointwise
  all_goals rfl

theorem ref_tok (i : S8192x1024.Idx) : val_main_v40 (F := Ideal) x0 x1 x2 x3 x4 i
    = spec (fun q => val_main_v20 (F := Ideal) x0 x4 (ix2 (i 0) q)) (fun q => x2 (ix2 (i 0) q)) (fun q => x3 (ix2 0 q)) (x1 i) (i 1) := by
  unfold val_main_v40 val_main_v39 val_main_v38 val_main_v37 val_main_v36 val_main_v35 val_main_cst_6 val_main_v34 val_main_v33 val_main_cst_5 val_main_v32 val_main_v31 val_main_v30 val_main_v29 val_main_v28 val_main_v27 val_main_cst_4 val_main_v26 val_main_v25 val_main_v24 val_main_v10 val_main_v9 val_main_cst_2 val_main_v8 val_main_v7 val_main_v6 val_main_v5 val_main_cst_1 val_main_v4 val_main_v3 val_main_cst_0 val_main_v2 val_main_v1 val_main_cst val_main_v0 spec coef rinv var cc ee hh
  generalize val_main_v20 (F := Ideal) x0 x4 = y
  pointwise
  all_goals simp only [ix2_eta]

/-- The addend of row `r` in the gradient of the scale. -/
def gain (x0 : Vec Ideal S8192x7168 .bf16) (x4 : Vec Ideal S4x1024x1792 .bf16) (x2 : Vec Ideal S8192x1024 .f32) (q : Fin 1024) (r : Fin 8192) : EReal :=
  val_main_v20 (F := Ideal) x0 x4 (ix2 r q) * (x2 (ix2 r q) * rinv (fun q => x2 (ix2 r q)))

theorem ref_row (i : S1x1024.Idx) : val_main_v23 (F := Ideal) x0 x2 x4 i = ∑ r, gain x0 x4 x2 (i 1) r := by
  refine Eq.trans (b := ∑ r, x2 (ix2 r (i 1)) * rinv (fun q => x2 (ix2 r q)) * val_main_v20 (F := Ideal) x0 x4 (ix2 r (i 1))) ?_ (Finset.sum_congr rfl fun r _ => mul_comm _ _)
  unfold val_main_v23 val_main_v22 val_main_cst_3 val_main_v21 val_main_v12 val_main_v11 val_main_v7 val_main_v6 val_main_v5 val_main_cst_1 val_main_v4 val_main_v3 val_main_cst_0 val_main_v2 val_main_v1 val_main_cst val_main_v0 rinv var cc ee
  generalize val_main_v20 (F := Ideal) x0 x4 = y
  pointwise
  all_goals rfl

end

/-! The arrays. -/

section
variable (m : (ℓ : Loc nD τ sig) → Buf (Elt Ideal) ℓ) (c : Dev nD)

abbrev A0 : Vec Ideal S8192x7168 .bf16 := m ((c.tc : Thread nD τ).loc main_arg0)
abbrev X0 (t : Fin cfg0.N) : Vec Ideal S1024x1792 .bf16 := iblk m c 0 t
abbrev A1 : Vec Ideal S8192x1024 .f32 := m ((c.tc : Thread nD τ).loc main_arg1)
abbrev X1 (t : Fin cfg0.N) : Vec Ideal S1024x1024 .f32 := iblk m c 1 t
abbrev A2 : Vec Ideal S8192x1024 .f32 := m ((c.tc : Thread nD τ).loc main_arg2)
abbrev X2 (t : Fin cfg0.N) : Vec Ideal S1024x1024 .f32 := iblk m c 2 t
abbrev A3 : Vec Ideal S1x1024 .f32 := m ((c.tc : Thread nD τ).loc main_arg3)
abbrev X3 (t : Fin cfg0.N) : Vec Ideal S1x1024 .f32 := iblk m c 3 t
abbrev A4 : Vec Ideal S4x1024x1792 .bf16 := m ((c.tc : Thread nD τ).loc main_arg4)
abbrev X4 (t : Fin cfg0.N) : Vec Ideal S1x1024x1792 .bf16 := iblk m c 4 t

theorem block_acc (t : Fin cfg0.N) (i : S8192x1024.Idx) (z : S1024x1024.Idx) (h0 : (i 0).val = 1024 * (t.val / 4) + (z 0).val) (h1 : (i 1).val = (z 1).val) :
    ∑ f, X0 m c t (ix2 (z 0) f) * X4 m c t (ix3 0 (z 1) f) = at0 (part (A0 m c) (A4 m c) i) (t.val % 4) := by
  rw [at0_of_lt _ _ (Nat.mod_lt _ (by decide))]
  unfold part
  refine Finset.sum_congr rfl fun f _ => congrArg₂ (· * ·) ?_ ?_
  · exact blk_0 m c t _ _ h0 (Nat.add_right_cancel_iff.2 (Nat.mul_comm _ _))
  · exact blk_4 m c t _ _ rfl h1 rfl

/-- The partial product after each point. -/
theorem acc_sum (n : ℕ) (hn : n < cfg0.N) (i : S8192x1024.Idx) (z : S1024x1024.Idx) (h0 : (i 0).val = 1024 * (n / 4) + (z 0).val) (h1 : (i 1).val = (z 1).val) :
    (outsAt0 m c n hn).2.2.1 z = ∑ k ∈ Finset.range (n % 4 + 1), at0 (part (A0 m c) (A4 m c) i) k := by
  induction n with
  | zero =>
    refine (congrFun (acc_first m c ⟨0, hn⟩ rfl) z).trans ?_
    refine (step_acc _ _ _ z).trans ?_
    rw [zero_acc, zero_add, Finset.sum_range_one]
    exact block_acc m c ⟨0, hn⟩ i z h0 h1
  | succ n ih =>
    by_cases g0 : (n + 1) % 4 = 0
    · refine (congrFun (acc_first m c ⟨n + 1, hn⟩ g0) z).trans ?_
      refine (step_acc _ _ _ z).trans ?_
      rw [zero_acc, zero_add, g0, Finset.sum_range_one]
      exact (block_acc m c ⟨n + 1, hn⟩ i z h0 h1).trans (congrArg (at0 _) g0)
    · refine (congrFun (acc_next m c ⟨n + 1, hn⟩ g0) z).trans ?_
      refine (step_acc _ _ _ z).trans ?_
      rw [Finset.sum_range_succ]
      refine congrArg₂ (· + ·) ?_ (block_acc m c ⟨n + 1, hn⟩ i z h0 h1)
      exact (ih (Nat.lt_of_succ_lt hn) (by omega)).trans (by rw [show n % 4 + 1 = (n + 1) % 4 by omega])

theorem acc_full (t : Fin cfg0.N) (h : t.val % 4 = 3) (i : S8192x1024.Idx) (z : S1024x1024.Idx) (h0 : (i 0).val = 1024 * (t.val / 4) + (z 0).val) (h1 : (i 1).val = (z 1).val) :
    (outsAt0 m c t.val t.isLt).2.2.1 z = val_main_v20 (F := Ideal) (A0 m c) (A4 m c) i := by
  rw [acc_sum m c t.val t.isLt i z h0 h1, ref_dot, h]
  exact sum_at0 (part (A0 m c) (A4 m c) i)

theorem tok_full (t : Fin cfg0.N) (h3 : t.val % 4 = 3) (i : S8192x1024.Idx) (z : S1024x1024.Idx) (h0 : (i 0).val = 1024 * (t.val / 4) + (z 0).val) (h1 : (i 1).val = (z 1).val) :
    (outsAt0 m c t.val t.isLt).1 z = val_main_v40 (F := Ideal) (A0 m c) (A1 m c) (A2 m c) (A3 m c) (A4 m c) i := by
  refine (congrFun (tok_last m c t h3) z).trans ?_
  refine (tok_row _ _ _ _ z).trans ?_
  refine Eq.trans ?_ ((tile_eq_spec (fun q => val_main_v20 (F := Ideal) (A0 m c) (A4 m c) (ix2 (i 0) q)) (fun q => A2 m c (ix2 (i 0) q)) (fun q => A3 m c (ix2 0 q)) (A1 m c i) (i 1)).trans (ref_tok (A0 m c) (A1 m c) (A2 m c) (A3 m c) (A4 m c) i).symm)
  have e1 : (fun q : Fin 1024 => (outsAt0 m c t.val t.isLt).2.2.1 (ix2 (z 0) q)) = fun q => val_main_v20 (F := Ideal) (A0 m c) (A4 m c) (ix2 (i 0) q) :=
    funext fun q => acc_full m c t h3 (ix2 (i 0) q) (ix2 (z 0) q) h0 rfl
  have e2 : (fun q : Fin 1024 => X2 m c t (ix2 (z 0) q)) = fun q => A2 m c (ix2 (i 0) q) :=
    funext fun q => blk_2 m c t (ix2 (z 0) q) (ix2 (i 0) q) h0 rfl
  have e3 : (fun q : Fin 1024 => X3 m c t (ix2 0 q)) = fun q => A3 m c (ix2 0 q) :=
    funext fun q => blk_3 m c t (ix2 0 q) (ix2 0 q) rfl rfl
  have e4 : X1 m c t z = A1 m c i := blk_1 m c t z i h0 h1
  have e5 : (z 1 : Fin 1024) = i 1 := Fin.ext h1.symm
  exact congr (congr (congr (congr (congrArg tile e1) e2) e3) e4) e5

/-- One block of rows' part of the gradient of the scale. -/
theorem block_red (t : Fin cfg0.N) (h3 : t.val % 4 = 3) (z : S8x1024.Idx) (y : Fin 128)
    (r : Fin 1024) (hr : r.val = y.val * 8 + (z 0).val) :
    (outsAt0 m c t.val t.isLt).2.2.1 (ix2 r (z 1)) * (X2 m c t (ix2 r (z 1)) * rinv (fun q => X2 m c t (ix2 r q)))
      = at0 (gain (A0 m c) (A4 m c) (A2 m c) (z 1)) (1024 * (t.val / 4) + (y.val * 8 + (z 0).val)) := by
  have ht : t.val < 32 := lt_of_lt_of_eq t.isLt N_0
  have hk : 1024 * (t.val / 4) + (y.val * 8 + (z 0).val) < 8192 := by have := r.isLt; omega
  have hr' : 1024 * (t.val / 4) + (y.val * 8 + (z 0).val) = 1024 * (t.val / 4) + r.val := by omega
  rw [at0_of_lt _ _ hk]
  unfold gain
  refine congrArg₂ (· * ·) (acc_full m c t h3 _ _ hr' rfl) (congrArg₂ (· * ·) (blk_2 m c t _ _ hr' rfl) (congrArg rinv (funext fun q => blk_2 m c t _ _ hr' rfl)))

theorem red_sum (n : ℕ) (hn : n < cfg0.N) (z : S8x1024.Idx) :
    (outsAt0 m c n hn).2.2.2 z = ∑ p ∈ Finset.range ((n + 1) / 4), ∑ y : Fin 128, at0 (gain (A0 m c) (A4 m c) (A2 m c) (z 1)) (1024 * p + (y.val * 8 + (z 0).val)) := by
  induction n with
  | zero =>
    refine (congrFun (red_first m c ⟨0, hn⟩ rfl) z).trans ?_
    rw [zero_red]; rfl
  | succ n ih =>
    have hN : n + 1 < 32 := lt_of_lt_of_eq hn N_0
    have ih' := ih (Nat.lt_of_succ_lt hn)
    by_cases h3 : (n + 1) % 4 = 3
    · refine (congrFun (red_next m c ⟨n + 1, hn⟩ h3) z).trans ?_
      refine (red_row _ _ _ z).trans ?_
      rw [show (n + 1 + 1) / 4 = (n + 1) / 4 + 1 by omega, Finset.sum_range_succ]
      exact congrArg₂ (· + ·) ih' (Finset.sum_congr rfl fun y _ => block_red m c ⟨n + 1, hn⟩ h3 z y _ rfl)
    · refine (congrFun (red_keep m c ⟨n + 1, hn⟩ (show ¬(n + 1) % 32 = 0 by omega) h3) z).trans ?_
      rw [show (n + 1 + 1) / 4 = (n + 1) / 4 by omega]
      exact ih'

theorem row_full (t : Fin cfg0.N) (ht : t.val = 31) (i : S1x1024.Idx) :
    (outsAt0 m c t.val t.isLt).2.1 i = val_main_v23 (F := Ideal) (A0 m c) (A2 m c) (A4 m c) i := by
  refine (congrFun (row_last m c t (by omega)) i).trans ?_
  refine (row_sum _ i).trans ?_
  rw [ref_row, ← sum_at0 (gain (A0 m c) (A4 m c) (A2 m c) (i 1)), ← sum_rows]
  refine Finset.sum_congr rfl fun y _ => ?_
  rw [red_sum m c t.val t.isLt (ix2 y (i 1)), ht]
  rfl

theorem widx_5 : ∀ t : Fin cfg0.N, win0_5.index t (0 : Fin 2) = t.val / 4 ∧ win0_5.index t (1 : Fin 2) = 0 := by decide +kernel

theorem arr_tok : (dats m 0 c).arrAt 5 cfg0.N = val_main_v40 (F := Ideal) (A0 m c) (A1 m c) (A2 m c) (A3 m c) (A4 m c) := by
  refine Dat.arrAt_eq_of_cover (dats m 0 c) 5 (val_main_v40 (F := Ideal) (A0 m c) (A1 m c) (A2 m c) (A3 m c) (A4 m c)) (fun t hf => ?_) (fun i => ?_)
  · have ht : t.val % 4 = 3 := (flush0_5 t).mp hf
    rw [flushed5]
    funext y
    rw [View.read_apply]
    refine (tok_full m c t ht _ y ?_ ?_)
    · show win0_5.index t (0 : Fin 2) * 1024 + 1 * (y 0).val = 1024 * (t.val / 4) + (y 0).val
      rw [(widx_5 t).1]; omega
    · show win0_5.index t (1 : Fin 2) * 1024 + 1 * (y 1).val = (y 1).val
      rw [(widx_5 t).2]; omega
  · have hi0 : (i 0).val < 8192 := (i 0).isLt
    obtain ⟨t, ht⟩ : ∃ t : Fin cfg0.N, t.val = 4 * ((i 0).val / 1024) + 3 := ⟨⟨4 * ((i 0).val / 1024) + 3, lt_of_lt_of_eq (by omega) N_0.symm⟩, rfl⟩
    refine ⟨t, (flush0_5 t).mpr (by omega), ?_⟩
    have e : ((cfg0.win 5).blk t).view.emb (ix2 (⟨(i 0).val % 1024, Nat.mod_lt _ (by decide)⟩ : Fin 1024) (i 1)) = i := by
      funext a
      apply Fin.ext
      match a with
      | ⟨0, _⟩ => show win0_5.index t (0 : Fin 2) * 1024 + 1 * ((i 0).val % 1024) = (i 0).val; rw [(widx_5 t).1]; omega
      | ⟨1, _⟩ => show win0_5.index t (1 : Fin 2) * 1024 + 1 * (i 1).val = (i 1).val; rw [(widx_5 t).2]; omega
    exact e ▸ ((cfg0.win 5).blk t).view.emb_mem_set _

theorem widx_6 : ∀ t : Fin cfg0.N, win0_6.index t (0 : Fin 2) = 0 ∧ win0_6.index t (1 : Fin 2) = 0 := by decide +kernel

theorem arr_row : (dats m 0 c).arrAt 6 cfg0.N = val_main_v23 (F := Ideal) (A0 m c) (A2 m c) (A4 m c) := by
  refine Dat.arrAt_eq_of_cover (dats m 0 c) 6 (val_main_v23 (F := Ideal) (A0 m c) (A2 m c) (A4 m c)) (fun t hf => ?_) (fun i => ?_)
  · have ht : t.val % 32 = 31 := (flush0_6 t).mp hf
    have hN : t.val < 32 := lt_of_lt_of_eq t.isLt N_0
    rw [flushed6]
    funext y
    have hy : (y 0).val < 1 := (y 0).isLt
    rw [View.read_apply]
    refine (row_full m c t (by omega) y).trans (congrArg _ ?_)
    funext a
    apply Fin.ext
    match a with
    | ⟨0, _⟩ => show (y 0).val = win0_6.index t (0 : Fin 2) * 1 + 1 * (y 0).val; rw [(widx_6 t).1]; omega
    | ⟨1, _⟩ => show (y 1).val = win0_6.index t (1 : Fin 2) * 1024 + 1 * (y 1).val; rw [(widx_6 t).2]; omega
  · have hi0 : (i 0).val < 1 := (i 0).isLt
    obtain ⟨t, ht⟩ : ∃ t : Fin cfg0.N, t.val = 31 := ⟨⟨31, lt_of_lt_of_eq (by decide) N_0.symm⟩, rfl⟩
    refine ⟨t, (flush0_6 t).mpr (by omega), ?_⟩
    have e : ((cfg0.win 6).blk t).view.emb (ix2 (0 : Fin 1) (i 1)) = i := by
      funext a
      apply Fin.ext
      match a with
      | ⟨0, _⟩ => show win0_6.index t (0 : Fin 2) * 1 + 1 * 0 = (i 0).val; rw [(widx_6 t).1]; omega
      | ⟨1, _⟩ => show win0_6.index t (1 : Fin 2) * 1024 + 1 * (i 1).val = (i 1).val; rw [(widx_6 t).2]; omega
    exact e ▸ ((cfg0.win 6).blk t).view.emb_mem_set _

end

theorem algebraic : Cert.algebraic_InprojIdeal_InprojRefIdeal := by
  intro m g m' g' hp hag
  refine ⟨fun c => (dats m 0 c).arrAt 5 cfg0.N, fun c => (dats m 0 c).arrAt 6 cfg0.N, run_blocks m g, ?_⟩
  refine (θ_run Cert.InprojRefIdeal.defs _ _).mono (fun r h c => ?_) (Cert.InprojRefIdeal.Value.run m' g')
  obtain ⟨h0, h1, hargs⟩ := h c
  obtain ⟨a0, a1, a2, a3, a4⟩ := hag c
  have e0 : Cert.InprojRefIdeal.Value.res_main_v40 m' c = (dats m 0 c).arrAt 5 cfg0.N := by
    refine (val_main_v40_eq m' c).trans (Eq.trans ?_ (arr_tok m c).symm)
    rw [a0, a1, a2, a3, a4]
  refine ⟨h0.trans e0, (h1.trans (by rw [a0, a2, a4]; rfl)).trans (arr_row m c).symm, hargs⟩

/-- The reference leaves its arguments as they were; it declares no semaphore. -/
theorem frame_reference : Cert.quiescent_InprojRefIdeal := fun m ρ _ =>
  (θ_run Cert.InprojRefIdeal.defs _ _).mono
    (fun r h => ⟨fun c => by obtain ⟨_, _, hargs⟩ := h c; exact hargs,
      Idealize.ShloMosaic.sem_eq_zero_of_no_sems (by decide) r.2⟩)
    (Cert.InprojRefIdeal.Value.run (F := Ideal) m ρ)

end Cert.InprojIdeal.Val

end
-- ==== Proof.FfnOuts.lean ====
/- The gradient of the feed-forward block's input, through the gate and up projections and the normalisation before them: what one point leaves in its blocks and its scratch. -/
module

public import proofs.«01_k».proof.Defs
public import proofs.«01_k».proof.Proof.RmsBwd
public import proofs.«01_k».proof.Proof.Gen.FfnIdeal.Value
public import Idealize.ShloMosaic.Lib.WritesUnit
public import Idealize.ShloMosaic.Lib.Tactic

@[expose] public section

set_option maxRecDepth 16384

noncomputable section

namespace Cert.FfnIdeal.Val

open Cert.FfnIdeal Cert.FfnIdeal.Gen Cert.FfnIdeal.Value Idealize.ShloMosaic Idealize.ShloMosaic.TcCoe Idealize.SL.Sem Cert.Sums

section
variable {F : FTy → Type} [FloatOps F]

theorem sout0_A_0_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : cond0_0 i) (hc1 : cond0_1 i) (hc2 : ¬cond0_2 i) (hc3 : ¬cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) :
    sout0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = k0_pay4 (k0_pay3 (F := F)) x0 x2 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_A
  dsimp only
  sl_unfold_words
  rw [View.canon_cons_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem sout0_D_0_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : cond0_1 i) (hc2 : ¬cond0_2 i) (hc3 : ¬cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs1 : Vec F S8x1024 .f32) :
    sout0_D_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs1 = k0_pay4 (k0_pay3 (F := F)) x0 x2 x1 x3 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs1)]
  unfold kernelRun0_D
  dsimp only
  sl_unfold_words
  rw [View.canon_cons_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem sout0_B_0_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : ¬cond0_2 i) (hc3 : ¬cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    sout0_B_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay4 xs0 x0 x2 x1 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_B
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem sout0_C_0_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : cond0_2 i) (hc3 : ¬cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    sout0_C_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay4 xs0 x0 x2 x1 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_C
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem sout0_E_0_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : cond0_2 i) (hc3 : cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    sout0_E_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay4 xs0 x0 x2 x1 x3 := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem sout0_A_1_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : cond0_0 i) (hc1 : cond0_1 i) (hc2 : ¬cond0_2 i) (hc3 : ¬cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) :
    sout0_A_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)]
  unfold kernelRun0_A
  dsimp only
  sl_unfold_words
  rw [View.canon_unit_zero hz2]

theorem sout0_C_1_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : cond0_2 i) (hc3 : ¬cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    sout0_C_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay8 (k0_pay4 xs0 x0 x2 x1 x3) x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_C
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem sout0_E_1_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : cond0_2 i) (hc3 : cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    sout0_E_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay8 (k0_pay4 xs0 x0 x2 x1 x3) x5 xs1 := by
  unfold sout0_E_1
  rw [View.read_writes_eq_canon _ _ _ (scover0_E_1 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem out0_C_7_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : cond0_2 i) (hc3 : ¬cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    out0_C_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay7 (k0_pay4 xs0 x0 x2 x1 x3) x5 x6 x4 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_C
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem out0_E_7_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : cond0_2 i) (hc3 : cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    out0_E_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay7 (k0_pay4 xs0 x0 x2 x1 x3) x5 x6 x4 := by
  unfold out0_E_7
  rw [View.read_writes_eq_canon _ _ _ (cover0_E_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

theorem out0_E_8_eq (c : Dev nD) (i : grid0.Coords) (arg2 : Memref sig .tc .vmem S1x1024x704 .bf16) (harg2 : arg2.IsWhole) (arg3 : Memref sig .tc .vmem S1x1024x704 .bf16) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S8x1024 .f32) (harg12 : arg12.IsWhole) (hc0 : ¬cond0_0 i) (hc1 : ¬cond0_1 i) (hc2 : cond0_2 i) (hc3 : cond0_3 i)
    (x0 : Vec F S1x1024x704 .bf16) (x1 : Vec F S1x1024x704 .bf16) (x2 : Vec F S1x704x1024 .bf16) (x3 : Vec F S1x704x1024 .bf16) (x4 : Vec F S1024x1024 .f32) (x5 : Vec F S1024x1024 .f32) (x6 : Vec F S1x1024 .f32) (xs0 : Vec F S1024x1024 .f32) (xs1 : Vec F S8x1024 .f32) :
    out0_E_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1 = k0_pay1 (k0_pay8 (k0_pay4 xs0 x0 x2 x1 x3) x5 xs1) := by
  unfold out0_E_8
  rw [View.read_writes_eq_canon _ _ _ (cover0_E_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xs0 xs1)]
  unfold kernelRun0_E
  dsimp only
  sl_unfold_words
  rw [View.canon_unit_zero hz2]
  simp only [View.readAt_eq_ld, View.readCov_unit_zero (S := S1024x1024) _ hz2, View.readCov_unit_zero (S := S8x1024) _ hz2, harg2.read_unread, harg3.read_unread, harg4.read_unread, harg5.read_unread, harg6.read_unread, harg7.read_unread, harg8.read_unread, harg9.read_unread, harg10.read_unread, harg11.read_unread, harg12.read_unread, View.ld_unit_zero (S := S1024x1024) hz2, View.ld_unit_zero (S := S1x1024) hz2, View.ld_unit_zero (S := S8x1024) hz2, View.ld_unit_zero (S := S1x1024x704) hz3, View.ld_unit_zero (S := S1x704x1024) hz3]

variable (m : (ℓ : Loc nD τ sig) → Buf (Elt F) ℓ) (c : Dev nD)

theorem acc_first (t : Fin cfg0.N) (h1 : t.val % 4 = 0) : (outsAt0 m c t.val t.isLt).2.2.1 = k0_pay4 (k0_pay3 (F := F)) (iblk m c 0 t) (iblk m c 2 t) (iblk m c 1 t) (iblk m c 3 t) := by
  have h2 : ¬t.val % 4 = 3 := by omega
  have h3 : ¬t.val % 32 = 31 := by omega
  by_cases h0 : t.val % 32 = 0
  · rw [outsAt0_A m c t h0 h1 h2 h3]; dsimp only; exact sout0_A_0_eq _ _ _ _ _ _ _ _ _ _ _ _ _ _ _ _ _ _ _ _ _ _ _ _ _ _ _ _ _ _ _ _ _ _ _
  · rw [outsAt0_D m c t h0 h1 h2 h3]; dsimp only; exact sout0_D_0_eq _ _ _ _ _ _ _ _ _ _ _ _ _ _ _ _ _ _ _ _ _ _ _ _ _ _ _ _ _ _ _ _ _ _ _ _

theorem acc_next (t : Fin cfg0.N) (h1 : ¬t.val % 4 = 0) : (outsAt0 m c t.val t.isLt).2.2.1 = k0_pay4 (outsAt0 m c (t.val - 1) (Nat.lt_of_le_of_lt (Nat.sub_le _ _) t.isLt)).2.2.1 (iblk m c 0 t) (iblk m c 2 t) (iblk m c 1 t) (iblk m c 3 t) := by
  have h0 : ¬t.val % 32 = 0 := by omega
  by_cases h2 : t.val % 4 = 3
  · by_cases h3 : t.val % 32 = 31
    · rw [outsAt0_E m c t h0 h1 h2 h3]; dsimp only; exact sout0_E_0_eq _ _ _ _ _ _ _ _ _ _ _ _ _ _ _ _ _ _ _ _ _ _ _ _ _ _ _ _ _ _ _ _ _ _ _ _ _
    · rw [outsAt0_C m c t h0 h1 h2 h3]; dsimp only; exact sout0_C_0_eq _ _ _ _ _ _ _ _ _ _ _ _ _ _ _ _ _ _ _ _ _ _ _ _ _ _ _ _ _ _ _ _ _ _ _ _ _
  · have h3 : ¬t.val % 32 = 31 := by omega
    rw [outsAt0_B m c t h0 h1 h2 h3]; dsimp only; exact sout0_B_0_eq _ _ _ _ _ _ _ _ _ _ _ _ _ _ _ _ _ _ _ _ _ _ _ _ _ _ _ _ _ _ _ _ _ _ _ _ _

theorem red_first (t : Fin cfg0.N) (h0 : t.val % 32 = 0) : (outsAt0 m c t.val t.isLt).2.2.2 = k0_pay2 := by
  have h1 : t.val % 4 = 0 := by omega
  have h2 : ¬t.val % 4 = 3 := by omega
  have h3 : ¬t.val % 32 = 31 := by omega
  rw [outsAt0_A m c t h0 h1 h2 h3]; dsimp only; exact sout0_A_1_eq _ _ _ _ _ _ _ _ _ _ _ _ _ _ _ _ _ _ _ _ _ _ _ _ _ _ _ _ _ _ _ _ _ _ _

theorem red_keep (t : Fin cfg0.N) (h0 : ¬t.val % 32 = 0) (h2 : ¬t.val % 4 = 3) : (outsAt0 m c t.val t.isLt).2.2.2 = (outsAt0 m c (t.val - 1) (Nat.lt_of_le_of_lt (Nat.sub_le _ _) t.isLt)).2.2.2 := by
  have h3 : ¬t.val % 32 = 31 := by omega
  by_cases h1 : t.val % 4 = 0
  · rw [outsAt0_D m c t h0 h1 h2 h3]; dsimp only; unfold sout0_D_1; rfl
  · rw [outsAt0_B m c t h0 h1 h2 h3]; dsimp only; unfold sout0_B_1; rfl

theorem red_next (t : Fin cfg0.N) (h2 : t.val % 4 = 3) : (outsAt0 m c t.val t.isLt).2.2.2 = k0_pay8 (outsAt0 m c t.val t.isLt).2.2.1 (iblk m c 5 t) (outsAt0 m c (t.val - 1) (Nat.lt_of_le_of_lt (Nat.sub_le _ _) t.isLt)).2.2.2 := by
  have h0 : ¬t.val % 32 = 0 := by omega
  have h1 : ¬t.val % 4 = 0 := by omega
  rw [acc_next m c t h1]
  by_cases h3 : t.val % 32 = 31
  · rw [outsAt0_E m c t h0 h1 h2 h3]; dsimp only; exact sout0_E_1_eq _ _ _ _ _ _ _ _ _ _ _ _ _ _ _ _ _ _ _ _ _ _ _ _ _ _ _ _ _ _ _ _ _ _ _ _ _
  · rw [outsAt0_C m c t h0 h1 h2 h3]; dsimp only; exact sout0_C_1_eq _ _ _ _ _ _ _ _ _ _ _ _ _ _ _ _ _ _ _ _ _ _ _ _ _ _ _ _ _ _ _ _ _ _ _ _ _

theorem tok_last (t : Fin cfg0.N) (h2 : t.val % 4 = 3) : (outsAt0 m c t.val t.isLt).1 = k0_pay7 (outsAt0 m c t.val t.isLt).2.2.1 (iblk m c 5 t) (iblk m c 6 t) (iblk m c 4 t) := by
  have h0 : ¬t.val % 32 = 0 := by omega
  have h1 : ¬t.val % 4 = 0 := by omega
  rw [acc_next m c t h1]
  by_cases h3 : t.val % 32 = 31
  · rw [outsAt0_E m c t h0 h1 h2 h3]; dsimp only; exact out0_E_7_eq _ _ _ _ _ _ _ _ _ _ _ _ _ _ _ _ _ _ _ _ _ _ _ _ _ _ _ _ _ _ _ _ _ _ _ _ _
  · rw [outsAt0_C m c t h0 h1 h2 h3]; dsimp only; exact out0_C_7_eq _ _ _ _ _ _ _ _ _ _ _ _ _ _ _ _ _ _ _ _ _ _ _ _ _ _ _ _ _ _ _ _ _ _ _ _ _

theorem row_last (t : Fin cfg0.N) (h3 : t.val % 32 = 31) : (outsAt0 m c t.val t.isLt).2.1 = k0_pay1 (outsAt0 m c t.val t.isLt).2.2.2 := by
  have h0 : ¬t.val % 32 = 0 := by omega
  have h1 : ¬t.val % 4 = 0 := by omega
  have h2 : t.val % 4 = 3 := by omega
  rw [red_next m c t h2, acc_next m c t h1, outsAt0_E m c t h0 h1 h2 h3]; dsimp only; exact out0_E_8_eq _ _ _ _ _ _ _ _ _ _ _ _ _ _ _ _ _ _ _ _ _ _ _ _ _ _ _ _ _ _ _ _ _ _ _ _ _

/-! The blocks of the arguments. -/

theorem idx_0 : ∀ t : Fin cfg0.N, win0_0.index t (0 : Fin 3) = t.val % 4 ∧ win0_0.index t (1 : Fin 3) = t.val / 4 ∧ win0_0.index t (2 : Fin 3) = 0 := by decide +kernel

theorem blk_0 (t : Fin cfg0.N) (z : S1x1024x704.Idx) (i : S4x8192x704.Idx) (h0 : (i 0).val = t.val % 4) (h1 : (i 1).val = 1024 * (t.val / 4) + (z 1).val) (h2 : (i 2).val = (z 2).val) :
    (iblk m c 0 t : Vec F S1x1024x704 .bf16) z = (m ((c.tc : Thread nD τ).loc main_arg0) : Vec F S4x8192x704 .bf16) i := by
  have hz0 : (z 0).val < 1 := (z 0).isLt
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 3) * 1 + 1 * (z 0).val = (i 0).val; rw [(idx_0 t).1]; omega
  | ⟨1, _⟩ => show win0_0.index t (1 : Fin 3) * 1024 + 1 * (z 1).val = (i 1).val; rw [(idx_0 t).2.1]; omega
  | ⟨2, _⟩ => show win0_0.index t (2 : Fin 3) * 704 + 1 * (z 2).val = (i 2).val; rw [(idx_0 t).2.2]; omega

theorem idx_1 : ∀ t : Fin cfg0.N, win0_1.index t (0 : Fin 3) = t.val % 4 ∧ win0_1.index t (1 : Fin 3) = t.val / 4 ∧ win0_1.index t (2 : Fin 3) = 0 := by decide +kernel

theorem blk_1 (t : Fin cfg0.N) (z : S1x1024x704.Idx) (i : S4x8192x704.Idx) (h0 : (i 0).val = t.val % 4) (h1 : (i 1).val = 1024 * (t.val / 4) + (z 1).val) (h2 : (i 2).val = (z 2).val) :
    (iblk m c 1 t : Vec F S1x1024x704 .bf16) z = (m ((c.tc : Thread nD τ).loc main_arg1) : Vec F S4x8192x704 .bf16) i := by
  have hz0 : (z 0).val < 1 := (z 0).isLt
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 3) * 1 + 1 * (z 0).val = (i 0).val; rw [(idx_1 t).1]; omega
  | ⟨1, _⟩ => show win0_1.index t (1 : Fin 3) * 1024 + 1 * (z 1).val = (i 1).val; rw [(idx_1 t).2.1]; omega
  | ⟨2, _⟩ => show win0_1.index t (2 : Fin 3) * 704 + 1 * (z 2).val = (i 2).val; rw [(idx_1 t).2.2]; omega

theorem idx_2 : ∀ t : Fin cfg0.N, win0_2.index t (0 : Fin 3) = t.val % 4 ∧ win0_2.index t (1 : Fin 3) = 0 ∧ win0_2.index t (2 : Fin 3) = 0 := by decide +kernel

theorem blk_2 (t : Fin cfg0.N) (z : S1x704x1024.Idx) (i : S4x704x1024.Idx) (h0 : (i 0).val = t.val % 4) (h1 : (i 1).val = (z 1).val) (h2 : (i 2).val = (z 2).val) :
    (iblk m c 2 t : Vec F S1x704x1024 .bf16) z = (m ((c.tc : Thread nD τ).loc main_arg2) : Vec F S4x704x1024 .bf16) i := by
  have hz0 : (z 0).val < 1 := (z 0).isLt
  refine Eq.trans ?_ (congrFun (V_main_arg2 m c) i)
  unfold iblk
  rw [View.read_apply]
  show V m c main_arg2 _ = V m c main_arg2 i
  congr 1
  funext a
  apply Fin.ext
  match a with
  | ⟨0, _⟩ => show win0_2.index t (0 : Fin 3) * 1 + 1 * (z 0).val = (i 0).val; rw [(idx_2 t).1]; omega
  | ⟨1, _⟩ => show win0_2.index t (1 : Fin 3) * 704 + 1 * (z 1).val = (i 1).val; rw [(idx_2 t).2.1]; omega
  | ⟨2, _⟩ => show win0_2.index t (2 : Fin 3) * 1024 + 1 * (z 2).val = (i 2).val; rw [(idx_2 t).2.2]; omega

theorem idx_3 : ∀ t : Fin cfg0.N, win0_3.index t (0 : Fin 3) = t.val % 4 ∧ win0_3.index t (1 : Fin 3) = 0 ∧ win0_3.index t (2 : Fin 3) = 0 := by decide +kernel

theorem blk_3 (t : Fin cfg0.N) (z : S1x704x1024.Idx) (i : S4x704x1024.Idx) (h0 : (i 0).val = t.val % 4) (h1 : (i 1).val = (z 1).val) (h2 : (i 2).val = (z 2).val) :
    (iblk m c 3 t : Vec F S1x704x1024 .bf16) z = (m ((c.tc : Thread nD τ).loc main_arg3) : Vec F S4x704x1024 .bf16) i := by
  have hz0 : (z 0).val < 1 := (z 0).isLt
  refine Eq.trans ?_ (congrFun (V_main_arg3 m c) i)
  unfold iblk
  rw [View.read_apply]
  show V m c main_arg3 _ = V m c main_arg3 i
  congr 1
  funext a
  apply Fin.ext
  match a with
  | ⟨0, _⟩ => show win0_3.index t (0 : Fin 3) * 1 + 1 * (z 0).val = (i 0).val; rw [(idx_3 t).1]; omega
  | ⟨1, _⟩ => show win0_3.index t (1 : Fin 3) * 704 + 1 * (z 1).val = (i 1).val; rw [(idx_3 t).2.1]; omega
  | ⟨2, _⟩ => show win0_3.index t (2 : Fin 3) * 1024 + 1 * (z 2).val = (i 2).val; rw [(idx_3 t).2.2]; omega

theorem idx_4 : ∀ t : Fin cfg0.N, win0_4.index t (0 : Fin 2) = t.val / 4 ∧ win0_4.index t (1 : Fin 2) = 0 := by decide +kernel

theorem blk_4 (t : Fin cfg0.N) (z : S1024x1024.Idx) (i : S8192x1024.Idx) (h0 : (i 0).val = 1024 * (t.val / 4) + (z 0).val) (h1 : (i 1).val = (z 1).val) :
    (iblk m c 4 t : Vec F S1024x1024 .f32) z = (m ((c.tc : Thread nD τ).loc main_arg4) : Vec F S8192x1024 .f32) i := by
  refine Eq.trans ?_ (congrFun (V_main_arg4 m c) i)
  unfold iblk
  rw [View.read_apply]
  show V m c main_arg4 _ = V m c main_arg4 i
  congr 1
  funext a
  apply Fin.ext
  match a with
  | ⟨0, _⟩ => show win0_4.index t (0 : Fin 2) * 1024 + 1 * (z 0).val = (i 0).val; rw [(idx_4 t).1]; omega
  | ⟨1, _⟩ => show win0_4.index t (1 : Fin 2) * 1024 + 1 * (z 1).val = (i 1).val; rw [(idx_4 t).2]; omega

theorem idx_5 : ∀ t : Fin cfg0.N, win0_5.index t (0 : Fin 2) = t.val / 4 ∧ win0_5.index t (1 : Fin 2) = 0 := by decide +kernel

theorem blk_5 (t : Fin cfg0.N) (z : S1024x1024.Idx) (i : S8192x1024.Idx) (h0 : (i 0).val = 1024 * (t.val / 4) + (z 0).val) (h1 : (i 1).val = (z 1).val) :
    (iblk m c 5 t : Vec F S1024x1024 .f32) z = (m ((c.tc : Thread nD τ).loc main_arg5) : Vec F S8192x1024 .f32) i := by
  refine Eq.trans ?_ (congrFun (V_main_arg5 m c) i)
  unfold iblk
  rw [View.read_apply]
  show V m c main_arg5 _ = V m c main_arg5 i
  congr 1
  funext a
  apply Fin.ext
  match a with
  | ⟨0, _⟩ => show win0_5.index t (0 : Fin 2) * 1024 + 1 * (z 0).val = (i 0).val; rw [(idx_5 t).1]; omega
  | ⟨1, _⟩ => show win0_5.index t (1 : Fin 2) * 1024 + 1 * (z 1).val = (i 1).val; rw [(idx_5 t).2]; omega

theorem idx_6 : ∀ t : Fin cfg0.N, win0_6.index t (0 : Fin 2) = 0 ∧ win0_6.index t (1 : Fin 2) = 0 := by decide +kernel

theorem blk_6 (t : Fin cfg0.N) (z : S1x1024.Idx) (i : S1x1024.Idx) (h0 : (i 0).val = 0) (h1 : (i 1).val = (z 1).val) :
    (iblk m c 6 t : Vec F S1x1024 .f32) z = (m ((c.tc : Thread nD τ).loc main_arg6) : Vec F S1x1024 .f32) i := by
  have hz0 : (z 0).val < 1 := (z 0).isLt
  refine Eq.trans ?_ (congrFun (V_main_arg6 m c) i)
  unfold iblk
  rw [View.read_apply]
  show V m c main_arg6 _ = V m c main_arg6 i
  congr 1
  funext a
  apply Fin.ext
  match a with
  | ⟨0, _⟩ => show win0_6.index t (0 : Fin 2) * 1 + 1 * (z 0).val = (i 0).val; rw [(idx_6 t).1]; omega
  | ⟨1, _⟩ => show win0_6.index t (1 : Fin 2) * 1024 + 1 * (z 1).val = (i 1).val; rw [(idx_6 t).2]; omega

end

end Cert.FfnIdeal.Val

end
-- ==== Proof.FfnValue.lean ====
/- The gradient of the feed-forward block's input, through the gate and up projections and the normalisation before them: the arrays after the run are the reference's. -/
module

public import proofs.«01_k».proof.Proof.FfnOuts
public import proofs.«01_k».proof.Proof.Gen.FfnRefIdeal.Run
public import proofs.«01_k».proof.Proof.Gen.FfnRefIdeal.Read

@[expose] public section

set_option maxRecDepth 16384

noncomputable section

namespace Cert.FfnIdeal.Val

open Cert.FfnIdeal Cert.FfnIdeal.Gen Cert.FfnIdeal.Value Idealize.ShloMosaic Idealize.ShloMosaic.TcCoe Idealize.SL.Sem Cert.Sums Cert.RmsBwd
open Idealize.ShloMosaic.Pipeline (Dat)
open Cert.FfnRefIdeal.Read

/-! The payloads at an index. -/

theorem zero_acc (i) : k0_pay3 (F := Ideal) i = 0 := by
  unfold k0_pay3
  pointwise

theorem zero_red (i) : k0_pay2 (F := Ideal) i = 0 := by
  unfold k0_pay2
  pointwise

theorem step_acc (v : Vec Ideal S1024x1024 .f32) (va : Vec Ideal S1x1024x704 .bf16) (vb : Vec Ideal S1x704x1024 .bf16) (vc : Vec Ideal S1x1024x704 .bf16) (vd : Vec Ideal S1x704x1024 .bf16) (i) :
    k0_pay4 (F := Ideal) v va vb vc vd i = v i + (∑ f, va (ix3 0 (i 0) f) * vb (ix3 0 f (i 1)) + ∑ f, vc (ix3 0 (i 0) f) * vd (ix3 0 f (i 1))) := by
  unfold k0_pay4
  pointwise
  all_goals done

theorem tok_row (a x : Vec Ideal S1024x1024 .f32) (g : Vec Ideal S1x1024 .f32) (d : Vec Ideal S1024x1024 .f32) (i) :
    k0_pay7 (F := Ideal) a x g d i = tile (fun q => a (ix2 (i 0) q)) (fun q => x (ix2 (i 0) q)) (fun q => g (ix2 0 q)) (d i) (i 1) := by
  unfold k0_pay7 k0_pay6 k0_pay5 tile rinv var cc ee
  pointwise
  all_goals simp only [ix2_eta]

theorem red_row (a x : Vec Ideal S1024x1024 .f32) (v : Vec Ideal S8x1024 .f32) (i) :
    k0_pay8 (F := Ideal) a x v i = v i + ∑ y : Fin 128, a (ix2 ⟨y.val * 8 + (i 0).val, by have h : (i 0).val < 8 := (i 0).isLt; have := y.isLt; omega⟩ (i 1))
      * (x (ix2 ⟨y.val * 8 + (i 0).val, by have h : (i 0).val < 8 := (i 0).isLt; have := y.isLt; omega⟩ (i 1)) * rinv (fun q => x (ix2 ⟨y.val * 8 + (i 0).val, by have h : (i 0).val < 8 := (i 0).isLt; have := y.isLt; omega⟩ q))) := by
  unfold k0_pay8 k0_pay6 k0_pay5 rinv var cc ee
  pointwise
  all_goals done

theorem row_sum (v : Vec Ideal S8x1024 .f32) (i) : k0_pay1 (F := Ideal) v i = ∑ y, v (ix2 y (i 1)) := by
  unfold k0_pay1
  pointwise
  all_goals done

/-! The reference at an index. -/

section
variable (x0 : Vec Ideal S4x8192x704 .bf16) (x1 : Vec Ideal S4x8192x704 .bf16) (x2 : Vec Ideal S4x704x1024 .bf16) (x3 : Vec Ideal S4x704x1024 .bf16) (x4 : Vec Ideal S8192x1024 .f32) (x5 : Vec Ideal S8192x1024 .f32) (x6 : Vec Ideal S1x1024 .f32)

/-- The addend of column block `k` in the cotangent of the normalised row. -/
def part (x0 : Vec Ideal S4x8192x704 .bf16) (x1 : Vec Ideal S4x8192x704 .bf16) (x2 : Vec Ideal S4x704x1024 .bf16) (x3 : Vec Ideal S4x704x1024 .bf16) (i : S8192x1024.Idx) (k : Fin 4) : EReal :=
  ∑ f, x0 (ix3 k (i 0) f) * x2 (ix3 k f (i 1)) + ∑ f, x1 (ix3 k (i 0) f) * x3 (ix3 k f (i 1))

theorem ref_dot (i : S8192x1024.Idx) : val_main_v27 (F := Ideal) x0 x1 x2 x3 i = ∑ k, part x0 x1 x2 x3 i k := by
  rw [show (∑ k, part x0 x1 x2 x3 i k) = ∑ k : Fin 4, ∑ f, x1 (ix3 k (i 0) f) * x3 (ix3 k f (i 1)) + ∑ k : Fin 4, ∑ f, x0 (ix3 k (i 0) f) * x2 (ix3 k f (i 1)) by
    unfold part; rw [Finset.sum_add_distrib, add_comm]]
  unfold val_main_v27 val_main_v26 val_main_v25 val_main_v24 val_main_v23 val_main_v22 val_main_v21 val_main_v18 val_main_v15
  pointwise
  all_goals rfl

theorem ref_tok (i : S8192x1024.Idx) : val_main_v47 (F := Ideal) x0 x1 x2 x3 x4 x5 x6 i
    = spec (fun q => val_main_v27 (F := Ideal) x0 x1 x2 x3 (ix2 (i 0) q)) (fun q => x5 (ix2 (i 0) q)) (fun q => x6 (ix2 0 q)) (x4 i) (i 1) := by
  unfold val_main_v47 val_main_v46 val_main_v45 val_main_v44 val_main_v43 val_main_v42 val_main_cst_6 val_main_v41 val_main_v40 val_main_cst_5 val_main_v39 val_main_v38 val_main_v37 val_main_v36 val_main_v35 val_main_v34 val_main_cst_4 val_main_v33 val_main_v32 val_main_v31 val_main_v10 val_main_v9 val_main_cst_2 val_main_v8 val_main_v7 val_main_v6 val_main_v5 val_main_cst_1 val_main_v4 val_main_v3 val_main_cst_0 val_main_v2 val_main_v1 val_main_cst val_main_v0 spec coef rinv var cc ee hh
  generalize val_main_v27 (F := Ideal) x0 x1 x2 x3 = y
  pointwise
  all_goals simp only [ix2_eta]

/-- The addend of row `r` in the gradient of the scale. -/
def gain (x0 : Vec Ideal S4x8192x704 .bf16) (x1 : Vec Ideal S4x8192x704 .bf16) (x2 : Vec Ideal S4x704x1024 .bf16) (x3 : Vec Ideal S4x704x1024 .bf16) (x5 : Vec Ideal S8192x1024 .f32) (q : Fin 1024) (r : Fin 8192) : EReal :=
  val_main_v27 (F := Ideal) x0 x1 x2 x3 (ix2 r q) * (x5 (ix2 r q) * rinv (fun q => x5 (ix2 r q)))

theorem ref_row (i : S1x1024.Idx) : val_main_v30 (F := Ideal) x0 x1 x2 x3 x5 i = ∑ r, gain x0 x1 x2 x3 x5 (i 1) r := by
  refine Eq.trans (b := ∑ r, x5 (ix2 r (i 1)) * rinv (fun q => x5 (ix2 r q)) * val_main_v27 (F := Ideal) x0 x1 x2 x3 (ix2 r (i 1))) ?_ (Finset.sum_congr rfl fun r _ => mul_comm _ _)
  unfold val_main_v30 val_main_v29 val_main_cst_3 val_main_v28 val_main_v12 val_main_v11 val_main_v7 val_main_v6 val_main_v5 val_main_cst_1 val_main_v4 val_main_v3 val_main_cst_0 val_main_v2 val_main_v1 val_main_cst val_main_v0 rinv var cc ee
  generalize val_main_v27 (F := Ideal) x0 x1 x2 x3 = y
  pointwise
  all_goals rfl

end

/-! The arrays. -/

section
variable (m : (ℓ : Loc nD τ sig) → Buf (Elt Ideal) ℓ) (c : Dev nD)

abbrev A0 : Vec Ideal S4x8192x704 .bf16 := m ((c.tc : Thread nD τ).loc main_arg0)
abbrev X0 (t : Fin cfg0.N) : Vec Ideal S1x1024x704 .bf16 := iblk m c 0 t
abbrev A1 : Vec Ideal S4x8192x704 .bf16 := m ((c.tc : Thread nD τ).loc main_arg1)
abbrev X1 (t : Fin cfg0.N) : Vec Ideal S1x1024x704 .bf16 := iblk m c 1 t
abbrev A2 : Vec Ideal S4x704x1024 .bf16 := m ((c.tc : Thread nD τ).loc main_arg2)
abbrev X2 (t : Fin cfg0.N) : Vec Ideal S1x704x1024 .bf16 := iblk m c 2 t
abbrev A3 : Vec Ideal S4x704x1024 .bf16 := m ((c.tc : Thread nD τ).loc main_arg3)
abbrev X3 (t : Fin cfg0.N) : Vec Ideal S1x704x1024 .bf16 := iblk m c 3 t
abbrev A4 : Vec Ideal S8192x1024 .f32 := m ((c.tc : Thread nD τ).loc main_arg4)
abbrev X4 (t : Fin cfg0.N) : Vec Ideal S1024x1024 .f32 := iblk m c 4 t
abbrev A5 : Vec Ideal S8192x1024 .f32 := m ((c.tc : Thread nD τ).loc main_arg5)
abbrev X5 (t : Fin cfg0.N) : Vec Ideal S1024x1024 .f32 := iblk m c 5 t
abbrev A6 : Vec Ideal S1x1024 .f32 := m ((c.tc : Thread nD τ).loc main_arg6)
abbrev X6 (t : Fin cfg0.N) : Vec Ideal S1x1024 .f32 := iblk m c 6 t

theorem block_acc (t : Fin cfg0.N) (i : S8192x1024.Idx) (z : S1024x1024.Idx) (h0 : (i 0).val = 1024 * (t.val / 4) + (z 0).val) (h1 : (i 1).val = (z 1).val) :
    (∑ f, X0 m c t (ix3 0 (z 0) f) * X2 m c t (ix3 0 f (z 1)) + ∑ f, X1 m c t (ix3 0 (z 0) f) * X3 m c t (ix3 0 f (z 1))) = at0 (part (A0 m c) (A1 m c) (A2 m c) (A3 m c) i) (t.val % 4) := by
  rw [at0_of_lt _ _ (Nat.mod_lt _ (by decide))]
  unfold part
  refine congrArg₂ (· + ·) ?_ ?_
  · refine Finset.sum_congr rfl fun f _ => congrArg₂ (· * ·) ?_ ?_
    · exact blk_0 m c t _ _ rfl h0 rfl
    · exact blk_2 m c t _ _ rfl rfl h1
  · refine Finset.sum_congr rfl fun f _ => congrArg₂ (· * ·) ?_ ?_
    · exact blk_1 m c t _ _ rfl h0 rfl
    · exact blk_3 m c t _ _ rfl rfl h1

/-- The partial product after each point. -/
theorem acc_sum (n : ℕ) (hn : n < cfg0.N) (i : S8192x1024.Idx) (z : S1024x1024.Idx) (h0 : (i 0).val = 1024 * (n / 4) + (z 0).val) (h1 : (i 1).val = (z 1).val) :
    (outsAt0 m c n hn).2.2.1 z = ∑ k ∈ Finset.range (n % 4 + 1), at0 (part (A0 m c) (A1 m c) (A2 m c) (A3 m c) i) k := by
  induction n with
  | zero =>
    refine (congrFun (acc_first m c ⟨0, hn⟩ rfl) z).trans ?_
    refine (step_acc _ _ _ _ _ z).trans ?_
    rw [zero_acc, zero_add, Finset.sum_range_one]
    exact block_acc m c ⟨0, hn⟩ i z h0 h1
  | succ n ih =>
    by_cases g0 : (n + 1) % 4 = 0
    · refine (congrFun (acc_first m c ⟨n + 1, hn⟩ g0) z).trans ?_
      refine (step_acc _ _ _ _ _ z).trans ?_
      rw [zero_acc, zero_add, g0, Finset.sum_range_one]
      exact (block_acc m c ⟨n + 1, hn⟩ i z h0 h1).trans (congrArg (at0 _) g0)
    · refine (congrFun (acc_next m c ⟨n + 1, hn⟩ g0) z).trans ?_
      refine (step_acc _ _ _ _ _ z).trans ?_
      rw [Finset.sum_range_succ]
      refine congrArg₂ (· + ·) ?_ (block_acc m c ⟨n + 1, hn⟩ i z h0 h1)
      exact (ih (Nat.lt_of_succ_lt hn) (by omega)).trans (by rw [show n % 4 + 1 = (n + 1) % 4 by omega])

theorem acc_full (t : Fin cfg0.N) (h : t.val % 4 = 3) (i : S8192x1024.Idx) (z : S1024x1024.Idx) (h0 : (i 0).val = 1024 * (t.val / 4) + (z 0).val) (h1 : (i 1).val = (z 1).val) :
    (outsAt0 m c t.val t.isLt).2.2.1 z = val_main_v27 (F := Ideal) (A0 m c) (A1 m c) (A2 m c) (A3 m c) i := by
  rw [acc_sum m c t.val t.isLt i z h0 h1, ref_dot, h]
  exact sum_at0 (part (A0 m c) (A1 m c) (A2 m c) (A3 m c) i)

theorem tok_full (t : Fin cfg0.N) (h3 : t.val % 4 = 3) (i : S8192x1024.Idx) (z : S1024x1024.Idx) (h0 : (i 0).val = 1024 * (t.val / 4) + (z 0).val) (h1 : (i 1).val = (z 1).val) :
    (outsAt0 m c t.val t.isLt).1 z = val_main_v47 (F := Ideal) (A0 m c) (A1 m c) (A2 m c) (A3 m c) (A4 m c) (A5 m c) (A6 m c) i := by
  refine (congrFun (tok_last m c t h3) z).trans ?_
  refine (tok_row _ _ _ _ z).trans ?_
  refine Eq.trans ?_ ((tile_eq_spec (fun q => val_main_v27 (F := Ideal) (A0 m c) (A1 m c) (A2 m c) (A3 m c) (ix2 (i 0) q)) (fun q => A5 m c (ix2 (i 0) q)) (fun q => A6 m c (ix2 0 q)) (A4 m c i) (i 1)).trans (ref_tok (A0 m c) (A1 m c) (A2 m c) (A3 m c) (A4 m c) (A5 m c) (A6 m c) i).symm)
  have e1 : (fun q : Fin 1024 => (outsAt0 m c t.val t.isLt).2.2.1 (ix2 (z 0) q)) = fun q => val_main_v27 (F := Ideal) (A0 m c) (A1 m c) (A2 m c) (A3 m c) (ix2 (i 0) q) :=
    funext fun q => acc_full m c t h3 (ix2 (i 0) q) (ix2 (z 0) q) h0 rfl
  have e2 : (fun q : Fin 1024 => X5 m c t (ix2 (z 0) q)) = fun q => A5 m c (ix2 (i 0) q) :=
    funext fun q => blk_5 m c t (ix2 (z 0) q) (ix2 (i 0) q) h0 rfl
  have e3 : (fun q : Fin 1024 => X6 m c t (ix2 0 q)) = fun q => A6 m c (ix2 0 q) :=
    funext fun q => blk_6 m c t (ix2 0 q) (ix2 0 q) rfl rfl
  have e4 : X4 m c t z = A4 m c i := blk_4 m c t z i h0 h1
  have e5 : (z 1 : Fin 1024) = i 1 := Fin.ext h1.symm
  exact congr (congr (congr (congr (congrArg tile e1) e2) e3) e4) e5

/-- One block of rows' part of the gradient of the scale. -/
theorem block_red (t : Fin cfg0.N) (h3 : t.val % 4 = 3) (z : S8x1024.Idx) (y : Fin 128)
    (r : Fin 1024) (hr : r.val = y.val * 8 + (z 0).val) :
    (outsAt0 m c t.val t.isLt).2.2.1 (ix2 r (z 1)) * (X5 m c t (ix2 r (z 1)) * rinv (fun q => X5 m c t (ix2 r q)))
      = at0 (gain (A0 m c) (A1 m c) (A2 m c) (A3 m c) (A5 m c) (z 1)) (1024 * (t.val / 4) + (y.val * 8 + (z 0).val)) := by
  have ht : t.val < 32 := lt_of_lt_of_eq t.isLt N_0
  have hk : 1024 * (t.val / 4) + (y.val * 8 + (z 0).val) < 8192 := by have := r.isLt; omega
  have hr' : 1024 * (t.val / 4) + (y.val * 8 + (z 0).val) = 1024 * (t.val / 4) + r.val := by omega
  rw [at0_of_lt _ _ hk]
  unfold gain
  refine congrArg₂ (· * ·) (acc_full m c t h3 _ _ hr' rfl) (congrArg₂ (· * ·) (blk_5 m c t _ _ hr' rfl) (congrArg rinv (funext fun q => blk_5 m c t _ _ hr' rfl)))

theorem red_sum (n : ℕ) (hn : n < cfg0.N) (z : S8x1024.Idx) :
    (outsAt0 m c n hn).2.2.2 z = ∑ p ∈ Finset.range ((n + 1) / 4), ∑ y : Fin 128, at0 (gain (A0 m c) (A1 m c) (A2 m c) (A3 m c) (A5 m c) (z 1)) (1024 * p + (y.val * 8 + (z 0).val)) := by
  induction n with
  | zero =>
    refine (congrFun (red_first m c ⟨0, hn⟩ rfl) z).trans ?_
    rw [zero_red]; rfl
  | succ n ih =>
    have hN : n + 1 < 32 := lt_of_lt_of_eq hn N_0
    have ih' := ih (Nat.lt_of_succ_lt hn)
    by_cases h3 : (n + 1) % 4 = 3
    · refine (congrFun (red_next m c ⟨n + 1, hn⟩ h3) z).trans ?_
      refine (red_row _ _ _ z).trans ?_
      rw [show (n + 1 + 1) / 4 = (n + 1) / 4 + 1 by omega, Finset.sum_range_succ]
      exact congrArg₂ (· + ·) ih' (Finset.sum_congr rfl fun y _ => block_red m c ⟨n + 1, hn⟩ h3 z y _ rfl)
    · refine (congrFun (red_keep m c ⟨n + 1, hn⟩ (show ¬(n + 1) % 32 = 0 by omega) h3) z).trans ?_
      rw [show (n + 1 + 1) / 4 = (n + 1) / 4 by omega]
      exact ih'

theorem row_full (t : Fin cfg0.N) (ht : t.val = 31) (i : S1x1024.Idx) :
    (outsAt0 m c t.val t.isLt).2.1 i = val_main_v30 (F := Ideal) (A0 m c) (A1 m c) (A2 m c) (A3 m c) (A5 m c) i := by
  refine (congrFun (row_last m c t (by omega)) i).trans ?_
  refine (row_sum _ i).trans ?_
  rw [ref_row, ← sum_at0 (gain (A0 m c) (A1 m c) (A2 m c) (A3 m c) (A5 m c) (i 1)), ← sum_rows]
  refine Finset.sum_congr rfl fun y _ => ?_
  rw [red_sum m c t.val t.isLt (ix2 y (i 1)), ht]
  rfl

theorem widx_7 : ∀ t : Fin cfg0.N, win0_7.index t (0 : Fin 2) = t.val / 4 ∧ win0_7.index t (1 : Fin 2) = 0 := by decide +kernel

theorem arr_tok : (dats m 0 c).arrAt 7 cfg0.N = val_main_v47 (F := Ideal) (A0 m c) (A1 m c) (A2 m c) (A3 m c) (A4 m c) (A5 m c) (A6 m c) := by
  refine Dat.arrAt_eq_of_cover (dats m 0 c) 7 (val_main_v47 (F := Ideal) (A0 m c) (A1 m c) (A2 m c) (A3 m c) (A4 m c) (A5 m c) (A6 m c)) (fun t hf => ?_) (fun i => ?_)
  · have ht : t.val % 4 = 3 := (flush0_7 t).mp hf
    rw [flushed7]
    funext y
    rw [View.read_apply]
    refine (tok_full m c t ht _ y ?_ ?_)
    · show win0_7.index t (0 : Fin 2) * 1024 + 1 * (y 0).val = 1024 * (t.val / 4) + (y 0).val
      rw [(widx_7 t).1]; omega
    · show win0_7.index t (1 : Fin 2) * 1024 + 1 * (y 1).val = (y 1).val
      rw [(widx_7 t).2]; omega
  · have hi0 : (i 0).val < 8192 := (i 0).isLt
    obtain ⟨t, ht⟩ : ∃ t : Fin cfg0.N, t.val = 4 * ((i 0).val / 1024) + 3 := ⟨⟨4 * ((i 0).val / 1024) + 3, lt_of_lt_of_eq (by omega) N_0.symm⟩, rfl⟩
    refine ⟨t, (flush0_7 t).mpr (by omega), ?_⟩
    have e : ((cfg0.win 7).blk t).view.emb (ix2 (⟨(i 0).val % 1024, Nat.mod_lt _ (by decide)⟩ : Fin 1024) (i 1)) = i := by
      funext a
      apply Fin.ext
      match a with
      | ⟨0, _⟩ => show win0_7.index t (0 : Fin 2) * 1024 + 1 * ((i 0).val % 1024) = (i 0).val; rw [(widx_7 t).1]; omega
      | ⟨1, _⟩ => show win0_7.index t (1 : Fin 2) * 1024 + 1 * (i 1).val = (i 1).val; rw [(widx_7 t).2]; omega
    exact e ▸ ((cfg0.win 7).blk t).view.emb_mem_set _

theorem widx_8 : ∀ t : Fin cfg0.N, win0_8.index t (0 : Fin 2) = 0 ∧ win0_8.index t (1 : Fin 2) = 0 := by decide +kernel

theorem arr_row : (dats m 0 c).arrAt 8 cfg0.N = val_main_v30 (F := Ideal) (A0 m c) (A1 m c) (A2 m c) (A3 m c) (A5 m c) := by
  refine Dat.arrAt_eq_of_cover (dats m 0 c) 8 (val_main_v30 (F := Ideal) (A0 m c) (A1 m c) (A2 m c) (A3 m c) (A5 m c)) (fun t hf => ?_) (fun i => ?_)
  · have ht : t.val % 32 = 31 := (flush0_8 t).mp hf
    have hN : t.val < 32 := lt_of_lt_of_eq t.isLt N_0
    rw [flushed8]
    funext y
    have hy : (y 0).val < 1 := (y 0).isLt
    rw [View.read_apply]
    refine (row_full m c t (by omega) y).trans (congrArg _ ?_)
    funext a
    apply Fin.ext
    match a with
    | ⟨0, _⟩ => show (y 0).val = win0_8.index t (0 : Fin 2) * 1 + 1 * (y 0).val; rw [(widx_8 t).1]; omega
    | ⟨1, _⟩ => show (y 1).val = win0_8.index t (1 : Fin 2) * 1024 + 1 * (y 1).val; rw [(widx_8 t).2]; omega
  · have hi0 : (i 0).val < 1 := (i 0).isLt
    obtain ⟨t, ht⟩ : ∃ t : Fin cfg0.N, t.val = 31 := ⟨⟨31, lt_of_lt_of_eq (by decide) N_0.symm⟩, rfl⟩
    refine ⟨t, (flush0_8 t).mpr (by omega), ?_⟩
    have e : ((cfg0.win 8).blk t).view.emb (ix2 (0 : Fin 1) (i 1)) = i := by
      funext a
      apply Fin.ext
      match a with
      | ⟨0, _⟩ => show win0_8.index t (0 : Fin 2) * 1 + 1 * 0 = (i 0).val; rw [(widx_8 t).1]; omega
      | ⟨1, _⟩ => show win0_8.index t (1 : Fin 2) * 1024 + 1 * (i 1).val = (i 1).val; rw [(widx_8 t).2]; omega
    exact e ▸ ((cfg0.win 8).blk t).view.emb_mem_set _

end

theorem algebraic : Cert.algebraic_FfnIdeal_FfnRefIdeal := by
  intro m g m' g' hp hag
  refine ⟨fun c => (dats m 0 c).arrAt 7 cfg0.N, fun c => (dats m 0 c).arrAt 8 cfg0.N, run_blocks m g, ?_⟩
  refine (θ_run Cert.FfnRefIdeal.defs _ _).mono (fun r h c => ?_) (Cert.FfnRefIdeal.Value.run m' g')
  obtain ⟨h0, h1, hargs⟩ := h c
  obtain ⟨a0, a1, a2, a3, a4, a5, a6⟩ := hag c
  have e0 : Cert.FfnRefIdeal.Value.res_main_v47 m' c = (dats m 0 c).arrAt 7 cfg0.N := by
    refine (val_main_v47_eq m' c).trans (Eq.trans ?_ (arr_tok m c).symm)
    rw [a0, a1, a2, a3, a4, a5, a6]
  refine ⟨h0.trans e0, (h1.trans (by rw [a0, a1, a2, a3, a5]; rfl)).trans (arr_row m c).symm, hargs⟩

/-- The reference leaves its arguments as they were; it declares no semaphore. -/
theorem frame_reference : Cert.quiescent_FfnRefIdeal := fun m ρ _ =>
  (θ_run Cert.FfnRefIdeal.defs _ _).mono
    (fun r h => ⟨fun c => by obtain ⟨_, _, hargs⟩ := h c; exact hargs,
      Idealize.ShloMosaic.sem_eq_zero_of_no_sems (by decide) r.2⟩)
    (Cert.FfnRefIdeal.Value.run (F := Ideal) m ρ)

end Cert.FfnIdeal.Val

end
-- ==== Proof.AdamStep.lean ====
/- One element of the optimiser's step, on the extended reals. -/
module

public import Idealize.ShloMosaic.Lib.Pointwise
public import Idealize.ShloMosaic.Lib.Tactic

@[expose] public section

noncomputable section

namespace Cert.AdamStep

open Idealize.ShloMosaic

/-- The new first moment. -/
def mom (g m : EReal) : EReal := Ideal.ofBits FTy.f32 1063675494#32 * m + Ideal.ofBits FTy.f32 1036831949#32 * g
/-- The new second moment. -/
def vel (g v : EReal) : EReal := Ideal.ofBits FTy.f32 1065336439#32 * v + Ideal.ofBits FTy.f32 981668463#32 * (g * g)
/-- The step of the weight. -/
def delta (w g m v : EReal) : EReal :=
  Ideal.ofBits FTy.f32 3129152111#32 * (Ideal.div (Ideal.div (mom g m) (Ideal.ofBits FTy.f32 1059503362#32))
      (Ideal.sqrt (Ideal.div (vel g v) (Ideal.ofBits FTy.f32 1008933580#32)) + Ideal.ofBits FTy.f32 841731191#32)
    + Ideal.ofBits FTy.f32 1008981770#32 * w)

end Cert.AdamStep

end
-- ==== Proof.AdamInValue.lean ====
/- The optimiser's step of the input projection: the arrays after the run are the reference's. -/
module

public import proofs.«01_k».proof.Defs
public import proofs.«01_k».proof.Proof.AdamStep
public import proofs.«01_k».proof.Proof.Gen.AdamInIdeal.Value
public import proofs.«01_k».proof.Proof.Gen.AdamInRefIdeal.Run
public import proofs.«01_k».proof.Proof.Gen.AdamInRefIdeal.Read

@[expose] public section

set_option maxRecDepth 16384

noncomputable section

namespace Cert.AdamInIdeal.Val

open Cert.AdamInIdeal Cert.AdamInIdeal.Gen Cert.AdamInIdeal.Value Idealize.ShloMosaic Idealize.ShloMosaic.TcCoe Idealize.SL.Sem Cert.AdamStep
open Idealize.ShloMosaic.Pipeline (Dat)
open Cert.AdamInRefIdeal.Read

theorem hz : (![0, 0, 0] : Fin 3 → Nat) = fun _ => 0 := by decide

/-! The stored blocks at an index. -/

theorem out_4 (x0 x1 x2 x3 : Vec Ideal S1x256x1792 .f32) (y : S1x256x1792.Idx) : out0_4 (F := Ideal) x0 x1 x2 x3 y = delta (x0 y) (x1 y) (x2 y) (x3 y) := by
  unfold out0_4
  rw [View.canon_unit_zero hz]
  simp only [View.ld_unit_zero (S := S1x256x1792) hz]
  unfold delta mom vel k0_pay1 k0_pay8 k0_pay7 k0_pay6 k0_pay5
  pointwise
  all_goals done

theorem out_5 (x0 x1 x2 x3 : Vec Ideal S1x256x1792 .f32) (y : S1x256x1792.Idx) : out0_5 (F := Ideal) x0 x1 x2 x3 y = mom (x1 y) (x2 y) := by
  unfold out0_5
  rw [View.canon_unit_zero hz]
  simp only [View.ld_unit_zero (S := S1x256x1792) hz]
  unfold mom k0_pay2 k0_pay6 k0_pay5
  pointwise
  all_goals done

theorem out_6 (x0 x1 x2 x3 : Vec Ideal S1x256x1792 .f32) (y : S1x256x1792.Idx) : out0_6 (F := Ideal) x0 x1 x2 x3 y = vel (x1 y) (x3 y) := by
  unfold out0_6
  rw [View.canon_unit_zero hz]
  simp only [View.ld_unit_zero (S := S1x256x1792) hz]
  unfold vel k0_pay3 k0_pay7 k0_pay5
  pointwise
  all_goals done

theorem out_7 (x0 x1 x2 x3 : Vec Ideal S1x256x1792 .f32) (y : S1x256x1792.Idx) : out0_7 (F := Ideal) x0 x1 x2 x3 y = x1 y := by
  unfold out0_7
  rw [View.canon_unit_zero hz]
  simp only [View.ld_unit_zero (S := S1x256x1792) hz]
  unfold k0_pay4 k0_pay5
  pointwise
  all_goals done

/-! The reference at an index. -/

theorem ref_4 (x0 x1 x2 x3 : Vec Ideal S2x1024x1792 .f32) (i : S2x1024x1792.Idx) : val_main_v23 (F := Ideal) x0 x1 x2 x3 i = delta (x0 i) (x1 i) (x2 i) (x3 i) := by
  unfold delta mom vel val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v4 val_main_v3 val_main_v2 val_main_cst_0 val_main_v1 val_main_v0 val_main_cst val_main_v10 val_main_v9 val_main_v8 val_main_cst_2 val_main_v7 val_main_v6 val_main_v5 val_main_cst_1
  pointwise
  all_goals done

theorem ref_5 (x1 x2 : Vec Ideal S2x1024x1792 .f32) (i : S2x1024x1792.Idx) : val_main_v4 (F := Ideal) x1 x2 i = mom (x1 i) (x2 i) := by
  unfold mom val_main_v4 val_main_v3 val_main_v2 val_main_cst_0 val_main_v1 val_main_v0 val_main_cst
  pointwise
  all_goals done

theorem ref_6 (x1 x3 : Vec Ideal S2x1024x1792 .f32) (i : S2x1024x1792.Idx) : val_main_v10 (F := Ideal) x1 x3 i = vel (x1 i) (x3 i) := by
  unfold vel val_main_v10 val_main_v9 val_main_v8 val_main_cst_2 val_main_v7 val_main_v6 val_main_v5 val_main_cst_1
  pointwise
  all_goals done

/-! The arrays. -/

section
variable (m : (ℓ : Loc nD τ sig) → Buf (Elt Ideal) ℓ) (c : Dev nD)

theorem idx_0 : ∀ t : Fin cfg0.N, win0_0.index t (0 : Fin 3) = t.val / 4 ∧ win0_0.index t (1 : Fin 3) = t.val % 4 ∧ win0_0.index t (2 : Fin 3) = 0 := by decide +kernel

theorem idx_1 : ∀ t : Fin cfg0.N, win0_1.index t (0 : Fin 3) = t.val / 4 ∧ win0_1.index t (1 : Fin 3) = t.val % 4 ∧ win0_1.index t (2 : Fin 3) = 0 := by decide +kernel

theorem idx_2 : ∀ t : Fin cfg0.N, win0_2.index t (0 : Fin 3) = t.val / 4 ∧ win0_2.index t (1 : Fin 3) = t.val % 4 ∧ win0_2.index t (2 : Fin 3) = 0 := by decide +kernel

theorem idx_3 : ∀ t : Fin cfg0.N, win0_3.index t (0 : Fin 3) = t.val / 4 ∧ win0_3.index t (1 : Fin 3) = t.val % 4 ∧ win0_3.index t (2 : Fin 3) = 0 := by decide +kernel

theorem idx_4 : ∀ t : Fin cfg0.N, win0_4.index t (0 : Fin 3) = t.val / 4 ∧ win0_4.index t (1 : Fin 3) = t.val % 4 ∧ win0_4.index t (2 : Fin 3) = 0 := by decide +kernel

theorem idx_5 : ∀ t : Fin cfg0.N, win0_5.index t (0 : Fin 3) = t.val / 4 ∧ win0_5.index t (1 : Fin 3) = t.val % 4 ∧ win0_5.index t (2 : Fin 3) = 0 := by decide +kernel

theorem idx_6 : ∀ t : Fin cfg0.N, win0_6.index t (0 : Fin 3) = t.val / 4 ∧ win0_6.index t (1 : Fin 3) = t.val % 4 ∧ win0_6.index t (2 : Fin 3) = 0 := by decide +kernel

theorem idx_7 : ∀ t : Fin cfg0.N, win0_7.index t (0 : Fin 3) = t.val / 4 ∧ win0_7.index t (1 : Fin 3) = t.val % 4 ∧ win0_7.index t (2 : Fin 3) = 0 := by decide +kernel

abbrev A0 : Vec Ideal S2x1024x1792 .f32 := m ((c.tc : Thread nD τ).loc main_arg0)

theorem blk_0 (t : Fin cfg0.N) (z : S1x256x1792.Idx) (i : S2x1024x1792.Idx) (h0 : (i 0).val = t.val / 4) (h1 : (i 1).val = t.val % 4 * 256 + (z 1).val) (h2 : (i 2).val = (z 2).val) :
    (iblk m c 0 t : Vec Ideal S1x256x1792 .f32) z = A0 m c i := by
  have hz0 : (z 0).val < 1 := (z 0).isLt
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 3) * 1 + 1 * (z 0).val = (i 0).val; rw [(idx_0 t).1]; omega
  | ⟨1, _⟩ => show win0_0.index t (1 : Fin 3) * 256 + 1 * (z 1).val = (i 1).val; rw [(idx_0 t).2.1]; omega
  | ⟨2, _⟩ => show win0_0.index t (2 : Fin 3) * 1792 + 1 * (z 2).val = (i 2).val; rw [(idx_0 t).2.2]; omega

abbrev A1 : Vec Ideal S2x1024x1792 .f32 := m ((c.tc : Thread nD τ).loc main_arg1)

theorem blk_1 (t : Fin cfg0.N) (z : S1x256x1792.Idx) (i : S2x1024x1792.Idx) (h0 : (i 0).val = t.val / 4) (h1 : (i 1).val = t.val % 4 * 256 + (z 1).val) (h2 : (i 2).val = (z 2).val) :
    (iblk m c 1 t : Vec Ideal S1x256x1792 .f32) z = A1 m c i := by
  have hz0 : (z 0).val < 1 := (z 0).isLt
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 3) * 1 + 1 * (z 0).val = (i 0).val; rw [(idx_1 t).1]; omega
  | ⟨1, _⟩ => show win0_1.index t (1 : Fin 3) * 256 + 1 * (z 1).val = (i 1).val; rw [(idx_1 t).2.1]; omega
  | ⟨2, _⟩ => show win0_1.index t (2 : Fin 3) * 1792 + 1 * (z 2).val = (i 2).val; rw [(idx_1 t).2.2]; omega

abbrev A2 : Vec Ideal S2x1024x1792 .f32 := m ((c.tc : Thread nD τ).loc main_arg2)

theorem blk_2 (t : Fin cfg0.N) (z : S1x256x1792.Idx) (i : S2x1024x1792.Idx) (h0 : (i 0).val = t.val / 4) (h1 : (i 1).val = t.val % 4 * 256 + (z 1).val) (h2 : (i 2).val = (z 2).val) :
    (iblk m c 2 t : Vec Ideal S1x256x1792 .f32) z = A2 m c i := by
  have hz0 : (z 0).val < 1 := (z 0).isLt
  refine Eq.trans ?_ (congrFun (V_main_arg2 m c) i)
  unfold iblk
  rw [View.read_apply]
  show V m c main_arg2 _ = V m c main_arg2 i
  congr 1
  funext a
  apply Fin.ext
  match a with
  | ⟨0, _⟩ => show win0_2.index t (0 : Fin 3) * 1 + 1 * (z 0).val = (i 0).val; rw [(idx_2 t).1]; omega
  | ⟨1, _⟩ => show win0_2.index t (1 : Fin 3) * 256 + 1 * (z 1).val = (i 1).val; rw [(idx_2 t).2.1]; omega
  | ⟨2, _⟩ => show win0_2.index t (2 : Fin 3) * 1792 + 1 * (z 2).val = (i 2).val; rw [(idx_2 t).2.2]; omega

abbrev A3 : Vec Ideal S2x1024x1792 .f32 := m ((c.tc : Thread nD τ).loc main_arg3)

theorem blk_3 (t : Fin cfg0.N) (z : S1x256x1792.Idx) (i : S2x1024x1792.Idx) (h0 : (i 0).val = t.val / 4) (h1 : (i 1).val = t.val % 4 * 256 + (z 1).val) (h2 : (i 2).val = (z 2).val) :
    (iblk m c 3 t : Vec Ideal S1x256x1792 .f32) z = A3 m c i := by
  have hz0 : (z 0).val < 1 := (z 0).isLt
  refine Eq.trans ?_ (congrFun (V_main_arg3 m c) i)
  unfold iblk
  rw [View.read_apply]
  show V m c main_arg3 _ = V m c main_arg3 i
  congr 1
  funext a
  apply Fin.ext
  match a with
  | ⟨0, _⟩ => show win0_3.index t (0 : Fin 3) * 1 + 1 * (z 0).val = (i 0).val; rw [(idx_3 t).1]; omega
  | ⟨1, _⟩ => show win0_3.index t (1 : Fin 3) * 256 + 1 * (z 1).val = (i 1).val; rw [(idx_3 t).2.1]; omega
  | ⟨2, _⟩ => show win0_3.index t (2 : Fin 3) * 1792 + 1 * (z 2).val = (i 2).val; rw [(idx_3 t).2.2]; omega

theorem full_4 (t : Fin cfg0.N) (y : S1x256x1792.Idx) (i : S2x1024x1792.Idx) (h0 : (i 0).val = t.val / 4) (h1 : (i 1).val = t.val % 4 * 256 + (y 1).val) (h2 : (i 2).val = (y 2).val) :
    out0_4 (F := Ideal) (iblk m c 0 t) (iblk m c 1 t) (iblk m c 2 t) (iblk m c 3 t) y = (val_main_v23 (F := Ideal) (A0 m c) (A1 m c) (A2 m c) (A3 m c)) i := by
  refine (out_4 _ _ _ _ y).trans ?_
  exact (congr (congr (congr (congrArg delta (blk_0 m c t y i h0 h1 h2)) (blk_1 m c t y i h0 h1 h2)) (blk_2 m c t y i h0 h1 h2)) (blk_3 m c t y i h0 h1 h2)).trans (ref_4 _ _ _ _ i).symm

theorem arr_4 : (dats m 0 c).arrAt 4 cfg0.N = val_main_v23 (F := Ideal) (A0 m c) (A1 m c) (A2 m c) (A3 m c) := by
  refine Dat.arrAt_eq_of_cover (dats m 0 c) 4 (val_main_v23 (F := Ideal) (A0 m c) (A1 m c) (A2 m c) (A3 m c)) (fun t hf => ?_) (fun i => ?_)
  · rw [flushed4]
    funext y
    have hy0 : (y 0).val < 1 := (y 0).isLt
    rw [View.read_apply]
    refine full_4 m c t y _ ?_ ?_ ?_
    · show win0_4.index t (0 : Fin 3) * 1 + 1 * (y 0).val = t.val / 4
      rw [(idx_4 t).1]; omega
    · show win0_4.index t (1 : Fin 3) * 256 + 1 * (y 1).val = t.val % 4 * 256 + (y 1).val
      rw [(idx_4 t).2.1]; omega
    · show win0_4.index t (2 : Fin 3) * 1792 + 1 * (y 2).val = (y 2).val
      rw [(idx_4 t).2.2]; omega
  · have hi0 : (i 0).val < 2 := (i 0).isLt
    have hi1 : (i 1).val < 1024 := (i 1).isLt
    obtain ⟨t, ht⟩ : ∃ t : Fin cfg0.N, t.val = (i 0).val * 4 + (i 1).val / 256 := ⟨⟨(i 0).val * 4 + (i 1).val / 256, lt_of_lt_of_eq (by omega) N_0.symm⟩, rfl⟩
    refine ⟨t, flush0_4 t, ?_⟩
    have e : ((cfg0.win 4).blk t).view.emb (ix3 (0 : Fin 1) (⟨(i 1).val % 256, Nat.mod_lt _ (by decide)⟩ : Fin 256) (i 2)) = i := by
      funext a
      apply Fin.ext
      match a with
      | ⟨0, _⟩ => show win0_4.index t (0 : Fin 3) * 1 + 1 * 0 = (i 0).val; rw [(idx_4 t).1]; omega
      | ⟨1, _⟩ => show win0_4.index t (1 : Fin 3) * 256 + 1 * ((i 1).val % 256) = (i 1).val; rw [(idx_4 t).2.1]; omega
      | ⟨2, _⟩ => show win0_4.index t (2 : Fin 3) * 1792 + 1 * (i 2).val = (i 2).val; rw [(idx_4 t).2.2]; omega
    exact e ▸ ((cfg0.win 4).blk t).view.emb_mem_set _

theorem full_5 (t : Fin cfg0.N) (y : S1x256x1792.Idx) (i : S2x1024x1792.Idx) (h0 : (i 0).val = t.val / 4) (h1 : (i 1).val = t.val % 4 * 256 + (y 1).val) (h2 : (i 2).val = (y 2).val) :
    out0_5 (F := Ideal) (iblk m c 0 t) (iblk m c 1 t) (iblk m c 2 t) (iblk m c 3 t) y = (val_main_v4 (F := Ideal) (A1 m c) (A2 m c)) i := by
  refine (out_5 _ _ _ _ y).trans ?_
  exact (congrArg₂ mom (blk_1 m c t y i h0 h1 h2) (blk_2 m c t y i h0 h1 h2)).trans (ref_5 _ _ i).symm

theorem arr_5 : (dats m 0 c).arrAt 5 cfg0.N = val_main_v4 (F := Ideal) (A1 m c) (A2 m c) := by
  refine Dat.arrAt_eq_of_cover (dats m 0 c) 5 (val_main_v4 (F := Ideal) (A1 m c) (A2 m c)) (fun t hf => ?_) (fun i => ?_)
  · rw [flushed5]
    funext y
    have hy0 : (y 0).val < 1 := (y 0).isLt
    rw [View.read_apply]
    refine full_5 m c t y _ ?_ ?_ ?_
    · show win0_5.index t (0 : Fin 3) * 1 + 1 * (y 0).val = t.val / 4
      rw [(idx_5 t).1]; omega
    · show win0_5.index t (1 : Fin 3) * 256 + 1 * (y 1).val = t.val % 4 * 256 + (y 1).val
      rw [(idx_5 t).2.1]; omega
    · show win0_5.index t (2 : Fin 3) * 1792 + 1 * (y 2).val = (y 2).val
      rw [(idx_5 t).2.2]; omega
  · have hi0 : (i 0).val < 2 := (i 0).isLt
    have hi1 : (i 1).val < 1024 := (i 1).isLt
    obtain ⟨t, ht⟩ : ∃ t : Fin cfg0.N, t.val = (i 0).val * 4 + (i 1).val / 256 := ⟨⟨(i 0).val * 4 + (i 1).val / 256, lt_of_lt_of_eq (by omega) N_0.symm⟩, rfl⟩
    refine ⟨t, flush0_5 t, ?_⟩
    have e : ((cfg0.win 5).blk t).view.emb (ix3 (0 : Fin 1) (⟨(i 1).val % 256, Nat.mod_lt _ (by decide)⟩ : Fin 256) (i 2)) = i := by
      funext a
      apply Fin.ext
      match a with
      | ⟨0, _⟩ => show win0_5.index t (0 : Fin 3) * 1 + 1 * 0 = (i 0).val; rw [(idx_5 t).1]; omega
      | ⟨1, _⟩ => show win0_5.index t (1 : Fin 3) * 256 + 1 * ((i 1).val % 256) = (i 1).val; rw [(idx_5 t).2.1]; omega
      | ⟨2, _⟩ => show win0_5.index t (2 : Fin 3) * 1792 + 1 * (i 2).val = (i 2).val; rw [(idx_5 t).2.2]; omega
    exact e ▸ ((cfg0.win 5).blk t).view.emb_mem_set _

theorem full_6 (t : Fin cfg0.N) (y : S1x256x1792.Idx) (i : S2x1024x1792.Idx) (h0 : (i 0).val = t.val / 4) (h1 : (i 1).val = t.val % 4 * 256 + (y 1).val) (h2 : (i 2).val = (y 2).val) :
    out0_6 (F := Ideal) (iblk m c 0 t) (iblk m c 1 t) (iblk m c 2 t) (iblk m c 3 t) y = (val_main_v10 (F := Ideal) (A1 m c) (A3 m c)) i := by
  refine (out_6 _ _ _ _ y).trans ?_
  exact (congrArg₂ vel (blk_1 m c t y i h0 h1 h2) (blk_3 m c t y i h0 h1 h2)).trans (ref_6 _ _ i).symm

theorem arr_6 : (dats m 0 c).arrAt 6 cfg0.N = val_main_v10 (F := Ideal) (A1 m c) (A3 m c) := by
  refine Dat.arrAt_eq_of_cover (dats m 0 c) 6 (val_main_v10 (F := Ideal) (A1 m c) (A3 m c)) (fun t hf => ?_) (fun i => ?_)
  · rw [flushed6]
    funext y
    have hy0 : (y 0).val < 1 := (y 0).isLt
    rw [View.read_apply]
    refine full_6 m c t y _ ?_ ?_ ?_
    · show win0_6.index t (0 : Fin 3) * 1 + 1 * (y 0).val = t.val / 4
      rw [(idx_6 t).1]; omega
    · show win0_6.index t (1 : Fin 3) * 256 + 1 * (y 1).val = t.val % 4 * 256 + (y 1).val
      rw [(idx_6 t).2.1]; omega
    · show win0_6.index t (2 : Fin 3) * 1792 + 1 * (y 2).val = (y 2).val
      rw [(idx_6 t).2.2]; omega
  · have hi0 : (i 0).val < 2 := (i 0).isLt
    have hi1 : (i 1).val < 1024 := (i 1).isLt
    obtain ⟨t, ht⟩ : ∃ t : Fin cfg0.N, t.val = (i 0).val * 4 + (i 1).val / 256 := ⟨⟨(i 0).val * 4 + (i 1).val / 256, lt_of_lt_of_eq (by omega) N_0.symm⟩, rfl⟩
    refine ⟨t, flush0_6 t, ?_⟩
    have e : ((cfg0.win 6).blk t).view.emb (ix3 (0 : Fin 1) (⟨(i 1).val % 256, Nat.mod_lt _ (by decide)⟩ : Fin 256) (i 2)) = i := by
      funext a
      apply Fin.ext
      match a with
      | ⟨0, _⟩ => show win0_6.index t (0 : Fin 3) * 1 + 1 * 0 = (i 0).val; rw [(idx_6 t).1]; omega
      | ⟨1, _⟩ => show win0_6.index t (1 : Fin 3) * 256 + 1 * ((i 1).val % 256) = (i 1).val; rw [(idx_6 t).2.1]; omega
      | ⟨2, _⟩ => show win0_6.index t (2 : Fin 3) * 1792 + 1 * (i 2).val = (i 2).val; rw [(idx_6 t).2.2]; omega
    exact e ▸ ((cfg0.win 6).blk t).view.emb_mem_set _

theorem full_7 (t : Fin cfg0.N) (y : S1x256x1792.Idx) (i : S2x1024x1792.Idx) (h0 : (i 0).val = t.val / 4) (h1 : (i 1).val = t.val % 4 * 256 + (y 1).val) (h2 : (i 2).val = (y 2).val) :
    out0_7 (F := Ideal) (iblk m c 0 t) (iblk m c 1 t) (iblk m c 2 t) (iblk m c 3 t) y = (A1 m c) i := by
  refine (out_7 _ _ _ _ y).trans ?_
  exact (blk_1 m c t y i h0 h1 h2)

theorem arr_7 : (dats m 0 c).arrAt 7 cfg0.N = A1 m c := by
  refine Dat.arrAt_eq_of_cover (dats m 0 c) 7 (A1 m c) (fun t hf => ?_) (fun i => ?_)
  · rw [flushed7]
    funext y
    have hy0 : (y 0).val < 1 := (y 0).isLt
    rw [View.read_apply]
    refine full_7 m c t y _ ?_ ?_ ?_
    · show win0_7.index t (0 : Fin 3) * 1 + 1 * (y 0).val = t.val / 4
      rw [(idx_7 t).1]; omega
    · show win0_7.index t (1 : Fin 3) * 256 + 1 * (y 1).val = t.val % 4 * 256 + (y 1).val
      rw [(idx_7 t).2.1]; omega
    · show win0_7.index t (2 : Fin 3) * 1792 + 1 * (y 2).val = (y 2).val
      rw [(idx_7 t).2.2]; omega
  · have hi0 : (i 0).val < 2 := (i 0).isLt
    have hi1 : (i 1).val < 1024 := (i 1).isLt
    obtain ⟨t, ht⟩ : ∃ t : Fin cfg0.N, t.val = (i 0).val * 4 + (i 1).val / 256 := ⟨⟨(i 0).val * 4 + (i 1).val / 256, lt_of_lt_of_eq (by omega) N_0.symm⟩, rfl⟩
    refine ⟨t, flush0_7 t, ?_⟩
    have e : ((cfg0.win 7).blk t).view.emb (ix3 (0 : Fin 1) (⟨(i 1).val % 256, Nat.mod_lt _ (by decide)⟩ : Fin 256) (i 2)) = i := by
      funext a
      apply Fin.ext
      match a with
      | ⟨0, _⟩ => show win0_7.index t (0 : Fin 3) * 1 + 1 * 0 = (i 0).val; rw [(idx_7 t).1]; omega
      | ⟨1, _⟩ => show win0_7.index t (1 : Fin 3) * 256 + 1 * ((i 1).val % 256) = (i 1).val; rw [(idx_7 t).2.1]; omega
      | ⟨2, _⟩ => show win0_7.index t (2 : Fin 3) * 1792 + 1 * (i 2).val = (i 2).val; rw [(idx_7 t).2.2]; omega
    exact e ▸ ((cfg0.win 7).blk t).view.emb_mem_set _

end

theorem algebraic : Cert.algebraic_AdamInIdeal_AdamInRefIdeal := by
  intro m g m' g' hp hag
  refine ⟨fun c => (dats m 0 c).arrAt 4 cfg0.N, fun c => (dats m 0 c).arrAt 5 cfg0.N, fun c => (dats m 0 c).arrAt 6 cfg0.N, fun c => (dats m 0 c).arrAt 7 cfg0.N, run_blocks m g, ?_⟩
  refine (θ_run Cert.AdamInRefIdeal.defs _ _).mono (fun r h c => ?_) (Cert.AdamInRefIdeal.Value.run m' g')
  obtain ⟨h0, h1, h2, h3, hargs⟩ := h c
  obtain ⟨a0, a1, a2, a3⟩ := hag c
  refine ⟨h0.trans ?_, h1.trans ?_, h2.trans ?_, h3.trans (a1.trans (arr_7 m c).symm), ?_⟩
  · refine (val_main_v23_eq _ _ _ _).trans ?_
    rw [a0, a1, a2, a3]
    exact (arr_4 m c).symm
  · refine (val_main_v4_eq _ _).trans ?_
    rw [a1, a2]
    exact (arr_5 m c).symm
  · refine (val_main_v10_eq _ _).trans ?_
    rw [a1, a3]
    exact (arr_6 m c).symm
  · exact hargs

/-- The reference leaves its arguments as they were; it declares no semaphore. -/
theorem frame_reference : Cert.quiescent_AdamInRefIdeal := fun m ρ _ =>
  (θ_run Cert.AdamInRefIdeal.defs _ _).mono
    (fun r h => ⟨fun c => by obtain ⟨_, _, _, h3, hargs⟩ := h c; exact hargs,
      Idealize.ShloMosaic.sem_eq_zero_of_no_sems (by decide) r.2⟩)
    (Cert.AdamInRefIdeal.Value.run (F := Ideal) m ρ)

end Cert.AdamInIdeal.Val

end
-- ==== Proof.AdamSquareValue.lean ====
/- The optimiser's step of one square output projection: the arrays after the run are the reference's. -/
module

public import proofs.«01_k».proof.Defs
public import proofs.«01_k».proof.Proof.AdamStep
public import proofs.«01_k».proof.Proof.Gen.AdamSquareIdeal.Value
public import proofs.«01_k».proof.Proof.Gen.AdamSquareRefIdeal.Run
public import proofs.«01_k».proof.Proof.Gen.AdamSquareRefIdeal.Read

@[expose] public section

set_option maxRecDepth 16384

noncomputable section

namespace Cert.AdamSquareIdeal.Val

open Cert.AdamSquareIdeal Cert.AdamSquareIdeal.Gen Cert.AdamSquareIdeal.Value Idealize.ShloMosaic Idealize.ShloMosaic.TcCoe Idealize.SL.Sem Cert.AdamStep
open Idealize.ShloMosaic.Pipeline (Dat)
open Cert.AdamSquareRefIdeal.Read

theorem hz : (![0, 0, 0] : Fin 3 → Nat) = fun _ => 0 := by decide

/-! The stored blocks at an index. -/

theorem out_4 (x0 x1 x2 x3 : Vec Ideal S1x256x1024 .f32) (y : S1x256x1024.Idx) : out0_4 (F := Ideal) x0 x1 x2 x3 y = delta (x0 y) (x1 y) (x2 y) (x3 y) := by
  unfold out0_4
  rw [View.canon_unit_zero hz]
  simp only [View.ld_unit_zero (S := S1x256x1024) hz]
  unfold delta mom vel k0_pay1 k0_pay8 k0_pay7 k0_pay6 k0_pay5
  pointwise
  all_goals done

theorem out_5 (x0 x1 x2 x3 : Vec Ideal S1x256x1024 .f32) (y : S1x256x1024.Idx) : out0_5 (F := Ideal) x0 x1 x2 x3 y = mom (x1 y) (x2 y) := by
  unfold out0_5
  rw [View.canon_unit_zero hz]
  simp only [View.ld_unit_zero (S := S1x256x1024) hz]
  unfold mom k0_pay2 k0_pay6 k0_pay5
  pointwise
  all_goals done

theorem out_6 (x0 x1 x2 x3 : Vec Ideal S1x256x1024 .f32) (y : S1x256x1024.Idx) : out0_6 (F := Ideal) x0 x1 x2 x3 y = vel (x1 y) (x3 y) := by
  unfold out0_6
  rw [View.canon_unit_zero hz]
  simp only [View.ld_unit_zero (S := S1x256x1024) hz]
  unfold vel k0_pay3 k0_pay7 k0_pay5
  pointwise
  all_goals done

theorem out_7 (x0 x1 x2 x3 : Vec Ideal S1x256x1024 .f32) (y : S1x256x1024.Idx) : out0_7 (F := Ideal) x0 x1 x2 x3 y = x1 y := by
  unfold out0_7
  rw [View.canon_unit_zero hz]
  simp only [View.ld_unit_zero (S := S1x256x1024) hz]
  unfold k0_pay4 k0_pay5
  pointwise
  all_goals done

/-! The reference at an index. -/

theorem ref_4 (x0 x1 x2 x3 : Vec Ideal S2x256x1024 .f32) (i : S2x256x1024.Idx) : val_main_v23 (F := Ideal) x0 x1 x2 x3 i = delta (x0 i) (x1 i) (x2 i) (x3 i) := by
  unfold delta mom vel val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v4 val_main_v3 val_main_v2 val_main_cst_0 val_main_v1 val_main_v0 val_main_cst val_main_v10 val_main_v9 val_main_v8 val_main_cst_2 val_main_v7 val_main_v6 val_main_v5 val_main_cst_1
  pointwise
  all_goals done

theorem ref_5 (x1 x2 : Vec Ideal S2x256x1024 .f32) (i : S2x256x1024.Idx) : val_main_v4 (F := Ideal) x1 x2 i = mom (x1 i) (x2 i) := by
  unfold mom val_main_v4 val_main_v3 val_main_v2 val_main_cst_0 val_main_v1 val_main_v0 val_main_cst
  pointwise
  all_goals done

theorem ref_6 (x1 x3 : Vec Ideal S2x256x1024 .f32) (i : S2x256x1024.Idx) : val_main_v10 (F := Ideal) x1 x3 i = vel (x1 i) (x3 i) := by
  unfold vel val_main_v10 val_main_v9 val_main_v8 val_main_cst_2 val_main_v7 val_main_v6 val_main_v5 val_main_cst_1
  pointwise
  all_goals done

/-! The arrays. -/

section
variable (m : (ℓ : Loc nD τ sig) → Buf (Elt Ideal) ℓ) (c : Dev nD)

theorem idx_0 : ∀ t : Fin cfg0.N, win0_0.index t (0 : Fin 3) = t.val / 1 ∧ win0_0.index t (1 : Fin 3) = t.val % 1 ∧ win0_0.index t (2 : Fin 3) = 0 := by decide +kernel

theorem idx_1 : ∀ t : Fin cfg0.N, win0_1.index t (0 : Fin 3) = t.val / 1 ∧ win0_1.index t (1 : Fin 3) = t.val % 1 ∧ win0_1.index t (2 : Fin 3) = 0 := by decide +kernel

theorem idx_2 : ∀ t : Fin cfg0.N, win0_2.index t (0 : Fin 3) = t.val / 1 ∧ win0_2.index t (1 : Fin 3) = t.val % 1 ∧ win0_2.index t (2 : Fin 3) = 0 := by decide +kernel

theorem idx_3 : ∀ t : Fin cfg0.N, win0_3.index t (0 : Fin 3) = t.val / 1 ∧ win0_3.index t (1 : Fin 3) = t.val % 1 ∧ win0_3.index t (2 : Fin 3) = 0 := by decide +kernel

theorem idx_4 : ∀ t : Fin cfg0.N, win0_4.index t (0 : Fin 3) = t.val / 1 ∧ win0_4.index t (1 : Fin 3) = t.val % 1 ∧ win0_4.index t (2 : Fin 3) = 0 := by decide +kernel

theorem idx_5 : ∀ t : Fin cfg0.N, win0_5.index t (0 : Fin 3) = t.val / 1 ∧ win0_5.index t (1 : Fin 3) = t.val % 1 ∧ win0_5.index t (2 : Fin 3) = 0 := by decide +kernel

theorem idx_6 : ∀ t : Fin cfg0.N, win0_6.index t (0 : Fin 3) = t.val / 1 ∧ win0_6.index t (1 : Fin 3) = t.val % 1 ∧ win0_6.index t (2 : Fin 3) = 0 := by decide +kernel

theorem idx_7 : ∀ t : Fin cfg0.N, win0_7.index t (0 : Fin 3) = t.val / 1 ∧ win0_7.index t (1 : Fin 3) = t.val % 1 ∧ win0_7.index t (2 : Fin 3) = 0 := by decide +kernel

abbrev A0 : Vec Ideal S2x256x1024 .f32 := m ((c.tc : Thread nD τ).loc main_arg0)

theorem blk_0 (t : Fin cfg0.N) (z : S1x256x1024.Idx) (i : S2x256x1024.Idx) (h0 : (i 0).val = t.val / 1) (h1 : (i 1).val = t.val % 1 * 256 + (z 1).val) (h2 : (i 2).val = (z 2).val) :
    (iblk m c 0 t : Vec Ideal S1x256x1024 .f32) z = A0 m c i := by
  have hz0 : (z 0).val < 1 := (z 0).isLt
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 3) * 1 + 1 * (z 0).val = (i 0).val; rw [(idx_0 t).1]; omega
  | ⟨1, _⟩ => show win0_0.index t (1 : Fin 3) * 256 + 1 * (z 1).val = (i 1).val; rw [(idx_0 t).2.1]; omega
  | ⟨2, _⟩ => show win0_0.index t (2 : Fin 3) * 1024 + 1 * (z 2).val = (i 2).val; rw [(idx_0 t).2.2]; omega

abbrev A1 : Vec Ideal S2x256x1024 .f32 := m ((c.tc : Thread nD τ).loc main_arg1)

theorem blk_1 (t : Fin cfg0.N) (z : S1x256x1024.Idx) (i : S2x256x1024.Idx) (h0 : (i 0).val = t.val / 1) (h1 : (i 1).val = t.val % 1 * 256 + (z 1).val) (h2 : (i 2).val = (z 2).val) :
    (iblk m c 1 t : Vec Ideal S1x256x1024 .f32) z = A1 m c i := by
  have hz0 : (z 0).val < 1 := (z 0).isLt
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 3) * 1 + 1 * (z 0).val = (i 0).val; rw [(idx_1 t).1]; omega
  | ⟨1, _⟩ => show win0_1.index t (1 : Fin 3) * 256 + 1 * (z 1).val = (i 1).val; rw [(idx_1 t).2.1]; omega
  | ⟨2, _⟩ => show win0_1.index t (2 : Fin 3) * 1024 + 1 * (z 2).val = (i 2).val; rw [(idx_1 t).2.2]; omega

abbrev A2 : Vec Ideal S2x256x1024 .f32 := m ((c.tc : Thread nD τ).loc main_arg2)

theorem blk_2 (t : Fin cfg0.N) (z : S1x256x1024.Idx) (i : S2x256x1024.Idx) (h0 : (i 0).val = t.val / 1) (h1 : (i 1).val = t.val % 1 * 256 + (z 1).val) (h2 : (i 2).val = (z 2).val) :
    (iblk m c 2 t : Vec Ideal S1x256x1024 .f32) z = A2 m c i := by
  have hz0 : (z 0).val < 1 := (z 0).isLt
  refine Eq.trans ?_ (congrFun (V_main_arg2 m c) i)
  unfold iblk
  rw [View.read_apply]
  show V m c main_arg2 _ = V m c main_arg2 i
  congr 1
  funext a
  apply Fin.ext
  match a with
  | ⟨0, _⟩ => show win0_2.index t (0 : Fin 3) * 1 + 1 * (z 0).val = (i 0).val; rw [(idx_2 t).1]; omega
  | ⟨1, _⟩ => show win0_2.index t (1 : Fin 3) * 256 + 1 * (z 1).val = (i 1).val; rw [(idx_2 t).2.1]; omega
  | ⟨2, _⟩ => show win0_2.index t (2 : Fin 3) * 1024 + 1 * (z 2).val = (i 2).val; rw [(idx_2 t).2.2]; omega

abbrev A3 : Vec Ideal S2x256x1024 .f32 := m ((c.tc : Thread nD τ).loc main_arg3)

theorem blk_3 (t : Fin cfg0.N) (z : S1x256x1024.Idx) (i : S2x256x1024.Idx) (h0 : (i 0).val = t.val / 1) (h1 : (i 1).val = t.val % 1 * 256 + (z 1).val) (h2 : (i 2).val = (z 2).val) :
    (iblk m c 3 t : Vec Ideal S1x256x1024 .f32) z = A3 m c i := by
  have hz0 : (z 0).val < 1 := (z 0).isLt
  refine Eq.trans ?_ (congrFun (V_main_arg3 m c) i)
  unfold iblk
  rw [View.read_apply]
  show V m c main_arg3 _ = V m c main_arg3 i
  congr 1
  funext a
  apply Fin.ext
  match a with
  | ⟨0, _⟩ => show win0_3.index t (0 : Fin 3) * 1 + 1 * (z 0).val = (i 0).val; rw [(idx_3 t).1]; omega
  | ⟨1, _⟩ => show win0_3.index t (1 : Fin 3) * 256 + 1 * (z 1).val = (i 1).val; rw [(idx_3 t).2.1]; omega
  | ⟨2, _⟩ => show win0_3.index t (2 : Fin 3) * 1024 + 1 * (z 2).val = (i 2).val; rw [(idx_3 t).2.2]; omega

theorem full_4 (t : Fin cfg0.N) (y : S1x256x1024.Idx) (i : S2x256x1024.Idx) (h0 : (i 0).val = t.val / 1) (h1 : (i 1).val = t.val % 1 * 256 + (y 1).val) (h2 : (i 2).val = (y 2).val) :
    out0_4 (F := Ideal) (iblk m c 0 t) (iblk m c 1 t) (iblk m c 2 t) (iblk m c 3 t) y = (val_main_v23 (F := Ideal) (A0 m c) (A1 m c) (A2 m c) (A3 m c)) i := by
  refine (out_4 _ _ _ _ y).trans ?_
  exact (congr (congr (congr (congrArg delta (blk_0 m c t y i h0 h1 h2)) (blk_1 m c t y i h0 h1 h2)) (blk_2 m c t y i h0 h1 h2)) (blk_3 m c t y i h0 h1 h2)).trans (ref_4 _ _ _ _ i).symm

theorem arr_4 : (dats m 0 c).arrAt 4 cfg0.N = val_main_v23 (F := Ideal) (A0 m c) (A1 m c) (A2 m c) (A3 m c) := by
  refine Dat.arrAt_eq_of_cover (dats m 0 c) 4 (val_main_v23 (F := Ideal) (A0 m c) (A1 m c) (A2 m c) (A3 m c)) (fun t hf => ?_) (fun i => ?_)
  · rw [flushed4]
    funext y
    have hy0 : (y 0).val < 1 := (y 0).isLt
    rw [View.read_apply]
    refine full_4 m c t y _ ?_ ?_ ?_
    · show win0_4.index t (0 : Fin 3) * 1 + 1 * (y 0).val = t.val / 1
      rw [(idx_4 t).1]; omega
    · show win0_4.index t (1 : Fin 3) * 256 + 1 * (y 1).val = t.val % 1 * 256 + (y 1).val
      rw [(idx_4 t).2.1]; omega
    · show win0_4.index t (2 : Fin 3) * 1024 + 1 * (y 2).val = (y 2).val
      rw [(idx_4 t).2.2]; omega
  · have hi0 : (i 0).val < 2 := (i 0).isLt
    have hi1 : (i 1).val < 256 := (i 1).isLt
    obtain ⟨t, ht⟩ : ∃ t : Fin cfg0.N, t.val = (i 0).val * 1 + (i 1).val / 256 := ⟨⟨(i 0).val * 1 + (i 1).val / 256, lt_of_lt_of_eq (by omega) N_0.symm⟩, rfl⟩
    refine ⟨t, flush0_4 t, ?_⟩
    have e : ((cfg0.win 4).blk t).view.emb (ix3 (0 : Fin 1) (⟨(i 1).val % 256, Nat.mod_lt _ (by decide)⟩ : Fin 256) (i 2)) = i := by
      funext a
      apply Fin.ext
      match a with
      | ⟨0, _⟩ => show win0_4.index t (0 : Fin 3) * 1 + 1 * 0 = (i 0).val; rw [(idx_4 t).1]; omega
      | ⟨1, _⟩ => show win0_4.index t (1 : Fin 3) * 256 + 1 * ((i 1).val % 256) = (i 1).val; rw [(idx_4 t).2.1]; omega
      | ⟨2, _⟩ => show win0_4.index t (2 : Fin 3) * 1024 + 1 * (i 2).val = (i 2).val; rw [(idx_4 t).2.2]; omega
    exact e ▸ ((cfg0.win 4).blk t).view.emb_mem_set _

theorem full_5 (t : Fin cfg0.N) (y : S1x256x1024.Idx) (i : S2x256x1024.Idx) (h0 : (i 0).val = t.val / 1) (h1 : (i 1).val = t.val % 1 * 256 + (y 1).val) (h2 : (i 2).val = (y 2).val) :
    out0_5 (F := Ideal) (iblk m c 0 t) (iblk m c 1 t) (iblk m c 2 t) (iblk m c 3 t) y = (val_main_v4 (F := Ideal) (A1 m c) (A2 m c)) i := by
  refine (out_5 _ _ _ _ y).trans ?_
  exact (congrArg₂ mom (blk_1 m c t y i h0 h1 h2) (blk_2 m c t y i h0 h1 h2)).trans (ref_5 _ _ i).symm

theorem arr_5 : (dats m 0 c).arrAt 5 cfg0.N = val_main_v4 (F := Ideal) (A1 m c) (A2 m c) := by
  refine Dat.arrAt_eq_of_cover (dats m 0 c) 5 (val_main_v4 (F := Ideal) (A1 m c) (A2 m c)) (fun t hf => ?_) (fun i => ?_)
  · rw [flushed5]
    funext y
    have hy0 : (y 0).val < 1 := (y 0).isLt
    rw [View.read_apply]
    refine full_5 m c t y _ ?_ ?_ ?_
    · show win0_5.index t (0 : Fin 3) * 1 + 1 * (y 0).val = t.val / 1
      rw [(idx_5 t).1]; omega
    · show win0_5.index t (1 : Fin 3) * 256 + 1 * (y 1).val = t.val % 1 * 256 + (y 1).val
      rw [(idx_5 t).2.1]; omega
    · show win0_5.index t (2 : Fin 3) * 1024 + 1 * (y 2).val = (y 2).val
      rw [(idx_5 t).2.2]; omega
  · have hi0 : (i 0).val < 2 := (i 0).isLt
    have hi1 : (i 1).val < 256 := (i 1).isLt
    obtain ⟨t, ht⟩ : ∃ t : Fin cfg0.N, t.val = (i 0).val * 1 + (i 1).val / 256 := ⟨⟨(i 0).val * 1 + (i 1).val / 256, lt_of_lt_of_eq (by omega) N_0.symm⟩, rfl⟩
    refine ⟨t, flush0_5 t, ?_⟩
    have e : ((cfg0.win 5).blk t).view.emb (ix3 (0 : Fin 1) (⟨(i 1).val % 256, Nat.mod_lt _ (by decide)⟩ : Fin 256) (i 2)) = i := by
      funext a
      apply Fin.ext
      match a with
      | ⟨0, _⟩ => show win0_5.index t (0 : Fin 3) * 1 + 1 * 0 = (i 0).val; rw [(idx_5 t).1]; omega
      | ⟨1, _⟩ => show win0_5.index t (1 : Fin 3) * 256 + 1 * ((i 1).val % 256) = (i 1).val; rw [(idx_5 t).2.1]; omega
      | ⟨2, _⟩ => show win0_5.index t (2 : Fin 3) * 1024 + 1 * (i 2).val = (i 2).val; rw [(idx_5 t).2.2]; omega
    exact e ▸ ((cfg0.win 5).blk t).view.emb_mem_set _

theorem full_6 (t : Fin cfg0.N) (y : S1x256x1024.Idx) (i : S2x256x1024.Idx) (h0 : (i 0).val = t.val / 1) (h1 : (i 1).val = t.val % 1 * 256 + (y 1).val) (h2 : (i 2).val = (y 2).val) :
    out0_6 (F := Ideal) (iblk m c 0 t) (iblk m c 1 t) (iblk m c 2 t) (iblk m c 3 t) y = (val_main_v10 (F := Ideal) (A1 m c) (A3 m c)) i := by
  refine (out_6 _ _ _ _ y).trans ?_
  exact (congrArg₂ vel (blk_1 m c t y i h0 h1 h2) (blk_3 m c t y i h0 h1 h2)).trans (ref_6 _ _ i).symm

theorem arr_6 : (dats m 0 c).arrAt 6 cfg0.N = val_main_v10 (F := Ideal) (A1 m c) (A3 m c) := by
  refine Dat.arrAt_eq_of_cover (dats m 0 c) 6 (val_main_v10 (F := Ideal) (A1 m c) (A3 m c)) (fun t hf => ?_) (fun i => ?_)
  · rw [flushed6]
    funext y
    have hy0 : (y 0).val < 1 := (y 0).isLt
    rw [View.read_apply]
    refine full_6 m c t y _ ?_ ?_ ?_
    · show win0_6.index t (0 : Fin 3) * 1 + 1 * (y 0).val = t.val / 1
      rw [(idx_6 t).1]; omega
    · show win0_6.index t (1 : Fin 3) * 256 + 1 * (y 1).val = t.val % 1 * 256 + (y 1).val
      rw [(idx_6 t).2.1]; omega
    · show win0_6.index t (2 : Fin 3) * 1024 + 1 * (y 2).val = (y 2).val
      rw [(idx_6 t).2.2]; omega
  · have hi0 : (i 0).val < 2 := (i 0).isLt
    have hi1 : (i 1).val < 256 := (i 1).isLt
    obtain ⟨t, ht⟩ : ∃ t : Fin cfg0.N, t.val = (i 0).val * 1 + (i 1).val / 256 := ⟨⟨(i 0).val * 1 + (i 1).val / 256, lt_of_lt_of_eq (by omega) N_0.symm⟩, rfl⟩
    refine ⟨t, flush0_6 t, ?_⟩
    have e : ((cfg0.win 6).blk t).view.emb (ix3 (0 : Fin 1) (⟨(i 1).val % 256, Nat.mod_lt _ (by decide)⟩ : Fin 256) (i 2)) = i := by
      funext a
      apply Fin.ext
      match a with
      | ⟨0, _⟩ => show win0_6.index t (0 : Fin 3) * 1 + 1 * 0 = (i 0).val; rw [(idx_6 t).1]; omega
      | ⟨1, _⟩ => show win0_6.index t (1 : Fin 3) * 256 + 1 * ((i 1).val % 256) = (i 1).val; rw [(idx_6 t).2.1]; omega
      | ⟨2, _⟩ => show win0_6.index t (2 : Fin 3) * 1024 + 1 * (i 2).val = (i 2).val; rw [(idx_6 t).2.2]; omega
    exact e ▸ ((cfg0.win 6).blk t).view.emb_mem_set _

theorem full_7 (t : Fin cfg0.N) (y : S1x256x1024.Idx) (i : S2x256x1024.Idx) (h0 : (i 0).val = t.val / 1) (h1 : (i 1).val = t.val % 1 * 256 + (y 1).val) (h2 : (i 2).val = (y 2).val) :
    out0_7 (F := Ideal) (iblk m c 0 t) (iblk m c 1 t) (iblk m c 2 t) (iblk m c 3 t) y = (A1 m c) i := by
  refine (out_7 _ _ _ _ y).trans ?_
  exact (blk_1 m c t y i h0 h1 h2)

theorem arr_7 : (dats m 0 c).arrAt 7 cfg0.N = A1 m c := by
  refine Dat.arrAt_eq_of_cover (dats m 0 c) 7 (A1 m c) (fun t hf => ?_) (fun i => ?_)
  · rw [flushed7]
    funext y
    have hy0 : (y 0).val < 1 := (y 0).isLt
    rw [View.read_apply]
    refine full_7 m c t y _ ?_ ?_ ?_
    · show win0_7.index t (0 : Fin 3) * 1 + 1 * (y 0).val = t.val / 1
      rw [(idx_7 t).1]; omega
    · show win0_7.index t (1 : Fin 3) * 256 + 1 * (y 1).val = t.val % 1 * 256 + (y 1).val
      rw [(idx_7 t).2.1]; omega
    · show win0_7.index t (2 : Fin 3) * 1024 + 1 * (y 2).val = (y 2).val
      rw [(idx_7 t).2.2]; omega
  · have hi0 : (i 0).val < 2 := (i 0).isLt
    have hi1 : (i 1).val < 256 := (i 1).isLt
    obtain ⟨t, ht⟩ : ∃ t : Fin cfg0.N, t.val = (i 0).val * 1 + (i 1).val / 256 := ⟨⟨(i 0).val * 1 + (i 1).val / 256, lt_of_lt_of_eq (by omega) N_0.symm⟩, rfl⟩
    refine ⟨t, flush0_7 t, ?_⟩
    have e : ((cfg0.win 7).blk t).view.emb (ix3 (0 : Fin 1) (⟨(i 1).val % 256, Nat.mod_lt _ (by decide)⟩ : Fin 256) (i 2)) = i := by
      funext a
      apply Fin.ext
      match a with
      | ⟨0, _⟩ => show win0_7.index t (0 : Fin 3) * 1 + 1 * 0 = (i 0).val; rw [(idx_7 t).1]; omega
      | ⟨1, _⟩ => show win0_7.index t (1 : Fin 3) * 256 + 1 * ((i 1).val % 256) = (i 1).val; rw [(idx_7 t).2.1]; omega
      | ⟨2, _⟩ => show win0_7.index t (2 : Fin 3) * 1024 + 1 * (i 2).val = (i 2).val; rw [(idx_7 t).2.2]; omega
    exact e ▸ ((cfg0.win 7).blk t).view.emb_mem_set _

end

theorem algebraic : Cert.algebraic_AdamSquareIdeal_AdamSquareRefIdeal := by
  intro m g m' g' hp hag
  refine ⟨fun c => (dats m 0 c).arrAt 4 cfg0.N, fun c => (dats m 0 c).arrAt 5 cfg0.N, fun c => (dats m 0 c).arrAt 6 cfg0.N, fun c => (dats m 0 c).arrAt 7 cfg0.N, run_blocks m g, ?_⟩
  refine (θ_run Cert.AdamSquareRefIdeal.defs _ _).mono (fun r h c => ?_) (Cert.AdamSquareRefIdeal.Value.run m' g')
  obtain ⟨h0, h1, h2, h3, hargs⟩ := h c
  obtain ⟨a0, a1, a2, a3⟩ := hag c
  refine ⟨h0.trans ?_, h1.trans ?_, h2.trans ?_, h3.trans (a1.trans (arr_7 m c).symm), ?_⟩
  · refine (val_main_v23_eq _ _ _ _).trans ?_
    rw [a0, a1, a2, a3]
    exact (arr_4 m c).symm
  · refine (val_main_v4_eq _ _).trans ?_
    rw [a1, a2]
    exact (arr_5 m c).symm
  · refine (val_main_v10_eq _ _).trans ?_
    rw [a1, a3]
    exact (arr_6 m c).symm
  · exact hargs

/-- The reference leaves its arguments as they were; it declares no semaphore. -/
theorem frame_reference : Cert.quiescent_AdamSquareRefIdeal := fun m ρ _ =>
  (θ_run Cert.AdamSquareRefIdeal.defs _ _).mono
    (fun r h => ⟨fun c => by obtain ⟨_, _, _, h3, hargs⟩ := h c; exact hargs,
      Idealize.ShloMosaic.sem_eq_zero_of_no_sems (by decide) r.2⟩)
    (Cert.AdamSquareRefIdeal.Value.run (F := Ideal) m ρ)

end Cert.AdamSquareIdeal.Val

end
-- ==== Proof.AdamFfnValue.lean ====
/- The optimiser's step of one of the feed-forward block's matrices: the arrays after the run are the reference's. -/
module

public import proofs.«01_k».proof.Defs
public import proofs.«01_k».proof.Proof.AdamStep
public import proofs.«01_k».proof.Proof.Gen.AdamFfnIdeal.Value
public import proofs.«01_k».proof.Proof.Gen.AdamFfnRefIdeal.Run
public import proofs.«01_k».proof.Proof.Gen.AdamFfnRefIdeal.Read

@[expose] public section

set_option maxRecDepth 16384

noncomputable section

namespace Cert.AdamFfnIdeal.Val

open Cert.AdamFfnIdeal Cert.AdamFfnIdeal.Gen Cert.AdamFfnIdeal.Value Idealize.ShloMosaic Idealize.ShloMosaic.TcCoe Idealize.SL.Sem Cert.AdamStep
open Idealize.ShloMosaic.Pipeline (Dat)
open Cert.AdamFfnRefIdeal.Read

theorem hz : (![0, 0, 0] : Fin 3 → Nat) = fun _ => 0 := by decide

/-! The stored blocks at an index. -/

theorem out_4 (x0 x1 x2 x3 : Vec Ideal S1x352x1024 .f32) (y : S1x352x1024.Idx) : out0_4 (F := Ideal) x0 x1 x2 x3 y = delta (x0 y) (x1 y) (x2 y) (x3 y) := by
  unfold out0_4
  rw [View.canon_unit_zero hz]
  simp only [View.ld_unit_zero (S := S1x352x1024) hz]
  unfold delta mom vel k0_pay1 k0_pay8 k0_pay7 k0_pay6 k0_pay5
  pointwise
  all_goals done

theorem out_5 (x0 x1 x2 x3 : Vec Ideal S1x352x1024 .f32) (y : S1x352x1024.Idx) : out0_5 (F := Ideal) x0 x1 x2 x3 y = mom (x1 y) (x2 y) := by
  unfold out0_5
  rw [View.canon_unit_zero hz]
  simp only [View.ld_unit_zero (S := S1x352x1024) hz]
  unfold mom k0_pay2 k0_pay6 k0_pay5
  pointwise
  all_goals done

theorem out_6 (x0 x1 x2 x3 : Vec Ideal S1x352x1024 .f32) (y : S1x352x1024.Idx) : out0_6 (F := Ideal) x0 x1 x2 x3 y = vel (x1 y) (x3 y) := by
  unfold out0_6
  rw [View.canon_unit_zero hz]
  simp only [View.ld_unit_zero (S := S1x352x1024) hz]
  unfold vel k0_pay3 k0_pay7 k0_pay5
  pointwise
  all_goals done

theorem out_7 (x0 x1 x2 x3 : Vec Ideal S1x352x1024 .f32) (y : S1x352x1024.Idx) : out0_7 (F := Ideal) x0 x1 x2 x3 y = x1 y := by
  unfold out0_7
  rw [View.canon_unit_zero hz]
  simp only [View.ld_unit_zero (S := S1x352x1024) hz]
  unfold k0_pay4 k0_pay5
  pointwise
  all_goals done

/-! The reference at an index. -/

theorem ref_4 (x0 x1 x2 x3 : Vec Ideal S2x704x1024 .f32) (i : S2x704x1024.Idx) : val_main_v23 (F := Ideal) x0 x1 x2 x3 i = delta (x0 i) (x1 i) (x2 i) (x3 i) := by
  unfold delta mom vel val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3 val_main_v4 val_main_v3 val_main_v2 val_main_cst_0 val_main_v1 val_main_v0 val_main_cst val_main_v10 val_main_v9 val_main_v8 val_main_cst_2 val_main_v7 val_main_v6 val_main_v5 val_main_cst_1
  pointwise
  all_goals done

theorem ref_5 (x1 x2 : Vec Ideal S2x704x1024 .f32) (i : S2x704x1024.Idx) : val_main_v4 (F := Ideal) x1 x2 i = mom (x1 i) (x2 i) := by
  unfold mom val_main_v4 val_main_v3 val_main_v2 val_main_cst_0 val_main_v1 val_main_v0 val_main_cst
  pointwise
  all_goals done

theorem ref_6 (x1 x3 : Vec Ideal S2x704x1024 .f32) (i : S2x704x1024.Idx) : val_main_v10 (F := Ideal) x1 x3 i = vel (x1 i) (x3 i) := by
  unfold vel val_main_v10 val_main_v9 val_main_v8 val_main_cst_2 val_main_v7 val_main_v6 val_main_v5 val_main_cst_1
  pointwise
  all_goals done

/-! The arrays. -/

section
variable (m : (ℓ : Loc nD τ sig) → Buf (Elt Ideal) ℓ) (c : Dev nD)

theorem idx_0 : ∀ t : Fin cfg0.N, win0_0.index t (0 : Fin 3) = t.val / 2 ∧ win0_0.index t (1 : Fin 3) = t.val % 2 ∧ win0_0.index t (2 : Fin 3) = 0 := by decide +kernel

theorem idx_1 : ∀ t : Fin cfg0.N, win0_1.index t (0 : Fin 3) = t.val / 2 ∧ win0_1.index t (1 : Fin 3) = t.val % 2 ∧ win0_1.index t (2 : Fin 3) = 0 := by decide +kernel

theorem idx_2 : ∀ t : Fin cfg0.N, win0_2.index t (0 : Fin 3) = t.val / 2 ∧ win0_2.index t (1 : Fin 3) = t.val % 2 ∧ win0_2.index t (2 : Fin 3) = 0 := by decide +kernel

theorem idx_3 : ∀ t : Fin cfg0.N, win0_3.index t (0 : Fin 3) = t.val / 2 ∧ win0_3.index t (1 : Fin 3) = t.val % 2 ∧ win0_3.index t (2 : Fin 3) = 0 := by decide +kernel

theorem idx_4 : ∀ t : Fin cfg0.N, win0_4.index t (0 : Fin 3) = t.val / 2 ∧ win0_4.index t (1 : Fin 3) = t.val % 2 ∧ win0_4.index t (2 : Fin 3) = 0 := by decide +kernel

theorem idx_5 : ∀ t : Fin cfg0.N, win0_5.index t (0 : Fin 3) = t.val / 2 ∧ win0_5.index t (1 : Fin 3) = t.val % 2 ∧ win0_5.index t (2 : Fin 3) = 0 := by decide +kernel

theorem idx_6 : ∀ t : Fin cfg0.N, win0_6.index t (0 : Fin 3) = t.val / 2 ∧ win0_6.index t (1 : Fin 3) = t.val % 2 ∧ win0_6.index t (2 : Fin 3) = 0 := by decide +kernel

theorem idx_7 : ∀ t : Fin cfg0.N, win0_7.index t (0 : Fin 3) = t.val / 2 ∧ win0_7.index t (1 : Fin 3) = t.val % 2 ∧ win0_7.index t (2 : Fin 3) = 0 := by decide +kernel

abbrev A0 : Vec Ideal S2x704x1024 .f32 := m ((c.tc : Thread nD τ).loc main_arg0)

theorem blk_0 (t : Fin cfg0.N) (z : S1x352x1024.Idx) (i : S2x704x1024.Idx) (h0 : (i 0).val = t.val / 2) (h1 : (i 1).val = t.val % 2 * 352 + (z 1).val) (h2 : (i 2).val = (z 2).val) :
    (iblk m c 0 t : Vec Ideal S1x352x1024 .f32) z = A0 m c i := by
  have hz0 : (z 0).val < 1 := (z 0).isLt
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 3) * 1 + 1 * (z 0).val = (i 0).val; rw [(idx_0 t).1]; omega
  | ⟨1, _⟩ => show win0_0.index t (1 : Fin 3) * 352 + 1 * (z 1).val = (i 1).val; rw [(idx_0 t).2.1]; omega
  | ⟨2, _⟩ => show win0_0.index t (2 : Fin 3) * 1024 + 1 * (z 2).val = (i 2).val; rw [(idx_0 t).2.2]; omega

abbrev A1 : Vec Ideal S2x704x1024 .f32 := m ((c.tc : Thread nD τ).loc main_arg1)

theorem blk_1 (t : Fin cfg0.N) (z : S1x352x1024.Idx) (i : S2x704x1024.Idx) (h0 : (i 0).val = t.val / 2) (h1 : (i 1).val = t.val % 2 * 352 + (z 1).val) (h2 : (i 2).val = (z 2).val) :
    (iblk m c 1 t : Vec Ideal S1x352x1024 .f32) z = A1 m c i := by
  have hz0 : (z 0).val < 1 := (z 0).isLt
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 3) * 1 + 1 * (z 0).val = (i 0).val; rw [(idx_1 t).1]; omega
  | ⟨1, _⟩ => show win0_1.index t (1 : Fin 3) * 352 + 1 * (z 1).val = (i 1).val; rw [(idx_1 t).2.1]; omega
  | ⟨2, _⟩ => show win0_1.index t (2 : Fin 3) * 1024 + 1 * (z 2).val = (i 2).val; rw [(idx_1 t).2.2]; omega

abbrev A2 : Vec Ideal S2x704x1024 .f32 := m ((c.tc : Thread nD τ).loc main_arg2)

theorem blk_2 (t : Fin cfg0.N) (z : S1x352x1024.Idx) (i : S2x704x1024.Idx) (h0 : (i 0).val = t.val / 2) (h1 : (i 1).val = t.val % 2 * 352 + (z 1).val) (h2 : (i 2).val = (z 2).val) :
    (iblk m c 2 t : Vec Ideal S1x352x1024 .f32) z = A2 m c i := by
  have hz0 : (z 0).val < 1 := (z 0).isLt
  refine Eq.trans ?_ (congrFun (V_main_arg2 m c) i)
  unfold iblk
  rw [View.read_apply]
  show V m c main_arg2 _ = V m c main_arg2 i
  congr 1
  funext a
  apply Fin.ext
  match a with
  | ⟨0, _⟩ => show win0_2.index t (0 : Fin 3) * 1 + 1 * (z 0).val = (i 0).val; rw [(idx_2 t).1]; omega
  | ⟨1, _⟩ => show win0_2.index t (1 : Fin 3) * 352 + 1 * (z 1).val = (i 1).val; rw [(idx_2 t).2.1]; omega
  | ⟨2, _⟩ => show win0_2.index t (2 : Fin 3) * 1024 + 1 * (z 2).val = (i 2).val; rw [(idx_2 t).2.2]; omega

abbrev A3 : Vec Ideal S2x704x1024 .f32 := m ((c.tc : Thread nD τ).loc main_arg3)

theorem blk_3 (t : Fin cfg0.N) (z : S1x352x1024.Idx) (i : S2x704x1024.Idx) (h0 : (i 0).val = t.val / 2) (h1 : (i 1).val = t.val % 2 * 352 + (z 1).val) (h2 : (i 2).val = (z 2).val) :
    (iblk m c 3 t : Vec Ideal S1x352x1024 .f32) z = A3 m c i := by
  have hz0 : (z 0).val < 1 := (z 0).isLt
  refine Eq.trans ?_ (congrFun (V_main_arg3 m c) i)
  unfold iblk
  rw [View.read_apply]
  show V m c main_arg3 _ = V m c main_arg3 i
  congr 1
  funext a
  apply Fin.ext
  match a with
  | ⟨0, _⟩ => show win0_3.index t (0 : Fin 3) * 1 + 1 * (z 0).val = (i 0).val; rw [(idx_3 t).1]; omega
  | ⟨1, _⟩ => show win0_3.index t (1 : Fin 3) * 352 + 1 * (z 1).val = (i 1).val; rw [(idx_3 t).2.1]; omega
  | ⟨2, _⟩ => show win0_3.index t (2 : Fin 3) * 1024 + 1 * (z 2).val = (i 2).val; rw [(idx_3 t).2.2]; omega

theorem full_4 (t : Fin cfg0.N) (y : S1x352x1024.Idx) (i : S2x704x1024.Idx) (h0 : (i 0).val = t.val / 2) (h1 : (i 1).val = t.val % 2 * 352 + (y 1).val) (h2 : (i 2).val = (y 2).val) :
    out0_4 (F := Ideal) (iblk m c 0 t) (iblk m c 1 t) (iblk m c 2 t) (iblk m c 3 t) y = (val_main_v23 (F := Ideal) (A0 m c) (A1 m c) (A2 m c) (A3 m c)) i := by
  refine (out_4 _ _ _ _ y).trans ?_
  exact (congr (congr (congr (congrArg delta (blk_0 m c t y i h0 h1 h2)) (blk_1 m c t y i h0 h1 h2)) (blk_2 m c t y i h0 h1 h2)) (blk_3 m c t y i h0 h1 h2)).trans (ref_4 _ _ _ _ i).symm

theorem arr_4 : (dats m 0 c).arrAt 4 cfg0.N = val_main_v23 (F := Ideal) (A0 m c) (A1 m c) (A2 m c) (A3 m c) := by
  refine Dat.arrAt_eq_of_cover (dats m 0 c) 4 (val_main_v23 (F := Ideal) (A0 m c) (A1 m c) (A2 m c) (A3 m c)) (fun t hf => ?_) (fun i => ?_)
  · rw [flushed4]
    funext y
    have hy0 : (y 0).val < 1 := (y 0).isLt
    rw [View.read_apply]
    refine full_4 m c t y _ ?_ ?_ ?_
    · show win0_4.index t (0 : Fin 3) * 1 + 1 * (y 0).val = t.val / 2
      rw [(idx_4 t).1]; omega
    · show win0_4.index t (1 : Fin 3) * 352 + 1 * (y 1).val = t.val % 2 * 352 + (y 1).val
      rw [(idx_4 t).2.1]; omega
    · show win0_4.index t (2 : Fin 3) * 1024 + 1 * (y 2).val = (y 2).val
      rw [(idx_4 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_4 t, ?_⟩
    have e : ((cfg0.win 4).blk t).view.emb (ix3 (0 : Fin 1) (⟨(i 1).val % 352, Nat.mod_lt _ (by decide)⟩ : Fin 352) (i 2)) = i := by
      funext a
      apply Fin.ext
      match a with
      | ⟨0, _⟩ => show win0_4.index t (0 : Fin 3) * 1 + 1 * 0 = (i 0).val; rw [(idx_4 t).1]; omega
      | ⟨1, _⟩ => show win0_4.index t (1 : Fin 3) * 352 + 1 * ((i 1).val % 352) = (i 1).val; rw [(idx_4 t).2.1]; omega
      | ⟨2, _⟩ => show win0_4.index t (2 : Fin 3) * 1024 + 1 * (i 2).val = (i 2).val; rw [(idx_4 t).2.2]; omega
    exact e ▸ ((cfg0.win 4).blk t).view.emb_mem_set _

theorem full_5 (t : Fin cfg0.N) (y : S1x352x1024.Idx) (i : S2x704x1024.Idx) (h0 : (i 0).val = t.val / 2) (h1 : (i 1).val = t.val % 2 * 352 + (y 1).val) (h2 : (i 2).val = (y 2).val) :
    out0_5 (F := Ideal) (iblk m c 0 t) (iblk m c 1 t) (iblk m c 2 t) (iblk m c 3 t) y = (val_main_v4 (F := Ideal) (A1 m c) (A2 m c)) i := by
  refine (out_5 _ _ _ _ y).trans ?_
  exact (congrArg₂ mom (blk_1 m c t y i h0 h1 h2) (blk_2 m c t y i h0 h1 h2)).trans (ref_5 _ _ i).symm

theorem arr_5 : (dats m 0 c).arrAt 5 cfg0.N = val_main_v4 (F := Ideal) (A1 m c) (A2 m c) := by
  refine Dat.arrAt_eq_of_cover (dats m 0 c) 5 (val_main_v4 (F := Ideal) (A1 m c) (A2 m c)) (fun t hf => ?_) (fun i => ?_)
  · rw [flushed5]
    funext y
    have hy0 : (y 0).val < 1 := (y 0).isLt
    rw [View.read_apply]
    refine full_5 m c t y _ ?_ ?_ ?_
    · show win0_5.index t (0 : Fin 3) * 1 + 1 * (y 0).val = t.val / 2
      rw [(idx_5 t).1]; omega
    · show win0_5.index t (1 : Fin 3) * 352 + 1 * (y 1).val = t.val % 2 * 352 + (y 1).val
      rw [(idx_5 t).2.1]; omega
    · show win0_5.index t (2 : Fin 3) * 1024 + 1 * (y 2).val = (y 2).val
      rw [(idx_5 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_5 t, ?_⟩
    have e : ((cfg0.win 5).blk t).view.emb (ix3 (0 : Fin 1) (⟨(i 1).val % 352, Nat.mod_lt _ (by decide)⟩ : Fin 352) (i 2)) = i := by
      funext a
      apply Fin.ext
      match a with
      | ⟨0, _⟩ => show win0_5.index t (0 : Fin 3) * 1 + 1 * 0 = (i 0).val; rw [(idx_5 t).1]; omega
      | ⟨1, _⟩ => show win0_5.index t (1 : Fin 3) * 352 + 1 * ((i 1).val % 352) = (i 1).val; rw [(idx_5 t).2.1]; omega
      | ⟨2, _⟩ => show win0_5.index t (2 : Fin 3) * 1024 + 1 * (i 2).val = (i 2).val; rw [(idx_5 t).2.2]; omega
    exact e ▸ ((cfg0.win 5).blk t).view.emb_mem_set _

theorem full_6 (t : Fin cfg0.N) (y : S1x352x1024.Idx) (i : S2x704x1024.Idx) (h0 : (i 0).val = t.val / 2) (h1 : (i 1).val = t.val % 2 * 352 + (y 1).val) (h2 : (i 2).val = (y 2).val) :
    out0_6 (F := Ideal) (iblk m c 0 t) (iblk m c 1 t) (iblk m c 2 t) (iblk m c 3 t) y = (val_main_v10 (F := Ideal) (A1 m c) (A3 m c)) i := by
  refine (out_6 _ _ _ _ y).trans ?_
  exact (congrArg₂ vel (blk_1 m c t y i h0 h1 h2) (blk_3 m c t y i h0 h1 h2)).trans (ref_6 _ _ i).symm

theorem arr_6 : (dats m 0 c).arrAt 6 cfg0.N = val_main_v10 (F := Ideal) (A1 m c) (A3 m c) := by
  refine Dat.arrAt_eq_of_cover (dats m 0 c) 6 (val_main_v10 (F := Ideal) (A1 m c) (A3 m c)) (fun t hf => ?_) (fun i => ?_)
  · rw [flushed6]
    funext y
    have hy0 : (y 0).val < 1 := (y 0).isLt
    rw [View.read_apply]
    refine full_6 m c t y _ ?_ ?_ ?_
    · show win0_6.index t (0 : Fin 3) * 1 + 1 * (y 0).val = t.val / 2
      rw [(idx_6 t).1]; omega
    · show win0_6.index t (1 : Fin 3) * 352 + 1 * (y 1).val = t.val % 2 * 352 + (y 1).val
      rw [(idx_6 t).2.1]; omega
    · show win0_6.index t (2 : Fin 3) * 1024 + 1 * (y 2).val = (y 2).val
      rw [(idx_6 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_6 t, ?_⟩
    have e : ((cfg0.win 6).blk t).view.emb (ix3 (0 : Fin 1) (⟨(i 1).val % 352, Nat.mod_lt _ (by decide)⟩ : Fin 352) (i 2)) = i := by
      funext a
      apply Fin.ext
      match a with
      | ⟨0, _⟩ => show win0_6.index t (0 : Fin 3) * 1 + 1 * 0 = (i 0).val; rw [(idx_6 t).1]; omega
      | ⟨1, _⟩ => show win0_6.index t (1 : Fin 3) * 352 + 1 * ((i 1).val % 352) = (i 1).val; rw [(idx_6 t).2.1]; omega
      | ⟨2, _⟩ => show win0_6.index t (2 : Fin 3) * 1024 + 1 * (i 2).val = (i 2).val; rw [(idx_6 t).2.2]; omega
    exact e ▸ ((cfg0.win 6).blk t).view.emb_mem_set _

theorem full_7 (t : Fin cfg0.N) (y : S1x352x1024.Idx) (i : S2x704x1024.Idx) (h0 : (i 0).val = t.val / 2) (h1 : (i 1).val = t.val % 2 * 352 + (y 1).val) (h2 : (i 2).val = (y 2).val) :
    out0_7 (F := Ideal) (iblk m c 0 t) (iblk m c 1 t) (iblk m c 2 t) (iblk m c 3 t) y = (A1 m c) i := by
  refine (out_7 _ _ _ _ y).trans ?_
  exact (blk_1 m c t y i h0 h1 h2)

theorem arr_7 : (dats m 0 c).arrAt 7 cfg0.N = A1 m c := by
  refine Dat.arrAt_eq_of_cover (dats m 0 c) 7 (A1 m c) (fun t hf => ?_) (fun i => ?_)
  · rw [flushed7]
    funext y
    have hy0 : (y 0).val < 1 := (y 0).isLt
    rw [View.read_apply]
    refine full_7 m c t y _ ?_ ?_ ?_
    · show win0_7.index t (0 : Fin 3) * 1 + 1 * (y 0).val = t.val / 2
      rw [(idx_7 t).1]; omega
    · show win0_7.index t (1 : Fin 3) * 352 + 1 * (y 1).val = t.val % 2 * 352 + (y 1).val
      rw [(idx_7 t).2.1]; omega
    · show win0_7.index t (2 : Fin 3) * 1024 + 1 * (y 2).val = (y 2).val
      rw [(idx_7 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_7 t, ?_⟩
    have e : ((cfg0.win 7).blk t).view.emb (ix3 (0 : Fin 1) (⟨(i 1).val % 352, Nat.mod_lt _ (by decide)⟩ : Fin 352) (i 2)) = i := by
      funext a
      apply Fin.ext
      match a with
      | ⟨0, _⟩ => show win0_7.index t (0 : Fin 3) * 1 + 1 * 0 = (i 0).val; rw [(idx_7 t).1]; omega
      | ⟨1, _⟩ => show win0_7.index t (1 : Fin 3) * 352 + 1 * ((i 1).val % 352) = (i 1).val; rw [(idx_7 t).2.1]; omega
      | ⟨2, _⟩ => show win0_7.index t (2 : Fin 3) * 1024 + 1 * (i 2).val = (i 2).val; rw [(idx_7 t).2.2]; omega
    exact e ▸ ((cfg0.win 7).blk t).view.emb_mem_set _

end

theorem algebraic : Cert.algebraic_AdamFfnIdeal_AdamFfnRefIdeal := by
  intro m g m' g' hp hag
  refine ⟨fun c => (dats m 0 c).arrAt 4 cfg0.N, fun c => (dats m 0 c).arrAt 5 cfg0.N, fun c => (dats m 0 c).arrAt 6 cfg0.N, fun c => (dats m 0 c).arrAt 7 cfg0.N, run_blocks m g, ?_⟩
  refine (θ_run Cert.AdamFfnRefIdeal.defs _ _).mono (fun r h c => ?_) (Cert.AdamFfnRefIdeal.Value.run m' g')
  obtain ⟨h0, h1, h2, h3, hargs⟩ := h c
  obtain ⟨a0, a1, a2, a3⟩ := hag c
  refine ⟨h0.trans ?_, h1.trans ?_, h2.trans ?_, h3.trans (a1.trans (arr_7 m c).symm), ?_⟩
  · refine (val_main_v23_eq _ _ _ _).trans ?_
    rw [a0, a1, a2, a3]
    exact (arr_4 m c).symm
  · refine (val_main_v4_eq _ _).trans ?_
    rw [a1, a2]
    exact (arr_5 m c).symm
  · refine (val_main_v10_eq _ _).trans ?_
    rw [a1, a3]
    exact (arr_6 m c).symm
  · exact hargs

/-- The reference leaves its arguments as they were; it declares no semaphore. -/
theorem frame_reference : Cert.quiescent_AdamFfnRefIdeal := fun m ρ _ =>
  (θ_run Cert.AdamFfnRefIdeal.defs _ _).mono
    (fun r h => ⟨fun c => by obtain ⟨_, _, _, h3, hargs⟩ := h c; exact hargs,
      Idealize.ShloMosaic.sem_eq_zero_of_no_sems (by decide) r.2⟩)
    (Cert.AdamFfnRefIdeal.Value.run (F := Ideal) m ρ)

end Cert.AdamFfnIdeal.Val

end
-- ==== Proof.MergeFwdValue.lean ====
/- The forward pass of the gated merge: the arrays after the run are the reference's. -/
module

public import proofs.«01_k».proof.Defs
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pointwise
public import Idealize.ShloMosaic.Lib.Tactic

@[expose] public section

set_option maxRecDepth 16384

noncomputable section

namespace Cert.MergeFwdIdeal.Val

open Cert.MergeFwdIdeal Cert.MergeFwdIdeal.Gen Cert.MergeFwdIdeal.Value Idealize.ShloMosaic Idealize.ShloMosaic.TcCoe Idealize.SL.Sem
open Idealize.ShloMosaic.Pipeline (Dat)
open Cert.MergeFwdRefIdeal.Read

theorem hz : (![0, 0] : Fin 2 → Nat) = fun _ => 0 := by decide

/-- A gate: the logistic function. -/
def gate (z : EReal) : EReal := Ideal.div 1 (1 + Ideal.exp (-z))
/-- One element of a row of `y` times a matrix. -/
def prod (y w : Fin 1024 → EReal) : EReal := ∑ k, y k * w k
/-- The merge of two branches' elements. -/
def blend (p q a b o o' : EReal) : EReal := gate (p + a) * o + gate (q + b) * o'

/-! The stored blocks at an index. -/

section
variable (x0 : Vec Ideal S512x1024 .f32) (x1 x2 x3 x4 : Vec Ideal S512x1024 .bf16) (x5 x6 x7 : Vec Ideal S1024x1024 .bf16) (x8 : Vec Ideal S2x1024 .f32)

theorem out_9 (y : S512x1024.Idx) : out0_9 (F := Ideal) x0 x1 x2 x3 x4 x5 x6 x7 x8 y = prod (fun k => x3 (ix2 (y 0) k)) (fun k => x5 (ix2 k (y 1))) := by
  unfold_out out0_9
  rw [View.canon_unit_zero hz]
  simp only [View.ld_unit_zero (S := S512x1024) hz, View.ld_unit_zero (S := S1024x1024) hz]
  unfold k0_pay6 k0_pay3 prod
  pointwise
  all_goals done

theorem out_10 (y : S512x1024.Idx) : out0_10 (F := Ideal) x0 x1 x2 x3 x4 x5 x6 x7 x8 y = prod (fun k => x4 (ix2 (y 0) k)) (fun k => x6 (ix2 k (y 1))) := by
  unfold_out out0_10
  rw [View.canon_unit_zero hz]
  simp only [View.ld_unit_zero (S := S512x1024) hz, View.ld_unit_zero (S := S1024x1024) hz]
  unfold k0_pay1 k0_pay4 prod
  pointwise
  all_goals done

theorem mg_at (y : S512x1024.Idx) : k0_pay5 (F := Ideal) x3 x5 x4 x6 x1 (View.ld x8 r0_2) x2 (View.ld x8 r0_3) y
    = blend (x1 y) (x2 y) (x8 (ix2 0 (y 1))) (x8 (ix2 1 (y 1))) (prod (fun k => x3 (ix2 (y 0) k)) (fun k => x5 (ix2 k (y 1)))) (prod (fun k => x4 (ix2 (y 0) k)) (fun k => x6 (ix2 k (y 1)))) := by
  unfold k0_pay5 k0_pay3 k0_pay4 blend gate prod
  pointwise
  all_goals simp only [zero_sub]

theorem out_11 (y : S512x1024.Idx) : out0_11 (F := Ideal) x0 x1 x2 x3 x4 x5 x6 x7 x8 y
    = blend (x1 y) (x2 y) (x8 (ix2 0 (y 1))) (x8 (ix2 1 (y 1))) (prod (fun k => x3 (ix2 (y 0) k)) (fun k => x5 (ix2 k (y 1)))) (prod (fun k => x4 (ix2 (y 0) k)) (fun k => x6 (ix2 k (y 1)))) := by
  unfold_out out0_11
  rw [View.canon_unit_zero hz]
  simp only [View.ld_unit_zero (S := S512x1024) hz, View.ld_unit_zero (S := S1024x1024) hz]
  exact mg_at x1 x2 x3 x4 x5 x6 x8 y

theorem res_at (v : Vec Ideal S512x1024 .bf16) (y : S512x1024.Idx) : k0_pay2 (F := Ideal) v x0 x7 y = x0 y + prod (fun k => v (ix2 (y 0) k)) (fun k => x7 (ix2 k (y 1))) := by
  unfold k0_pay2 prod
  pointwise
  all_goals done

theorem out_12 (y : S512x1024.Idx) : out0_12 (F := Ideal) x0 x1 x2 x3 x4 x5 x6 x7 x8 y
    = x0 y + prod (fun k => out0_11 (F := Ideal) x0 x1 x2 x3 x4 x5 x6 x7 x8 (ix2 (y 0) k)) (fun k => x7 (ix2 k (y 1))) := by
  unfold_out out0_12
  unfold_out out0_11
  rw [View.canon_unit_zero hz, View.canon_unit_zero hz]
  simp only [View.ld_unit_zero (S := S512x1024) hz, View.ld_unit_zero (S := S1024x1024) hz]
  exact res_at x0 x7 _ y

end

/-! The reference at an index. -/

section
variable (x0 : Vec Ideal S8192x1024 .f32) (x1 : Vec Ideal S8192x7168 .bf16) (x2 x3 : Vec Ideal S8192x1024 .bf16) (x4 x5 x6 : Vec Ideal S1024x1024 .bf16) (x7 : Vec Ideal S2x1024 .f32)

theorem ref_9 (i : S8192x1024.Idx) : val_main_v35 (F := Ideal) x2 x4 i = prod (fun k => x2 (ix2 (i 0) k)) (fun k => x4 (ix2 k (i 1))) := by
  unfold val_main_v35 val_main_v2 val_main_v1 val_main_v0 prod
  pointwise
  all_goals done

theorem ref_10 (i : S8192x1024.Idx) : val_main_v36 (F := Ideal) x3 x5 i = prod (fun k => x3 (ix2 (i 0) k)) (fun k => x5 (ix2 k (i 1))) := by
  unfold val_main_v36 val_main_v5 val_main_v4 val_main_v3 prod
  pointwise
  all_goals done

theorem ref_11 (i : S8192x1024.Idx) : val_main_v37 (F := Ideal) x1 x2 x3 x4 x5 x7 i
    = blend (x1 (ix2 (i 0) ⟨5120 + (i 1).val, by have h : (i 1).val < 1024 := (i 1).isLt; omega⟩)) (x1 (ix2 (i 0) ⟨6144 + (i 1).val, by have h : (i 1).val < 1024 := (i 1).isLt; omega⟩))
      (x7 (ix2 0 (i 1))) (x7 (ix2 1 (i 1))) (prod (fun k => x2 (ix2 (i 0) k)) (fun k => x4 (ix2 k (i 1)))) (prod (fun k => x3 (ix2 (i 0) k)) (fun k => x5 (ix2 k (i 1)))) := by
  unfold val_main_v37 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 blend gate prod
  pointwise
  all_goals done

theorem ref_12 (i : S8192x1024.Idx) : val_main_v40 (F := Ideal) x0 x1 x2 x3 x4 x5 x6 x7 i
    = x0 i + prod (fun k => val_main_v37 (F := Ideal) x1 x2 x3 x4 x5 x7 (ix2 (i 0) k)) (fun k => x6 (ix2 k (i 1))) := by
  unfold val_main_v40 val_main_v39 val_main_v38 val_main_v37 prod
  generalize val_main_v34 (F := Ideal) x1 x2 x3 x4 x5 x7 = w
  pointwise
  all_goals done

end

/-! The arrays. -/

section
variable (m : (ℓ : Loc nD τ sig) → Buf (Elt Ideal) ℓ) (c : Dev nD)

abbrev A0 : Vec Ideal S8192x1024 .f32 := m ((c.tc : Thread nD τ).loc main_arg0)
abbrev A1 : Vec Ideal S8192x7168 .bf16 := m ((c.tc : Thread nD τ).loc main_arg1)
abbrev A2 : Vec Ideal S8192x1024 .bf16 := m ((c.tc : Thread nD τ).loc main_arg2)
abbrev A3 : Vec Ideal S8192x1024 .bf16 := m ((c.tc : Thread nD τ).loc main_arg3)
abbrev A4 : Vec Ideal S1024x1024 .bf16 := m ((c.tc : Thread nD τ).loc main_arg4)
abbrev A5 : Vec Ideal S1024x1024 .bf16 := m ((c.tc : Thread nD τ).loc main_arg5)
abbrev A6 : Vec Ideal S1024x1024 .bf16 := m ((c.tc : Thread nD τ).loc main_arg6)
abbrev A7 : Vec Ideal S2x1024 .f32 := m ((c.tc : Thread nD τ).loc main_arg7)

theorem idx_0 : ∀ t : Fin cfg0.N, win0_0.index t (0 : Fin 2) = t.val ∧ win0_0.index t (1 : Fin 2) = 0 := by decide +kernel

theorem idx_1 : ∀ t : Fin cfg0.N, win0_1.index t (0 : Fin 2) = t.val ∧ win0_1.index t (1 : Fin 2) = 5 := by decide +kernel

theorem idx_2 : ∀ t : Fin cfg0.N, win0_2.index t (0 : Fin 2) = t.val ∧ win0_2.index t (1 : Fin 2) = 6 := by decide +kernel

theorem idx_3 : ∀ t : Fin cfg0.N, win0_3.index t (0 : Fin 2) = t.val ∧ win0_3.index t (1 : Fin 2) = 0 := by decide +kernel

theorem idx_4 : ∀ t : Fin cfg0.N, win0_4.index t (0 : Fin 2) = t.val ∧ win0_4.index t (1 : Fin 2) = 0 := by decide +kernel

theorem idx_5 : ∀ t : Fin cfg0.N, win0_5.index t (0 : Fin 2) = 0 ∧ win0_5.index t (1 : Fin 2) = 0 := by decide +kernel

theorem idx_6 : ∀ t : Fin cfg0.N, win0_6.index t (0 : Fin 2) = 0 ∧ win0_6.index t (1 : Fin 2) = 0 := by decide +kernel

theorem idx_7 : ∀ t : Fin cfg0.N, win0_7.index t (0 : Fin 2) = 0 ∧ win0_7.index t (1 : Fin 2) = 0 := by decide +kernel

theorem idx_8 : ∀ t : Fin cfg0.N, win0_8.index t (0 : Fin 2) = 0 ∧ win0_8.index t (1 : Fin 2) = 0 := by decide +kernel

theorem idx_9 : ∀ t : Fin cfg0.N, win0_9.index t (0 : Fin 2) = t.val ∧ win0_9.index t (1 : Fin 2) = 0 := by decide +kernel

theorem idx_10 : ∀ t : Fin cfg0.N, win0_10.index t (0 : Fin 2) = t.val ∧ win0_10.index t (1 : Fin 2) = 0 := by decide +kernel

theorem idx_11 : ∀ t : Fin cfg0.N, win0_11.index t (0 : Fin 2) = t.val ∧ win0_11.index t (1 : Fin 2) = 0 := by decide +kernel

theorem idx_12 : ∀ t : Fin cfg0.N, win0_12.index t (0 : Fin 2) = t.val ∧ win0_12.index t (1 : Fin 2) = 0 := by decide +kernel

theorem blk_0 (t : Fin cfg0.N) (z : S512x1024.Idx) (i : S8192x1024.Idx) (h0 : (i 0).val = t.val * 512 + (z 0).val) (h1 : (i 1).val = (z 1).val) :
    (iblk m c 0 t : Vec Ideal S512x1024 .f32) z = A0 m c i := by
  refine Eq.trans ?_ (congrFun (V_main_arg0 m c) i)
  unfold iblk
  rw [View.read_apply]
  show V m c main_arg0 _ = V m c main_arg0 i
  congr 1
  funext a
  apply Fin.ext
  match a with
  | ⟨0, _⟩ => show win0_0.index t (0 : Fin 2) * 512 + 1 * (z 0).val = (i 0).val; rw [(idx_0 t).1]; omega
  | ⟨1, _⟩ => show win0_0.index t (1 : Fin 2) * 1024 + 1 * (z 1).val = (i 1).val; rw [(idx_0 t).2]; omega

theorem blk_1 (t : Fin cfg0.N) (z : S512x1024.Idx) (i : S8192x7168.Idx) (h0 : (i 0).val = t.val * 512 + (z 0).val) (h1 : (i 1).val = 5120 + (z 1).val) :
    (iblk m c 1 t : Vec Ideal S512x1024 .bf16) z = A1 m c i := by
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 2) * 512 + 1 * (z 0).val = (i 0).val; rw [(idx_1 t).1]; omega
  | ⟨1, _⟩ => show win0_1.index t (1 : Fin 2) * 1024 + 1 * (z 1).val = (i 1).val; rw [(idx_1 t).2]; omega

theorem blk_2 (t : Fin cfg0.N) (z : S512x1024.Idx) (i : S8192x7168.Idx) (h0 : (i 0).val = t.val * 512 + (z 0).val) (h1 : (i 1).val = 6144 + (z 1).val) :
    (iblk m c 2 t : Vec Ideal S512x1024 .bf16) z = A1 m c i := by
  refine Eq.trans ?_ (congrFun (V_main_arg1 m c) i)
  unfold iblk
  rw [View.read_apply]
  show V m c main_arg1 _ = V m c main_arg1 i
  congr 1
  funext a
  apply Fin.ext
  match a with
  | ⟨0, _⟩ => show win0_2.index t (0 : Fin 2) * 512 + 1 * (z 0).val = (i 0).val; rw [(idx_2 t).1]; omega
  | ⟨1, _⟩ => show win0_2.index t (1 : Fin 2) * 1024 + 1 * (z 1).val = (i 1).val; rw [(idx_2 t).2]; omega

theorem blk_3 (t : Fin cfg0.N) (z : S512x1024.Idx) (i : S8192x1024.Idx) (h0 : (i 0).val = t.val * 512 + (z 0).val) (h1 : (i 1).val = (z 1).val) :
    (iblk m c 3 t : Vec Ideal S512x1024 .bf16) z = A2 m c i := by
  refine Eq.trans ?_ (congrFun (V_main_arg2 m c) i)
  unfold iblk
  rw [View.read_apply]
  show V m c main_arg2 _ = V m c main_arg2 i
  congr 1
  funext a
  apply Fin.ext
  match a with
  | ⟨0, _⟩ => show win0_3.index t (0 : Fin 2) * 512 + 1 * (z 0).val = (i 0).val; rw [(idx_3 t).1]; omega
  | ⟨1, _⟩ => show win0_3.index t (1 : Fin 2) * 1024 + 1 * (z 1).val = (i 1).val; rw [(idx_3 t).2]; omega

theorem blk_4 (t : Fin cfg0.N) (z : S512x1024.Idx) (i : S8192x1024.Idx) (h0 : (i 0).val = t.val * 512 + (z 0).val) (h1 : (i 1).val = (z 1).val) :
    (iblk m c 4 t : Vec Ideal S512x1024 .bf16) z = A3 m c i := by
  refine Eq.trans ?_ (congrFun (V_main_arg3 m c) i)
  unfold iblk
  rw [View.read_apply]
  show V m c main_arg3 _ = V m c main_arg3 i
  congr 1
  funext a
  apply Fin.ext
  match a with
  | ⟨0, _⟩ => show win0_4.index t (0 : Fin 2) * 512 + 1 * (z 0).val = (i 0).val; rw [(idx_4 t).1]; omega
  | ⟨1, _⟩ => show win0_4.index t (1 : Fin 2) * 1024 + 1 * (z 1).val = (i 1).val; rw [(idx_4 t).2]; omega

theorem blk_5 (t : Fin cfg0.N) (z : S1024x1024.Idx) (i : S1024x1024.Idx) (h0 : (i 0).val = (z 0).val) (h1 : (i 1).val = (z 1).val) :
    (iblk m c 5 t : Vec Ideal S1024x1024 .bf16) z = A4 m c i := by
  refine Eq.trans ?_ (congrFun (V_main_arg4 m c) i)
  unfold iblk
  rw [View.read_apply]
  show V m c main_arg4 _ = V m c main_arg4 i
  congr 1
  funext a
  apply Fin.ext
  match a with
  | ⟨0, _⟩ => show win0_5.index t (0 : Fin 2) * 1024 + 1 * (z 0).val = (i 0).val; rw [(idx_5 t).1]; omega
  | ⟨1, _⟩ => show win0_5.index t (1 : Fin 2) * 1024 + 1 * (z 1).val = (i 1).val; rw [(idx_5 t).2]; omega

theorem blk_6 (t : Fin cfg0.N) (z : S1024x1024.Idx) (i : S1024x1024.Idx) (h0 : (i 0).val = (z 0).val) (h1 : (i 1).val = (z 1).val) :
    (iblk m c 6 t : Vec Ideal S1024x1024 .bf16) z = A5 m c i := by
  refine Eq.trans ?_ (congrFun (V_main_arg5 m c) i)
  unfold iblk
  rw [View.read_apply]
  show V m c main_arg5 _ = V m c main_arg5 i
  congr 1
  funext a
  apply Fin.ext
  match a with
  | ⟨0, _⟩ => show win0_6.index t (0 : Fin 2) * 1024 + 1 * (z 0).val = (i 0).val; rw [(idx_6 t).1]; omega
  | ⟨1, _⟩ => show win0_6.index t (1 : Fin 2) * 1024 + 1 * (z 1).val = (i 1).val; rw [(idx_6 t).2]; omega

theorem blk_7 (t : Fin cfg0.N) (z : S1024x1024.Idx) (i : S1024x1024.Idx) (h0 : (i 0).val = (z 0).val) (h1 : (i 1).val = (z 1).val) :
    (iblk m c 7 t : Vec Ideal S1024x1024 .bf16) z = A6 m c i := by
  refine Eq.trans ?_ (congrFun (V_main_arg6 m c) i)
  unfold iblk
  rw [View.read_apply]
  show V m c main_arg6 _ = V m c main_arg6 i
  congr 1
  funext a
  apply Fin.ext
  match a with
  | ⟨0, _⟩ => show win0_7.index t (0 : Fin 2) * 1024 + 1 * (z 0).val = (i 0).val; rw [(idx_7 t).1]; omega
  | ⟨1, _⟩ => show win0_7.index t (1 : Fin 2) * 1024 + 1 * (z 1).val = (i 1).val; rw [(idx_7 t).2]; omega

theorem blk_8 (t : Fin cfg0.N) (z : S2x1024.Idx) (i : S2x1024.Idx) (h0 : (i 0).val = (z 0).val) (h1 : (i 1).val = (z 1).val) :
    (iblk m c 8 t : Vec Ideal S2x1024 .f32) z = A7 m c i := by
  refine Eq.trans ?_ (congrFun (V_main_arg7 m c) i)
  unfold iblk
  rw [View.read_apply]
  show V m c main_arg7 _ = V m c main_arg7 i
  congr 1
  funext a
  apply Fin.ext
  match a with
  | ⟨0, _⟩ => show win0_8.index t (0 : Fin 2) * 2 + 1 * (z 0).val = (i 0).val; rw [(idx_8 t).1]; omega
  | ⟨1, _⟩ => show win0_8.index t (1 : Fin 2) * 1024 + 1 * (z 1).val = (i 1).val; rw [(idx_8 t).2]; omega

theorem prod_eq {y y' w w' : Fin 1024 → EReal} (h : y = y') (h' : w = w') : prod y w = prod y' w' := by rw [h, h']

/-- The branches' elements of a block are the arrays'. -/
theorem branch_a (t : Fin cfg0.N) (y : S512x1024.Idx) (i : S8192x1024.Idx) (h0 : (i 0).val = t.val * 512 + (y 0).val) (h1 : (i 1).val = (y 1).val) :
    prod (fun k => (iblk m c 3 t : Vec Ideal S512x1024 .bf16) (ix2 (y 0) k)) (fun k => (iblk m c 5 t : Vec Ideal S1024x1024 .bf16) (ix2 k (y 1)))
      = prod (fun k => A2 m c (ix2 (i 0) k)) (fun k => A4 m c (ix2 k (i 1))) :=
  prod_eq (funext fun k => blk_3 m c t (ix2 (y 0) k) (ix2 (i 0) k) h0 rfl) (funext fun k => blk_5 m c t (ix2 k (y 1)) (ix2 k (i 1)) rfl h1)

theorem branch_b (t : Fin cfg0.N) (y : S512x1024.Idx) (i : S8192x1024.Idx) (h0 : (i 0).val = t.val * 512 + (y 0).val) (h1 : (i 1).val = (y 1).val) :
    prod (fun k => (iblk m c 4 t : Vec Ideal S512x1024 .bf16) (ix2 (y 0) k)) (fun k => (iblk m c 6 t : Vec Ideal S1024x1024 .bf16) (ix2 k (y 1)))
      = prod (fun k => A3 m c (ix2 (i 0) k)) (fun k => A5 m c (ix2 k (i 1))) :=
  prod_eq (funext fun k => blk_4 m c t (ix2 (y 0) k) (ix2 (i 0) k) h0 rfl) (funext fun k => blk_6 m c t (ix2 k (y 1)) (ix2 k (i 1)) rfl h1)

theorem full_9 (t : Fin cfg0.N) (y : S512x1024.Idx) (i : S8192x1024.Idx) (h0 : (i 0).val = t.val * 512 + (y 0).val) (h1 : (i 1).val = (y 1).val) :
    out0_9 (F := Ideal) (iblk m c 0 t) (iblk m c 1 t) (iblk m c 2 t) (iblk m c 3 t) (iblk m c 4 t) (iblk m c 5 t) (iblk m c 6 t) (iblk m c 7 t) (iblk m c 8 t) y = val_main_v35 (F := Ideal) (A2 m c) (A4 m c) i :=
  (out_9 _ _ _ _ _ _ _ _ _ y).trans ((branch_a m c t y i h0 h1).trans (ref_9 _ _ i).symm)

theorem full_10 (t : Fin cfg0.N) (y : S512x1024.Idx) (i : S8192x1024.Idx) (h0 : (i 0).val = t.val * 512 + (y 0).val) (h1 : (i 1).val = (y 1).val) :
    out0_10 (F := Ideal) (iblk m c 0 t) (iblk m c 1 t) (iblk m c 2 t) (iblk m c 3 t) (iblk m c 4 t) (iblk m c 5 t) (iblk m c 6 t) (iblk m c 7 t) (iblk m c 8 t) y = val_main_v36 (F := Ideal) (A3 m c) (A5 m c) i :=
  (out_10 _ _ _ _ _ _ _ _ _ y).trans ((branch_b m c t y i h0 h1).trans (ref_10 _ _ i).symm)

theorem full_11 (t : Fin cfg0.N) (y : S512x1024.Idx) (i : S8192x1024.Idx) (h0 : (i 0).val = t.val * 512 + (y 0).val) (h1 : (i 1).val = (y 1).val) :
    out0_11 (F := Ideal) (iblk m c 0 t) (iblk m c 1 t) (iblk m c 2 t) (iblk m c 3 t) (iblk m c 4 t) (iblk m c 5 t) (iblk m c 6 t) (iblk m c 7 t) (iblk m c 8 t) y = val_main_v37 (F := Ideal) (A1 m c) (A2 m c) (A3 m c) (A4 m c) (A5 m c) (A7 m c) i := by
  refine (out_11 _ _ _ _ _ _ _ _ _ y).trans (Eq.trans ?_ (ref_11 _ _ _ _ _ _ i).symm)
  have hi1 : (i 1).val < 1024 := (i 1).isLt
  exact congr (congr (congr (congr (congr (congrArg blend
    (blk_1 m c t y (ix2 (i 0) ⟨5120 + (i 1).val, by omega⟩) h0 (congrArg (5120 + ·) h1)))
    (blk_2 m c t y (ix2 (i 0) ⟨6144 + (i 1).val, by omega⟩) h0 (congrArg (6144 + ·) h1)))
    (blk_8 m c t (ix2 0 (y 1)) (ix2 0 (i 1)) rfl h1)) (blk_8 m c t (ix2 1 (y 1)) (ix2 1 (i 1)) rfl h1))
    (branch_a m c t y i h0 h1)) (branch_b m c t y i h0 h1)

theorem full_12 (t : Fin cfg0.N) (y : S512x1024.Idx) (i : S8192x1024.Idx) (h0 : (i 0).val = t.val * 512 + (y 0).val) (h1 : (i 1).val = (y 1).val) :
    out0_12 (F := Ideal) (iblk m c 0 t) (iblk m c 1 t) (iblk m c 2 t) (iblk m c 3 t) (iblk m c 4 t) (iblk m c 5 t) (iblk m c 6 t) (iblk m c 7 t) (iblk m c 8 t) y = val_main_v40 (F := Ideal) (A0 m c) (A1 m c) (A2 m c) (A3 m c) (A4 m c) (A5 m c) (A6 m c) (A7 m c) i := by
  refine (out_12 _ _ _ _ _ _ _ _ _ y).trans (Eq.trans ?_ (ref_12 _ _ _ _ _ _ _ _ i).symm)
  exact congrArg₂ (· + ·) (blk_0 m c t y i h0 h1)
    (prod_eq (funext fun k => full_11 m c t (ix2 (y 0) k) (ix2 (i 0) k) h0 rfl) (funext fun k => blk_7 m c t (ix2 k (y 1)) (ix2 k (i 1)) rfl h1))

theorem arr_9 : (dats m 0 c).arrAt 9 cfg0.N = val_main_v35 (F := Ideal) (A2 m c) (A4 m c) := by
  refine Dat.arrAt_eq_of_cover (dats m 0 c) 9 (val_main_v35 (F := Ideal) (A2 m c) (A4 m c)) (fun t hf => ?_) (fun i => ?_)
  · rw [flushed9]
    funext y
    rw [View.read_apply]
    refine full_9 m c t y _ ?_ ?_
    · show win0_9.index t (0 : Fin 2) * 512 + 1 * (y 0).val = t.val * 512 + (y 0).val
      rw [(idx_9 t).1]; omega
    · show win0_9.index t (1 : Fin 2) * 1024 + 1 * (y 1).val = (y 1).val
      rw [(idx_9 t).2]; omega
  · have hi0 : (i 0).val < 8192 := (i 0).isLt
    obtain ⟨t, ht⟩ : ∃ t : Fin cfg0.N, t.val = (i 0).val / 512 := ⟨⟨(i 0).val / 512, lt_of_lt_of_eq (by omega) N_0.symm⟩, rfl⟩
    refine ⟨t, flush0_9 t, ?_⟩
    have e : ((cfg0.win 9).blk t).view.emb (ix2 (⟨(i 0).val % 512, Nat.mod_lt _ (by decide)⟩ : Fin 512) (i 1)) = i := by
      funext a
      apply Fin.ext
      match a with
      | ⟨0, _⟩ => show win0_9.index t (0 : Fin 2) * 512 + 1 * ((i 0).val % 512) = (i 0).val; rw [(idx_9 t).1]; omega
      | ⟨1, _⟩ => show win0_9.index t (1 : Fin 2) * 1024 + 1 * (i 1).val = (i 1).val; rw [(idx_9 t).2]; omega
    exact e ▸ ((cfg0.win 9).blk t).view.emb_mem_set _

theorem arr_10 : (dats m 0 c).arrAt 10 cfg0.N = val_main_v36 (F := Ideal) (A3 m c) (A5 m c) := by
  refine Dat.arrAt_eq_of_cover (dats m 0 c) 10 (val_main_v36 (F := Ideal) (A3 m c) (A5 m c)) (fun t hf => ?_) (fun i => ?_)
  · rw [flushed10]
    funext y
    rw [View.read_apply]
    refine full_10 m c t y _ ?_ ?_
    · show win0_10.index t (0 : Fin 2) * 512 + 1 * (y 0).val = t.val * 512 + (y 0).val
      rw [(idx_10 t).1]; omega
    · show win0_10.index t (1 : Fin 2) * 1024 + 1 * (y 1).val = (y 1).val
      rw [(idx_10 t).2]; omega
  · have hi0 : (i 0).val < 8192 := (i 0).isLt
    obtain ⟨t, ht⟩ : ∃ t : Fin cfg0.N, t.val = (i 0).val / 512 := ⟨⟨(i 0).val / 512, lt_of_lt_of_eq (by omega) N_0.symm⟩, rfl⟩
    refine ⟨t, flush0_10 t, ?_⟩
    have e : ((cfg0.win 10).blk t).view.emb (ix2 (⟨(i 0).val % 512, Nat.mod_lt _ (by decide)⟩ : Fin 512) (i 1)) = i := by
      funext a
      apply Fin.ext
      match a with
      | ⟨0, _⟩ => show win0_10.index t (0 : Fin 2) * 512 + 1 * ((i 0).val % 512) = (i 0).val; rw [(idx_10 t).1]; omega
      | ⟨1, _⟩ => show win0_10.index t (1 : Fin 2) * 1024 + 1 * (i 1).val = (i 1).val; rw [(idx_10 t).2]; omega
    exact e ▸ ((cfg0.win 10).blk t).view.emb_mem_set _

theorem arr_11 : (dats m 0 c).arrAt 11 cfg0.N = val_main_v37 (F := Ideal) (A1 m c) (A2 m c) (A3 m c) (A4 m c) (A5 m c) (A7 m c) := by
  refine Dat.arrAt_eq_of_cover (dats m 0 c) 11 (val_main_v37 (F := Ideal) (A1 m c) (A2 m c) (A3 m c) (A4 m c) (A5 m c) (A7 m c)) (fun t hf => ?_) (fun i => ?_)
  · rw [flushed11]
    funext y
    rw [View.read_apply]
    refine full_11 m c t y _ ?_ ?_
    · show win0_11.index t (0 : Fin 2) * 512 + 1 * (y 0).val = t.val * 512 + (y 0).val
      rw [(idx_11 t).1]; omega
    · show win0_11.index t (1 : Fin 2) * 1024 + 1 * (y 1).val = (y 1).val
      rw [(idx_11 t).2]; omega
  · have hi0 : (i 0).val < 8192 := (i 0).isLt
    obtain ⟨t, ht⟩ : ∃ t : Fin cfg0.N, t.val = (i 0).val / 512 := ⟨⟨(i 0).val / 512, lt_of_lt_of_eq (by omega) N_0.symm⟩, rfl⟩
    refine ⟨t, flush0_11 t, ?_⟩
    have e : ((cfg0.win 11).blk t).view.emb (ix2 (⟨(i 0).val % 512, Nat.mod_lt _ (by decide)⟩ : Fin 512) (i 1)) = i := by
      funext a
      apply Fin.ext
      match a with
      | ⟨0, _⟩ => show win0_11.index t (0 : Fin 2) * 512 + 1 * ((i 0).val % 512) = (i 0).val; rw [(idx_11 t).1]; omega
      | ⟨1, _⟩ => show win0_11.index t (1 : Fin 2) * 1024 + 1 * (i 1).val = (i 1).val; rw [(idx_11 t).2]; omega
    exact e ▸ ((cfg0.win 11).blk t).view.emb_mem_set _

theorem arr_12 : (dats m 0 c).arrAt 12 cfg0.N = val_main_v40 (F := Ideal) (A0 m c) (A1 m c) (A2 m c) (A3 m c) (A4 m c) (A5 m c) (A6 m c) (A7 m c) := by
  refine Dat.arrAt_eq_of_cover (dats m 0 c) 12 (val_main_v40 (F := Ideal) (A0 m c) (A1 m c) (A2 m c) (A3 m c) (A4 m c) (A5 m c) (A6 m c) (A7 m c)) (fun t hf => ?_) (fun i => ?_)
  · rw [flushed12]
    funext y
    rw [View.read_apply]
    refine full_12 m c t y _ ?_ ?_
    · show win0_12.index t (0 : Fin 2) * 512 + 1 * (y 0).val = t.val * 512 + (y 0).val
      rw [(idx_12 t).1]; omega
    · show win0_12.index t (1 : Fin 2) * 1024 + 1 * (y 1).val = (y 1).val
      rw [(idx_12 t).2]; omega
  · have hi0 : (i 0).val < 8192 := (i 0).isLt
    obtain ⟨t, ht⟩ : ∃ t : Fin cfg0.N, t.val = (i 0).val / 512 := ⟨⟨(i 0).val / 512, lt_of_lt_of_eq (by omega) N_0.symm⟩, rfl⟩
    refine ⟨t, flush0_12 t, ?_⟩
    have e : ((cfg0.win 12).blk t).view.emb (ix2 (⟨(i 0).val % 512, Nat.mod_lt _ (by decide)⟩ : Fin 512) (i 1)) = i := by
      funext a
      apply Fin.ext
      match a with
      | ⟨0, _⟩ => show win0_12.index t (0 : Fin 2) * 512 + 1 * ((i 0).val % 512) = (i 0).val; rw [(idx_12 t).1]; omega
      | ⟨1, _⟩ => show win0_12.index t (1 : Fin 2) * 1024 + 1 * (i 1).val = (i 1).val; rw [(idx_12 t).2]; omega
    exact e ▸ ((cfg0.win 12).blk t).view.emb_mem_set _

end

theorem algebraic : Cert.algebraic_MergeFwdIdeal_MergeFwdRefIdeal := by
  intro m g m' g' hp hag
  refine ⟨fun c => (dats m 0 c).arrAt 9 cfg0.N, fun c => (dats m 0 c).arrAt 10 cfg0.N, fun c => (dats m 0 c).arrAt 11 cfg0.N, fun c => (dats m 0 c).arrAt 12 cfg0.N, run_blocks m g, ?_⟩
  refine (θ_run Cert.MergeFwdRefIdeal.defs _ _).mono (fun r h c => ?_) (Cert.MergeFwdRefIdeal.Value.run m' g')
  obtain ⟨h0, h1, h2, h3, hargs⟩ := h c
  obtain ⟨a0, a1, a2, a3, a4, a5, a6, a7⟩ := hag c
  refine ⟨h0.trans ?_, h1.trans ?_, h2.trans ?_, h3.trans ?_, hargs⟩
  · refine (val_main_v35_eq _ _).trans ?_
    rw [a2, a4]
    exact (arr_9 m c).symm
  · refine (val_main_v36_eq _ _).trans ?_
    rw [a3, a5]
    exact (arr_10 m c).symm
  · refine (val_main_v37_eq _ _ _ _ _ _).trans ?_
    rw [a1, a2, a3, a4, a5, a7]
    exact (arr_11 m c).symm
  · refine (val_main_v40_eq _ _ _ _ _ _ _ _).trans ?_
    rw [a0, a1, a2, a3, a4, a5, a6, a7]
    exact (arr_12 m c).symm

/-- The reference leaves its arguments as they were; it declares no semaphore. -/
theorem frame_reference : Cert.quiescent_MergeFwdRefIdeal := fun m ρ _ =>
  (θ_run Cert.MergeFwdRefIdeal.defs _ _).mono
    (fun r h => ⟨fun c => by obtain ⟨_, _, _, _, hargs⟩ := h c; exact hargs,
      Idealize.ShloMosaic.sem_eq_zero_of_no_sems (by decide) r.2⟩)
    (Cert.MergeFwdRefIdeal.Value.run (F := Ideal) m ρ)

end Cert.MergeFwdIdeal.Val

end
-- ==== Proof.FfnFwdValue.lean ====
/- The feed-forward block: the arrays after the run are the reference's. -/
module

public import proofs.«01_k».proof.Defs
public import proofs.«01_k».proof.Proof.RmsBwd
public import proofs.«01_k».proof.Proof.FfnFwdIdealFrame
public import proofs.«01_k».proof.Proof.Gen.FfnFwdRefIdeal.Run
public import proofs.«01_k».proof.Proof.Gen.FfnFwdRefIdeal.Read
public import Idealize.ShloMosaic.Lib.Tactic

@[expose] public section

set_option maxRecDepth 16384

noncomputable section

namespace Cert.FfnFwdIdeal.Val

open Cert.FfnFwdIdeal Cert.FfnFwdIdeal.Gen Cert.FfnFwdIdeal.Hand Idealize.ShloMosaic Idealize.ShloMosaic.TcCoe Idealize.SL.Sem Cert.Sums Cert.RmsBwd
open Idealize.ShloMosaic.Pipeline (Dat)
open Cert.FfnFwdRefIdeal.Read

/-! The payloads at an index. -/

/-- An element of a normalised row: `x` the row, `g` the scale. -/
def norm (x g : Fin 1024 → EReal) (q : Fin 1024) : EReal := x q * rinv x * g q
/-- The gated activation. -/
def act (a b : EReal) : EReal := a * Ideal.div (Ideal.ofBits FTy.f32 1065353216#32) (Ideal.ofBits FTy.f32 1065353216#32 + Ideal.exp (-a)) * b

theorem norm_row (x : Vec Ideal S1024x1024 .f32) (g : Vec Ideal S1x1024 .f32) (i) :
    k0_pay2 (F := Ideal) x g i = norm (fun q => x (ix2 (i 0) q)) (fun q => g (ix2 0 q)) (i 1) := by
  unfold k0_pay2 norm rinv var cc ee
  pointwise
  all_goals simp only [ix2_eta]

theorem start_acc (x : Vec Ideal S1024x1024 .f32) (i) : k0_pay3 (F := Ideal) x i = x i := by
  unfold k0_pay3
  pointwise

theorem gate_at (h : Vec Ideal S1024x1024 .bf16) (w : Vec Ideal S1x704x1024 .bf16) (i) :
    k0_pay5 (F := Ideal) h w i = ∑ q, h (ix2 (i 0) q) * w (ix3 0 (i 1) q) := by
  unfold k0_pay5 k0_pay4
  pointwise
  all_goals done

theorem up_at (h : Vec Ideal S1024x1024 .bf16) (w : Vec Ideal S1x704x1024 .bf16) (i) :
    k0_pay6 (F := Ideal) h w i = ∑ q, h (ix2 (i 0) q) * w (ix3 0 (i 1) q) := by
  unfold k0_pay6 k0_pay4
  pointwise
  all_goals done

theorem gate_out (h : Vec Ideal S1024x1024 .bf16) (w : Vec Ideal S1x704x1024 .bf16) (i) :
    k0_pay7 (F := Ideal) h w i = ∑ q, h (ix2 (i 1) q) * w (ix3 0 (i 2) q) := by
  unfold k0_pay7 k0_pay5 k0_pay4
  pointwise
  all_goals done

theorem up_out (h : Vec Ideal S1024x1024 .bf16) (w : Vec Ideal S1x704x1024 .bf16) (i) :
    k0_pay8 (F := Ideal) h w i = ∑ q, h (ix2 (i 1) q) * w (ix3 0 (i 2) q) := by
  unfold k0_pay8 k0_pay6 k0_pay4
  pointwise
  all_goals done

theorem act_at (h : Vec Ideal S1024x1024 .bf16) (wg wu : Vec Ideal S1x704x1024 .bf16) (i) :
    k0_pay9 (F := Ideal) h wg wu i = act (∑ q, h (ix2 (i 0) q) * wg (ix3 0 (i 1) q)) (∑ q, h (ix2 (i 0) q) * wu (ix3 0 (i 1) q)) := by
  rw [← gate_at, ← up_at]
  unfold k0_pay9 act
  generalize k0_pay5 (F := Ideal) h wg = y
  generalize k0_pay6 (F := Ideal) h wu = y'
  pointwise
  all_goals simp only [zero_sub]

theorem step_acc (a : Vec Ideal S1024x704 .bf16) (v : Vec Ideal S1024x1024 .f32) (w : Vec Ideal S1x704x1024 .bf16) (i) :
    k0_pay1 (F := Ideal) a v w i = v i + ∑ f, a (ix2 (i 0) f) * w (ix3 0 f (i 1)) := by
  unfold k0_pay1
  pointwise
  all_goals done

/-! The reference at an index. -/

section
variable (x0 : Vec Ideal S8192x1024 .f32) (x1 : Vec Ideal S1x1024 .f32) (x2 x3 x4 : Vec Ideal S4x704x1024 .bf16)

theorem ref_norm (i : S8192x1024.Idx) : val_main_v11 (F := Ideal) x0 x1 i = norm (fun q => x0 (ix2 (i 0) q)) (fun q => x1 (ix2 0 q)) (i 1) := by
  unfold val_main_v11 val_main_v10 val_main_v9 val_main_v8 val_main_v7 val_main_v6 val_main_v5 val_main_cst_1 val_main_v4 val_main_v3 val_main_cst_0 val_main_v2 val_main_v1 val_main_cst val_main_v0 norm rinv var cc ee
  pointwise
  all_goals simp only [ix2_eta]

theorem ref_h (i : S8192x1024.Idx) : val_main_v23 (F := Ideal) x0 x1 i = val_main_v11 (F := Ideal) x0 x1 i := by
  unfold val_main_v23
  generalize val_main_v11 (F := Ideal) x0 x1 = y
  pointwise

theorem ref_gate (i : S4x8192x704.Idx) : val_main_v14 (F := Ideal) x0 x1 x2 i = ∑ q, val_main_v11 (F := Ideal) x0 x1 (ix2 (i 1) q) * x2 (ix3 (i 0) (i 2) q) := by
  refine Eq.trans (b := ∑ q, x2 (ix3 (i 0) (i 2) q) * val_main_v11 (F := Ideal) x0 x1 (ix2 (i 1) q)) ?_ (Finset.sum_congr rfl fun q _ => mul_comm _ _)
  unfold val_main_v14 val_main_v13 val_main_v12
  generalize val_main_v11 (F := Ideal) x0 x1 = y
  pointwise
  all_goals done

theorem ref_up (i : S4x8192x704.Idx) : val_main_v17 (F := Ideal) x0 x1 x3 i = ∑ q, val_main_v11 (F := Ideal) x0 x1 (ix2 (i 1) q) * x3 (ix3 (i 0) (i 2) q) := by
  refine Eq.trans (b := ∑ q, x3 (ix3 (i 0) (i 2) q) * val_main_v11 (F := Ideal) x0 x1 (ix2 (i 1) q)) ?_ (Finset.sum_congr rfl fun q _ => mul_comm _ _)
  unfold val_main_v17 val_main_v16 val_main_v15
  generalize val_main_v11 (F := Ideal) x0 x1 = y
  pointwise
  all_goals done

theorem ref_gg (i : S4x8192x704.Idx) : val_main_v24 (F := Ideal) x0 x1 x2 i = val_main_v14 (F := Ideal) x0 x1 x2 i := by
  unfold val_main_v24
  generalize val_main_v14 (F := Ideal) x0 x1 x2 = y
  pointwise

theorem ref_uu (i : S4x8192x704.Idx) : val_main_v25 (F := Ideal) x0 x1 x3 i = val_main_v17 (F := Ideal) x0 x1 x3 i := by
  unfold val_main_v25
  generalize val_main_v17 (F := Ideal) x0 x1 x3 = y
  pointwise

theorem ref_act (i : S4x8192x704.Idx) : val_main_v19 (F := Ideal) x0 x1 x2 x3 i
    = act (val_main_v14 (F := Ideal) x0 x1 x2 i) (val_main_v17 (F := Ideal) x0 x1 x3 i) := by
  unfold val_main_v19 val_main_v18 val_main_call0_v5 val_main_call0_v4 val_main_call0_cst_0 val_main_call0_v3 val_main_call0_v2 val_main_call0_cst val_main_call0_v1 val_main_call0_v0 act
  generalize val_main_v14 (F := Ideal) x0 x1 x2 = y
  generalize val_main_v17 (F := Ideal) x0 x1 x3 = y'
  pointwise
  all_goals rfl

/-- The addend of column block `k` in the block's output. -/
def part (x0 : Vec Ideal S8192x1024 .f32) (x1 : Vec Ideal S1x1024 .f32) (x2 x3 x4 : Vec Ideal S4x704x1024 .bf16) (i : S8192x1024.Idx) (k : Fin 4) : EReal :=
  ∑ f, val_main_v19 (F := Ideal) x0 x1 x2 x3 (ix3 k (i 0) f) * x4 (ix3 k f (i 1))

theorem ref_out (i : S8192x1024.Idx) : val_main_v22 (F := Ideal) x0 x1 x2 x3 x4 i = x0 i + ∑ k, part x0 x1 x2 x3 x4 i k := by
  unfold val_main_v22 val_main_v21 val_main_v20 part
  generalize val_main_v19 (F := Ideal) x0 x1 x2 x3 = y
  pointwise
  exact congrArg (_ + ·) Finset.sum_comm

end

/-! The blocks of the arguments. -/

section
variable (m : (ℓ : Loc nD τ sig) → Buf (Elt Ideal) ℓ) (c : Dev nD)

theorem idx_0 : ∀ t : Fin cfg0.N, win0_0.index t (0 : Fin 2) = t.val / 4 ∧ win0_0.index t (1 : Fin 2) = 0 := by decide +kernel

abbrev A0 : Vec Ideal S8192x1024 .f32 := m ((c.tc : Thread nD τ).loc main_arg0)
abbrev X0 (t : Fin cfg0.N) : Vec Ideal S1024x1024 .f32 := iblk m c 0 t

theorem blk_0 (t : Fin cfg0.N) (z : S1024x1024.Idx) (i : S8192x1024.Idx) (h0 : (i 0).val = 1024 * (t.val / 4) + (z 0).val) (h1 : (i 1).val = (z 1).val) :
    X0 m c t z = A0 m c i := by
  refine Eq.trans ?_ (congrFun (V_main_arg0 m c) i)
  show (iblk m c 0 t : Vec Ideal S1024x1024 .f32) z = _
  unfold iblk
  rw [View.read_apply]
  show V m c main_arg0 _ = V m c main_arg0 i
  congr 1
  funext a
  apply Fin.ext
  match a with
  | ⟨0, _⟩ => show win0_0.index t (0 : Fin 2) * 1024 + 1 * (z 0).val = (i 0).val; rw [(idx_0 t).1]; omega
  | ⟨1, _⟩ => show win0_0.index t (1 : Fin 2) * 1024 + 1 * (z 1).val = (i 1).val; rw [(idx_0 t).2]; omega

theorem idx_1 : ∀ t : Fin cfg0.N, win0_1.index t (0 : Fin 2) = 0 ∧ win0_1.index t (1 : Fin 2) = 0 := by decide +kernel

abbrev A1 : Vec Ideal S1x1024 .f32 := m ((c.tc : Thread nD τ).loc main_arg1)
abbrev X1 (t : Fin cfg0.N) : Vec Ideal S1x1024 .f32 := iblk m c 1 t

theorem blk_1 (t : Fin cfg0.N) (z : S1x1024.Idx) (i : S1x1024.Idx) (h0 : (i 0).val = 0) (h1 : (i 1).val = (z 1).val) :
    X1 m c t z = A1 m c i := by
  have hz0 : (z 0).val < 1 := (z 0).isLt
  refine Eq.trans ?_ (congrFun (V_main_arg1 m c) i)
  show (iblk m c 1 t : Vec Ideal S1x1024 .f32) z = _
  unfold iblk
  rw [View.read_apply]
  show V m c main_arg1 _ = V m c main_arg1 i
  congr 1
  funext a
  apply Fin.ext
  match a with
  | ⟨0, _⟩ => show win0_1.index t (0 : Fin 2) * 1 + 1 * (z 0).val = (i 0).val; rw [(idx_1 t).1]; omega
  | ⟨1, _⟩ => show win0_1.index t (1 : Fin 2) * 1024 + 1 * (z 1).val = (i 1).val; rw [(idx_1 t).2]; omega

theorem idx_2 : ∀ t : Fin cfg0.N, win0_2.index t (0 : Fin 3) = t.val % 4 ∧ win0_2.index t (1 : Fin 3) = 0 ∧ win0_2.index t (2 : Fin 3) = 0 := by decide +kernel

abbrev A2 : Vec Ideal S4x704x1024 .bf16 := m ((c.tc : Thread nD τ).loc main_arg2)
abbrev X2 (t : Fin cfg0.N) : Vec Ideal S1x704x1024 .bf16 := iblk m c 2 t

theorem blk_2 (t : Fin cfg0.N) (z : S1x704x1024.Idx) (i : S4x704x1024.Idx) (h0 : (i 0).val = t.val % 4) (h1 : (i 1).val = (z 1).val) (h2 : (i 2).val = (z 2).val) :
    X2 m c t z = A2 m c i := by
  have hz0 : (z 0).val < 1 := (z 0).isLt
  refine Eq.trans ?_ (congrFun (V_main_arg2 m c) i)
  show (iblk m c 2 t : Vec Ideal S1x704x1024 .bf16) z = _
  unfold iblk
  rw [View.read_apply]
  show V m c main_arg2 _ = V m c main_arg2 i
  congr 1
  funext a
  apply Fin.ext
  match a with
  | ⟨0, _⟩ => show win0_2.index t (0 : Fin 3) * 1 + 1 * (z 0).val = (i 0).val; rw [(idx_2 t).1]; omega
  | ⟨1, _⟩ => show win0_2.index t (1 : Fin 3) * 704 + 1 * (z 1).val = (i 1).val; rw [(idx_2 t).2.1]; omega
  | ⟨2, _⟩ => show win0_2.index t (2 : Fin 3) * 1024 + 1 * (z 2).val = (i 2).val; rw [(idx_2 t).2.2]; omega

theorem idx_3 : ∀ t : Fin cfg0.N, win0_3.index t (0 : Fin 3) = t.val % 4 ∧ win0_3.index t (1 : Fin 3) = 0 ∧ win0_3.index t (2 : Fin 3) = 0 := by decide +kernel

abbrev A3 : Vec Ideal S4x704x1024 .bf16 := m ((c.tc : Thread nD τ).loc main_arg3)
abbrev X3 (t : Fin cfg0.N) : Vec Ideal S1x704x1024 .bf16 := iblk m c 3 t

theorem blk_3 (t : Fin cfg0.N) (z : S1x704x1024.Idx) (i : S4x704x1024.Idx) (h0 : (i 0).val = t.val % 4) (h1 : (i 1).val = (z 1).val) (h2 : (i 2).val = (z 2).val) :
    X3 m c t z = A3 m c i := by
  have hz0 : (z 0).val < 1 := (z 0).isLt
  refine Eq.trans ?_ (congrFun (V_main_arg3 m c) i)
  show (iblk m c 3 t : Vec Ideal S1x704x1024 .bf16) z = _
  unfold iblk
  rw [View.read_apply]
  show V m c main_arg3 _ = V m c main_arg3 i
  congr 1
  funext a
  apply Fin.ext
  match a with
  | ⟨0, _⟩ => show win0_3.index t (0 : Fin 3) * 1 + 1 * (z 0).val = (i 0).val; rw [(idx_3 t).1]; omega
  | ⟨1, _⟩ => show win0_3.index t (1 : Fin 3) * 704 + 1 * (z 1).val = (i 1).val; rw [(idx_3 t).2.1]; omega
  | ⟨2, _⟩ => show win0_3.index t (2 : Fin 3) * 1024 + 1 * (z 2).val = (i 2).val; rw [(idx_3 t).2.2]; omega

theorem idx_4 : ∀ t : Fin cfg0.N, win0_4.index t (0 : Fin 3) = t.val % 4 ∧ win0_4.index t (1 : Fin 3) = 0 ∧ win0_4.index t (2 : Fin 3) = 0 := by decide +kernel

abbrev A4 : Vec Ideal S4x704x1024 .bf16 := m ((c.tc : Thread nD τ).loc main_arg4)
abbrev X4 (t : Fin cfg0.N) : Vec Ideal S1x704x1024 .bf16 := iblk m c 4 t

theorem blk_4 (t : Fin cfg0.N) (z : S1x704x1024.Idx) (i : S4x704x1024.Idx) (h0 : (i 0).val = t.val % 4) (h1 : (i 1).val = (z 1).val) (h2 : (i 2).val = (z 2).val) :
    X4 m c t z = A4 m c i := by
  have hz0 : (z 0).val < 1 := (z 0).isLt
  refine Eq.trans ?_ (congrFun (V_main_arg4 m c) i)
  show (iblk m c 4 t : Vec Ideal S1x704x1024 .bf16) z = _
  unfold iblk
  rw [View.read_apply]
  show V m c main_arg4 _ = V m c main_arg4 i
  congr 1
  funext a
  apply Fin.ext
  match a with
  | ⟨0, _⟩ => show win0_4.index t (0 : Fin 3) * 1 + 1 * (z 0).val = (i 0).val; rw [(idx_4 t).1]; omega
  | ⟨1, _⟩ => show win0_4.index t (1 : Fin 3) * 704 + 1 * (z 1).val = (i 1).val; rw [(idx_4 t).2.1]; omega
  | ⟨2, _⟩ => show win0_4.index t (2 : Fin 3) * 1024 + 1 * (z 2).val = (i 2).val; rw [(idx_4 t).2.2]; omega

/-! The contents of the output blocks. -/

theorem h_start (t : Fin cfg0.N) (g0 : t.val % 4 = 0) (i : S8192x1024.Idx) (z : S1024x1024.Idx) (h0 : (i 0).val = 1024 * (t.val / 4) + (z 0).val) (h1 : (i 1).val = (z 1).val) :
    hAt m c t.val t.isLt z = val_main_v11 (F := Ideal) (A0 m c) (A1 m c) i := by
  refine (congrFun (hAt_first m c t g0) z).trans ((norm_row _ _ z).trans (Eq.trans ?_ (ref_norm _ _ i).symm))
  have e1 : (fun q : Fin 1024 => X0 m c t (ix2 (z 0) q)) = fun q => A0 m c (ix2 (i 0) q) :=
    funext fun q => blk_0 m c t (ix2 (z 0) q) (ix2 (i 0) q) h0 rfl
  have e2 : (fun q : Fin 1024 => X1 m c t (ix2 0 q)) = fun q => A1 m c (ix2 0 q) :=
    funext fun q => blk_1 m c t (ix2 0 q) (ix2 0 q) rfl rfl
  have e3 : (z 1 : Fin 1024) = i 1 := Fin.ext h1.symm
  exact congr (congr (congrArg norm e1) e2) e3

theorem h_full (n : ℕ) (hn : n < cfg0.N) (i : S8192x1024.Idx) (z : S1024x1024.Idx) (h0 : (i 0).val = 1024 * (n / 4) + (z 0).val) (h1 : (i 1).val = (z 1).val) :
    hAt m c n hn z = val_main_v11 (F := Ideal) (A0 m c) (A1 m c) i := by
  induction n with
  | zero => exact h_start m c ⟨0, hn⟩ rfl i z h0 h1
  | succ n ih =>
    by_cases g0 : (n + 1) % 4 = 0
    · exact h_start m c ⟨n + 1, hn⟩ g0 i z h0 h1
    · exact (congrFun (hAt_next m c ⟨n + 1, hn⟩ g0) z).trans (ih (Nat.lt_of_succ_lt hn) (by omega))

theorem gate_full (t : Fin cfg0.N) (i : S4x8192x704.Idx) (z : S1x1024x704.Idx) (h0 : (i 0).val = t.val % 4) (h1 : (i 1).val = 1024 * (t.val / 4) + (z 1).val) (h2 : (i 2).val = (z 2).val) :
    ∑ q, hAt m c t.val t.isLt (ix2 (z 1) q) * X2 m c t (ix3 0 (z 2) q) = val_main_v14 (F := Ideal) (A0 m c) (A1 m c) (A2 m c) i := by
  rw [ref_gate]
  refine Finset.sum_congr rfl fun q _ => congrArg₂ (· * ·) (h_full m c t.val t.isLt _ _ h1 rfl) (blk_2 m c t _ _ h0 h2 rfl)

theorem up_full (t : Fin cfg0.N) (i : S4x8192x704.Idx) (z : S1x1024x704.Idx) (h0 : (i 0).val = t.val % 4) (h1 : (i 1).val = 1024 * (t.val / 4) + (z 1).val) (h2 : (i 2).val = (z 2).val) :
    ∑ q, hAt m c t.val t.isLt (ix2 (z 1) q) * X3 m c t (ix3 0 (z 2) q) = val_main_v17 (F := Ideal) (A0 m c) (A1 m c) (A3 m c) i := by
  rw [ref_up]
  refine Finset.sum_congr rfl fun q _ => congrArg₂ (· * ·) (h_full m c t.val t.isLt _ _ h1 rfl) (blk_3 m c t _ _ h0 h2 rfl)

/-- What one column block adds. -/
theorem block_acc (t : Fin cfg0.N) (v : Vec Ideal S1024x1024 .f32) (i : S8192x1024.Idx) (z : S1024x1024.Idx) (h0 : (i 0).val = 1024 * (t.val / 4) + (z 0).val) (h1 : (i 1).val = (z 1).val) :
    addBlock m c t v z = v z + at0 (part (A0 m c) (A1 m c) (A2 m c) (A3 m c) (A4 m c) i) (t.val % 4) := by
  unfold addBlock
  refine (step_acc _ _ _ z).trans ?_
  rw [at0_of_lt _ _ (Nat.mod_lt _ (by decide))]
  unfold part
  refine congrArg (v z + ·) (Finset.sum_congr rfl fun f _ => congrArg₂ (· * ·) ?_ (blk_4 m c t _ _ rfl rfl h1))
  refine (act_at _ _ _ _).trans (Eq.trans ?_ (ref_act _ _ _ _ _).symm)
  exact congrArg₂ act (gate_full m c t _ (ix3 0 (z 0) f) rfl h0 rfl) (up_full m c t _ (ix3 0 (z 0) f) rfl h0 rfl)

/-- The running sum after each point. -/
theorem acc_sum (n : ℕ) (hn : n < cfg0.N) (i : S8192x1024.Idx) (z : S1024x1024.Idx) (h0 : (i 0).val = 1024 * (n / 4) + (z 0).val) (h1 : (i 1).val = (z 1).val) :
    accAt m c n hn z = A0 m c i + ∑ k ∈ Finset.range (n % 4 + 1), at0 (part (A0 m c) (A1 m c) (A2 m c) (A3 m c) (A4 m c) i) k := by
  induction n with
  | zero =>
    refine (congrFun (accAt_first m c ⟨0, hn⟩ rfl) z).trans ?_
    refine (block_acc m c ⟨0, hn⟩ _ i z h0 h1).trans ?_
    rw [start_acc, Finset.sum_range_one]
    exact congrArg (· + _) (blk_0 m c ⟨0, hn⟩ z i h0 h1)
  | succ n ih =>
    by_cases g0 : (n + 1) % 4 = 0
    · refine (congrFun (accAt_first m c ⟨n + 1, hn⟩ g0) z).trans ?_
      refine (block_acc m c ⟨n + 1, hn⟩ _ i z h0 h1).trans ?_
      rw [start_acc, g0, Finset.sum_range_one]
      exact congrArg₂ (· + ·) (blk_0 m c ⟨n + 1, hn⟩ z i h0 h1) rfl
    · refine (congrFun (accAt_next m c ⟨n + 1, hn⟩ g0) z).trans ?_
      refine (block_acc m c ⟨n + 1, hn⟩ _ i z h0 h1).trans ?_
      rw [Finset.sum_range_succ, ← add_assoc]
      refine congrArg (· + _) ?_
      exact (ih (Nat.lt_of_succ_lt hn) (by omega)).trans (by rw [show n % 4 + 1 = (n + 1) % 4 by omega])

theorem acc_full (t : Fin cfg0.N) (h : t.val % 4 = 3) (i : S8192x1024.Idx) (z : S1024x1024.Idx) (h0 : (i 0).val = 1024 * (t.val / 4) + (z 0).val) (h1 : (i 1).val = (z 1).val) :
    accAt m c t.val t.isLt z = val_main_v22 (F := Ideal) (A0 m c) (A1 m c) (A2 m c) (A3 m c) (A4 m c) i := by
  rw [acc_sum m c t.val t.isLt i z h0 h1, ref_out, h]
  exact congrArg (_ + ·) (sum_at0 (part (A0 m c) (A1 m c) (A2 m c) (A3 m c) (A4 m c) i))

/-! The arrays. -/

theorem flushed5 (t : Fin cfg0.N) : (dats m 0 c).flushed 5 t = (cfg0.win 5).cut (grid0.coords t) (hAt m c t.val t.isLt) := by
  show (cfg0.win 5).cut (grid0.coords t) ((dats m 0 c).after 5 t) = _
  rw [after5]

theorem widx_5 : ∀ t : Fin cfg0.N, win0_5.index t (0 : Fin 2) = t.val / 4 ∧ win0_5.index t (1 : Fin 2) = 0 := by decide +kernel

theorem arr_rows : (dats m 0 c).arrAt 5 cfg0.N = val_main_v23 (F := Ideal) (A0 m c) (A1 m c) := by
  refine Dat.arrAt_eq_of_cover (dats m 0 c) 5 (val_main_v23 (F := Ideal) (A0 m c) (A1 m c)) (fun t hf => ?_) (fun i => ?_)
  · have ht : t.val % 4 = 3 := (flush0_5 t).mp hf
    rw [flushed5]
    funext y
    rw [View.read_apply]
    refine (h_full m c t.val t.isLt _ y ?_ ?_).trans (ref_h _ _ _).symm
    · show win0_5.index t (0 : Fin 2) * 1024 + 1 * (y 0).val = 1024 * (t.val / 4) + (y 0).val
      rw [(widx_5 t).1]; omega
    · show win0_5.index t (1 : Fin 2) * 1024 + 1 * (y 1).val = (y 1).val
      rw [(widx_5 t).2]; omega
  · have hi0 : (i 0).val < 8192 := (i 0).isLt
    obtain ⟨t, ht⟩ : ∃ t : Fin cfg0.N, t.val = 4 * ((i 0).val / 1024) + 3 := ⟨⟨4 * ((i 0).val / 1024) + 3, lt_of_lt_of_eq (by omega) N_0.symm⟩, rfl⟩
    refine ⟨t, (flush0_5 t).mpr (by omega), ?_⟩
    have e : ((cfg0.win 5).blk t).view.emb (ix2 (⟨(i 0).val % 1024, Nat.mod_lt _ (by decide)⟩ : Fin 1024) (i 1)) = i := by
      funext a
      apply Fin.ext
      match a with
      | ⟨0, _⟩ => show win0_5.index t (0 : Fin 2) * 1024 + 1 * ((i 0).val % 1024) = (i 0).val; rw [(widx_5 t).1]; omega
      | ⟨1, _⟩ => show win0_5.index t (1 : Fin 2) * 1024 + 1 * (i 1).val = (i 1).val; rw [(widx_5 t).2]; omega
    exact e ▸ ((cfg0.win 5).blk t).view.emb_mem_set _

theorem flushed6 (t : Fin cfg0.N) : (dats m 0 c).flushed 6 t = (cfg0.win 6).cut (grid0.coords t) (k0_pay7 (hAt m c t.val t.isLt) (X2 m c t)) := by
  show (cfg0.win 6).cut (grid0.coords t) ((dats m 0 c).after 6 t) = _
  rw [after6]

theorem widx_6 : ∀ t : Fin cfg0.N, win0_6.index t (0 : Fin 3) = t.val % 4 ∧ win0_6.index t (1 : Fin 3) = t.val / 4 ∧ win0_6.index t (2 : Fin 3) = 0 := by decide +kernel

theorem arr_gate : (dats m 0 c).arrAt 6 cfg0.N = val_main_v24 (F := Ideal) (A0 m c) (A1 m c) (A2 m c) := by
  refine Dat.arrAt_eq_of_cover (dats m 0 c) 6 (val_main_v24 (F := Ideal) (A0 m c) (A1 m c) (A2 m c)) (fun t hf => ?_) (fun i => ?_)
  · rw [flushed6]
    funext y
    have hy0 : (y 0).val < 1 := (y 0).isLt
    rw [View.read_apply]
    refine (gate_out _ _ y).trans ((gate_full m c t _ y ?_ ?_ ?_).trans (ref_gg _ _ _ _).symm)
    · show win0_6.index t (0 : Fin 3) * 1 + 1 * (y 0).val = t.val % 4
      rw [(widx_6 t).1]; omega
    · show win0_6.index t (1 : Fin 3) * 1024 + 1 * (y 1).val = 1024 * (t.val / 4) + (y 1).val
      rw [(widx_6 t).2.1]; omega
    · show win0_6.index t (2 : Fin 3) * 704 + 1 * (y 2).val = (y 2).val
      rw [(widx_6 t).2.2]; omega
  · have hi0 : (i 0).val < 4 := (i 0).isLt
    have hi1 : (i 1).val < 8192 := (i 1).isLt
    obtain ⟨t, ht⟩ : ∃ t : Fin cfg0.N, t.val = 4 * ((i 1).val / 1024) + (i 0).val := ⟨⟨4 * ((i 1).val / 1024) + (i 0).val, lt_of_lt_of_eq (by omega) N_0.symm⟩, rfl⟩
    refine ⟨t, flush0_6 t, ?_⟩
    have e : ((cfg0.win 6).blk t).view.emb (ix3 (0 : Fin 1) (⟨(i 1).val % 1024, Nat.mod_lt _ (by decide)⟩ : Fin 1024) (i 2)) = i := by
      funext a
      apply Fin.ext
      match a with
      | ⟨0, _⟩ => show win0_6.index t (0 : Fin 3) * 1 + 1 * 0 = (i 0).val; rw [(widx_6 t).1]; omega
      | ⟨1, _⟩ => show win0_6.index t (1 : Fin 3) * 1024 + 1 * ((i 1).val % 1024) = (i 1).val; rw [(widx_6 t).2.1]; omega
      | ⟨2, _⟩ => show win0_6.index t (2 : Fin 3) * 704 + 1 * (i 2).val = (i 2).val; rw [(widx_6 t).2.2]; omega
    exact e ▸ ((cfg0.win 6).blk t).view.emb_mem_set _

theorem flushed7 (t : Fin cfg0.N) : (dats m 0 c).flushed 7 t = (cfg0.win 7).cut (grid0.coords t) (k0_pay8 (hAt m c t.val t.isLt) (X3 m c t)) := by
  show (cfg0.win 7).cut (grid0.coords t) ((dats m 0 c).after 7 t) = _
  rw [after7]

theorem widx_7 : ∀ t : Fin cfg0.N, win0_7.index t (0 : Fin 3) = t.val % 4 ∧ win0_7.index t (1 : Fin 3) = t.val / 4 ∧ win0_7.index t (2 : Fin 3) = 0 := by decide +kernel

theorem arr_up : (dats m 0 c).arrAt 7 cfg0.N = val_main_v25 (F := Ideal) (A0 m c) (A1 m c) (A3 m c) := by
  refine Dat.arrAt_eq_of_cover (dats m 0 c) 7 (val_main_v25 (F := Ideal) (A0 m c) (A1 m c) (A3 m c)) (fun t hf => ?_) (fun i => ?_)
  · rw [flushed7]
    funext y
    have hy0 : (y 0).val < 1 := (y 0).isLt
    rw [View.read_apply]
    refine (up_out _ _ y).trans ((up_full m c t _ y ?_ ?_ ?_).trans (ref_uu _ _ _ _).symm)
    · show win0_7.index t (0 : Fin 3) * 1 + 1 * (y 0).val = t.val % 4
      rw [(widx_7 t).1]; omega
    · show win0_7.index t (1 : Fin 3) * 1024 + 1 * (y 1).val = 1024 * (t.val / 4) + (y 1).val
      rw [(widx_7 t).2.1]; omega
    · show win0_7.index t (2 : Fin 3) * 704 + 1 * (y 2).val = (y 2).val
      rw [(widx_7 t).2.2]; omega
  · have hi0 : (i 0).val < 4 := (i 0).isLt
    have hi1 : (i 1).val < 8192 := (i 1).isLt
    obtain ⟨t, ht⟩ : ∃ t : Fin cfg0.N, t.val = 4 * ((i 1).val / 1024) + (i 0).val := ⟨⟨4 * ((i 1).val / 1024) + (i 0).val, lt_of_lt_of_eq (by omega) N_0.symm⟩, rfl⟩
    refine ⟨t, flush0_7 t, ?_⟩
    have e : ((cfg0.win 7).blk t).view.emb (ix3 (0 : Fin 1) (⟨(i 1).val % 1024, Nat.mod_lt _ (by decide)⟩ : Fin 1024) (i 2)) = i := by
      funext a
      apply Fin.ext
      match a with
      | ⟨0, _⟩ => show win0_7.index t (0 : Fin 3) * 1 + 1 * 0 = (i 0).val; rw [(widx_7 t).1]; omega
      | ⟨1, _⟩ => show win0_7.index t (1 : Fin 3) * 1024 + 1 * ((i 1).val % 1024) = (i 1).val; rw [(widx_7 t).2.1]; omega
      | ⟨2, _⟩ => show win0_7.index t (2 : Fin 3) * 704 + 1 * (i 2).val = (i 2).val; rw [(widx_7 t).2.2]; omega
    exact e ▸ ((cfg0.win 7).blk t).view.emb_mem_set _

theorem flushed8 (t : Fin cfg0.N) : (dats m 0 c).flushed 8 t = (cfg0.win 8).cut (grid0.coords t) (accAt m c t.val t.isLt) := by
  show (cfg0.win 8).cut (grid0.coords t) ((dats m 0 c).after 8 t) = _
  rw [after8]

theorem widx_8 : ∀ t : Fin cfg0.N, win0_8.index t (0 : Fin 2) = t.val / 4 ∧ win0_8.index t (1 : Fin 2) = 0 := by decide +kernel

theorem arr_out : (dats m 0 c).arrAt 8 cfg0.N = val_main_v22 (F := Ideal) (A0 m c) (A1 m c) (A2 m c) (A3 m c) (A4 m c) := by
  refine Dat.arrAt_eq_of_cover (dats m 0 c) 8 (val_main_v22 (F := Ideal) (A0 m c) (A1 m c) (A2 m c) (A3 m c) (A4 m c)) (fun t hf => ?_) (fun i => ?_)
  · have ht : t.val % 4 = 3 := (flush0_8 t).mp hf
    rw [flushed8]
    funext y
    rw [View.read_apply]
    refine acc_full m c t ht _ y ?_ ?_
    · show win0_8.index t (0 : Fin 2) * 1024 + 1 * (y 0).val = 1024 * (t.val / 4) + (y 0).val
      rw [(widx_8 t).1]; omega
    · show win0_8.index t (1 : Fin 2) * 1024 + 1 * (y 1).val = (y 1).val
      rw [(widx_8 t).2]; omega
  · have hi0 : (i 0).val < 8192 := (i 0).isLt
    obtain ⟨t, ht⟩ : ∃ t : Fin cfg0.N, t.val = 4 * ((i 0).val / 1024) + 3 := ⟨⟨4 * ((i 0).val / 1024) + 3, lt_of_lt_of_eq (by omega) N_0.symm⟩, rfl⟩
    refine ⟨t, (flush0_8 t).mpr (by omega), ?_⟩
    have e : ((cfg0.win 8).blk t).view.emb (ix2 (⟨(i 0).val % 1024, Nat.mod_lt _ (by decide)⟩ : Fin 1024) (i 1)) = i := by
      funext a
      apply Fin.ext
      match a with
      | ⟨0, _⟩ => show win0_8.index t (0 : Fin 2) * 1024 + 1 * ((i 0).val % 1024) = (i 0).val; rw [(widx_8 t).1]; omega
      | ⟨1, _⟩ => show win0_8.index t (1 : Fin 2) * 1024 + 1 * (i 1).val = (i 1).val; rw [(widx_8 t).2]; omega
    exact e ▸ ((cfg0.win 8).blk t).view.emb_mem_set _

end

/-- Every run ends with the results at the written-back blocks and the arguments unchanged. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5, (h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

theorem algebraic : Cert.algebraic_FfnFwdIdeal_FfnFwdRefIdeal := by
  intro m g m' g' hp hag
  refine ⟨fun c => (dats m 0 c).arrAt 5 cfg0.N, fun c => (dats m 0 c).arrAt 6 cfg0.N, fun c => (dats m 0 c).arrAt 7 cfg0.N, fun c => (dats m 0 c).arrAt 8 cfg0.N, run_blocks m g, ?_⟩
  refine (θ_run Cert.FfnFwdRefIdeal.defs _ _).mono (fun r h c => ?_) (Cert.FfnFwdRefIdeal.Value.run m' g')
  obtain ⟨h0, h1, h2, h3, hargs⟩ := h c
  obtain ⟨a0, a1, a2, a3, a4⟩ := hag c
  refine ⟨(h0.trans ?_).trans (arr_rows m c).symm, (h1.trans ?_).trans (arr_gate m c).symm, (h2.trans ?_).trans (arr_up m c).symm, (h3.trans ?_).trans (arr_out m c).symm, hargs⟩
  · rw [a0, a1]; exact val_main_v23_eq _ _
  · rw [a0, a1, a2]; exact val_main_v24_eq _ _ _
  · rw [a0, a1, a3]; exact val_main_v25_eq _ _ _
  · rw [a0, a1, a2, a3, a4]; exact val_main_v22_eq _ _ _ _ _

/-- The reference leaves its arguments as they were; it declares no semaphore. -/
theorem frame_reference : Cert.quiescent_FfnFwdRefIdeal := fun m ρ _ =>
  (θ_run Cert.FfnFwdRefIdeal.defs _ _).mono
    (fun r h => ⟨fun c => by obtain ⟨_, _, _, _, hargs⟩ := h c; exact hargs,
      Idealize.ShloMosaic.sem_eq_zero_of_no_sems (by decide) r.2⟩)
    (Cert.FfnFwdRefIdeal.Value.run (F := Ideal) m ρ)

end Cert.FfnFwdIdeal.Val

end
-- ==== Proof.AdamGateValue.lean ====
/- The optimiser's step of the feed-forward block's gate or up matrix, with the transposes around it: the arrays after the run are the reference's. -/
module

public import proofs.«01_k».proof.Defs
public import proofs.«01_k».proof.Proof.AdamStep
public import proofs.«01_k».proof.Proof.Gen.AdamGateIdeal.Frame
public import Idealize.ShloMosaic.Lib.Pipeline.Value
public import Idealize.ShloMosaic.Lib.StableHlo.Run
public import proofs.«01_k».proof.Proof.Gen.AdamGateRefIdeal.Run
public import proofs.«01_k».proof.Proof.Gen.AdamGateRefIdeal.Read

@[expose] public section

set_option maxRecDepth 16384

noncomputable section

namespace Cert.AdamGateIdeal.Val

open Cert.AdamGateIdeal Cert.AdamGateIdeal.Gen Idealize.ShloMosaic Idealize.ShloMosaic.TcCoe Idealize.SL.Sem Cert.AdamStep
open Idealize.ShloMosaic.Pipeline (Dat)
open Cert.AdamGateRefIdeal.Read

theorem hz : (![0, 0, 0] : Fin 3 → Nat) = fun _ => 0 := by decide

/-! The stored blocks at an index. -/

theorem out_4 (x0 x1 x2 x3 : Vec Ideal S1x352x1024 .f32) (y : S1x352x1024.Idx) : out0_4 (F := Ideal) x0 x1 x2 x3 y = delta (x0 y) (x1 y) (x2 y) (x3 y) := by
  unfold out0_4
  rw [View.canon_unit_zero hz]
  simp only [View.ld_unit_zero (S := S1x352x1024) hz]
  unfold delta mom vel k0_pay1 k0_pay8 k0_pay7 k0_pay6 k0_pay5
  pointwise
  all_goals done

theorem out_5 (x0 x1 x2 x3 : Vec Ideal S1x352x1024 .f32) (y : S1x352x1024.Idx) : out0_5 (F := Ideal) x0 x1 x2 x3 y = mom (x1 y) (x2 y) := by
  unfold out0_5
  rw [View.canon_unit_zero hz]
  simp only [View.ld_unit_zero (S := S1x352x1024) hz]
  unfold mom k0_pay2 k0_pay6 k0_pay5
  pointwise
  all_goals done

theorem out_6 (x0 x1 x2 x3 : Vec Ideal S1x352x1024 .f32) (y : S1x352x1024.Idx) : out0_6 (F := Ideal) x0 x1 x2 x3 y = vel (x1 y) (x3 y) := by
  unfold out0_6
  rw [View.canon_unit_zero hz]
  simp only [View.ld_unit_zero (S := S1x352x1024) hz]
  unfold vel k0_pay3 k0_pay7 k0_pay5
  pointwise
  all_goals done

theorem out_7 (x0 x1 x2 x3 : Vec Ideal S1x352x1024 .f32) (y : S1x352x1024.Idx) : out0_7 (F := Ideal) x0 x1 x2 x3 y = x1 y := by
  unfold out0_7
  rw [View.canon_unit_zero hz]
  simp only [View.ld_unit_zero (S := S1x352x1024) hz]
  unfold k0_pay4 k0_pay5
  pointwise
  all_goals done

/-! The reference at an index. -/

theorem ref_4 (x0 : Vec Ideal S2x1024x704 .f32) (x1 : Vec Ideal S2x704x1024 .f32) (x2 x3 : Vec Ideal S2x1024x704 .f32) (i : S2x1024x704.Idx) :
    val_main_v24 (F := Ideal) x0 x1 x2 x3 i = delta (x0 i) (val_main_v0 (F := Ideal) x1 i) (x2 i) (x3 i) := by
  unfold delta mom vel val_main_v24 val_main_v23 val_main_cst_7 val_main_v22 val_main_v19 val_main_v13 val_main_v5 val_main_v2 val_main_v1 val_main_cst val_main_v4 val_main_v3 val_main_cst_0 val_main_v12 val_main_cst_3 val_main_v18 val_main_v16 val_main_v15 val_main_v11 val_main_v7 val_main_v6 val_main_cst_1 val_main_v10 val_main_v9 val_main_cst_2 val_main_v8 val_main_v14 val_main_cst_4 val_main_v17 val_main_cst_5 val_main_v21 val_main_v20 val_main_cst_6
  pointwise
  all_goals done

theorem ref_5 (x1 : Vec Ideal S2x704x1024 .f32) (x2 : Vec Ideal S2x1024x704 .f32) (i : S2x1024x704.Idx) :
    val_main_v5 (F := Ideal) x1 x2 i = mom (val_main_v0 (F := Ideal) x1 i) (x2 i) := by
  unfold mom val_main_v5 val_main_v2 val_main_v1 val_main_cst val_main_v4 val_main_v3 val_main_cst_0
  pointwise
  all_goals done

theorem ref_6 (x1 : Vec Ideal S2x704x1024 .f32) (x3 : Vec Ideal S2x1024x704 .f32) (i : S2x1024x704.Idx) :
    val_main_v11 (F := Ideal) x1 x3 i = vel (val_main_v0 (F := Ideal) x1 i) (x3 i) := by
  unfold vel val_main_v11 val_main_v7 val_main_v6 val_main_cst_1 val_main_v10 val_main_v9 val_main_cst_2 val_main_v8
  pointwise
  all_goals done

/-! The arrays. -/

/-- An index of the stored layout, and the index of the natural layout that it is. -/
def flip (i : S2x704x1024.Idx) : S2x1024x704.Idx := ix3 (i 0) (i 2) (i 1)

theorem flip_apply (x : Vec Ideal S2x1024x704 .f32) (i : S2x704x1024.Idx) :
    transpose S2x704x1024 [0, 2, 1] x transposes_S2x1024x704_S2x704x1024_0_2_1 i = x (flip i) :=
  transpose_apply [0, 2, 1] x transposes_S2x1024x704_S2x704x1024_0_2_1 i (flip i) (fun b => match b with
    | ⟨0, _⟩ => rfl
    | ⟨1, _⟩ => rfl
    | ⟨2, _⟩ => rfl)

theorem flip_idx (i : S2x1024x704.Idx) : flip (idx_main_v0 i) = i := by
  funext a
  match a with
  | ⟨0, _⟩ => rfl
  | ⟨1, _⟩ => rfl
  | ⟨2, _⟩ => rfl

section
variable (m : (ℓ : Loc nD τ sig) → Buf (Elt Ideal) ℓ) (c : Dev nD)

theorem idx_0 : ∀ t : Fin cfg0.N, win0_0.index t (0 : Fin 3) = t.val / 2 ∧ win0_0.index t (1 : Fin 3) = t.val % 2 ∧ win0_0.index t (2 : Fin 3) = 0 := by decide +kernel

theorem idx_1 : ∀ t : Fin cfg0.N, win0_1.index t (0 : Fin 3) = t.val / 2 ∧ win0_1.index t (1 : Fin 3) = t.val % 2 ∧ win0_1.index t (2 : Fin 3) = 0 := by decide +kernel

theorem idx_2 : ∀ t : Fin cfg0.N, win0_2.index t (0 : Fin 3) = t.val / 2 ∧ win0_2.index t (1 : Fin 3) = t.val % 2 ∧ win0_2.index t (2 : Fin 3) = 0 := by decide +kernel

theorem idx_3 : ∀ t : Fin cfg0.N, win0_3.index t (0 : Fin 3) = t.val / 2 ∧ win0_3.index t (1 : Fin 3) = t.val % 2 ∧ win0_3.index t (2 : Fin 3) = 0 := by decide +kernel

theorem idx_4 : ∀ t : Fin cfg0.N, win0_4.index t (0 : Fin 3) = t.val / 2 ∧ win0_4.index t (1 : Fin 3) = t.val % 2 ∧ win0_4.index t (2 : Fin 3) = 0 := by decide +kernel

theorem idx_5 : ∀ t : Fin cfg0.N, win0_5.index t (0 : Fin 3) = t.val / 2 ∧ win0_5.index t (1 : Fin 3) = t.val % 2 ∧ win0_5.index t (2 : Fin 3) = 0 := by decide +kernel

theorem idx_6 : ∀ t : Fin cfg0.N, win0_6.index t (0 : Fin 3) = t.val / 2 ∧ win0_6.index t (1 : Fin 3) = t.val % 2 ∧ win0_6.index t (2 : Fin 3) = 0 := by decide +kernel

theorem idx_7 : ∀ t : Fin cfg0.N, win0_7.index t (0 : Fin 3) = t.val / 2 ∧ win0_7.index t (1 : Fin 3) = t.val % 2 ∧ win0_7.index t (2 : Fin 3) = 0 := by decide +kernel

abbrev A0 : Vec Ideal S2x704x1024 .f32 := fun i => (m ((c.tc : Thread nD τ).loc main_arg0) : Vec Ideal S2x1024x704 .f32) (flip i)

theorem entry_0 : (V m c main_v0 : Vec Ideal S2x704x1024 .f32) = A0 m c := by
  have e : (V m c main_v0 : Vec Ideal S2x704x1024 .f32) = transpose S2x704x1024 [0, 2, 1] (m ((c.tc : Thread nD τ).loc main_arg0) : Vec Ideal S2x1024x704 .f32) transposes_S2x1024x704_S2x704x1024_0_2_1 := by
    show StableHlo.after (List.flatten [hostOps0]) (fun b => m (c, b)) (Proc.devRef .tc main_v0) = _
    simp only [hostOps0, List.flatten_cons, List.flatten_nil, List.append_nil, List.cons_append, List.nil_append]
    after_results_simp
    all_goals rfl
  rw [e]
  funext i
  exact flip_apply _ i

theorem blk_0 (t : Fin cfg0.N) (z : S1x352x1024.Idx) (i : S2x704x1024.Idx) (h0 : (i 0).val = t.val / 2) (h1 : (i 1).val = t.val % 2 * 352 + (z 1).val) (h2 : (i 2).val = (z 2).val) :
    (iblk m c 0 t : Vec Ideal S1x352x1024 .f32) z = A0 m c i := by
  have hz0 : (z 0).val < 1 := (z 0).isLt
  refine Eq.trans ?_ (congrFun (entry_0 m c) i)
  unfold iblk
  rw [View.read_apply]
  show V m c main_v0 _ = V m c main_v0 i
  congr 1
  funext a
  apply Fin.ext
  match a with
  | ⟨0, _⟩ => show win0_0.index t (0 : Fin 3) * 1 + 1 * (z 0).val = (i 0).val; rw [(idx_0 t).1]; omega
  | ⟨1, _⟩ => show win0_0.index t (1 : Fin 3) * 352 + 1 * (z 1).val = (i 1).val; rw [(idx_0 t).2.1]; omega
  | ⟨2, _⟩ => show win0_0.index t (2 : Fin 3) * 1024 + 1 * (z 2).val = (i 2).val; rw [(idx_0 t).2.2]; omega

abbrev A1 : Vec Ideal S2x704x1024 .f32 := m ((c.tc : Thread nD τ).loc main_arg1)

theorem blk_1 (t : Fin cfg0.N) (z : S1x352x1024.Idx) (i : S2x704x1024.Idx) (h0 : (i 0).val = t.val / 2) (h1 : (i 1).val = t.val % 2 * 352 + (z 1).val) (h2 : (i 2).val = (z 2).val) :
    (iblk m c 1 t : Vec Ideal S1x352x1024 .f32) z = A1 m c i := by
  have hz0 : (z 0).val < 1 := (z 0).isLt
  refine Eq.trans ?_ (congrFun (V_main_arg1 m c) i)
  unfold iblk
  rw [View.read_apply]
  show V m c main_arg1 _ = V m c main_arg1 i
  congr 1
  funext a
  apply Fin.ext
  match a with
  | ⟨0, _⟩ => show win0_1.index t (0 : Fin 3) * 1 + 1 * (z 0).val = (i 0).val; rw [(idx_1 t).1]; omega
  | ⟨1, _⟩ => show win0_1.index t (1 : Fin 3) * 352 + 1 * (z 1).val = (i 1).val; rw [(idx_1 t).2.1]; omega
  | ⟨2, _⟩ => show win0_1.index t (2 : Fin 3) * 1024 + 1 * (z 2).val = (i 2).val; rw [(idx_1 t).2.2]; omega

abbrev A2 : Vec Ideal S2x704x1024 .f32 := fun i => (m ((c.tc : Thread nD τ).loc main_arg2) : Vec Ideal S2x1024x704 .f32) (flip i)

theorem entry_2 : (V m c main_v1 : Vec Ideal S2x704x1024 .f32) = A2 m c := by
  have e : (V m c main_v1 : Vec Ideal S2x704x1024 .f32) = transpose S2x704x1024 [0, 2, 1] (m ((c.tc : Thread nD τ).loc main_arg2) : Vec Ideal S2x1024x704 .f32) transposes_S2x1024x704_S2x704x1024_0_2_1 := by
    show StableHlo.after (List.flatten [hostOps0]) (fun b => m (c, b)) (Proc.devRef .tc main_v1) = _
    simp only [hostOps0, List.flatten_cons, List.flatten_nil, List.append_nil, List.cons_append, List.nil_append]
    after_results_simp
    all_goals rfl
  rw [e]
  funext i
  exact flip_apply _ i

theorem blk_2 (t : Fin cfg0.N) (z : S1x352x1024.Idx) (i : S2x704x1024.Idx) (h0 : (i 0).val = t.val / 2) (h1 : (i 1).val = t.val % 2 * 352 + (z 1).val) (h2 : (i 2).val = (z 2).val) :
    (iblk m c 2 t : Vec Ideal S1x352x1024 .f32) z = A2 m c i := by
  have hz0 : (z 0).val < 1 := (z 0).isLt
  refine Eq.trans ?_ (congrFun (entry_2 m c) i)
  unfold iblk
  rw [View.read_apply]
  show V m c main_v1 _ = V m c main_v1 i
  congr 1
  funext a
  apply Fin.ext
  match a with
  | ⟨0, _⟩ => show win0_2.index t (0 : Fin 3) * 1 + 1 * (z 0).val = (i 0).val; rw [(idx_2 t).1]; omega
  | ⟨1, _⟩ => show win0_2.index t (1 : Fin 3) * 352 + 1 * (z 1).val = (i 1).val; rw [(idx_2 t).2.1]; omega
  | ⟨2, _⟩ => show win0_2.index t (2 : Fin 3) * 1024 + 1 * (z 2).val = (i 2).val; rw [(idx_2 t).2.2]; omega

abbrev A3 : Vec Ideal S2x704x1024 .f32 := fun i => (m ((c.tc : Thread nD τ).loc main_arg3) : Vec Ideal S2x1024x704 .f32) (flip i)

theorem entry_3 : (V m c main_v2 : Vec Ideal S2x704x1024 .f32) = A3 m c := by
  have e : (V m c main_v2 : Vec Ideal S2x704x1024 .f32) = transpose S2x704x1024 [0, 2, 1] (m ((c.tc : Thread nD τ).loc main_arg3) : Vec Ideal S2x1024x704 .f32) transposes_S2x1024x704_S2x704x1024_0_2_1 := by
    show StableHlo.after (List.flatten [hostOps0]) (fun b => m (c, b)) (Proc.devRef .tc main_v2) = _
    simp only [hostOps0, List.flatten_cons, List.flatten_nil, List.append_nil, List.cons_append, List.nil_append]
    after_results_simp
    all_goals rfl
  rw [e]
  funext i
  exact flip_apply _ i

theorem blk_3 (t : Fin cfg0.N) (z : S1x352x1024.Idx) (i : S2x704x1024.Idx) (h0 : (i 0).val = t.val / 2) (h1 : (i 1).val = t.val % 2 * 352 + (z 1).val) (h2 : (i 2).val = (z 2).val) :
    (iblk m c 3 t : Vec Ideal S1x352x1024 .f32) z = A3 m c i := by
  have hz0 : (z 0).val < 1 := (z 0).isLt
  refine Eq.trans ?_ (congrFun (entry_3 m c) i)
  unfold iblk
  rw [View.read_apply]
  show V m c main_v2 _ = V m c main_v2 i
  congr 1
  funext a
  apply Fin.ext
  match a with
  | ⟨0, _⟩ => show win0_3.index t (0 : Fin 3) * 1 + 1 * (z 0).val = (i 0).val; rw [(idx_3 t).1]; omega
  | ⟨1, _⟩ => show win0_3.index t (1 : Fin 3) * 352 + 1 * (z 1).val = (i 1).val; rw [(idx_3 t).2.1]; omega
  | ⟨2, _⟩ => show win0_3.index t (2 : Fin 3) * 1024 + 1 * (z 2).val = (i 2).val; rw [(idx_3 t).2.2]; omega

/-- The values of output 0 in the stored layout. -/
def G4 : Vec Ideal S2x704x1024 .f32 := fun i => delta (A0 m c i) (A1 m c i) (A2 m c i) (A3 m c i)

/-- The values of output 1 in the stored layout. -/
def G5 : Vec Ideal S2x704x1024 .f32 := fun i => mom (A1 m c i) (A2 m c i)

/-- The values of output 2 in the stored layout. -/
def G6 : Vec Ideal S2x704x1024 .f32 := fun i => vel (A1 m c i) (A3 m c i)

theorem full_4 (t : Fin cfg0.N) (y : S1x352x1024.Idx) (i : S2x704x1024.Idx) (h0 : (i 0).val = t.val / 2) (h1 : (i 1).val = t.val % 2 * 352 + (y 1).val) (h2 : (i 2).val = (y 2).val) :
    out0_4 (F := Ideal) (iblk m c 0 t) (iblk m c 1 t) (iblk m c 2 t) (iblk m c 3 t) y = (G4 m c) i := by
  refine (out_4 _ _ _ _ y).trans ?_
  exact (congr (congr (congr (congrArg delta (blk_0 m c t y i h0 h1 h2)) (blk_1 m c t y i h0 h1 h2)) (blk_2 m c t y i h0 h1 h2)) (blk_3 m c t y i h0 h1 h2))

theorem arr_4 : (dats m 0 c).arrAt 4 cfg0.N = G4 m c := by
  refine Dat.arrAt_eq_of_cover (dats m 0 c) 4 (G4 m c) (fun t hf => ?_) (fun i => ?_)
  · show (cfg0.win 4).cut (grid0.coords t) ((dats m 0 c).after 4 t) = _
    rw [after0_4]
    funext y
    have hy0 : (y 0).val < 1 := (y 0).isLt
    rw [View.read_apply]
    refine full_4 m c t y _ ?_ ?_ ?_
    · show win0_4.index t (0 : Fin 3) * 1 + 1 * (y 0).val = t.val / 2
      rw [(idx_4 t).1]; omega
    · show win0_4.index t (1 : Fin 3) * 352 + 1 * (y 1).val = t.val % 2 * 352 + (y 1).val
      rw [(idx_4 t).2.1]; omega
    · show win0_4.index t (2 : Fin 3) * 1024 + 1 * (y 2).val = (y 2).val
      rw [(idx_4 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_4 t, ?_⟩
    have e : ((cfg0.win 4).blk t).view.emb (ix3 (0 : Fin 1) (⟨(i 1).val % 352, Nat.mod_lt _ (by decide)⟩ : Fin 352) (i 2)) = i := by
      funext a
      apply Fin.ext
      match a with
      | ⟨0, _⟩ => show win0_4.index t (0 : Fin 3) * 1 + 1 * 0 = (i 0).val; rw [(idx_4 t).1]; omega
      | ⟨1, _⟩ => show win0_4.index t (1 : Fin 3) * 352 + 1 * ((i 1).val % 352) = (i 1).val; rw [(idx_4 t).2.1]; omega
      | ⟨2, _⟩ => show win0_4.index t (2 : Fin 3) * 1024 + 1 * (i 2).val = (i 2).val; rw [(idx_4 t).2.2]; omega
    exact e ▸ ((cfg0.win 4).blk t).view.emb_mem_set _

theorem full_5 (t : Fin cfg0.N) (y : S1x352x1024.Idx) (i : S2x704x1024.Idx) (h0 : (i 0).val = t.val / 2) (h1 : (i 1).val = t.val % 2 * 352 + (y 1).val) (h2 : (i 2).val = (y 2).val) :
    out0_5 (F := Ideal) (iblk m c 0 t) (iblk m c 1 t) (iblk m c 2 t) (iblk m c 3 t) y = (G5 m c) i := by
  refine (out_5 _ _ _ _ y).trans ?_
  exact (congrArg₂ mom (blk_1 m c t y i h0 h1 h2) (blk_2 m c t y i h0 h1 h2))

theorem arr_5 : (dats m 0 c).arrAt 5 cfg0.N = G5 m c := by
  refine Dat.arrAt_eq_of_cover (dats m 0 c) 5 (G5 m c) (fun t hf => ?_) (fun i => ?_)
  · show (cfg0.win 5).cut (grid0.coords t) ((dats m 0 c).after 5 t) = _
    rw [after0_5]
    funext y
    have hy0 : (y 0).val < 1 := (y 0).isLt
    rw [View.read_apply]
    refine full_5 m c t y _ ?_ ?_ ?_
    · show win0_5.index t (0 : Fin 3) * 1 + 1 * (y 0).val = t.val / 2
      rw [(idx_5 t).1]; omega
    · show win0_5.index t (1 : Fin 3) * 352 + 1 * (y 1).val = t.val % 2 * 352 + (y 1).val
      rw [(idx_5 t).2.1]; omega
    · show win0_5.index t (2 : Fin 3) * 1024 + 1 * (y 2).val = (y 2).val
      rw [(idx_5 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_5 t, ?_⟩
    have e : ((cfg0.win 5).blk t).view.emb (ix3 (0 : Fin 1) (⟨(i 1).val % 352, Nat.mod_lt _ (by decide)⟩ : Fin 352) (i 2)) = i := by
      funext a
      apply Fin.ext
      match a with
      | ⟨0, _⟩ => show win0_5.index t (0 : Fin 3) * 1 + 1 * 0 = (i 0).val; rw [(idx_5 t).1]; omega
      | ⟨1, _⟩ => show win0_5.index t (1 : Fin 3) * 352 + 1 * ((i 1).val % 352) = (i 1).val; rw [(idx_5 t).2.1]; omega
      | ⟨2, _⟩ => show win0_5.index t (2 : Fin 3) * 1024 + 1 * (i 2).val = (i 2).val; rw [(idx_5 t).2.2]; omega
    exact e ▸ ((cfg0.win 5).blk t).view.emb_mem_set _

theorem full_6 (t : Fin cfg0.N) (y : S1x352x1024.Idx) (i : S2x704x1024.Idx) (h0 : (i 0).val = t.val / 2) (h1 : (i 1).val = t.val % 2 * 352 + (y 1).val) (h2 : (i 2).val = (y 2).val) :
    out0_6 (F := Ideal) (iblk m c 0 t) (iblk m c 1 t) (iblk m c 2 t) (iblk m c 3 t) y = (G6 m c) i := by
  refine (out_6 _ _ _ _ y).trans ?_
  exact (congrArg₂ vel (blk_1 m c t y i h0 h1 h2) (blk_3 m c t y i h0 h1 h2))

theorem arr_6 : (dats m 0 c).arrAt 6 cfg0.N = G6 m c := by
  refine Dat.arrAt_eq_of_cover (dats m 0 c) 6 (G6 m c) (fun t hf => ?_) (fun i => ?_)
  · show (cfg0.win 6).cut (grid0.coords t) ((dats m 0 c).after 6 t) = _
    rw [after0_6]
    funext y
    have hy0 : (y 0).val < 1 := (y 0).isLt
    rw [View.read_apply]
    refine full_6 m c t y _ ?_ ?_ ?_
    · show win0_6.index t (0 : Fin 3) * 1 + 1 * (y 0).val = t.val / 2
      rw [(idx_6 t).1]; omega
    · show win0_6.index t (1 : Fin 3) * 352 + 1 * (y 1).val = t.val % 2 * 352 + (y 1).val
      rw [(idx_6 t).2.1]; omega
    · show win0_6.index t (2 : Fin 3) * 1024 + 1 * (y 2).val = (y 2).val
      rw [(idx_6 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_6 t, ?_⟩
    have e : ((cfg0.win 6).blk t).view.emb (ix3 (0 : Fin 1) (⟨(i 1).val % 352, Nat.mod_lt _ (by decide)⟩ : Fin 352) (i 2)) = i := by
      funext a
      apply Fin.ext
      match a with
      | ⟨0, _⟩ => show win0_6.index t (0 : Fin 3) * 1 + 1 * 0 = (i 0).val; rw [(idx_6 t).1]; omega
      | ⟨1, _⟩ => show win0_6.index t (1 : Fin 3) * 352 + 1 * ((i 1).val % 352) = (i 1).val; rw [(idx_6 t).2.1]; omega
      | ⟨2, _⟩ => show win0_6.index t (2 : Fin 3) * 1024 + 1 * (i 2).val = (i 2).val; rw [(idx_6 t).2.2]; omega
    exact e ▸ ((cfg0.win 6).blk t).view.emb_mem_set _

theorem full_7 (t : Fin cfg0.N) (y : S1x352x1024.Idx) (i : S2x704x1024.Idx) (h0 : (i 0).val = t.val / 2) (h1 : (i 1).val = t.val % 2 * 352 + (y 1).val) (h2 : (i 2).val = (y 2).val) :
    out0_7 (F := Ideal) (iblk m c 0 t) (iblk m c 1 t) (iblk m c 2 t) (iblk m c 3 t) y = (A1 m c) i := by
  refine (out_7 _ _ _ _ y).trans ?_
  exact (blk_1 m c t y i h0 h1 h2)

theorem arr_7 : (dats m 0 c).arrAt 7 cfg0.N = A1 m c := by
  refine Dat.arrAt_eq_of_cover (dats m 0 c) 7 (A1 m c) (fun t hf => ?_) (fun i => ?_)
  · show (cfg0.win 7).cut (grid0.coords t) ((dats m 0 c).after 7 t) = _
    rw [after0_7]
    funext y
    have hy0 : (y 0).val < 1 := (y 0).isLt
    rw [View.read_apply]
    refine full_7 m c t y _ ?_ ?_ ?_
    · show win0_7.index t (0 : Fin 3) * 1 + 1 * (y 0).val = t.val / 2
      rw [(idx_7 t).1]; omega
    · show win0_7.index t (1 : Fin 3) * 352 + 1 * (y 1).val = t.val % 2 * 352 + (y 1).val
      rw [(idx_7 t).2.1]; omega
    · show win0_7.index t (2 : Fin 3) * 1024 + 1 * (y 2).val = (y 2).val
      rw [(idx_7 t).2.2]; omega
  · have hi0 : (i 0).val < 2 := (i 0).isLt
    have hi1 : (i 1).val < 704 := (i 1).isLt
    obtain ⟨t, ht⟩ : ∃ t : Fin cfg0.N, t.val = (i 0).val * 2 + (i 1).val / 352 := ⟨⟨(i 0).val * 2 + (i 1).val / 352, lt_of_lt_of_eq (by omega) N_0.symm⟩, rfl⟩
    refine ⟨t, flush0_7 t, ?_⟩
    have e : ((cfg0.win 7).blk t).view.emb (ix3 (0 : Fin 1) (⟨(i 1).val % 352, Nat.mod_lt _ (by decide)⟩ : Fin 352) (i 2)) = i := by
      funext a
      apply Fin.ext
      match a with
      | ⟨0, _⟩ => show win0_7.index t (0 : Fin 3) * 1 + 1 * 0 = (i 0).val; rw [(idx_7 t).1]; omega
      | ⟨1, _⟩ => show win0_7.index t (1 : Fin 3) * 352 + 1 * ((i 1).val % 352) = (i 1).val; rw [(idx_7 t).2.1]; omega
      | ⟨2, _⟩ => show win0_7.index t (2 : Fin 3) * 1024 + 1 * (i 2).val = (i 2).val; rw [(idx_7 t).2.2]; omega
    exact e ▸ ((cfg0.win 7).blk t).view.emb_mem_set _

/-- The windows stage different arrays. -/
theorem arr_distinct : Function.Injective (Pipeline.arrRef (cfgs (0 : Fin 1)).spec) := launch0.win.arr_inj

theorem tail_4 : (Pipeline.afterTail₀ cfgs (dats m) 0 (V0 m) [hostOps1] c main_v4 : Vec Ideal S2x1024x704 .f32) = val_main_v0 (F := Ideal) (G4 m c) := by
  have a : (Pipeline.withArrays (cfgs 0).spec c (V0 m c) (fun w => (dats m 0 c).arrAt w (cfgs 0).N) (Proc.devRef .tc main_v3_0) : Vec Ideal S2x704x1024 .f32) = G4 m c :=
    (Pipeline.withArrays_arr (cfgs 0).spec arr_distinct c (V0 m c) (fun w => (dats m 0 c).arrAt w (cfgs 0).N) 4).trans (arr_4 m c)
  unfold Pipeline.afterTail₀
  rw [← a]
  simp only [hostOps1, List.flatten_cons, List.flatten_nil, List.append_nil, List.cons_append, List.nil_append]
  after_results_simp
  all_goals rfl

theorem tail_5 : (Pipeline.afterTail₀ cfgs (dats m) 0 (V0 m) [hostOps1] c main_v5 : Vec Ideal S2x1024x704 .f32) = val_main_v0 (F := Ideal) (G5 m c) := by
  have a : (Pipeline.withArrays (cfgs 0).spec c (V0 m c) (fun w => (dats m 0 c).arrAt w (cfgs 0).N) (Proc.devRef .tc main_v3_1) : Vec Ideal S2x704x1024 .f32) = G5 m c :=
    (Pipeline.withArrays_arr (cfgs 0).spec arr_distinct c (V0 m c) (fun w => (dats m 0 c).arrAt w (cfgs 0).N) 5).trans (arr_5 m c)
  unfold Pipeline.afterTail₀
  rw [← a]
  simp only [hostOps1, List.flatten_cons, List.flatten_nil, List.append_nil, List.cons_append, List.nil_append]
  after_results_simp
  all_goals rfl

theorem tail_6 : (Pipeline.afterTail₀ cfgs (dats m) 0 (V0 m) [hostOps1] c main_v6 : Vec Ideal S2x1024x704 .f32) = val_main_v0 (F := Ideal) (G6 m c) := by
  have a : (Pipeline.withArrays (cfgs 0).spec c (V0 m c) (fun w => (dats m 0 c).arrAt w (cfgs 0).N) (Proc.devRef .tc main_v3_2) : Vec Ideal S2x704x1024 .f32) = G6 m c :=
    (Pipeline.withArrays_arr (cfgs 0).spec arr_distinct c (V0 m c) (fun w => (dats m 0 c).arrAt w (cfgs 0).N) 6).trans (arr_6 m c)
  unfold Pipeline.afterTail₀
  rw [← a]
  simp only [hostOps1, List.flatten_cons, List.flatten_nil, List.append_nil, List.cons_append, List.nil_append]
  after_results_simp
  all_goals rfl

theorem tail_7 : (Pipeline.afterTail₀ cfgs (dats m) 0 (V0 m) [hostOps1] c main_v7 : Vec Ideal S2x1024x704 .f32) = val_main_v0 (F := Ideal) (A1 m c) := by
  have a : (Pipeline.withArrays (cfgs 0).spec c (V0 m c) (fun w => (dats m 0 c).arrAt w (cfgs 0).N) (Proc.devRef .tc main_v3_3) : Vec Ideal S2x704x1024 .f32) = A1 m c :=
    (Pipeline.withArrays_arr (cfgs 0).spec arr_distinct c (V0 m c) (fun w => (dats m 0 c).arrAt w (cfgs 0).N) 7).trans (arr_7 m c)
  unfold Pipeline.afterTail₀
  rw [← a]
  simp only [hostOps1, List.flatten_cons, List.flatten_nil, List.append_nil, List.cons_append, List.nil_append]
  after_results_simp
  all_goals rfl

end

/-- The kernel's run with its four results named. -/
theorem run_results (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v4) = val_main_v0 (F := Ideal) (G4 m c)
      ∧ r.2.mem ((c.tc : Thread nD τ).loc main_v5) = val_main_v0 (F := Ideal) (G5 m c)
      ∧ r.2.mem ((c.tc : Thread nD τ).loc main_v6) = val_main_v0 (F := Ideal) (G6 m c)
      ∧ r.2.mem ((c.tc : Thread nD τ).loc main_v7) = val_main_v0 (F := Ideal) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
      obtain ⟨hr, hu⟩ := h
      exact ⟨((hr c).2 main_v4 (Pipeline.mem_restRefs_of main_v4 (by decide) (by decide))).trans (tail_4 m c),
        ((hr c).2 main_v5 (Pipeline.mem_restRefs_of main_v5 (by decide) (by decide))).trans (tail_5 m c),
        ((hr c).2 main_v6 (Pipeline.mem_restRefs_of main_v6 (by decide) (by decide))).trans (tail_6 m c),
        ((hr c).2 main_v7 (Pipeline.mem_restRefs_of main_v7 (by decide) (by decide))).trans (tail_7 m c), hu c⟩)
    (θ_run_and (run_main m g) (unchanged m g))

/-! The stored layout's values, turned back, are the reference's. -/

theorem back_4 (m : (ℓ : Loc nD τ sig) → Buf (Elt Ideal) ℓ) (c : Dev nD) :
    val_main_v0 (F := Ideal) (G4 m c) = val_main_v24 (F := Ideal) (m ((c.tc : Thread nD τ).loc main_arg0)) (A1 m c) (m ((c.tc : Thread nD τ).loc main_arg2)) (m ((c.tc : Thread nD τ).loc main_arg3)) := by
  funext i
  rw [ref_4, val_main_v0_apply, val_main_v0_apply]
  unfold G4
  show delta (m ((c.tc : Thread nD τ).loc main_arg0) (flip (idx_main_v0 i))) _ (m ((c.tc : Thread nD τ).loc main_arg2) (flip (idx_main_v0 i))) (m ((c.tc : Thread nD τ).loc main_arg3) (flip (idx_main_v0 i))) = _
  rw [flip_idx]

theorem back_5 (m : (ℓ : Loc nD τ sig) → Buf (Elt Ideal) ℓ) (c : Dev nD) :
    val_main_v0 (F := Ideal) (G5 m c) = val_main_v5 (F := Ideal) (A1 m c) (m ((c.tc : Thread nD τ).loc main_arg2)) := by
  funext i
  rw [ref_5, val_main_v0_apply, val_main_v0_apply]
  unfold G5
  show mom _ (m ((c.tc : Thread nD τ).loc main_arg2) (flip (idx_main_v0 i))) = _
  rw [flip_idx]

theorem back_6 (m : (ℓ : Loc nD τ sig) → Buf (Elt Ideal) ℓ) (c : Dev nD) :
    val_main_v0 (F := Ideal) (G6 m c) = val_main_v11 (F := Ideal) (A1 m c) (m ((c.tc : Thread nD τ).loc main_arg3)) := by
  funext i
  rw [ref_6, val_main_v0_apply, val_main_v0_apply]
  unfold G6
  show vel _ (m ((c.tc : Thread nD τ).loc main_arg3) (flip (idx_main_v0 i))) = _
  rw [flip_idx]

theorem algebraic : Cert.algebraic_AdamGateIdeal_AdamGateRefIdeal := by
  intro m g m' g' hp hag
  refine ⟨fun c => val_main_v0 (F := Ideal) (G4 m c), fun c => val_main_v0 (F := Ideal) (G5 m c), fun c => val_main_v0 (F := Ideal) (G6 m c), fun c => val_main_v0 (F := Ideal) (A1 m c), run_results m g, ?_⟩
  refine (θ_run Cert.AdamGateRefIdeal.defs _ _).mono (fun r h c => ?_) (Cert.AdamGateRefIdeal.Value.run m' g')
  obtain ⟨h0, h1, h2, h3, hargs⟩ := h c
  obtain ⟨a0, a1, a2, a3⟩ := hag c
  refine ⟨h0.trans ?_, h1.trans ?_, h2.trans ?_, h3.trans ?_, hargs⟩
  · refine (val_main_v24_eq _ _ _ _).trans ?_
    rw [a0, a1, a2, a3]
    exact (back_4 m c).symm
  · refine (val_main_v5_eq _ _).trans ?_
    rw [a1, a2]
    exact (back_5 m c).symm
  · refine (val_main_v11_eq _ _).trans ?_
    rw [a1, a3]
    exact (back_6 m c).symm
  · refine (val_main_v0_eq _).trans ?_
    rw [a1]

/-- The reference leaves its arguments as they were; it declares no semaphore. -/
theorem frame_reference : Cert.quiescent_AdamGateRefIdeal := fun m ρ _ =>
  (θ_run Cert.AdamGateRefIdeal.defs _ _).mono
    (fun r h => ⟨fun c => by obtain ⟨_, _, _, h3, hargs⟩ := h c; exact hargs,
      Idealize.ShloMosaic.sem_eq_zero_of_no_sems (by decide) r.2⟩)
    (Cert.AdamGateRefIdeal.Value.run (F := Ideal) m ρ)

end Cert.AdamGateIdeal.Val

end
-- ==== Proof.AdamSmallDat.lean ====
/- The twelve small parameters' AdamW kernel: what each window's buffer holds before the body and when it is done. -/
module

public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Claim
public import Idealize.ShloMosaic.Lib.Tactic

@[expose] public section

set_option maxRecDepth 16384

noncomputable section

namespace Cert.AdamSmallIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in each output window's buffer: its one store, over the whole buffer -/

abbrev r0_0 : Rect S2x1024 := Rect.unit (s := S2x1024) ![0, 0] S2x1024.size inb_S2x1024_S2x1024_0_0
abbrev r0_1 : Rect S2x3x256 := Rect.unit (s := S2x3x256) ![0, 0, 0] S2x3x256.size inb_S2x3x256_S2x3x256_0_0_0
abbrev r0_2 : Rect S2x4x256 := Rect.unit (s := S2x4x256) ![0, 0, 0] S2x4x256.size inb_S2x4x256_S2x4x256_0_0_0
abbrev r0_3 : Rect S2x16x64x64 := Rect.unit (s := S2x16x64x64) ![0, 0, 0, 0] S2x16x64x64.size inb_S2x16x64x64_S2x16x64x64_0_0_0_0
abbrev r0_4 : Rect S2x2x256 := Rect.unit (s := S2x2x256) ![0, 0, 0] S2x2x256.size inb_S2x2x256_S2x2x256_0_0_0
abbrev r0_5 : Rect S1024 := Rect.unit (s := S1024) ![0] S1024.size inb_S1024_S1024_0

def out48 (x0 x12 x24 x36 : Vec F S2x1024 .f32) : Vec F S2x1024 .f32 :=
  View.canon [⟨r0_0, k0_pay3 (View.ld x0 r0_0) (View.ld x12 r0_0) (View.ld x24 r0_0) (View.ld x36 r0_0)⟩]
def out49 (x1 x13 x25 x37 : Vec F S2x3x256 .f32) : Vec F S2x3x256 .f32 :=
  View.canon [⟨r0_1, k0_pay6 (View.ld x1 r0_1) (View.ld x13 r0_1) (View.ld x25 r0_1) (View.ld x37 r0_1)⟩]
def out50 (x2 x14 x26 x38 : Vec F S2x4x256 .f32) : Vec F S2x4x256 .f32 :=
  View.canon [⟨r0_2, k0_pay9 (View.ld x2 r0_2) (View.ld x14 r0_2) (View.ld x26 r0_2) (View.ld x38 r0_2)⟩]
def out51 (x3 x15 x27 x39 : Vec F S2x1024 .f32) : Vec F S2x1024 .f32 :=
  View.canon [⟨r0_0, k0_pay12 (View.ld x3 r0_0) (View.ld x15 r0_0) (View.ld x27 r0_0) (View.ld x39 r0_0)⟩]
def out52 (x4 x16 x28 x40 : Vec F S2x16x64x64 .f32) : Vec F S2x16x64x64 .f32 :=
  View.canon [⟨r0_3, k0_pay15 (View.ld x4 r0_3) (View.ld x16 r0_3) (View.ld x28 r0_3) (View.ld x40 r0_3)⟩]
def out53 (x5 x17 x29 x41 : Vec F S2x1024 .f32) : Vec F S2x1024 .f32 :=
  View.canon [⟨r0_0, k0_pay18 (View.ld x5 r0_0) (View.ld x17 r0_0) (View.ld x29 r0_0) (View.ld x41 r0_0)⟩]
def out54 (x6 x18 x30 x42 : Vec F S2x16x64x64 .f32) : Vec F S2x16x64x64 .f32 :=
  View.canon [⟨r0_3, k0_pay22 (k0_pay21 (View.ld x6 r0_3) (View.ld x18 r0_3) (View.ld x30 r0_3) (View.ld x42 r0_3))⟩]
def out55 (x7 x19 x31 x43 : Vec F S2x1024 .f32) : Vec F S2x1024 .f32 :=
  View.canon [⟨r0_0, k0_pay26 (View.ld x7 r0_0) (k0_pay25 (View.ld x19 r0_0) (View.ld x31 r0_0) (View.ld x43 r0_0)) (Scalar.ofBits .f32 0x3C23D70A#32)⟩]
def out56 (x8 x20 x32 x44 : Vec F S2x1024 .f32) : Vec F S2x1024 .f32 :=
  View.canon [⟨r0_0, k0_pay30 (k0_pay29 (View.ld x8 r0_0) (View.ld x20 r0_0) (View.ld x32 r0_0) (View.ld x44 r0_0))⟩]
def out57 (x21 x33 x45 x9 : Vec F S2x2x256 .f32) : Vec F S2x2x256 .f32 :=
  View.canon [⟨r0_4, k0_pay35 (k0_pay33 (View.ld x21 r0_4) (View.ld x33 r0_4) (View.ld x45 r0_4)) (k0_pay34 (View.ld x9 r0_4))⟩]
def out58 (x22 x34 x46 x10 : Vec F S2x1024 .f32) : Vec F S2x1024 .f32 :=
  View.canon [⟨r0_0, k0_pay40 (k0_pay38 (View.ld x22 r0_0) (View.ld x34 r0_0) (View.ld x46 r0_0)) (k0_pay39 (View.ld x10 r0_0))⟩]
def out59 (x11 x23 x35 x47 : Vec F S1024 .f32) : Vec F S1024 .f32 :=
  View.canon [⟨r0_5, k0_pay43 (View.ld x11 r0_5) (View.ld x23 r0_5) (View.ld x35 r0_5) (View.ld x47 r0_5)⟩]
def out60 (x12 x24 : Vec F S2x1024 .f32) : Vec F S2x1024 .f32 :=
  View.canon [⟨r0_0, k0_pay1 (View.ld x12 r0_0) (View.ld x24 r0_0)⟩]
def out61 (x13 x25 : Vec F S2x3x256 .f32) : Vec F S2x3x256 .f32 :=
  View.canon [⟨r0_1, k0_pay4 (View.ld x13 r0_1) (View.ld x25 r0_1)⟩]
def out62 (x14 x26 : Vec F S2x4x256 .f32) : Vec F S2x4x256 .f32 :=
  View.canon [⟨r0_2, k0_pay7 (View.ld x14 r0_2) (View.ld x26 r0_2)⟩]
def out63 (x15 x27 : Vec F S2x1024 .f32) : Vec F S2x1024 .f32 :=
  View.canon [⟨r0_0, k0_pay10 (View.ld x15 r0_0) (View.ld x27 r0_0)⟩]
def out64 (x16 x28 : Vec F S2x16x64x64 .f32) : Vec F S2x16x64x64 .f32 :=
  View.canon [⟨r0_3, k0_pay13 (View.ld x16 r0_3) (View.ld x28 r0_3)⟩]
def out65 (x17 x29 : Vec F S2x1024 .f32) : Vec F S2x1024 .f32 :=
  View.canon [⟨r0_0, k0_pay16 (View.ld x17 r0_0) (View.ld x29 r0_0)⟩]
def out66 (x18 x30 : Vec F S2x16x64x64 .f32) : Vec F S2x16x64x64 .f32 :=
  View.canon [⟨r0_3, k0_pay19 (View.ld x18 r0_3) (View.ld x30 r0_3)⟩]
def out67 (x19 x31 : Vec F S2x1024 .f32) : Vec F S2x1024 .f32 :=
  View.canon [⟨r0_0, k0_pay23 (View.ld x19 r0_0) (View.ld x31 r0_0)⟩]
def out68 (x20 x32 : Vec F S2x1024 .f32) : Vec F S2x1024 .f32 :=
  View.canon [⟨r0_0, k0_pay27 (View.ld x20 r0_0) (View.ld x32 r0_0)⟩]
def out69 (x21 x33 : Vec F S2x2x256 .f32) : Vec F S2x2x256 .f32 :=
  View.canon [⟨r0_4, k0_pay31 (View.ld x21 r0_4) (View.ld x33 r0_4)⟩]
def out70 (x22 x34 : Vec F S2x1024 .f32) : Vec F S2x1024 .f32 :=
  View.canon [⟨r0_0, k0_pay36 (View.ld x22 r0_0) (View.ld x34 r0_0)⟩]
def out71 (x23 x35 : Vec F S1024 .f32) : Vec F S1024 .f32 :=
  View.canon [⟨r0_5, k0_pay41 (View.ld x23 r0_5) (View.ld x35 r0_5)⟩]
def out72 (x12 x36 : Vec F S2x1024 .f32) : Vec F S2x1024 .f32 :=
  View.canon [⟨r0_0, k0_pay2 (View.ld x12 r0_0) (View.ld x36 r0_0)⟩]
def out73 (x13 x37 : Vec F S2x3x256 .f32) : Vec F S2x3x256 .f32 :=
  View.canon [⟨r0_1, k0_pay5 (View.ld x13 r0_1) (View.ld x37 r0_1)⟩]
def out74 (x14 x38 : Vec F S2x4x256 .f32) : Vec F S2x4x256 .f32 :=
  View.canon [⟨r0_2, k0_pay8 (View.ld x14 r0_2) (View.ld x38 r0_2)⟩]
def out75 (x15 x39 : Vec F S2x1024 .f32) : Vec F S2x1024 .f32 :=
  View.canon [⟨r0_0, k0_pay11 (View.ld x15 r0_0) (View.ld x39 r0_0)⟩]
def out76 (x16 x40 : Vec F S2x16x64x64 .f32) : Vec F S2x16x64x64 .f32 :=
  View.canon [⟨r0_3, k0_pay14 (View.ld x16 r0_3) (View.ld x40 r0_3)⟩]
def out77 (x17 x41 : Vec F S2x1024 .f32) : Vec F S2x1024 .f32 :=
  View.canon [⟨r0_0, k0_pay17 (View.ld x17 r0_0) (View.ld x41 r0_0)⟩]
def out78 (x18 x42 : Vec F S2x16x64x64 .f32) : Vec F S2x16x64x64 .f32 :=
  View.canon [⟨r0_3, k0_pay20 (View.ld x18 r0_3) (View.ld x42 r0_3)⟩]
def out79 (x19 x43 : Vec F S2x1024 .f32) : Vec F S2x1024 .f32 :=
  View.canon [⟨r0_0, k0_pay24 (View.ld x19 r0_0) (View.ld x43 r0_0)⟩]
def out80 (x20 x44 : Vec F S2x1024 .f32) : Vec F S2x1024 .f32 :=
  View.canon [⟨r0_0, k0_pay28 (View.ld x20 r0_0) (View.ld x44 r0_0)⟩]
def out81 (x21 x45 : Vec F S2x2x256 .f32) : Vec F S2x2x256 .f32 :=
  View.canon [⟨r0_4, k0_pay32 (View.ld x21 r0_4) (View.ld x45 r0_4)⟩]
def out82 (x22 x46 : Vec F S2x1024 .f32) : Vec F S2x1024 .f32 :=
  View.canon [⟨r0_0, k0_pay37 (View.ld x22 r0_0) (View.ld x46 r0_0)⟩]
def out83 (x23 x47 : Vec F S1024 .f32) : Vec F S1024 .f32 :=
  View.canon [⟨r0_5, k0_pay42 (View.ld x23 r0_5) (View.ld x47 r0_5)⟩]

/-- The pipeline's proof data: each input's buffer keeps its block, each output's is the store over the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, _⟩ => iblk m c 47 t
    | ⟨48, _⟩ => out48 (iblk m c 0 t) (iblk m c 12 t) (iblk m c 24 t) (iblk m c 36 t)
    | ⟨49, _⟩ => out49 (iblk m c 1 t) (iblk m c 13 t) (iblk m c 25 t) (iblk m c 37 t)
    | ⟨50, _⟩ => out50 (iblk m c 2 t) (iblk m c 14 t) (iblk m c 26 t) (iblk m c 38 t)
    | ⟨51, _⟩ => out51 (iblk m c 3 t) (iblk m c 15 t) (iblk m c 27 t) (iblk m c 39 t)
    | ⟨52, _⟩ => out52 (iblk m c 4 t) (iblk m c 16 t) (iblk m c 28 t) (iblk m c 40 t)
    | ⟨53, _⟩ => out53 (iblk m c 5 t) (iblk m c 17 t) (iblk m c 29 t) (iblk m c 41 t)
    | ⟨54, _⟩ => out54 (iblk m c 6 t) (iblk m c 18 t) (iblk m c 30 t) (iblk m c 42 t)
    | ⟨55, _⟩ => out55 (iblk m c 7 t) (iblk m c 19 t) (iblk m c 31 t) (iblk m c 43 t)
    | ⟨56, _⟩ => out56 (iblk m c 8 t) (iblk m c 20 t) (iblk m c 32 t) (iblk m c 44 t)
    | ⟨57, _⟩ => out57 (iblk m c 21 t) (iblk m c 33 t) (iblk m c 45 t) (iblk m c 9 t)
    | ⟨58, _⟩ => out58 (iblk m c 22 t) (iblk m c 34 t) (iblk m c 46 t) (iblk m c 10 t)
    | ⟨59, _⟩ => out59 (iblk m c 11 t) (iblk m c 23 t) (iblk m c 35 t) (iblk m c 47 t)
    | ⟨60, _⟩ => out60 (iblk m c 12 t) (iblk m c 24 t)
    | ⟨61, _⟩ => out61 (iblk m c 13 t) (iblk m c 25 t)
    | ⟨62, _⟩ => out62 (iblk m c 14 t) (iblk m c 26 t)
    | ⟨63, _⟩ => out63 (iblk m c 15 t) (iblk m c 27 t)
    | ⟨64, _⟩ => out64 (iblk m c 16 t) (iblk m c 28 t)
    | ⟨65, _⟩ => out65 (iblk m c 17 t) (iblk m c 29 t)
    | ⟨66, _⟩ => out66 (iblk m c 18 t) (iblk m c 30 t)
    | ⟨67, _⟩ => out67 (iblk m c 19 t) (iblk m c 31 t)
    | ⟨68, _⟩ => out68 (iblk m c 20 t) (iblk m c 32 t)
    | ⟨69, _⟩ => out69 (iblk m c 21 t) (iblk m c 33 t)
    | ⟨70, _⟩ => out70 (iblk m c 22 t) (iblk m c 34 t)
    | ⟨71, _⟩ => out71 (iblk m c 23 t) (iblk m c 35 t)
    | ⟨72, _⟩ => out72 (iblk m c 12 t) (iblk m c 36 t)
    | ⟨73, _⟩ => out73 (iblk m c 13 t) (iblk m c 37 t)
    | ⟨74, _⟩ => out74 (iblk m c 14 t) (iblk m c 38 t)
    | ⟨75, _⟩ => out75 (iblk m c 15 t) (iblk m c 39 t)
    | ⟨76, _⟩ => out76 (iblk m c 16 t) (iblk m c 40 t)
    | ⟨77, _⟩ => out77 (iblk m c 17 t) (iblk m c 41 t)
    | ⟨78, _⟩ => out78 (iblk m c 18 t) (iblk m c 42 t)
    | ⟨79, _⟩ => out79 (iblk m c 19 t) (iblk m c 43 t)
    | ⟨80, _⟩ => out80 (iblk m c 20 t) (iblk m c 44 t)
    | ⟨81, _⟩ => out81 (iblk m c 21 t) (iblk m c 45 t)
    | ⟨82, _⟩ => out82 (iblk m c 22 t) (iblk m c 46 t)
    | ⟨83, _⟩ => out83 (iblk m c 23 t) (iblk m c 47 t)
    | ⟨_ + 84, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem kept (c : Dev nD) (w : Fin cfg0.W) (h : (cfg0.win w).isOut = false) : (dats m 0 c).arrAt w cfg0.N = V m c (Pipeline.arrRef spec0 w) :=
  ((dats m 0 c).arrAt_in w h _).trans (A_eq m c w)

section
variable (c : Dev nD) (t : Fin cfg0.N)

theorem aft0 : (dats m 0 c).after 0 t = iblk m c 0 t := by dsimp only [dats]
theorem aft1 : (dats m 0 c).after 1 t = iblk m c 1 t := by dsimp only [dats]
theorem aft2 : (dats m 0 c).after 2 t = iblk m c 2 t := by dsimp only [dats]
theorem aft3 : (dats m 0 c).after 3 t = iblk m c 3 t := by dsimp only [dats]
theorem aft4 : (dats m 0 c).after 4 t = iblk m c 4 t := by dsimp only [dats]
theorem aft5 : (dats m 0 c).after 5 t = iblk m c 5 t := by dsimp only [dats]
theorem aft6 : (dats m 0 c).after 6 t = iblk m c 6 t := by dsimp only [dats]
theorem aft7 : (dats m 0 c).after 7 t = iblk m c 7 t := by dsimp only [dats]
theorem aft8 : (dats m 0 c).after 8 t = iblk m c 8 t := by dsimp only [dats]
theorem aft9 : (dats m 0 c).after 9 t = iblk m c 9 t := by dsimp only [dats]
theorem aft10 : (dats m 0 c).after 10 t = iblk m c 10 t := by dsimp only [dats]
theorem aft11 : (dats m 0 c).after 11 t = iblk m c 11 t := by dsimp only [dats]
theorem aft12 : (dats m 0 c).after 12 t = iblk m c 12 t := by dsimp only [dats]
theorem aft13 : (dats m 0 c).after 13 t = iblk m c 13 t := by dsimp only [dats]
theorem aft14 : (dats m 0 c).after 14 t = iblk m c 14 t := by dsimp only [dats]
theorem aft15 : (dats m 0 c).after 15 t = iblk m c 15 t := by dsimp only [dats]
theorem aft16 : (dats m 0 c).after 16 t = iblk m c 16 t := by dsimp only [dats]
theorem aft17 : (dats m 0 c).after 17 t = iblk m c 17 t := by dsimp only [dats]
theorem aft18 : (dats m 0 c).after 18 t = iblk m c 18 t := by dsimp only [dats]
theorem aft19 : (dats m 0 c).after 19 t = iblk m c 19 t := by dsimp only [dats]
theorem aft20 : (dats m 0 c).after 20 t = iblk m c 20 t := by dsimp only [dats]
theorem aft21 : (dats m 0 c).after 21 t = iblk m c 21 t := by dsimp only [dats]
theorem aft22 : (dats m 0 c).after 22 t = iblk m c 22 t := by dsimp only [dats]
theorem aft23 : (dats m 0 c).after 23 t = iblk m c 23 t := by dsimp only [dats]
theorem aft24 : (dats m 0 c).after 24 t = iblk m c 24 t := by dsimp only [dats]
theorem aft25 : (dats m 0 c).after 25 t = iblk m c 25 t := by dsimp only [dats]
theorem aft26 : (dats m 0 c).after 26 t = iblk m c 26 t := by dsimp only [dats]
theorem aft27 : (dats m 0 c).after 27 t = iblk m c 27 t := by dsimp only [dats]
theorem aft28 : (dats m 0 c).after 28 t = iblk m c 28 t := by dsimp only [dats]
theorem aft29 : (dats m 0 c).after 29 t = iblk m c 29 t := by dsimp only [dats]
theorem aft30 : (dats m 0 c).after 30 t = iblk m c 30 t := by dsimp only [dats]
theorem aft31 : (dats m 0 c).after 31 t = iblk m c 31 t := by dsimp only [dats]
theorem aft32 : (dats m 0 c).after 32 t = iblk m c 32 t := by dsimp only [dats]
theorem aft33 : (dats m 0 c).after 33 t = iblk m c 33 t := by dsimp only [dats]
theorem aft34 : (dats m 0 c).after 34 t = iblk m c 34 t := by dsimp only [dats]
theorem aft35 : (dats m 0 c).after 35 t = iblk m c 35 t := by dsimp only [dats]
theorem aft36 : (dats m 0 c).after 36 t = iblk m c 36 t := by dsimp only [dats]
theorem aft37 : (dats m 0 c).after 37 t = iblk m c 37 t := by dsimp only [dats]
theorem aft38 : (dats m 0 c).after 38 t = iblk m c 38 t := by dsimp only [dats]
theorem aft39 : (dats m 0 c).after 39 t = iblk m c 39 t := by dsimp only [dats]
theorem aft40 : (dats m 0 c).after 40 t = iblk m c 40 t := by dsimp only [dats]
theorem aft41 : (dats m 0 c).after 41 t = iblk m c 41 t := by dsimp only [dats]
theorem aft42 : (dats m 0 c).after 42 t = iblk m c 42 t := by dsimp only [dats]
theorem aft43 : (dats m 0 c).after 43 t = iblk m c 43 t := by dsimp only [dats]
theorem aft44 : (dats m 0 c).after 44 t = iblk m c 44 t := by dsimp only [dats]
theorem aft45 : (dats m 0 c).after 45 t = iblk m c 45 t := by dsimp only [dats]
theorem aft46 : (dats m 0 c).after 46 t = iblk m c 46 t := by dsimp only [dats]
theorem aft47 : (dats m 0 c).after 47 t = iblk m c 47 t := by dsimp only [dats]
theorem aft48 : (dats m 0 c).after 48 t = out48 (iblk m c 0 t) (iblk m c 12 t) (iblk m c 24 t) (iblk m c 36 t) := by dsimp only [dats]
theorem aft49 : (dats m 0 c).after 49 t = out49 (iblk m c 1 t) (iblk m c 13 t) (iblk m c 25 t) (iblk m c 37 t) := by dsimp only [dats]
theorem aft50 : (dats m 0 c).after 50 t = out50 (iblk m c 2 t) (iblk m c 14 t) (iblk m c 26 t) (iblk m c 38 t) := by dsimp only [dats]
theorem aft51 : (dats m 0 c).after 51 t = out51 (iblk m c 3 t) (iblk m c 15 t) (iblk m c 27 t) (iblk m c 39 t) := by dsimp only [dats]
theorem aft52 : (dats m 0 c).after 52 t = out52 (iblk m c 4 t) (iblk m c 16 t) (iblk m c 28 t) (iblk m c 40 t) := by dsimp only [dats]
theorem aft53 : (dats m 0 c).after 53 t = out53 (iblk m c 5 t) (iblk m c 17 t) (iblk m c 29 t) (iblk m c 41 t) := by dsimp only [dats]
theorem aft54 : (dats m 0 c).after 54 t = out54 (iblk m c 6 t) (iblk m c 18 t) (iblk m c 30 t) (iblk m c 42 t) := by dsimp only [dats]
theorem aft55 : (dats m 0 c).after 55 t = out55 (iblk m c 7 t) (iblk m c 19 t) (iblk m c 31 t) (iblk m c 43 t) := by dsimp only [dats]
theorem aft56 : (dats m 0 c).after 56 t = out56 (iblk m c 8 t) (iblk m c 20 t) (iblk m c 32 t) (iblk m c 44 t) := by dsimp only [dats]
theorem aft57 : (dats m 0 c).after 57 t = out57 (iblk m c 21 t) (iblk m c 33 t) (iblk m c 45 t) (iblk m c 9 t) := by dsimp only [dats]
theorem aft58 : (dats m 0 c).after 58 t = out58 (iblk m c 22 t) (iblk m c 34 t) (iblk m c 46 t) (iblk m c 10 t) := by dsimp only [dats]
theorem aft59 : (dats m 0 c).after 59 t = out59 (iblk m c 11 t) (iblk m c 23 t) (iblk m c 35 t) (iblk m c 47 t) := by dsimp only [dats]
theorem aft60 : (dats m 0 c).after 60 t = out60 (iblk m c 12 t) (iblk m c 24 t) := by dsimp only [dats]
theorem aft61 : (dats m 0 c).after 61 t = out61 (iblk m c 13 t) (iblk m c 25 t) := by dsimp only [dats]
theorem aft62 : (dats m 0 c).after 62 t = out62 (iblk m c 14 t) (iblk m c 26 t) := by dsimp only [dats]
theorem aft63 : (dats m 0 c).after 63 t = out63 (iblk m c 15 t) (iblk m c 27 t) := by dsimp only [dats]
theorem aft64 : (dats m 0 c).after 64 t = out64 (iblk m c 16 t) (iblk m c 28 t) := by dsimp only [dats]
theorem aft65 : (dats m 0 c).after 65 t = out65 (iblk m c 17 t) (iblk m c 29 t) := by dsimp only [dats]
theorem aft66 : (dats m 0 c).after 66 t = out66 (iblk m c 18 t) (iblk m c 30 t) := by dsimp only [dats]
theorem aft67 : (dats m 0 c).after 67 t = out67 (iblk m c 19 t) (iblk m c 31 t) := by dsimp only [dats]
theorem aft68 : (dats m 0 c).after 68 t = out68 (iblk m c 20 t) (iblk m c 32 t) := by dsimp only [dats]
theorem aft69 : (dats m 0 c).after 69 t = out69 (iblk m c 21 t) (iblk m c 33 t) := by dsimp only [dats]
theorem aft70 : (dats m 0 c).after 70 t = out70 (iblk m c 22 t) (iblk m c 34 t) := by dsimp only [dats]
theorem aft71 : (dats m 0 c).after 71 t = out71 (iblk m c 23 t) (iblk m c 35 t) := by dsimp only [dats]
theorem aft72 : (dats m 0 c).after 72 t = out72 (iblk m c 12 t) (iblk m c 36 t) := by dsimp only [dats]
theorem aft73 : (dats m 0 c).after 73 t = out73 (iblk m c 13 t) (iblk m c 37 t) := by dsimp only [dats]
theorem aft74 : (dats m 0 c).after 74 t = out74 (iblk m c 14 t) (iblk m c 38 t) := by dsimp only [dats]
theorem aft75 : (dats m 0 c).after 75 t = out75 (iblk m c 15 t) (iblk m c 39 t) := by dsimp only [dats]
theorem aft76 : (dats m 0 c).after 76 t = out76 (iblk m c 16 t) (iblk m c 40 t) := by dsimp only [dats]
theorem aft77 : (dats m 0 c).after 77 t = out77 (iblk m c 17 t) (iblk m c 41 t) := by dsimp only [dats]
theorem aft78 : (dats m 0 c).after 78 t = out78 (iblk m c 18 t) (iblk m c 42 t) := by dsimp only [dats]
theorem aft79 : (dats m 0 c).after 79 t = out79 (iblk m c 19 t) (iblk m c 43 t) := by dsimp only [dats]
theorem aft80 : (dats m 0 c).after 80 t = out80 (iblk m c 20 t) (iblk m c 44 t) := by dsimp only [dats]
theorem aft81 : (dats m 0 c).after 81 t = out81 (iblk m c 21 t) (iblk m c 45 t) := by dsimp only [dats]
theorem aft82 : (dats m 0 c).after 82 t = out82 (iblk m c 22 t) (iblk m c 46 t) := by dsimp only [dats]
theorem aft83 : (dats m 0 c).after 83 t = out83 (iblk m c 23 t) (iblk m c 47 t) := by dsimp only [dats]

theorem bef0 (d) : (dats m 0 c).before 0 t d = iblk m c 0 t := ((dats m 0 c).before_fetched 0 t (fetch0_0 t) d).trans rfl
theorem bef1 (d) : (dats m 0 c).before 1 t d = iblk m c 1 t := ((dats m 0 c).before_fetched 1 t (fetch0_1 t) d).trans rfl
theorem bef2 (d) : (dats m 0 c).before 2 t d = iblk m c 2 t := ((dats m 0 c).before_fetched 2 t (fetch0_2 t) d).trans rfl
theorem bef3 (d) : (dats m 0 c).before 3 t d = iblk m c 3 t := ((dats m 0 c).before_fetched 3 t (fetch0_3 t) d).trans rfl
theorem bef4 (d) : (dats m 0 c).before 4 t d = iblk m c 4 t := ((dats m 0 c).before_fetched 4 t (fetch0_4 t) d).trans rfl
theorem bef5 (d) : (dats m 0 c).before 5 t d = iblk m c 5 t := ((dats m 0 c).before_fetched 5 t (fetch0_5 t) d).trans rfl
theorem bef6 (d) : (dats m 0 c).before 6 t d = iblk m c 6 t := ((dats m 0 c).before_fetched 6 t (fetch0_6 t) d).trans rfl
theorem bef7 (d) : (dats m 0 c).before 7 t d = iblk m c 7 t := ((dats m 0 c).before_fetched 7 t (fetch0_7 t) d).trans rfl
theorem bef8 (d) : (dats m 0 c).before 8 t d = iblk m c 8 t := ((dats m 0 c).before_fetched 8 t (fetch0_8 t) d).trans rfl
theorem bef9 (d) : (dats m 0 c).before 9 t d = iblk m c 9 t := ((dats m 0 c).before_fetched 9 t (fetch0_9 t) d).trans rfl
theorem bef10 (d) : (dats m 0 c).before 10 t d = iblk m c 10 t := ((dats m 0 c).before_fetched 10 t (fetch0_10 t) d).trans rfl
theorem bef11 (d) : (dats m 0 c).before 11 t d = iblk m c 11 t := ((dats m 0 c).before_fetched 11 t (fetch0_11 t) d).trans rfl
theorem bef12 (d) : (dats m 0 c).before 12 t d = iblk m c 12 t := ((dats m 0 c).before_fetched 12 t (fetch0_12 t) d).trans rfl
theorem bef13 (d) : (dats m 0 c).before 13 t d = iblk m c 13 t := ((dats m 0 c).before_fetched 13 t (fetch0_13 t) d).trans rfl
theorem bef14 (d) : (dats m 0 c).before 14 t d = iblk m c 14 t := ((dats m 0 c).before_fetched 14 t (fetch0_14 t) d).trans rfl
theorem bef15 (d) : (dats m 0 c).before 15 t d = iblk m c 15 t := ((dats m 0 c).before_fetched 15 t (fetch0_15 t) d).trans rfl
theorem bef16 (d) : (dats m 0 c).before 16 t d = iblk m c 16 t := ((dats m 0 c).before_fetched 16 t (fetch0_16 t) d).trans rfl
theorem bef17 (d) : (dats m 0 c).before 17 t d = iblk m c 17 t := ((dats m 0 c).before_fetched 17 t (fetch0_17 t) d).trans rfl
theorem bef18 (d) : (dats m 0 c).before 18 t d = iblk m c 18 t := ((dats m 0 c).before_fetched 18 t (fetch0_18 t) d).trans rfl
theorem bef19 (d) : (dats m 0 c).before 19 t d = iblk m c 19 t := ((dats m 0 c).before_fetched 19 t (fetch0_19 t) d).trans rfl
theorem bef20 (d) : (dats m 0 c).before 20 t d = iblk m c 20 t := ((dats m 0 c).before_fetched 20 t (fetch0_20 t) d).trans rfl
theorem bef21 (d) : (dats m 0 c).before 21 t d = iblk m c 21 t := ((dats m 0 c).before_fetched 21 t (fetch0_21 t) d).trans rfl
theorem bef22 (d) : (dats m 0 c).before 22 t d = iblk m c 22 t := ((dats m 0 c).before_fetched 22 t (fetch0_22 t) d).trans rfl
theorem bef23 (d) : (dats m 0 c).before 23 t d = iblk m c 23 t := ((dats m 0 c).before_fetched 23 t (fetch0_23 t) d).trans rfl
theorem bef24 (d) : (dats m 0 c).before 24 t d = iblk m c 24 t := ((dats m 0 c).before_fetched 24 t (fetch0_24 t) d).trans rfl
theorem bef25 (d) : (dats m 0 c).before 25 t d = iblk m c 25 t := ((dats m 0 c).before_fetched 25 t (fetch0_25 t) d).trans rfl
theorem bef26 (d) : (dats m 0 c).before 26 t d = iblk m c 26 t := ((dats m 0 c).before_fetched 26 t (fetch0_26 t) d).trans rfl
theorem bef27 (d) : (dats m 0 c).before 27 t d = iblk m c 27 t := ((dats m 0 c).before_fetched 27 t (fetch0_27 t) d).trans rfl
theorem bef28 (d) : (dats m 0 c).before 28 t d = iblk m c 28 t := ((dats m 0 c).before_fetched 28 t (fetch0_28 t) d).trans rfl
theorem bef29 (d) : (dats m 0 c).before 29 t d = iblk m c 29 t := ((dats m 0 c).before_fetched 29 t (fetch0_29 t) d).trans rfl
theorem bef30 (d) : (dats m 0 c).before 30 t d = iblk m c 30 t := ((dats m 0 c).before_fetched 30 t (fetch0_30 t) d).trans rfl
theorem bef31 (d) : (dats m 0 c).before 31 t d = iblk m c 31 t := ((dats m 0 c).before_fetched 31 t (fetch0_31 t) d).trans rfl
theorem bef32 (d) : (dats m 0 c).before 32 t d = iblk m c 32 t := ((dats m 0 c).before_fetched 32 t (fetch0_32 t) d).trans rfl
theorem bef33 (d) : (dats m 0 c).before 33 t d = iblk m c 33 t := ((dats m 0 c).before_fetched 33 t (fetch0_33 t) d).trans rfl
theorem bef34 (d) : (dats m 0 c).before 34 t d = iblk m c 34 t := ((dats m 0 c).before_fetched 34 t (fetch0_34 t) d).trans rfl
theorem bef35 (d) : (dats m 0 c).before 35 t d = iblk m c 35 t := ((dats m 0 c).before_fetched 35 t (fetch0_35 t) d).trans rfl
theorem bef36 (d) : (dats m 0 c).before 36 t d = iblk m c 36 t := ((dats m 0 c).before_fetched 36 t (fetch0_36 t) d).trans rfl
theorem bef37 (d) : (dats m 0 c).before 37 t d = iblk m c 37 t := ((dats m 0 c).before_fetched 37 t (fetch0_37 t) d).trans rfl
theorem bef38 (d) : (dats m 0 c).before 38 t d = iblk m c 38 t := ((dats m 0 c).before_fetched 38 t (fetch0_38 t) d).trans rfl
theorem bef39 (d) : (dats m 0 c).before 39 t d = iblk m c 39 t := ((dats m 0 c).before_fetched 39 t (fetch0_39 t) d).trans rfl
theorem bef40 (d) : (dats m 0 c).before 40 t d = iblk m c 40 t := ((dats m 0 c).before_fetched 40 t (fetch0_40 t) d).trans rfl
theorem bef41 (d) : (dats m 0 c).before 41 t d = iblk m c 41 t := ((dats m 0 c).before_fetched 41 t (fetch0_41 t) d).trans rfl
theorem bef42 (d) : (dats m 0 c).before 42 t d = iblk m c 42 t := ((dats m 0 c).before_fetched 42 t (fetch0_42 t) d).trans rfl
theorem bef43 (d) : (dats m 0 c).before 43 t d = iblk m c 43 t := ((dats m 0 c).before_fetched 43 t (fetch0_43 t) d).trans rfl
theorem bef44 (d) : (dats m 0 c).before 44 t d = iblk m c 44 t := ((dats m 0 c).before_fetched 44 t (fetch0_44 t) d).trans rfl
theorem bef45 (d) : (dats m 0 c).before 45 t d = iblk m c 45 t := ((dats m 0 c).before_fetched 45 t (fetch0_45 t) d).trans rfl
theorem bef46 (d) : (dats m 0 c).before 46 t d = iblk m c 46 t := ((dats m 0 c).before_fetched 46 t (fetch0_46 t) d).trans rfl
theorem bef47 (d) : (dats m 0 c).before 47 t d = iblk m c 47 t := ((dats m 0 c).before_fetched 47 t (fetch0_47 t) d).trans rfl
end

end Cert.AdamSmallIdeal.Hand

end
-- ==== Proof.AdamSmallRun.lean ====
/- The twelve small parameters' AdamW kernel: the body's triple, and the run of @main to the pipeline's final arrays with the arguments unchanged. -/
module

public import proofs.«01_k».proof.Proof.AdamSmallDat
public import Idealize.ShloMosaic.Lib.Pipeline.FrameBody
public import Idealize.ShloMosaic.Lib.Claim
public import Idealize.ShloMosaic.Lib.Tactic

@[expose] public section

set_option maxRecDepth 16384

noncomputable section

namespace Cert.AdamSmallIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cov_S2x1024 (p0 : Vec F S2x1024 .f32) (y : S2x1024.Idx) :
    ∃ pc ∈ ([⟨r0_0, p0⟩] : List (View.Piece (Elt F) S2x1024 .f32)), y ∈ pc.1.set :=
  View.cover_of_tiled [⟨r0_0, p0⟩] S2x1024.size (by rfl) y
theorem cov_S2x3x256 (p0 : Vec F S2x3x256 .f32) (y : S2x3x256.Idx) :
    ∃ pc ∈ ([⟨r0_1, p0⟩] : List (View.Piece (Elt F) S2x3x256 .f32)), y ∈ pc.1.set :=
  View.cover_of_tiled [⟨r0_1, p0⟩] S2x3x256.size (by rfl) y
theorem cov_S2x4x256 (p0 : Vec F S2x4x256 .f32) (y : S2x4x256.Idx) :
    ∃ pc ∈ ([⟨r0_2, p0⟩] : List (View.Piece (Elt F) S2x4x256 .f32)), y ∈ pc.1.set :=
  View.cover_of_tiled [⟨r0_2, p0⟩] S2x4x256.size (by rfl) y
theorem cov_S2x16x64x64 (p0 : Vec F S2x16x64x64 .f32) (y : S2x16x64x64.Idx) :
    ∃ pc ∈ ([⟨r0_3, p0⟩] : List (View.Piece (Elt F) S2x16x64x64 .f32)), y ∈ pc.1.set :=
  View.cover_of_tiled [⟨r0_3, p0⟩] S2x16x64x64.size (by rfl) y
theorem cov_S2x2x256 (p0 : Vec F S2x2x256 .f32) (y : S2x2x256.Idx) :
    ∃ pc ∈ ([⟨r0_4, p0⟩] : List (View.Piece (Elt F) S2x2x256 .f32)), y ∈ pc.1.set :=
  View.cover_of_tiled [⟨r0_4, p0⟩] S2x2x256.size (by rfl) y
theorem cov_S1024 (p0 : Vec F S1024 .f32) (y : S1024.Idx) :
    ∃ pc ∈ ([⟨r0_5, p0⟩] : List (View.Piece (Elt F) S1024 .f32)), y ∈ pc.1.set :=
  View.cover_of_tiled [⟨r0_5, p0⟩] S1024.size (by rfl) y

set_option maxHeartbeats 16000000 in
/-- The body at symbolic whole memrefs: the inputs kept, each output at its store. -/
theorem sound_kernel (c : Dev nD) (E : Set ℕ)
    (arg0 arg3 arg5 arg7 arg8 arg10 arg12 arg15 arg17 arg19 arg20 arg22 arg24 arg27 arg29 arg31 arg32 arg34 arg36 arg39 arg41 arg43 arg44 arg46 arg48 arg51 arg53 arg55 arg56 arg58 arg60 arg63 arg65 arg67 arg68 arg70 arg72 arg75 arg77 arg79 arg80 arg82 : Memref sig .tc .vmem S2x1024 .f32)
    (arg1 arg13 arg25 arg37 arg49 arg61 arg73 : Memref sig .tc .vmem S2x3x256 .f32)
    (arg2 arg14 arg26 arg38 arg50 arg62 arg74 : Memref sig .tc .vmem S2x4x256 .f32)
    (arg4 arg6 arg16 arg18 arg28 arg30 arg40 arg42 arg52 arg54 arg64 arg66 arg76 arg78 : Memref sig .tc .vmem S2x16x64x64 .f32)
    (arg9 arg21 arg33 arg45 arg57 arg69 arg81 : Memref sig .tc .vmem S2x2x256 .f32)
    (arg11 arg23 arg35 arg47 arg59 arg71 arg83 : Memref sig .tc .vmem S1024 .f32)
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole) (harg30 : arg30.IsWhole) (harg31 : arg31.IsWhole) (harg32 : arg32.IsWhole) (harg33 : arg33.IsWhole) (harg34 : arg34.IsWhole) (harg35 : arg35.IsWhole) (harg36 : arg36.IsWhole) (harg37 : arg37.IsWhole) (harg38 : arg38.IsWhole) (harg39 : arg39.IsWhole) (harg40 : arg40.IsWhole) (harg41 : arg41.IsWhole) (harg42 : arg42.IsWhole) (harg43 : arg43.IsWhole) (harg44 : arg44.IsWhole) (harg45 : arg45.IsWhole) (harg46 : arg46.IsWhole) (harg47 : arg47.IsWhole) (harg48 : arg48.IsWhole) (harg49 : arg49.IsWhole) (harg50 : arg50.IsWhole) (harg51 : arg51.IsWhole) (harg52 : arg52.IsWhole) (harg53 : arg53.IsWhole) (harg54 : arg54.IsWhole) (harg55 : arg55.IsWhole) (harg56 : arg56.IsWhole) (harg57 : arg57.IsWhole) (harg58 : arg58.IsWhole) (harg59 : arg59.IsWhole) (harg60 : arg60.IsWhole) (harg61 : arg61.IsWhole) (harg62 : arg62.IsWhole) (harg63 : arg63.IsWhole) (harg64 : arg64.IsWhole) (harg65 : arg65.IsWhole) (harg66 : arg66.IsWhole) (harg67 : arg67.IsWhole) (harg68 : arg68.IsWhole) (harg69 : arg69.IsWhole) (harg70 : arg70.IsWhole) (harg71 : arg71.IsWhole) (harg72 : arg72.IsWhole) (harg73 : arg73.IsWhole) (harg74 : arg74.IsWhole) (harg75 : arg75.IsWhole) (harg76 : arg76.IsWhole) (harg77 : arg77.IsWhole) (harg78 : arg78.IsWhole) (harg79 : arg79.IsWhole) (harg80 : arg80.IsWhole) (harg81 : arg81.IsWhole) (harg82 : arg82.IsWhole) (harg83 : arg83.IsWhole)
    (x0 x3 x5 x7 x8 x10 x12 x15 x17 x19 x20 x22 x24 x27 x29 x31 x32 x34 x36 x39 x41 x43 x44 x46 : Vec F S2x1024 .f32)
    (x1 x13 x25 x37 : Vec F S2x3x256 .f32)
    (x2 x14 x26 x38 : Vec F S2x4x256 .f32)
    (x4 x6 x16 x18 x28 x30 x40 x42 : Vec F S2x16x64x64 .f32)
    (x9 x21 x33 x45 : Vec F S2x2x256 .f32)
    (x11 x23 x35 x47 : Vec F S1024 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare x45 ∗ owns (c : Thread nD τ) arg46 fullShare x46 ∗ owns (c : Thread nD τ) arg47 fullShare x47 ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d) ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d) ∗ (∃ d, owns (c : Thread nD τ) arg73 fullShare d) ∗ (∃ d, owns (c : Thread nD τ) arg74 fullShare d) ∗ (∃ d, owns (c : Thread nD τ) arg75 fullShare d) ∗ (∃ d, owns (c : Thread nD τ) arg76 fullShare d) ∗ (∃ d, owns (c : Thread nD τ) arg77 fullShare d) ∗ (∃ d, owns (c : Thread nD τ) arg78 fullShare d) ∗ (∃ d, owns (c : Thread nD τ) arg79 fullShare d) ∗ (∃ d, owns (c : Thread nD τ) arg80 fullShare d) ∗ (∃ d, owns (c : Thread nD τ) arg81 fullShare d) ∗ (∃ d, owns (c : Thread nD τ) arg82 fullShare d) ∗ (∃ d, owns (c : Thread nD τ) arg83 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare x45 ∗ owns (c : Thread nD τ) arg46 fullShare x46 ∗ owns (c : Thread nD τ) arg47 fullShare x47 ∗ owns (c : Thread nD τ) arg48 fullShare (out48 x0 x12 x24 x36) ∗ owns (c : Thread nD τ) arg49 fullShare (out49 x1 x13 x25 x37) ∗ owns (c : Thread nD τ) arg50 fullShare (out50 x2 x14 x26 x38) ∗ owns (c : Thread nD τ) arg51 fullShare (out51 x3 x15 x27 x39) ∗ owns (c : Thread nD τ) arg52 fullShare (out52 x4 x16 x28 x40) ∗ owns (c : Thread nD τ) arg53 fullShare (out53 x5 x17 x29 x41) ∗ owns (c : Thread nD τ) arg54 fullShare (out54 x6 x18 x30 x42) ∗ owns (c : Thread nD τ) arg55 fullShare (out55 x7 x19 x31 x43) ∗ owns (c : Thread nD τ) arg56 fullShare (out56 x8 x20 x32 x44) ∗ owns (c : Thread nD τ) arg57 fullShare (out57 x21 x33 x45 x9) ∗ owns (c : Thread nD τ) arg58 fullShare (out58 x22 x34 x46 x10) ∗ owns (c : Thread nD τ) arg59 fullShare (out59 x11 x23 x35 x47) ∗ owns (c : Thread nD τ) arg60 fullShare (out60 x12 x24) ∗ owns (c : Thread nD τ) arg61 fullShare (out61 x13 x25) ∗ owns (c : Thread nD τ) arg62 fullShare (out62 x14 x26) ∗ owns (c : Thread nD τ) arg63 fullShare (out63 x15 x27) ∗ owns (c : Thread nD τ) arg64 fullShare (out64 x16 x28) ∗ owns (c : Thread nD τ) arg65 fullShare (out65 x17 x29) ∗ owns (c : Thread nD τ) arg66 fullShare (out66 x18 x30) ∗ owns (c : Thread nD τ) arg67 fullShare (out67 x19 x31) ∗ owns (c : Thread nD τ) arg68 fullShare (out68 x20 x32) ∗ owns (c : Thread nD τ) arg69 fullShare (out69 x21 x33) ∗ owns (c : Thread nD τ) arg70 fullShare (out70 x22 x34) ∗ owns (c : Thread nD τ) arg71 fullShare (out71 x23 x35) ∗ owns (c : Thread nD τ) arg72 fullShare (out72 x12 x36) ∗ owns (c : Thread nD τ) arg73 fullShare (out73 x13 x37) ∗ owns (c : Thread nD τ) arg74 fullShare (out74 x14 x38) ∗ owns (c : Thread nD τ) arg75 fullShare (out75 x15 x39) ∗ owns (c : Thread nD τ) arg76 fullShare (out76 x16 x40) ∗ owns (c : Thread nD τ) arg77 fullShare (out77 x17 x41) ∗ owns (c : Thread nD τ) arg78 fullShare (out78 x18 x42) ∗ owns (c : Thread nD τ) arg79 fullShare (out79 x19 x43) ∗ owns (c : Thread nD τ) arg80 fullShare (out80 x20 x44) ∗ owns (c : Thread nD τ) arg81 fullShare (out81 x21 x45) ∗ owns (c : Thread nD τ) arg82 fullShare (out82 x22 x46) ∗ owns (c : Thread nD τ) arg83 fullShare (out83 x23 x47)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩, ⟨%d80, %f80, -, H80⟩, ⟨%d81, %f81, -, H81⟩, ⟨%d82, %f82, -, H82⟩, ⟨%d83, %f83, -, H83⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42 hf43 hf44 hf45 hf46 hf47
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  isplitl [H43]
  · iexists f43; isplitr; · ipureintro; rfl
    iexact H43
  isplitl [H44]
  · iexists f44; isplitr; · ipureintro; rfl
    iexact H44
  isplitl [H45]
  · iexists f45; isplitr; · ipureintro; rfl
    iexact H45
  isplitl [H46]
  · iexists f46; isplitr; · ipureintro; rfl
    iexact H46
  isplitl [H47]
  · iexists f47; isplitr; · ipureintro; rfl
    iexact H47
  isplitl [H48]
  · iexists _; isplitr; swap; · iexact H48
    ipureintro; exact View.read_writes_eq_canon _ _ _ (cov_S2x1024 _)
  isplitl [H49]
  · iexists _; isplitr; swap; · iexact H49
    ipureintro; exact View.read_writes_eq_canon _ _ _ (cov_S2x3x256 _)
  isplitl [H50]
  · iexists _; isplitr; swap; · iexact H50
    ipureintro; exact View.read_writes_eq_canon _ _ _ (cov_S2x4x256 _)
  isplitl [H51]
  · iexists _; isplitr; swap; · iexact H51
    ipureintro; exact View.read_writes_eq_canon _ _ _ (cov_S2x1024 _)
  isplitl [H52]
  · iexists _; isplitr; swap; · iexact H52
    ipureintro; exact View.read_writes_eq_canon _ _ _ (cov_S2x16x64x64 _)
  isplitl [H53]
  · iexists _; isplitr; swap; · iexact H53
    ipureintro; exact View.read_writes_eq_canon _ _ _ (cov_S2x1024 _)
  isplitl [H54]
  · iexists _; isplitr; swap; · iexact H54
    ipureintro; exact View.read_writes_eq_canon _ _ _ (cov_S2x16x64x64 _)
  isplitl [H55]
  · iexists _; isplitr; swap; · iexact H55
    ipureintro; exact View.read_writes_eq_canon _ _ _ (cov_S2x1024 _)
  isplitl [H56]
  · iexists _; isplitr; swap; · iexact H56
    ipureintro; exact View.read_writes_eq_canon _ _ _ (cov_S2x1024 _)
  isplitl [H57]
  · iexists _; isplitr; swap; · iexact H57
    ipureintro; exact View.read_writes_eq_canon _ _ _ (cov_S2x2x256 _)
  isplitl [H58]
  · iexists _; isplitr; swap; · iexact H58
    ipureintro; exact View.read_writes_eq_canon _ _ _ (cov_S2x1024 _)
  isplitl [H59]
  · iexists _; isplitr; swap; · iexact H59
    ipureintro; exact View.read_writes_eq_canon _ _ _ (cov_S1024 _)
  isplitl [H60]
  · iexists _; isplitr; swap; · iexact H60
    ipureintro; exact View.read_writes_eq_canon _ _ _ (cov_S2x1024 _)
  isplitl [H61]
  · iexists _; isplitr; swap; · iexact H61
    ipureintro; exact View.read_writes_eq_canon _ _ _ (cov_S2x3x256 _)
  isplitl [H62]
  · iexists _; isplitr; swap; · iexact H62
    ipureintro; exact View.read_writes_eq_canon _ _ _ (cov_S2x4x256 _)
  isplitl [H63]
  · iexists _; isplitr; swap; · iexact H63
    ipureintro; exact View.read_writes_eq_canon _ _ _ (cov_S2x1024 _)
  isplitl [H64]
  · iexists _; isplitr; swap; · iexact H64
    ipureintro; exact View.read_writes_eq_canon _ _ _ (cov_S2x16x64x64 _)
  isplitl [H65]
  · iexists _; isplitr; swap; · iexact H65
    ipureintro; exact View.read_writes_eq_canon _ _ _ (cov_S2x1024 _)
  isplitl [H66]
  · iexists _; isplitr; swap; · iexact H66
    ipureintro; exact View.read_writes_eq_canon _ _ _ (cov_S2x16x64x64 _)
  isplitl [H67]
  · iexists _; isplitr; swap; · iexact H67
    ipureintro; exact View.read_writes_eq_canon _ _ _ (cov_S2x1024 _)
  isplitl [H68]
  · iexists _; isplitr; swap; · iexact H68
    ipureintro; exact View.read_writes_eq_canon _ _ _ (cov_S2x1024 _)
  isplitl [H69]
  · iexists _; isplitr; swap; · iexact H69
    ipureintro; exact View.read_writes_eq_canon _ _ _ (cov_S2x2x256 _)
  isplitl [H70]
  · iexists _; isplitr; swap; · iexact H70
    ipureintro; exact View.read_writes_eq_canon _ _ _ (cov_S2x1024 _)
  isplitl [H71]
  · iexists _; isplitr; swap; · iexact H71
    ipureintro; exact View.read_writes_eq_canon _ _ _ (cov_S1024 _)
  isplitl [H72]
  · iexists _; isplitr; swap; · iexact H72
    ipureintro; exact View.read_writes_eq_canon _ _ _ (cov_S2x1024 _)
  isplitl [H73]
  · iexists _; isplitr; swap; · iexact H73
    ipureintro; exact View.read_writes_eq_canon _ _ _ (cov_S2x3x256 _)
  isplitl [H74]
  · iexists _; isplitr; swap; · iexact H74
    ipureintro; exact View.read_writes_eq_canon _ _ _ (cov_S2x4x256 _)
  isplitl [H75]
  · iexists _; isplitr; swap; · iexact H75
    ipureintro; exact View.read_writes_eq_canon _ _ _ (cov_S2x1024 _)
  isplitl [H76]
  · iexists _; isplitr; swap; · iexact H76
    ipureintro; exact View.read_writes_eq_canon _ _ _ (cov_S2x16x64x64 _)
  isplitl [H77]
  · iexists _; isplitr; swap; · iexact H77
    ipureintro; exact View.read_writes_eq_canon _ _ _ (cov_S2x1024 _)
  isplitl [H78]
  · iexists _; isplitr; swap; · iexact H78
    ipureintro; exact View.read_writes_eq_canon _ _ _ (cov_S2x16x64x64 _)
  isplitl [H79]
  · iexists _; isplitr; swap; · iexact H79
    ipureintro; exact View.read_writes_eq_canon _ _ _ (cov_S2x1024 _)
  isplitl [H80]
  · iexists _; isplitr; swap; · iexact H80
    ipureintro; exact View.read_writes_eq_canon _ _ _ (cov_S2x1024 _)
  isplitl [H81]
  · iexists _; isplitr; swap; · iexact H81
    ipureintro; exact View.read_writes_eq_canon _ _ _ (cov_S2x2x256 _)
  isplitl [H82]
  · iexists _; isplitr; swap; · iexact H82
    ipureintro; exact View.read_writes_eq_canon _ _ _ (cov_S2x1024 _)
  iexists _; isplitr; swap; · iexact H83
  ipureintro; exact View.read_writes_eq_canon _ _ _ (cov_S1024 _)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d))
    ∗ (∃ d, owns (c : Thread nD τ) (st0_77 t) fullShare ((dats m 0 c).before 77 t d))
    ∗ (∃ d, owns (c : Thread nD τ) (st0_78 t) fullShare ((dats m 0 c).before 78 t d))
    ∗ (∃ d, owns (c : Thread nD τ) (st0_79 t) fullShare ((dats m 0 c).before 79 t d))
    ∗ (∃ d, owns (c : Thread nD τ) (st0_80 t) fullShare ((dats m 0 c).before 80 t d))
    ∗ (∃ d, owns (c : Thread nD τ) (st0_81 t) fullShare ((dats m 0 c).before 81 t d))
    ∗ (∃ d, owns (c : Thread nD τ) (st0_82 t) fullShare ((dats m 0 c).before 82 t d))
    ∗ (∃ d, owns (c : Thread nD τ) (st0_83 t) fullShare ((dats m 0 c).before 83 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t)
    ∗ owns (c : Thread nD τ) (st0_77 t) fullShare ((dats m 0 c).after 77 t)
    ∗ owns (c : Thread nD τ) (st0_78 t) fullShare ((dats m 0 c).after 78 t)
    ∗ owns (c : Thread nD τ) (st0_79 t) fullShare ((dats m 0 c).after 79 t)
    ∗ owns (c : Thread nD τ) (st0_80 t) fullShare ((dats m 0 c).after 80 t)
    ∗ owns (c : Thread nD τ) (st0_81 t) fullShare ((dats m 0 c).after 81 t)
    ∗ owns (c : Thread nD τ) (st0_82 t) fullShare ((dats m 0 c).after 82 t)
    ∗ owns (c : Thread nD τ) (st0_83 t) fullShare ((dats m 0 c).after 83 t))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6, bef7, bef8, bef9, bef10, bef11, bef12, bef13, bef14, bef15, bef16, bef17, bef18, bef19, bef20, bef21, bef22, bef23, bef24, bef25, bef26, bef27, bef28, bef29, bef30, bef31, bef32, bef33, bef34, bef35, bef36, bef37, bef38, bef39, bef40, bef41, bef42, bef43, bef44, bef45, bef46, bef47]
  rw [show (dats m 0 c).Φ t.succ = (dats m 0 c).Φ t.castSucc from rfl,
    show (dats m 0 c).owesAt () t.succ = (dats m 0 c).owesAt () t.castSucc from rfl]
  simp only [aft0, aft1, aft2, aft3, aft4, aft5, aft6, aft7, aft8, aft9, aft10, aft11, aft12, aft13, aft14, aft15, aft16, aft17, aft18, aft19, aft20, aft21, aft22, aft23, aft24, aft25, aft26, aft27, aft28, aft29, aft30, aft31, aft32, aft33, aft34, aft35, aft36, aft37, aft38, aft39, aft40, aft41, aft42, aft43, aft44, aft45, aft46, aft47, aft48, aft49, aft50, aft51, aft52, aft53, aft54, aft55, aft56, aft57, aft58, aft59, aft60, aft61, aft62, aft63, aft64, aft65, aft66, aft67, aft68, aft69, aft70, aft71, aft72, aft73, aft74, aft75, aft76, aft77, aft78, aft79, aft80, aft81, aft82, aft83]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 3 t) (iblk m c 5 t) (iblk m c 7 t) (iblk m c 8 t) (iblk m c 10 t) (iblk m c 12 t) (iblk m c 15 t) (iblk m c 17 t) (iblk m c 19 t) (iblk m c 20 t) (iblk m c 22 t) (iblk m c 24 t) (iblk m c 27 t) (iblk m c 29 t) (iblk m c 31 t) (iblk m c 32 t) (iblk m c 34 t) (iblk m c 36 t) (iblk m c 39 t) (iblk m c 41 t) (iblk m c 43 t) (iblk m c 44 t) (iblk m c 46 t) (iblk m c 1 t) (iblk m c 13 t) (iblk m c 25 t) (iblk m c 37 t) (iblk m c 2 t) (iblk m c 14 t) (iblk m c 26 t) (iblk m c 38 t) (iblk m c 4 t) (iblk m c 6 t) (iblk m c 16 t) (iblk m c 18 t) (iblk m c 28 t) (iblk m c 30 t) (iblk m c 40 t) (iblk m c 42 t) (iblk m c 9 t) (iblk m c 21 t) (iblk m c 33 t) (iblk m c 45 t) (iblk m c 11 t) (iblk m c 23 t) (iblk m c 35 t) (iblk m c 47 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  isplitl [H80]; · iexists _; iexact H80
  isplitl [H81]; · iexists _; iexact H81
  isplitl [H82]; · iexists _; iexact H82
  isplitl [H83]; · iexists _; iexact H83
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  iexact H83

theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 6000000 in
/-- From any memory with zero counters, every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47))
      ∧ r.2.sem = fun _ => 0) :=
  (θ_run defs _ _).mono (fun _ h => ⟨fun c => ⟨((h.1 c).1 0).trans (kept m c 0 rfl),
      ((h.1 c).1 1).trans (kept m c 1 rfl),
      ((h.1 c).1 2).trans (kept m c 2 rfl),
      ((h.1 c).1 3).trans (kept m c 3 rfl),
      ((h.1 c).1 4).trans (kept m c 4 rfl),
      ((h.1 c).1 5).trans (kept m c 5 rfl),
      ((h.1 c).1 6).trans (kept m c 6 rfl),
      ((h.1 c).1 7).trans (kept m c 7 rfl),
      ((h.1 c).1 8).trans (kept m c 8 rfl),
      ((h.1 c).1 9).trans (kept m c 9 rfl),
      ((h.1 c).1 10).trans (kept m c 10 rfl),
      ((h.1 c).1 11).trans (kept m c 11 rfl),
      ((h.1 c).1 12).trans (kept m c 12 rfl),
      ((h.1 c).1 13).trans (kept m c 13 rfl),
      ((h.1 c).1 14).trans (kept m c 14 rfl),
      ((h.1 c).1 15).trans (kept m c 15 rfl),
      ((h.1 c).1 16).trans (kept m c 16 rfl),
      ((h.1 c).1 17).trans (kept m c 17 rfl),
      ((h.1 c).1 18).trans (kept m c 18 rfl),
      ((h.1 c).1 19).trans (kept m c 19 rfl),
      ((h.1 c).1 20).trans (kept m c 20 rfl),
      ((h.1 c).1 21).trans (kept m c 21 rfl),
      ((h.1 c).1 22).trans (kept m c 22 rfl),
      ((h.1 c).1 23).trans (kept m c 23 rfl),
      ((h.1 c).1 24).trans (kept m c 24 rfl),
      ((h.1 c).1 25).trans (kept m c 25 rfl),
      ((h.1 c).1 26).trans (kept m c 26 rfl),
      ((h.1 c).1 27).trans (kept m c 27 rfl),
      ((h.1 c).1 28).trans (kept m c 28 rfl),
      ((h.1 c).1 29).trans (kept m c 29 rfl),
      ((h.1 c).1 30).trans (kept m c 30 rfl),
      ((h.1 c).1 31).trans (kept m c 31 rfl),
      ((h.1 c).1 32).trans (kept m c 32 rfl),
      ((h.1 c).1 33).trans (kept m c 33 rfl),
      ((h.1 c).1 34).trans (kept m c 34 rfl),
      ((h.1 c).1 35).trans (kept m c 35 rfl),
      ((h.1 c).1 36).trans (kept m c 36 rfl),
      ((h.1 c).1 37).trans (kept m c 37 rfl),
      ((h.1 c).1 38).trans (kept m c 38 rfl),
      ((h.1 c).1 39).trans (kept m c 39 rfl),
      ((h.1 c).1 40).trans (kept m c 40 rfl),
      ((h.1 c).1 41).trans (kept m c 41 rfl),
      ((h.1 c).1 42).trans (kept m c 42 rfl),
      ((h.1 c).1 43).trans (kept m c 43 rfl),
      ((h.1 c).1 44).trans (kept m c 44 rfl),
      ((h.1 c).1 45).trans (kept m c 45 rfl),
      ((h.1 c).1 46).trans (kept m c 46 rfl),
      ((h.1 c).1 47).trans (kept m c 47 rfl)⟩, h.2⟩) (run_main_quiescent m ρ)

end Cert.AdamSmallIdeal.Hand

end
-- ==== Proof.AdamSmallOut.lean ====
/- The twelve small parameters' AdamW kernel: each result array is the step's formula on the arguments' arrays. -/
module

public import proofs.«01_k».proof.Proof.AdamStep
public import proofs.«01_k».proof.Proof.AdamSmallDat
public import Idealize.ShloMosaic.Lib.Pipeline.Value

@[expose] public section

set_option maxRecDepth 16384

noncomputable section

namespace Cert.AdamSmallIdeal.Val

open Cert.AdamSmallIdeal Cert.AdamSmallIdeal.Gen Cert.AdamSmallIdeal.Hand Idealize.ShloMosaic Idealize.ShloMosaic.TcCoe Cert.AdamStep
open Idealize.ShloMosaic.Pipeline (Dat)

/-! ## The step's formula on whole arrays -/

section
variable {S : Shape}

/-- The step of a parameter, from the parameter, its gradient and the two moments. -/
def D (w g m v : Vec Ideal S .f32) : Vec Ideal S .f32 := fun i => delta (w i) (g i) (m i) (v i)
/-- Its new first moment, from the gradient and the old moment. -/
def M (g m : Vec Ideal S .f32) : Vec Ideal S .f32 := fun i => mom (g i) (m i)
/-- Its new second moment, from the gradient and the old moment. -/
def L (g v : Vec Ideal S .f32) : Vec Ideal S .f32 := fun i => vel (g i) (v i)

/-- A constant over a shape, as the kernel spells it. -/
abbrev kc (b : BitVec 32) : FVec Ideal S .f32 := broadcast S (Scalar.ofBits (F := Ideal) .f32 b)

theorem kM (g m : Vec Ideal S .f32) : (addf (mulf (kc 0x3F666666#32) m) (mulf (kc 0x3DCCCCCD#32) g) : FVec Ideal S .f32) = M g m := by
  funext i; unfold M mom; pointwise; all_goals done

theorem kL (g v : Vec Ideal S .f32) : (addf (mulf (kc 0x3F7FBE77#32) v) (mulf (kc 0x3A83126F#32) (mulf g g)) : FVec Ideal S .f32) = L g v := by
  funext i; unfold L vel; pointwise; all_goals done

theorem kD (w g m v : Vec Ideal S .f32) :
    (mulf (kc 0xBA83126F#32) (addf (divf (divf (addf (mulf (kc 0x3F666666#32) m) (mulf (kc 0x3DCCCCCD#32) g)) (kc 0x3F26BD02#32))
      (addf (sqrt (divf (addf (mulf (kc 0x3F7FBE77#32) v) (mulf (kc 0x3A83126F#32) (mulf g g))) (kc 0x3C231ACC#32))) (kc 0x322BCC77#32)))
      (mulf (kc 0x3C23D70A#32) w)) : FVec Ideal S .f32) = D w g m v := by
  funext i; unfold D delta mom vel; pointwise; all_goals done
end

theorem hz1 : (![0] : Fin 1 → Nat) = fun _ => 0 := by decide
theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

/-! ## The stored blocks -/

theorem out_48 (x0 x12 x24 x36 : Vec Ideal S2x1024 .f32) : out48 (F := Ideal) x0 x12 x24 x36 = D x0 x12 x24 x36 := by
  unfold out48; rw [View.canon_unit_zero hz2]; simp only [View.ld_unit_zero (S := S2x1024) hz2]; exact kD _ _ _ _
theorem out_49 (x1 x13 x25 x37 : Vec Ideal S2x3x256 .f32) : out49 (F := Ideal) x1 x13 x25 x37 = D x1 x13 x25 x37 := by
  unfold out49; rw [View.canon_unit_zero hz3]; simp only [View.ld_unit_zero (S := S2x3x256) hz3]; exact kD _ _ _ _
theorem out_50 (x2 x14 x26 x38 : Vec Ideal S2x4x256 .f32) : out50 (F := Ideal) x2 x14 x26 x38 = D x2 x14 x26 x38 := by
  unfold out50; rw [View.canon_unit_zero hz3]; simp only [View.ld_unit_zero (S := S2x4x256) hz3]; exact kD _ _ _ _
theorem out_51 (x3 x15 x27 x39 : Vec Ideal S2x1024 .f32) : out51 (F := Ideal) x3 x15 x27 x39 = D x3 x15 x27 x39 := by
  unfold out51; rw [View.canon_unit_zero hz2]; simp only [View.ld_unit_zero (S := S2x1024) hz2]; exact kD _ _ _ _
theorem out_52 (x4 x16 x28 x40 : Vec Ideal S2x16x64x64 .f32) : out52 (F := Ideal) x4 x16 x28 x40 = D x4 x16 x28 x40 := by
  unfold out52; rw [View.canon_unit_zero hz4]; simp only [View.ld_unit_zero (S := S2x16x64x64) hz4]; exact kD _ _ _ _
theorem out_53 (x5 x17 x29 x41 : Vec Ideal S2x1024 .f32) : out53 (F := Ideal) x5 x17 x29 x41 = D x5 x17 x29 x41 := by
  unfold out53; rw [View.canon_unit_zero hz2]; simp only [View.ld_unit_zero (S := S2x1024) hz2]; exact kD _ _ _ _
theorem out_54 (x6 x18 x30 x42 : Vec Ideal S2x16x64x64 .f32) : out54 (F := Ideal) x6 x18 x30 x42 = D x6 x18 x30 x42 := by
  unfold out54; rw [View.canon_unit_zero hz4]; simp only [View.ld_unit_zero (S := S2x16x64x64) hz4]; exact kD _ _ _ _
theorem out_55 (x7 x19 x31 x43 : Vec Ideal S2x1024 .f32) : out55 (F := Ideal) x7 x19 x31 x43 = D x7 x19 x31 x43 := by
  unfold out55; rw [View.canon_unit_zero hz2]; simp only [View.ld_unit_zero (S := S2x1024) hz2]; exact kD _ _ _ _
theorem out_56 (x8 x20 x32 x44 : Vec Ideal S2x1024 .f32) : out56 (F := Ideal) x8 x20 x32 x44 = D x8 x20 x32 x44 := by
  unfold out56; rw [View.canon_unit_zero hz2]; simp only [View.ld_unit_zero (S := S2x1024) hz2]; exact kD _ _ _ _
theorem out_57 (x9 x21 x33 x45 : Vec Ideal S2x2x256 .f32) : out57 (F := Ideal) x21 x33 x45 x9 = D x9 x21 x33 x45 := by
  unfold out57; rw [View.canon_unit_zero hz3]; simp only [View.ld_unit_zero (S := S2x2x256) hz3]; exact kD _ _ _ _
theorem out_58 (x10 x22 x34 x46 : Vec Ideal S2x1024 .f32) : out58 (F := Ideal) x22 x34 x46 x10 = D x10 x22 x34 x46 := by
  unfold out58; rw [View.canon_unit_zero hz2]; simp only [View.ld_unit_zero (S := S2x1024) hz2]; exact kD _ _ _ _
theorem out_59 (x11 x23 x35 x47 : Vec Ideal S1024 .f32) : out59 (F := Ideal) x11 x23 x35 x47 = D x11 x23 x35 x47 := by
  unfold out59; rw [View.canon_unit_zero hz1]; simp only [View.ld_unit_zero (S := S1024) hz1]; exact kD _ _ _ _
theorem out_60 (x12 x24 : Vec Ideal S2x1024 .f32) : out60 (F := Ideal) x12 x24 = M x12 x24 := by
  unfold out60; rw [View.canon_unit_zero hz2]; simp only [View.ld_unit_zero (S := S2x1024) hz2]; exact kM _ _
theorem out_61 (x13 x25 : Vec Ideal S2x3x256 .f32) : out61 (F := Ideal) x13 x25 = M x13 x25 := by
  unfold out61; rw [View.canon_unit_zero hz3]; simp only [View.ld_unit_zero (S := S2x3x256) hz3]; exact kM _ _
theorem out_62 (x14 x26 : Vec Ideal S2x4x256 .f32) : out62 (F := Ideal) x14 x26 = M x14 x26 := by
  unfold out62; rw [View.canon_unit_zero hz3]; simp only [View.ld_unit_zero (S := S2x4x256) hz3]; exact kM _ _
theorem out_63 (x15 x27 : Vec Ideal S2x1024 .f32) : out63 (F := Ideal) x15 x27 = M x15 x27 := by
  unfold out63; rw [View.canon_unit_zero hz2]; simp only [View.ld_unit_zero (S := S2x1024) hz2]; exact kM _ _
theorem out_64 (x16 x28 : Vec Ideal S2x16x64x64 .f32) : out64 (F := Ideal) x16 x28 = M x16 x28 := by
  unfold out64; rw [View.canon_unit_zero hz4]; simp only [View.ld_unit_zero (S := S2x16x64x64) hz4]; exact kM _ _
theorem out_65 (x17 x29 : Vec Ideal S2x1024 .f32) : out65 (F := Ideal) x17 x29 = M x17 x29 := by
  unfold out65; rw [View.canon_unit_zero hz2]; simp only [View.ld_unit_zero (S := S2x1024) hz2]; exact kM _ _
theorem out_66 (x18 x30 : Vec Ideal S2x16x64x64 .f32) : out66 (F := Ideal) x18 x30 = M x18 x30 := by
  unfold out66; rw [View.canon_unit_zero hz4]; simp only [View.ld_unit_zero (S := S2x16x64x64) hz4]; exact kM _ _
theorem out_67 (x19 x31 : Vec Ideal S2x1024 .f32) : out67 (F := Ideal) x19 x31 = M x19 x31 := by
  unfold out67; rw [View.canon_unit_zero hz2]; simp only [View.ld_unit_zero (S := S2x1024) hz2]; exact kM _ _
theorem out_68 (x20 x32 : Vec Ideal S2x1024 .f32) : out68 (F := Ideal) x20 x32 = M x20 x32 := by
  unfold out68; rw [View.canon_unit_zero hz2]; simp only [View.ld_unit_zero (S := S2x1024) hz2]; exact kM _ _
theorem out_69 (x21 x33 : Vec Ideal S2x2x256 .f32) : out69 (F := Ideal) x21 x33 = M x21 x33 := by
  unfold out69; rw [View.canon_unit_zero hz3]; simp only [View.ld_unit_zero (S := S2x2x256) hz3]; exact kM _ _
theorem out_70 (x22 x34 : Vec Ideal S2x1024 .f32) : out70 (F := Ideal) x22 x34 = M x22 x34 := by
  unfold out70; rw [View.canon_unit_zero hz2]; simp only [View.ld_unit_zero (S := S2x1024) hz2]; exact kM _ _
theorem out_71 (x23 x35 : Vec Ideal S1024 .f32) : out71 (F := Ideal) x23 x35 = M x23 x35 := by
  unfold out71; rw [View.canon_unit_zero hz1]; simp only [View.ld_unit_zero (S := S1024) hz1]; exact kM _ _
theorem out_72 (x12 x36 : Vec Ideal S2x1024 .f32) : out72 (F := Ideal) x12 x36 = L x12 x36 := by
  unfold out72; rw [View.canon_unit_zero hz2]; simp only [View.ld_unit_zero (S := S2x1024) hz2]; exact kL _ _
theorem out_73 (x13 x37 : Vec Ideal S2x3x256 .f32) : out73 (F := Ideal) x13 x37 = L x13 x37 := by
  unfold out73; rw [View.canon_unit_zero hz3]; simp only [View.ld_unit_zero (S := S2x3x256) hz3]; exact kL _ _
theorem out_74 (x14 x38 : Vec Ideal S2x4x256 .f32) : out74 (F := Ideal) x14 x38 = L x14 x38 := by
  unfold out74; rw [View.canon_unit_zero hz3]; simp only [View.ld_unit_zero (S := S2x4x256) hz3]; exact kL _ _
theorem out_75 (x15 x39 : Vec Ideal S2x1024 .f32) : out75 (F := Ideal) x15 x39 = L x15 x39 := by
  unfold out75; rw [View.canon_unit_zero hz2]; simp only [View.ld_unit_zero (S := S2x1024) hz2]; exact kL _ _
theorem out_76 (x16 x40 : Vec Ideal S2x16x64x64 .f32) : out76 (F := Ideal) x16 x40 = L x16 x40 := by
  unfold out76; rw [View.canon_unit_zero hz4]; simp only [View.ld_unit_zero (S := S2x16x64x64) hz4]; exact kL _ _
theorem out_77 (x17 x41 : Vec Ideal S2x1024 .f32) : out77 (F := Ideal) x17 x41 = L x17 x41 := by
  unfold out77; rw [View.canon_unit_zero hz2]; simp only [View.ld_unit_zero (S := S2x1024) hz2]; exact kL _ _
theorem out_78 (x18 x42 : Vec Ideal S2x16x64x64 .f32) : out78 (F := Ideal) x18 x42 = L x18 x42 := by
  unfold out78; rw [View.canon_unit_zero hz4]; simp only [View.ld_unit_zero (S := S2x16x64x64) hz4]; exact kL _ _
theorem out_79 (x19 x43 : Vec Ideal S2x1024 .f32) : out79 (F := Ideal) x19 x43 = L x19 x43 := by
  unfold out79; rw [View.canon_unit_zero hz2]; simp only [View.ld_unit_zero (S := S2x1024) hz2]; exact kL _ _
theorem out_80 (x20 x44 : Vec Ideal S2x1024 .f32) : out80 (F := Ideal) x20 x44 = L x20 x44 := by
  unfold out80; rw [View.canon_unit_zero hz2]; simp only [View.ld_unit_zero (S := S2x1024) hz2]; exact kL _ _
theorem out_81 (x21 x45 : Vec Ideal S2x2x256 .f32) : out81 (F := Ideal) x21 x45 = L x21 x45 := by
  unfold out81; rw [View.canon_unit_zero hz3]; simp only [View.ld_unit_zero (S := S2x2x256) hz3]; exact kL _ _
theorem out_82 (x22 x46 : Vec Ideal S2x1024 .f32) : out82 (F := Ideal) x22 x46 = L x22 x46 := by
  unfold out82; rw [View.canon_unit_zero hz2]; simp only [View.ld_unit_zero (S := S2x1024) hz2]; exact kL _ _
theorem out_83 (x23 x47 : Vec Ideal S1024 .f32) : out83 (F := Ideal) x23 x47 = L x23 x47 := by
  unfold out83; rw [View.canon_unit_zero hz1]; simp only [View.ld_unit_zero (S := S1024) hz1]; exact kL _ _

/-! ## A window that is its whole array -/

theorem emb_whole {s : Shape} {e : EltTy} {cs : CoreSpace} (arr : Memref sig .tc .hbm s e) (o y : Bool)
    (st : Memref sig .tc (.core cs) ⟨s.rank, s.size⟩ e) (sm : DmaSem sig) (ha : arr.IsWhole) (hs : st.IsWhole) (t : Fin Pipeline.Grid.none.N)
    (z : s.Idx) : ((Pipeline.Window.whole arr o y st sm ha hs).blk t).view.emb z = arr.view.emb z := by
  refine congrArg arr.view.emb (funext fun a => Fin.ext ?_)
  show 0 * s.size a + 1 * (z a).val = (z a).val
  omega

theorem mem_whole {s : Shape} {e : EltTy} {cs : CoreSpace} (arr : Memref sig .tc .hbm s e) (o y : Bool)
    (st : Memref sig .tc (.core cs) ⟨s.rank, s.size⟩ e) (sm : DmaSem sig) (ha : arr.IsWhole) (hs : st.IsWhole) (t : Fin Pipeline.Grid.none.N)
    (z : s.Idx) : arr.view.emb z ∈ ((Pipeline.Window.whole arr o y st sm ha hs).blk t).view.set :=
  emb_whole arr o y st sm ha hs t z ▸ View.emb_mem_set _ z

theorem read_whole {Val : EltTy → Type} {s : Shape} {e : EltTy} {cs : CoreSpace} (arr : Memref sig .tc .hbm s e) (o y : Bool)
    (st : Memref sig .tc (.core cs) ⟨s.rank, s.size⟩ e) (sm : DmaSem sig) (ha : arr.IsWhole) (hs : st.IsWhole) (t : Fin Pipeline.Grid.none.N)
    (X : arr.view.ty.Contents Val) : ((Pipeline.Window.whole arr o y st sm ha hs).blk t).view.read Val X = arr.view.read Val X :=
  funext fun z => congrArg (fun j => _root_.cast (congrArg Val arr.view.elt_eq) (X j)) (emb_whole arr o y st sm ha hs t z)

theorem N_1 : cfg0.N = 1 := N_0

/-- The one point of the grid. -/
def t0 : Fin cfg0.N := ⟨0, by rw [N_1]; decide⟩

section
variable (m : (ℓ : Loc nD τ sig) → Buf (Elt Ideal) ℓ) (c : Dev nD) (t : Fin cfg0.N)

theorem blk_0 : (iblk m c 0 t : Vec Ideal S2x1024 .f32) = m ((c.tc : Thread nD τ).loc main_arg0) :=
  read_whole (Memref.whole main_arg0) false false (stage0_0 0) (sem0_0 0) (Memref.isWhole_whole _) (hstage0_0 0) t _
theorem blk_1 : (iblk m c 1 t : Vec Ideal S2x3x256 .f32) = m ((c.tc : Thread nD τ).loc main_arg1) :=
  read_whole (Memref.whole main_arg1) false false (stage0_1 0) (sem0_1 0) (Memref.isWhole_whole _) (hstage0_1 0) t _
theorem blk_2 : (iblk m c 2 t : Vec Ideal S2x4x256 .f32) = m ((c.tc : Thread nD τ).loc main_arg2) :=
  read_whole (Memref.whole main_arg2) false false (stage0_2 0) (sem0_2 0) (Memref.isWhole_whole _) (hstage0_2 0) t _
theorem blk_3 : (iblk m c 3 t : Vec Ideal S2x1024 .f32) = m ((c.tc : Thread nD τ).loc main_arg3) :=
  read_whole (Memref.whole main_arg3) false false (stage0_3 0) (sem0_3 0) (Memref.isWhole_whole _) (hstage0_3 0) t _
theorem blk_4 : (iblk m c 4 t : Vec Ideal S2x16x64x64 .f32) = m ((c.tc : Thread nD τ).loc main_arg4) :=
  read_whole (Memref.whole main_arg4) false false (stage0_4 0) (sem0_4 0) (Memref.isWhole_whole _) (hstage0_4 0) t _
theorem blk_5 : (iblk m c 5 t : Vec Ideal S2x1024 .f32) = m ((c.tc : Thread nD τ).loc main_arg5) :=
  read_whole (Memref.whole main_arg5) false false (stage0_5 0) (sem0_5 0) (Memref.isWhole_whole _) (hstage0_5 0) t _
theorem blk_6 : (iblk m c 6 t : Vec Ideal S2x16x64x64 .f32) = m ((c.tc : Thread nD τ).loc main_arg6) :=
  read_whole (Memref.whole main_arg6) false false (stage0_6 0) (sem0_6 0) (Memref.isWhole_whole _) (hstage0_6 0) t _
theorem blk_7 : (iblk m c 7 t : Vec Ideal S2x1024 .f32) = m ((c.tc : Thread nD τ).loc main_arg7) :=
  read_whole (Memref.whole main_arg7) false false (stage0_7 0) (sem0_7 0) (Memref.isWhole_whole _) (hstage0_7 0) t _
theorem blk_8 : (iblk m c 8 t : Vec Ideal S2x1024 .f32) = m ((c.tc : Thread nD τ).loc main_arg8) :=
  read_whole (Memref.whole main_arg8) false false (stage0_8 0) (sem0_8 0) (Memref.isWhole_whole _) (hstage0_8 0) t _
theorem blk_9 : (iblk m c 9 t : Vec Ideal S2x2x256 .f32) = m ((c.tc : Thread nD τ).loc main_arg9) :=
  read_whole (Memref.whole main_arg9) false false (stage0_9 0) (sem0_9 0) (Memref.isWhole_whole _) (hstage0_9 0) t _
theorem blk_10 : (iblk m c 10 t : Vec Ideal S2x1024 .f32) = m ((c.tc : Thread nD τ).loc main_arg10) :=
  read_whole (Memref.whole main_arg10) false false (stage0_10 0) (sem0_10 0) (Memref.isWhole_whole _) (hstage0_10 0) t _
theorem blk_11 : (iblk m c 11 t : Vec Ideal S1024 .f32) = m ((c.tc : Thread nD τ).loc main_arg11) :=
  read_whole (Memref.whole main_arg11) false false (stage0_11 0) (sem0_11 0) (Memref.isWhole_whole _) (hstage0_11 0) t _
theorem blk_12 : (iblk m c 12 t : Vec Ideal S2x1024 .f32) = m ((c.tc : Thread nD τ).loc main_arg12) :=
  read_whole (Memref.whole main_arg12) false false (stage0_12 0) (sem0_12 0) (Memref.isWhole_whole _) (hstage0_12 0) t _
theorem blk_13 : (iblk m c 13 t : Vec Ideal S2x3x256 .f32) = m ((c.tc : Thread nD τ).loc main_arg13) :=
  read_whole (Memref.whole main_arg13) false false (stage0_13 0) (sem0_13 0) (Memref.isWhole_whole _) (hstage0_13 0) t _
theorem blk_14 : (iblk m c 14 t : Vec Ideal S2x4x256 .f32) = m ((c.tc : Thread nD τ).loc main_arg14) :=
  read_whole (Memref.whole main_arg14) false false (stage0_14 0) (sem0_14 0) (Memref.isWhole_whole _) (hstage0_14 0) t _
theorem blk_15 : (iblk m c 15 t : Vec Ideal S2x1024 .f32) = m ((c.tc : Thread nD τ).loc main_arg15) :=
  read_whole (Memref.whole main_arg15) false false (stage0_15 0) (sem0_15 0) (Memref.isWhole_whole _) (hstage0_15 0) t _
theorem blk_16 : (iblk m c 16 t : Vec Ideal S2x16x64x64 .f32) = m ((c.tc : Thread nD τ).loc main_arg16) :=
  read_whole (Memref.whole main_arg16) false false (stage0_16 0) (sem0_16 0) (Memref.isWhole_whole _) (hstage0_16 0) t _
theorem blk_17 : (iblk m c 17 t : Vec Ideal S2x1024 .f32) = m ((c.tc : Thread nD τ).loc main_arg17) :=
  read_whole (Memref.whole main_arg17) false false (stage0_17 0) (sem0_17 0) (Memref.isWhole_whole _) (hstage0_17 0) t _
theorem blk_18 : (iblk m c 18 t : Vec Ideal S2x16x64x64 .f32) = m ((c.tc : Thread nD τ).loc main_arg18) :=
  read_whole (Memref.whole main_arg18) false false (stage0_18 0) (sem0_18 0) (Memref.isWhole_whole _) (hstage0_18 0) t _
theorem blk_19 : (iblk m c 19 t : Vec Ideal S2x1024 .f32) = m ((c.tc : Thread nD τ).loc main_arg19) :=
  read_whole (Memref.whole main_arg19) false false (stage0_19 0) (sem0_19 0) (Memref.isWhole_whole _) (hstage0_19 0) t _
theorem blk_20 : (iblk m c 20 t : Vec Ideal S2x1024 .f32) = m ((c.tc : Thread nD τ).loc main_arg20) :=
  read_whole (Memref.whole main_arg20) false false (stage0_20 0) (sem0_20 0) (Memref.isWhole_whole _) (hstage0_20 0) t _
theorem blk_21 : (iblk m c 21 t : Vec Ideal S2x2x256 .f32) = m ((c.tc : Thread nD τ).loc main_arg21) :=
  read_whole (Memref.whole main_arg21) false false (stage0_21 0) (sem0_21 0) (Memref.isWhole_whole _) (hstage0_21 0) t _
theorem blk_22 : (iblk m c 22 t : Vec Ideal S2x1024 .f32) = m ((c.tc : Thread nD τ).loc main_arg22) :=
  read_whole (Memref.whole main_arg22) false false (stage0_22 0) (sem0_22 0) (Memref.isWhole_whole _) (hstage0_22 0) t _
theorem blk_23 : (iblk m c 23 t : Vec Ideal S1024 .f32) = m ((c.tc : Thread nD τ).loc main_arg23) :=
  read_whole (Memref.whole main_arg23) false false (stage0_23 0) (sem0_23 0) (Memref.isWhole_whole _) (hstage0_23 0) t _
theorem blk_24 : (iblk m c 24 t : Vec Ideal S2x1024 .f32) = m ((c.tc : Thread nD τ).loc main_arg24) :=
  read_whole (Memref.whole main_arg24) false false (stage0_24 0) (sem0_24 0) (Memref.isWhole_whole _) (hstage0_24 0) t _
theorem blk_25 : (iblk m c 25 t : Vec Ideal S2x3x256 .f32) = m ((c.tc : Thread nD τ).loc main_arg25) :=
  read_whole (Memref.whole main_arg25) false false (stage0_25 0) (sem0_25 0) (Memref.isWhole_whole _) (hstage0_25 0) t _
theorem blk_26 : (iblk m c 26 t : Vec Ideal S2x4x256 .f32) = m ((c.tc : Thread nD τ).loc main_arg26) :=
  read_whole (Memref.whole main_arg26) false false (stage0_26 0) (sem0_26 0) (Memref.isWhole_whole _) (hstage0_26 0) t _
theorem blk_27 : (iblk m c 27 t : Vec Ideal S2x1024 .f32) = m ((c.tc : Thread nD τ).loc main_arg27) :=
  read_whole (Memref.whole main_arg27) false false (stage0_27 0) (sem0_27 0) (Memref.isWhole_whole _) (hstage0_27 0) t _
theorem blk_28 : (iblk m c 28 t : Vec Ideal S2x16x64x64 .f32) = m ((c.tc : Thread nD τ).loc main_arg28) :=
  read_whole (Memref.whole main_arg28) false false (stage0_28 0) (sem0_28 0) (Memref.isWhole_whole _) (hstage0_28 0) t _
theorem blk_29 : (iblk m c 29 t : Vec Ideal S2x1024 .f32) = m ((c.tc : Thread nD τ).loc main_arg29) :=
  read_whole (Memref.whole main_arg29) false false (stage0_29 0) (sem0_29 0) (Memref.isWhole_whole _) (hstage0_29 0) t _
theorem blk_30 : (iblk m c 30 t : Vec Ideal S2x16x64x64 .f32) = m ((c.tc : Thread nD τ).loc main_arg30) :=
  read_whole (Memref.whole main_arg30) false false (stage0_30 0) (sem0_30 0) (Memref.isWhole_whole _) (hstage0_30 0) t _
theorem blk_31 : (iblk m c 31 t : Vec Ideal S2x1024 .f32) = m ((c.tc : Thread nD τ).loc main_arg31) :=
  read_whole (Memref.whole main_arg31) false false (stage0_31 0) (sem0_31 0) (Memref.isWhole_whole _) (hstage0_31 0) t _
theorem blk_32 : (iblk m c 32 t : Vec Ideal S2x1024 .f32) = m ((c.tc : Thread nD τ).loc main_arg32) :=
  read_whole (Memref.whole main_arg32) false false (stage0_32 0) (sem0_32 0) (Memref.isWhole_whole _) (hstage0_32 0) t _
theorem blk_33 : (iblk m c 33 t : Vec Ideal S2x2x256 .f32) = m ((c.tc : Thread nD τ).loc main_arg33) :=
  read_whole (Memref.whole main_arg33) false false (stage0_33 0) (sem0_33 0) (Memref.isWhole_whole _) (hstage0_33 0) t _
theorem blk_34 : (iblk m c 34 t : Vec Ideal S2x1024 .f32) = m ((c.tc : Thread nD τ).loc main_arg34) :=
  read_whole (Memref.whole main_arg34) false false (stage0_34 0) (sem0_34 0) (Memref.isWhole_whole _) (hstage0_34 0) t _
theorem blk_35 : (iblk m c 35 t : Vec Ideal S1024 .f32) = m ((c.tc : Thread nD τ).loc main_arg35) :=
  read_whole (Memref.whole main_arg35) false false (stage0_35 0) (sem0_35 0) (Memref.isWhole_whole _) (hstage0_35 0) t _
theorem blk_36 : (iblk m c 36 t : Vec Ideal S2x1024 .f32) = m ((c.tc : Thread nD τ).loc main_arg36) :=
  read_whole (Memref.whole main_arg36) false false (stage0_36 0) (sem0_36 0) (Memref.isWhole_whole _) (hstage0_36 0) t _
theorem blk_37 : (iblk m c 37 t : Vec Ideal S2x3x256 .f32) = m ((c.tc : Thread nD τ).loc main_arg37) :=
  read_whole (Memref.whole main_arg37) false false (stage0_37 0) (sem0_37 0) (Memref.isWhole_whole _) (hstage0_37 0) t _
theorem blk_38 : (iblk m c 38 t : Vec Ideal S2x4x256 .f32) = m ((c.tc : Thread nD τ).loc main_arg38) :=
  read_whole (Memref.whole main_arg38) false false (stage0_38 0) (sem0_38 0) (Memref.isWhole_whole _) (hstage0_38 0) t _
theorem blk_39 : (iblk m c 39 t : Vec Ideal S2x1024 .f32) = m ((c.tc : Thread nD τ).loc main_arg39) :=
  read_whole (Memref.whole main_arg39) false false (stage0_39 0) (sem0_39 0) (Memref.isWhole_whole _) (hstage0_39 0) t _
theorem blk_40 : (iblk m c 40 t : Vec Ideal S2x16x64x64 .f32) = m ((c.tc : Thread nD τ).loc main_arg40) :=
  read_whole (Memref.whole main_arg40) false false (stage0_40 0) (sem0_40 0) (Memref.isWhole_whole _) (hstage0_40 0) t _
theorem blk_41 : (iblk m c 41 t : Vec Ideal S2x1024 .f32) = m ((c.tc : Thread nD τ).loc main_arg41) :=
  read_whole (Memref.whole main_arg41) false false (stage0_41 0) (sem0_41 0) (Memref.isWhole_whole _) (hstage0_41 0) t _
theorem blk_42 : (iblk m c 42 t : Vec Ideal S2x16x64x64 .f32) = m ((c.tc : Thread nD τ).loc main_arg42) :=
  read_whole (Memref.whole main_arg42) false false (stage0_42 0) (sem0_42 0) (Memref.isWhole_whole _) (hstage0_42 0) t _
theorem blk_43 : (iblk m c 43 t : Vec Ideal S2x1024 .f32) = m ((c.tc : Thread nD τ).loc main_arg43) :=
  read_whole (Memref.whole main_arg43) false false (stage0_43 0) (sem0_43 0) (Memref.isWhole_whole _) (hstage0_43 0) t _
theorem blk_44 : (iblk m c 44 t : Vec Ideal S2x1024 .f32) = m ((c.tc : Thread nD τ).loc main_arg44) :=
  read_whole (Memref.whole main_arg44) false false (stage0_44 0) (sem0_44 0) (Memref.isWhole_whole _) (hstage0_44 0) t _
theorem blk_45 : (iblk m c 45 t : Vec Ideal S2x2x256 .f32) = m ((c.tc : Thread nD τ).loc main_arg45) :=
  read_whole (Memref.whole main_arg45) false false (stage0_45 0) (sem0_45 0) (Memref.isWhole_whole _) (hstage0_45 0) t _
theorem blk_46 : (iblk m c 46 t : Vec Ideal S2x1024 .f32) = m ((c.tc : Thread nD τ).loc main_arg46) :=
  read_whole (Memref.whole main_arg46) false false (stage0_46 0) (sem0_46 0) (Memref.isWhole_whole _) (hstage0_46 0) t _
theorem blk_47 : (iblk m c 47 t : Vec Ideal S1024 .f32) = m ((c.tc : Thread nD τ).loc main_arg47) :=
  read_whole (Memref.whole main_arg47) false false (stage0_47 0) (sem0_47 0) (Memref.isWhole_whole _) (hstage0_47 0) t _

/-- The argument arrays. -/
abbrev I (b : Ref sig .tc) : Buf (Elt Ideal) ((c.tc : Thread nD τ).loc b) := m ((c.tc : Thread nD τ).loc b)

theorem fl_48 : (dats m 0 c).flushed 48 t = (D (I m c main_arg0) (I m c main_arg12) (I m c main_arg24) (I m c main_arg36) : Vec Ideal S2x1024 .f32) := by
  refine ((aft48 m c t).trans (out_48 _ _ _ _)).trans ?_
  rw [blk_0, blk_12, blk_24, blk_36]
theorem arr_48 : (dats m 0 c).arrAt 48 cfg0.N = (D (I m c main_arg0) (I m c main_arg12) (I m c main_arg24) (I m c main_arg36) : Vec Ideal S2x1024 .f32) :=
  Dat.arrAt_eq_of_cover (dats m 0 c) 48 _ (fun t _ => (fl_48 m c t).trans (by symm; exact read_whole (Memref.whole main_v0_0) true false (stage0_48 0) (sem0_48 0) (Memref.isWhole_whole _) (hstage0_48 0) t _))
    fun i => ⟨t0, flush0_48 _, mem_whole (Memref.whole main_v0_0) true false (stage0_48 0) (sem0_48 0) (Memref.isWhole_whole _) (hstage0_48 0) _ i⟩
theorem fl_49 : (dats m 0 c).flushed 49 t = (D (I m c main_arg1) (I m c main_arg13) (I m c main_arg25) (I m c main_arg37) : Vec Ideal S2x3x256 .f32) := by
  refine ((aft49 m c t).trans (out_49 _ _ _ _)).trans ?_
  rw [blk_1, blk_13, blk_25, blk_37]
theorem arr_49 : (dats m 0 c).arrAt 49 cfg0.N = (D (I m c main_arg1) (I m c main_arg13) (I m c main_arg25) (I m c main_arg37) : Vec Ideal S2x3x256 .f32) :=
  Dat.arrAt_eq_of_cover (dats m 0 c) 49 _ (fun t _ => (fl_49 m c t).trans (by symm; exact read_whole (Memref.whole main_v0_1) true false (stage0_49 0) (sem0_49 0) (Memref.isWhole_whole _) (hstage0_49 0) t _))
    fun i => ⟨t0, flush0_49 _, mem_whole (Memref.whole main_v0_1) true false (stage0_49 0) (sem0_49 0) (Memref.isWhole_whole _) (hstage0_49 0) _ i⟩
theorem fl_50 : (dats m 0 c).flushed 50 t = (D (I m c main_arg2) (I m c main_arg14) (I m c main_arg26) (I m c main_arg38) : Vec Ideal S2x4x256 .f32) := by
  refine ((aft50 m c t).trans (out_50 _ _ _ _)).trans ?_
  rw [blk_2, blk_14, blk_26, blk_38]
theorem arr_50 : (dats m 0 c).arrAt 50 cfg0.N = (D (I m c main_arg2) (I m c main_arg14) (I m c main_arg26) (I m c main_arg38) : Vec Ideal S2x4x256 .f32) :=
  Dat.arrAt_eq_of_cover (dats m 0 c) 50 _ (fun t _ => (fl_50 m c t).trans (by symm; exact read_whole (Memref.whole main_v0_2) true false (stage0_50 0) (sem0_50 0) (Memref.isWhole_whole _) (hstage0_50 0) t _))
    fun i => ⟨t0, flush0_50 _, mem_whole (Memref.whole main_v0_2) true false (stage0_50 0) (sem0_50 0) (Memref.isWhole_whole _) (hstage0_50 0) _ i⟩
theorem fl_51 : (dats m 0 c).flushed 51 t = (D (I m c main_arg3) (I m c main_arg15) (I m c main_arg27) (I m c main_arg39) : Vec Ideal S2x1024 .f32) := by
  refine ((aft51 m c t).trans (out_51 _ _ _ _)).trans ?_
  rw [blk_3, blk_15, blk_27, blk_39]
theorem arr_51 : (dats m 0 c).arrAt 51 cfg0.N = (D (I m c main_arg3) (I m c main_arg15) (I m c main_arg27) (I m c main_arg39) : Vec Ideal S2x1024 .f32) :=
  Dat.arrAt_eq_of_cover (dats m 0 c) 51 _ (fun t _ => (fl_51 m c t).trans (by symm; exact read_whole (Memref.whole main_v0_3) true false (stage0_51 0) (sem0_51 0) (Memref.isWhole_whole _) (hstage0_51 0) t _))
    fun i => ⟨t0, flush0_51 _, mem_whole (Memref.whole main_v0_3) true false (stage0_51 0) (sem0_51 0) (Memref.isWhole_whole _) (hstage0_51 0) _ i⟩
theorem fl_52 : (dats m 0 c).flushed 52 t = (D (I m c main_arg4) (I m c main_arg16) (I m c main_arg28) (I m c main_arg40) : Vec Ideal S2x16x64x64 .f32) := by
  refine ((aft52 m c t).trans (out_52 _ _ _ _)).trans ?_
  rw [blk_4, blk_16, blk_28, blk_40]
theorem arr_52 : (dats m 0 c).arrAt 52 cfg0.N = (D (I m c main_arg4) (I m c main_arg16) (I m c main_arg28) (I m c main_arg40) : Vec Ideal S2x16x64x64 .f32) :=
  Dat.arrAt_eq_of_cover (dats m 0 c) 52 _ (fun t _ => (fl_52 m c t).trans (by symm; exact read_whole (Memref.whole main_v0_4) true false (stage0_52 0) (sem0_52 0) (Memref.isWhole_whole _) (hstage0_52 0) t _))
    fun i => ⟨t0, flush0_52 _, mem_whole (Memref.whole main_v0_4) true false (stage0_52 0) (sem0_52 0) (Memref.isWhole_whole _) (hstage0_52 0) _ i⟩
theorem fl_53 : (dats m 0 c).flushed 53 t = (D (I m c main_arg5) (I m c main_arg17) (I m c main_arg29) (I m c main_arg41) : Vec Ideal S2x1024 .f32) := by
  refine ((aft53 m c t).trans (out_53 _ _ _ _)).trans ?_
  rw [blk_5, blk_17, blk_29, blk_41]
theorem arr_53 : (dats m 0 c).arrAt 53 cfg0.N = (D (I m c main_arg5) (I m c main_arg17) (I m c main_arg29) (I m c main_arg41) : Vec Ideal S2x1024 .f32) :=
  Dat.arrAt_eq_of_cover (dats m 0 c) 53 _ (fun t _ => (fl_53 m c t).trans (by symm; exact read_whole (Memref.whole main_v0_5) true false (stage0_53 0) (sem0_53 0) (Memref.isWhole_whole _) (hstage0_53 0) t _))
    fun i => ⟨t0, flush0_53 _, mem_whole (Memref.whole main_v0_5) true false (stage0_53 0) (sem0_53 0) (Memref.isWhole_whole _) (hstage0_53 0) _ i⟩
theorem fl_54 : (dats m 0 c).flushed 54 t = (D (I m c main_arg6) (I m c main_arg18) (I m c main_arg30) (I m c main_arg42) : Vec Ideal S2x16x64x64 .f32) := by
  refine ((aft54 m c t).trans (out_54 _ _ _ _)).trans ?_
  rw [blk_6, blk_18, blk_30, blk_42]
theorem arr_54 : (dats m 0 c).arrAt 54 cfg0.N = (D (I m c main_arg6) (I m c main_arg18) (I m c main_arg30) (I m c main_arg42) : Vec Ideal S2x16x64x64 .f32) :=
  Dat.arrAt_eq_of_cover (dats m 0 c) 54 _ (fun t _ => (fl_54 m c t).trans (by symm; exact read_whole (Memref.whole main_v0_6) true false (stage0_54 0) (sem0_54 0) (Memref.isWhole_whole _) (hstage0_54 0) t _))
    fun i => ⟨t0, flush0_54 _, mem_whole (Memref.whole main_v0_6) true false (stage0_54 0) (sem0_54 0) (Memref.isWhole_whole _) (hstage0_54 0) _ i⟩
theorem fl_55 : (dats m 0 c).flushed 55 t = (D (I m c main_arg7) (I m c main_arg19) (I m c main_arg31) (I m c main_arg43) : Vec Ideal S2x1024 .f32) := by
  refine ((aft55 m c t).trans (out_55 _ _ _ _)).trans ?_
  rw [blk_7, blk_19, blk_31, blk_43]
theorem arr_55 : (dats m 0 c).arrAt 55 cfg0.N = (D (I m c main_arg7) (I m c main_arg19) (I m c main_arg31) (I m c main_arg43) : Vec Ideal S2x1024 .f32) :=
  Dat.arrAt_eq_of_cover (dats m 0 c) 55 _ (fun t _ => (fl_55 m c t).trans (by symm; exact read_whole (Memref.whole main_v0_7) true false (stage0_55 0) (sem0_55 0) (Memref.isWhole_whole _) (hstage0_55 0) t _))
    fun i => ⟨t0, flush0_55 _, mem_whole (Memref.whole main_v0_7) true false (stage0_55 0) (sem0_55 0) (Memref.isWhole_whole _) (hstage0_55 0) _ i⟩
theorem fl_56 : (dats m 0 c).flushed 56 t = (D (I m c main_arg8) (I m c main_arg20) (I m c main_arg32) (I m c main_arg44) : Vec Ideal S2x1024 .f32) := by
  refine ((aft56 m c t).trans (out_56 _ _ _ _)).trans ?_
  rw [blk_8, blk_20, blk_32, blk_44]
theorem arr_56 : (dats m 0 c).arrAt 56 cfg0.N = (D (I m c main_arg8) (I m c main_arg20) (I m c main_arg32) (I m c main_arg44) : Vec Ideal S2x1024 .f32) :=
  Dat.arrAt_eq_of_cover (dats m 0 c) 56 _ (fun t _ => (fl_56 m c t).trans (by symm; exact read_whole (Memref.whole main_v0_8) true false (stage0_56 0) (sem0_56 0) (Memref.isWhole_whole _) (hstage0_56 0) t _))
    fun i => ⟨t0, flush0_56 _, mem_whole (Memref.whole main_v0_8) true false (stage0_56 0) (sem0_56 0) (Memref.isWhole_whole _) (hstage0_56 0) _ i⟩
theorem fl_57 : (dats m 0 c).flushed 57 t = (D (I m c main_arg9) (I m c main_arg21) (I m c main_arg33) (I m c main_arg45) : Vec Ideal S2x2x256 .f32) := by
  refine ((aft57 m c t).trans (out_57 _ _ _ _)).trans ?_
  rw [blk_9, blk_21, blk_33, blk_45]
theorem arr_57 : (dats m 0 c).arrAt 57 cfg0.N = (D (I m c main_arg9) (I m c main_arg21) (I m c main_arg33) (I m c main_arg45) : Vec Ideal S2x2x256 .f32) :=
  Dat.arrAt_eq_of_cover (dats m 0 c) 57 _ (fun t _ => (fl_57 m c t).trans (by symm; exact read_whole (Memref.whole main_v0_9) true false (stage0_57 0) (sem0_57 0) (Memref.isWhole_whole _) (hstage0_57 0) t _))
    fun i => ⟨t0, flush0_57 _, mem_whole (Memref.whole main_v0_9) true false (stage0_57 0) (sem0_57 0) (Memref.isWhole_whole _) (hstage0_57 0) _ i⟩
theorem fl_58 : (dats m 0 c).flushed 58 t = (D (I m c main_arg10) (I m c main_arg22) (I m c main_arg34) (I m c main_arg46) : Vec Ideal S2x1024 .f32) := by
  refine ((aft58 m c t).trans (out_58 _ _ _ _)).trans ?_
  rw [blk_10, blk_22, blk_34, blk_46]
theorem arr_58 : (dats m 0 c).arrAt 58 cfg0.N = (D (I m c main_arg10) (I m c main_arg22) (I m c main_arg34) (I m c main_arg46) : Vec Ideal S2x1024 .f32) :=
  Dat.arrAt_eq_of_cover (dats m 0 c) 58 _ (fun t _ => (fl_58 m c t).trans (by symm; exact read_whole (Memref.whole main_v0_10) true false (stage0_58 0) (sem0_58 0) (Memref.isWhole_whole _) (hstage0_58 0) t _))
    fun i => ⟨t0, flush0_58 _, mem_whole (Memref.whole main_v0_10) true false (stage0_58 0) (sem0_58 0) (Memref.isWhole_whole _) (hstage0_58 0) _ i⟩
theorem fl_59 : (dats m 0 c).flushed 59 t = (D (I m c main_arg11) (I m c main_arg23) (I m c main_arg35) (I m c main_arg47) : Vec Ideal S1024 .f32) := by
  refine ((aft59 m c t).trans (out_59 _ _ _ _)).trans ?_
  rw [blk_11, blk_23, blk_35, blk_47]
theorem arr_59 : (dats m 0 c).arrAt 59 cfg0.N = (D (I m c main_arg11) (I m c main_arg23) (I m c main_arg35) (I m c main_arg47) : Vec Ideal S1024 .f32) :=
  Dat.arrAt_eq_of_cover (dats m 0 c) 59 _ (fun t _ => (fl_59 m c t).trans (by symm; exact read_whole (Memref.whole main_v0_11) true false (stage0_59 0) (sem0_59 0) (Memref.isWhole_whole _) (hstage0_59 0) t _))
    fun i => ⟨t0, flush0_59 _, mem_whole (Memref.whole main_v0_11) true false (stage0_59 0) (sem0_59 0) (Memref.isWhole_whole _) (hstage0_59 0) _ i⟩
theorem fl_60 : (dats m 0 c).flushed 60 t = (M (I m c main_arg12) (I m c main_arg24) : Vec Ideal S2x1024 .f32) := by
  refine ((aft60 m c t).trans (out_60 _ _)).trans ?_
  rw [blk_12, blk_24]
theorem arr_60 : (dats m 0 c).arrAt 60 cfg0.N = (M (I m c main_arg12) (I m c main_arg24) : Vec Ideal S2x1024 .f32) :=
  Dat.arrAt_eq_of_cover (dats m 0 c) 60 _ (fun t _ => (fl_60 m c t).trans (by symm; exact read_whole (Memref.whole main_v0_12) true false (stage0_60 0) (sem0_60 0) (Memref.isWhole_whole _) (hstage0_60 0) t _))
    fun i => ⟨t0, flush0_60 _, mem_whole (Memref.whole main_v0_12) true false (stage0_60 0) (sem0_60 0) (Memref.isWhole_whole _) (hstage0_60 0) _ i⟩
theorem fl_61 : (dats m 0 c).flushed 61 t = (M (I m c main_arg13) (I m c main_arg25) : Vec Ideal S2x3x256 .f32) := by
  refine ((aft61 m c t).trans (out_61 _ _)).trans ?_
  rw [blk_13, blk_25]
theorem arr_61 : (dats m 0 c).arrAt 61 cfg0.N = (M (I m c main_arg13) (I m c main_arg25) : Vec Ideal S2x3x256 .f32) :=
  Dat.arrAt_eq_of_cover (dats m 0 c) 61 _ (fun t _ => (fl_61 m c t).trans (by symm; exact read_whole (Memref.whole main_v0_13) true false (stage0_61 0) (sem0_61 0) (Memref.isWhole_whole _) (hstage0_61 0) t _))
    fun i => ⟨t0, flush0_61 _, mem_whole (Memref.whole main_v0_13) true false (stage0_61 0) (sem0_61 0) (Memref.isWhole_whole _) (hstage0_61 0) _ i⟩
theorem fl_62 : (dats m 0 c).flushed 62 t = (M (I m c main_arg14) (I m c main_arg26) : Vec Ideal S2x4x256 .f32) := by
  refine ((aft62 m c t).trans (out_62 _ _)).trans ?_
  rw [blk_14, blk_26]
theorem arr_62 : (dats m 0 c).arrAt 62 cfg0.N = (M (I m c main_arg14) (I m c main_arg26) : Vec Ideal S2x4x256 .f32) :=
  Dat.arrAt_eq_of_cover (dats m 0 c) 62 _ (fun t _ => (fl_62 m c t).trans (by symm; exact read_whole (Memref.whole main_v0_14) true false (stage0_62 0) (sem0_62 0) (Memref.isWhole_whole _) (hstage0_62 0) t _))
    fun i => ⟨t0, flush0_62 _, mem_whole (Memref.whole main_v0_14) true false (stage0_62 0) (sem0_62 0) (Memref.isWhole_whole _) (hstage0_62 0) _ i⟩
theorem fl_63 : (dats m 0 c).flushed 63 t = (M (I m c main_arg15) (I m c main_arg27) : Vec Ideal S2x1024 .f32) := by
  refine ((aft63 m c t).trans (out_63 _ _)).trans ?_
  rw [blk_15, blk_27]
theorem arr_63 : (dats m 0 c).arrAt 63 cfg0.N = (M (I m c main_arg15) (I m c main_arg27) : Vec Ideal S2x1024 .f32) :=
  Dat.arrAt_eq_of_cover (dats m 0 c) 63 _ (fun t _ => (fl_63 m c t).trans (by symm; exact read_whole (Memref.whole main_v0_15) true false (stage0_63 0) (sem0_63 0) (Memref.isWhole_whole _) (hstage0_63 0) t _))
    fun i => ⟨t0, flush0_63 _, mem_whole (Memref.whole main_v0_15) true false (stage0_63 0) (sem0_63 0) (Memref.isWhole_whole _) (hstage0_63 0) _ i⟩
theorem fl_64 : (dats m 0 c).flushed 64 t = (M (I m c main_arg16) (I m c main_arg28) : Vec Ideal S2x16x64x64 .f32) := by
  refine ((aft64 m c t).trans (out_64 _ _)).trans ?_
  rw [blk_16, blk_28]
theorem arr_64 : (dats m 0 c).arrAt 64 cfg0.N = (M (I m c main_arg16) (I m c main_arg28) : Vec Ideal S2x16x64x64 .f32) :=
  Dat.arrAt_eq_of_cover (dats m 0 c) 64 _ (fun t _ => (fl_64 m c t).trans (by symm; exact read_whole (Memref.whole main_v0_16) true false (stage0_64 0) (sem0_64 0) (Memref.isWhole_whole _) (hstage0_64 0) t _))
    fun i => ⟨t0, flush0_64 _, mem_whole (Memref.whole main_v0_16) true false (stage0_64 0) (sem0_64 0) (Memref.isWhole_whole _) (hstage0_64 0) _ i⟩
theorem fl_65 : (dats m 0 c).flushed 65 t = (M (I m c main_arg17) (I m c main_arg29) : Vec Ideal S2x1024 .f32) := by
  refine ((aft65 m c t).trans (out_65 _ _)).trans ?_
  rw [blk_17, blk_29]
theorem arr_65 : (dats m 0 c).arrAt 65 cfg0.N = (M (I m c main_arg17) (I m c main_arg29) : Vec Ideal S2x1024 .f32) :=
  Dat.arrAt_eq_of_cover (dats m 0 c) 65 _ (fun t _ => (fl_65 m c t).trans (by symm; exact read_whole (Memref.whole main_v0_17) true false (stage0_65 0) (sem0_65 0) (Memref.isWhole_whole _) (hstage0_65 0) t _))
    fun i => ⟨t0, flush0_65 _, mem_whole (Memref.whole main_v0_17) true false (stage0_65 0) (sem0_65 0) (Memref.isWhole_whole _) (hstage0_65 0) _ i⟩
theorem fl_66 : (dats m 0 c).flushed 66 t = (M (I m c main_arg18) (I m c main_arg30) : Vec Ideal S2x16x64x64 .f32) := by
  refine ((aft66 m c t).trans (out_66 _ _)).trans ?_
  rw [blk_18, blk_30]
theorem arr_66 : (dats m 0 c).arrAt 66 cfg0.N = (M (I m c main_arg18) (I m c main_arg30) : Vec Ideal S2x16x64x64 .f32) :=
  Dat.arrAt_eq_of_cover (dats m 0 c) 66 _ (fun t _ => (fl_66 m c t).trans (by symm; exact read_whole (Memref.whole main_v0_18) true false (stage0_66 0) (sem0_66 0) (Memref.isWhole_whole _) (hstage0_66 0) t _))
    fun i => ⟨t0, flush0_66 _, mem_whole (Memref.whole main_v0_18) true false (stage0_66 0) (sem0_66 0) (Memref.isWhole_whole _) (hstage0_66 0) _ i⟩
theorem fl_67 : (dats m 0 c).flushed 67 t = (M (I m c main_arg19) (I m c main_arg31) : Vec Ideal S2x1024 .f32) := by
  refine ((aft67 m c t).trans (out_67 _ _)).trans ?_
  rw [blk_19, blk_31]
theorem arr_67 : (dats m 0 c).arrAt 67 cfg0.N = (M (I m c main_arg19) (I m c main_arg31) : Vec Ideal S2x1024 .f32) :=
  Dat.arrAt_eq_of_cover (dats m 0 c) 67 _ (fun t _ => (fl_67 m c t).trans (by symm; exact read_whole (Memref.whole main_v0_19) true false (stage0_67 0) (sem0_67 0) (Memref.isWhole_whole _) (hstage0_67 0) t _))
    fun i => ⟨t0, flush0_67 _, mem_whole (Memref.whole main_v0_19) true false (stage0_67 0) (sem0_67 0) (Memref.isWhole_whole _) (hstage0_67 0) _ i⟩
theorem fl_68 : (dats m 0 c).flushed 68 t = (M (I m c main_arg20) (I m c main_arg32) : Vec Ideal S2x1024 .f32) := by
  refine ((aft68 m c t).trans (out_68 _ _)).trans ?_
  rw [blk_20, blk_32]
theorem arr_68 : (dats m 0 c).arrAt 68 cfg0.N = (M (I m c main_arg20) (I m c main_arg32) : Vec Ideal S2x1024 .f32) :=
  Dat.arrAt_eq_of_cover (dats m 0 c) 68 _ (fun t _ => (fl_68 m c t).trans (by symm; exact read_whole (Memref.whole main_v0_20) true false (stage0_68 0) (sem0_68 0) (Memref.isWhole_whole _) (hstage0_68 0) t _))
    fun i => ⟨t0, flush0_68 _, mem_whole (Memref.whole main_v0_20) true false (stage0_68 0) (sem0_68 0) (Memref.isWhole_whole _) (hstage0_68 0) _ i⟩
theorem fl_69 : (dats m 0 c).flushed 69 t = (M (I m c main_arg21) (I m c main_arg33) : Vec Ideal S2x2x256 .f32) := by
  refine ((aft69 m c t).trans (out_69 _ _)).trans ?_
  rw [blk_21, blk_33]
theorem arr_69 : (dats m 0 c).arrAt 69 cfg0.N = (M (I m c main_arg21) (I m c main_arg33) : Vec Ideal S2x2x256 .f32) :=
  Dat.arrAt_eq_of_cover (dats m 0 c) 69 _ (fun t _ => (fl_69 m c t).trans (by symm; exact read_whole (Memref.whole main_v0_21) true false (stage0_69 0) (sem0_69 0) (Memref.isWhole_whole _) (hstage0_69 0) t _))
    fun i => ⟨t0, flush0_69 _, mem_whole (Memref.whole main_v0_21) true false (stage0_69 0) (sem0_69 0) (Memref.isWhole_whole _) (hstage0_69 0) _ i⟩
theorem fl_70 : (dats m 0 c).flushed 70 t = (M (I m c main_arg22) (I m c main_arg34) : Vec Ideal S2x1024 .f32) := by
  refine ((aft70 m c t).trans (out_70 _ _)).trans ?_
  rw [blk_22, blk_34]
theorem arr_70 : (dats m 0 c).arrAt 70 cfg0.N = (M (I m c main_arg22) (I m c main_arg34) : Vec Ideal S2x1024 .f32) :=
  Dat.arrAt_eq_of_cover (dats m 0 c) 70 _ (fun t _ => (fl_70 m c t).trans (by symm; exact read_whole (Memref.whole main_v0_22) true false (stage0_70 0) (sem0_70 0) (Memref.isWhole_whole _) (hstage0_70 0) t _))
    fun i => ⟨t0, flush0_70 _, mem_whole (Memref.whole main_v0_22) true false (stage0_70 0) (sem0_70 0) (Memref.isWhole_whole _) (hstage0_70 0) _ i⟩
theorem fl_71 : (dats m 0 c).flushed 71 t = (M (I m c main_arg23) (I m c main_arg35) : Vec Ideal S1024 .f32) := by
  refine ((aft71 m c t).trans (out_71 _ _)).trans ?_
  rw [blk_23, blk_35]
theorem arr_71 : (dats m 0 c).arrAt 71 cfg0.N = (M (I m c main_arg23) (I m c main_arg35) : Vec Ideal S1024 .f32) :=
  Dat.arrAt_eq_of_cover (dats m 0 c) 71 _ (fun t _ => (fl_71 m c t).trans (by symm; exact read_whole (Memref.whole main_v0_23) true false (stage0_71 0) (sem0_71 0) (Memref.isWhole_whole _) (hstage0_71 0) t _))
    fun i => ⟨t0, flush0_71 _, mem_whole (Memref.whole main_v0_23) true false (stage0_71 0) (sem0_71 0) (Memref.isWhole_whole _) (hstage0_71 0) _ i⟩
theorem fl_72 : (dats m 0 c).flushed 72 t = (L (I m c main_arg12) (I m c main_arg36) : Vec Ideal S2x1024 .f32) := by
  refine ((aft72 m c t).trans (out_72 _ _)).trans ?_
  rw [blk_12, blk_36]
theorem arr_72 : (dats m 0 c).arrAt 72 cfg0.N = (L (I m c main_arg12) (I m c main_arg36) : Vec Ideal S2x1024 .f32) :=
  Dat.arrAt_eq_of_cover (dats m 0 c) 72 _ (fun t _ => (fl_72 m c t).trans (by symm; exact read_whole (Memref.whole main_v0_24) true false (stage0_72 0) (sem0_72 0) (Memref.isWhole_whole _) (hstage0_72 0) t _))
    fun i => ⟨t0, flush0_72 _, mem_whole (Memref.whole main_v0_24) true false (stage0_72 0) (sem0_72 0) (Memref.isWhole_whole _) (hstage0_72 0) _ i⟩
theorem fl_73 : (dats m 0 c).flushed 73 t = (L (I m c main_arg13) (I m c main_arg37) : Vec Ideal S2x3x256 .f32) := by
  refine ((aft73 m c t).trans (out_73 _ _)).trans ?_
  rw [blk_13, blk_37]
theorem arr_73 : (dats m 0 c).arrAt 73 cfg0.N = (L (I m c main_arg13) (I m c main_arg37) : Vec Ideal S2x3x256 .f32) :=
  Dat.arrAt_eq_of_cover (dats m 0 c) 73 _ (fun t _ => (fl_73 m c t).trans (by symm; exact read_whole (Memref.whole main_v0_25) true false (stage0_73 0) (sem0_73 0) (Memref.isWhole_whole _) (hstage0_73 0) t _))
    fun i => ⟨t0, flush0_73 _, mem_whole (Memref.whole main_v0_25) true false (stage0_73 0) (sem0_73 0) (Memref.isWhole_whole _) (hstage0_73 0) _ i⟩
theorem fl_74 : (dats m 0 c).flushed 74 t = (L (I m c main_arg14) (I m c main_arg38) : Vec Ideal S2x4x256 .f32) := by
  refine ((aft74 m c t).trans (out_74 _ _)).trans ?_
  rw [blk_14, blk_38]
theorem arr_74 : (dats m 0 c).arrAt 74 cfg0.N = (L (I m c main_arg14) (I m c main_arg38) : Vec Ideal S2x4x256 .f32) :=
  Dat.arrAt_eq_of_cover (dats m 0 c) 74 _ (fun t _ => (fl_74 m c t).trans (by symm; exact read_whole (Memref.whole main_v0_26) true false (stage0_74 0) (sem0_74 0) (Memref.isWhole_whole _) (hstage0_74 0) t _))
    fun i => ⟨t0, flush0_74 _, mem_whole (Memref.whole main_v0_26) true false (stage0_74 0) (sem0_74 0) (Memref.isWhole_whole _) (hstage0_74 0) _ i⟩
theorem fl_75 : (dats m 0 c).flushed 75 t = (L (I m c main_arg15) (I m c main_arg39) : Vec Ideal S2x1024 .f32) := by
  refine ((aft75 m c t).trans (out_75 _ _)).trans ?_
  rw [blk_15, blk_39]
theorem arr_75 : (dats m 0 c).arrAt 75 cfg0.N = (L (I m c main_arg15) (I m c main_arg39) : Vec Ideal S2x1024 .f32) :=
  Dat.arrAt_eq_of_cover (dats m 0 c) 75 _ (fun t _ => (fl_75 m c t).trans (by symm; exact read_whole (Memref.whole main_v0_27) true false (stage0_75 0) (sem0_75 0) (Memref.isWhole_whole _) (hstage0_75 0) t _))
    fun i => ⟨t0, flush0_75 _, mem_whole (Memref.whole main_v0_27) true false (stage0_75 0) (sem0_75 0) (Memref.isWhole_whole _) (hstage0_75 0) _ i⟩
theorem fl_76 : (dats m 0 c).flushed 76 t = (L (I m c main_arg16) (I m c main_arg40) : Vec Ideal S2x16x64x64 .f32) := by
  refine ((aft76 m c t).trans (out_76 _ _)).trans ?_
  rw [blk_16, blk_40]
theorem arr_76 : (dats m 0 c).arrAt 76 cfg0.N = (L (I m c main_arg16) (I m c main_arg40) : Vec Ideal S2x16x64x64 .f32) :=
  Dat.arrAt_eq_of_cover (dats m 0 c) 76 _ (fun t _ => (fl_76 m c t).trans (by symm; exact read_whole (Memref.whole main_v0_28) true false (stage0_76 0) (sem0_76 0) (Memref.isWhole_whole _) (hstage0_76 0) t _))
    fun i => ⟨t0, flush0_76 _, mem_whole (Memref.whole main_v0_28) true false (stage0_76 0) (sem0_76 0) (Memref.isWhole_whole _) (hstage0_76 0) _ i⟩
theorem fl_77 : (dats m 0 c).flushed 77 t = (L (I m c main_arg17) (I m c main_arg41) : Vec Ideal S2x1024 .f32) := by
  refine ((aft77 m c t).trans (out_77 _ _)).trans ?_
  rw [blk_17, blk_41]
theorem arr_77 : (dats m 0 c).arrAt 77 cfg0.N = (L (I m c main_arg17) (I m c main_arg41) : Vec Ideal S2x1024 .f32) :=
  Dat.arrAt_eq_of_cover (dats m 0 c) 77 _ (fun t _ => (fl_77 m c t).trans (by symm; exact read_whole (Memref.whole main_v0_29) true false (stage0_77 0) (sem0_77 0) (Memref.isWhole_whole _) (hstage0_77 0) t _))
    fun i => ⟨t0, flush0_77 _, mem_whole (Memref.whole main_v0_29) true false (stage0_77 0) (sem0_77 0) (Memref.isWhole_whole _) (hstage0_77 0) _ i⟩
theorem fl_78 : (dats m 0 c).flushed 78 t = (L (I m c main_arg18) (I m c main_arg42) : Vec Ideal S2x16x64x64 .f32) := by
  refine ((aft78 m c t).trans (out_78 _ _)).trans ?_
  rw [blk_18, blk_42]
theorem arr_78 : (dats m 0 c).arrAt 78 cfg0.N = (L (I m c main_arg18) (I m c main_arg42) : Vec Ideal S2x16x64x64 .f32) :=
  Dat.arrAt_eq_of_cover (dats m 0 c) 78 _ (fun t _ => (fl_78 m c t).trans (by symm; exact read_whole (Memref.whole main_v0_30) true false (stage0_78 0) (sem0_78 0) (Memref.isWhole_whole _) (hstage0_78 0) t _))
    fun i => ⟨t0, flush0_78 _, mem_whole (Memref.whole main_v0_30) true false (stage0_78 0) (sem0_78 0) (Memref.isWhole_whole _) (hstage0_78 0) _ i⟩
theorem fl_79 : (dats m 0 c).flushed 79 t = (L (I m c main_arg19) (I m c main_arg43) : Vec Ideal S2x1024 .f32) := by
  refine ((aft79 m c t).trans (out_79 _ _)).trans ?_
  rw [blk_19, blk_43]
theorem arr_79 : (dats m 0 c).arrAt 79 cfg0.N = (L (I m c main_arg19) (I m c main_arg43) : Vec Ideal S2x1024 .f32) :=
  Dat.arrAt_eq_of_cover (dats m 0 c) 79 _ (fun t _ => (fl_79 m c t).trans (by symm; exact read_whole (Memref.whole main_v0_31) true false (stage0_79 0) (sem0_79 0) (Memref.isWhole_whole _) (hstage0_79 0) t _))
    fun i => ⟨t0, flush0_79 _, mem_whole (Memref.whole main_v0_31) true false (stage0_79 0) (sem0_79 0) (Memref.isWhole_whole _) (hstage0_79 0) _ i⟩
theorem fl_80 : (dats m 0 c).flushed 80 t = (L (I m c main_arg20) (I m c main_arg44) : Vec Ideal S2x1024 .f32) := by
  refine ((aft80 m c t).trans (out_80 _ _)).trans ?_
  rw [blk_20, blk_44]
theorem arr_80 : (dats m 0 c).arrAt 80 cfg0.N = (L (I m c main_arg20) (I m c main_arg44) : Vec Ideal S2x1024 .f32) :=
  Dat.arrAt_eq_of_cover (dats m 0 c) 80 _ (fun t _ => (fl_80 m c t).trans (by symm; exact read_whole (Memref.whole main_v0_32) true false (stage0_80 0) (sem0_80 0) (Memref.isWhole_whole _) (hstage0_80 0) t _))
    fun i => ⟨t0, flush0_80 _, mem_whole (Memref.whole main_v0_32) true false (stage0_80 0) (sem0_80 0) (Memref.isWhole_whole _) (hstage0_80 0) _ i⟩
theorem fl_81 : (dats m 0 c).flushed 81 t = (L (I m c main_arg21) (I m c main_arg45) : Vec Ideal S2x2x256 .f32) := by
  refine ((aft81 m c t).trans (out_81 _ _)).trans ?_
  rw [blk_21, blk_45]
theorem arr_81 : (dats m 0 c).arrAt 81 cfg0.N = (L (I m c main_arg21) (I m c main_arg45) : Vec Ideal S2x2x256 .f32) :=
  Dat.arrAt_eq_of_cover (dats m 0 c) 81 _ (fun t _ => (fl_81 m c t).trans (by symm; exact read_whole (Memref.whole main_v0_33) true false (stage0_81 0) (sem0_81 0) (Memref.isWhole_whole _) (hstage0_81 0) t _))
    fun i => ⟨t0, flush0_81 _, mem_whole (Memref.whole main_v0_33) true false (stage0_81 0) (sem0_81 0) (Memref.isWhole_whole _) (hstage0_81 0) _ i⟩
theorem fl_82 : (dats m 0 c).flushed 82 t = (L (I m c main_arg22) (I m c main_arg46) : Vec Ideal S2x1024 .f32) := by
  refine ((aft82 m c t).trans (out_82 _ _)).trans ?_
  rw [blk_22, blk_46]
theorem arr_82 : (dats m 0 c).arrAt 82 cfg0.N = (L (I m c main_arg22) (I m c main_arg46) : Vec Ideal S2x1024 .f32) :=
  Dat.arrAt_eq_of_cover (dats m 0 c) 82 _ (fun t _ => (fl_82 m c t).trans (by symm; exact read_whole (Memref.whole main_v0_34) true false (stage0_82 0) (sem0_82 0) (Memref.isWhole_whole _) (hstage0_82 0) t _))
    fun i => ⟨t0, flush0_82 _, mem_whole (Memref.whole main_v0_34) true false (stage0_82 0) (sem0_82 0) (Memref.isWhole_whole _) (hstage0_82 0) _ i⟩
theorem fl_83 : (dats m 0 c).flushed 83 t = (L (I m c main_arg23) (I m c main_arg47) : Vec Ideal S1024 .f32) := by
  refine ((aft83 m c t).trans (out_83 _ _)).trans ?_
  rw [blk_23, blk_47]
theorem arr_83 : (dats m 0 c).arrAt 83 cfg0.N = (L (I m c main_arg23) (I m c main_arg47) : Vec Ideal S1024 .f32) :=
  Dat.arrAt_eq_of_cover (dats m 0 c) 83 _ (fun t _ => (fl_83 m c t).trans (by symm; exact read_whole (Memref.whole main_v0_35) true false (stage0_83 0) (sem0_83 0) (Memref.isWhole_whole _) (hstage0_83 0) t _))
    fun i => ⟨t0, flush0_83 _, mem_whole (Memref.whole main_v0_35) true false (stage0_83 0) (sem0_83 0) (Memref.isWhole_whole _) (hstage0_83 0) _ i⟩
end

end Cert.AdamSmallIdeal.Val

end
-- ==== Proof.AdamSmallValue.lean ====
/- The twelve small parameters' AdamW: the kernel's result arrays are the reference's. -/
module

public import proofs.«01_k».proof.Defs
public import proofs.«01_k».proof.Proof.AdamSmallOut
public import Idealize.ShloMosaic.Lib.StableHlo.Run
public import proofs.«01_k».proof.Proof.Gen.AdamSmallRefIdeal.Run

@[expose] public section

set_option maxRecDepth 16384

noncomputable section

namespace Cert.AdamSmallIdeal.Val

open Cert.AdamSmallIdeal Cert.AdamSmallIdeal.Gen Cert.AdamSmallIdeal.Hand Idealize.ShloMosaic Idealize.ShloMosaic.TcCoe Idealize.SL.Sem Cert.AdamStep
open Idealize.ShloMosaic.Pipeline (Dat)

section
variable {S : Shape} (hb : (⟨0, ![]⟩ : Shape).BroadcastsInDim S (![] : Fin 0 → Fin S.rank))

/-- A constant over a shape, as the reference spells it. -/
abbrev rc (b : BitVec 32) : FVec Ideal S .f32 := broadcastInDim S ![] hb (constant (F := Ideal) ⟨0, ![]⟩ .f32 b)

theorem rc_apply (b : BitVec 32) (i : S.Idx) : rc hb b i = Ideal.ofBits FTy.f32 b := rfl

theorem rM (g m : Vec Ideal S .f32) : (addf (mulf (rc hb 0x3F666666#32) m) (mulf (rc hb 0x3DCCCCCD#32) g) : FVec Ideal S .f32) = M g m := by
  funext i; unfold M mom; pointwise; all_goals done

theorem rL (g v : Vec Ideal S .f32) : (addf (mulf (rc hb 0x3F7FBE77#32) v) (mulf (rc hb 0x3A83126F#32) (mulf g g)) : FVec Ideal S .f32) = L g v := by
  funext i; unfold L vel; pointwise; all_goals done

theorem rD (w g m v : Vec Ideal S .f32) :
    (mulf (rc hb 0xBA83126F#32) (addf (Host.divf (Host.divf (addf (mulf (rc hb 0x3F666666#32) m) (mulf (rc hb 0x3DCCCCCD#32) g)) (rc hb 0x3F26BD02#32))
      (addf (Host.sqrt (Host.divf (addf (mulf (rc hb 0x3F7FBE77#32) v) (mulf (rc hb 0x3A83126F#32) (mulf g g))) (rc hb 0x3C231ACC#32))) (rc hb 0x322BCC77#32)))
      (mulf (rc hb 0x3C23D70A#32) w)) : FVec Ideal S .f32) = D w g m v := by
  funext i; unfold D delta mom vel; pointwise; all_goals done
end

set_option maxHeartbeats 16000000 in
/-- From the kernel's run to its final arrays: both programs end with the step's formula in every result. -/
theorem algebraic_of (hrun : ∀ (m : (ℓ : Loc nD τ sig) → Buf (Elt Ideal) ℓ) (ρ : Dev nD → PrngReg),
      θ_run defs (onTc (τ := τ) (main (F := Ideal))) (s₀ m ρ) (fun r => (Pipeline.FramePost cfgs (dats m) 0 (V m)) r ∧ r.2.sem = fun _ => 0)) :
    Cert.algebraic_AdamSmallIdeal_AdamSmallRefIdeal := by
  intro m g m' g' hp hag
  refine ⟨fun c => D (I m c main_arg0) (I m c main_arg12) (I m c main_arg24) (I m c main_arg36),
    fun c => D (I m c main_arg1) (I m c main_arg13) (I m c main_arg25) (I m c main_arg37),
    fun c => D (I m c main_arg2) (I m c main_arg14) (I m c main_arg26) (I m c main_arg38),
    fun c => D (I m c main_arg3) (I m c main_arg15) (I m c main_arg27) (I m c main_arg39),
    fun c => D (I m c main_arg4) (I m c main_arg16) (I m c main_arg28) (I m c main_arg40),
    fun c => D (I m c main_arg5) (I m c main_arg17) (I m c main_arg29) (I m c main_arg41),
    fun c => D (I m c main_arg6) (I m c main_arg18) (I m c main_arg30) (I m c main_arg42),
    fun c => D (I m c main_arg7) (I m c main_arg19) (I m c main_arg31) (I m c main_arg43),
    fun c => D (I m c main_arg8) (I m c main_arg20) (I m c main_arg32) (I m c main_arg44),
    fun c => D (I m c main_arg9) (I m c main_arg21) (I m c main_arg33) (I m c main_arg45),
    fun c => D (I m c main_arg10) (I m c main_arg22) (I m c main_arg34) (I m c main_arg46),
    fun c => D (I m c main_arg11) (I m c main_arg23) (I m c main_arg35) (I m c main_arg47),
    fun c => M (I m c main_arg12) (I m c main_arg24),
    fun c => M (I m c main_arg13) (I m c main_arg25),
    fun c => M (I m c main_arg14) (I m c main_arg26),
    fun c => M (I m c main_arg15) (I m c main_arg27),
    fun c => M (I m c main_arg16) (I m c main_arg28),
    fun c => M (I m c main_arg17) (I m c main_arg29),
    fun c => M (I m c main_arg18) (I m c main_arg30),
    fun c => M (I m c main_arg19) (I m c main_arg31),
    fun c => M (I m c main_arg20) (I m c main_arg32),
    fun c => M (I m c main_arg21) (I m c main_arg33),
    fun c => M (I m c main_arg22) (I m c main_arg34),
    fun c => M (I m c main_arg23) (I m c main_arg35),
    fun c => L (I m c main_arg12) (I m c main_arg36),
    fun c => L (I m c main_arg13) (I m c main_arg37),
    fun c => L (I m c main_arg14) (I m c main_arg38),
    fun c => L (I m c main_arg15) (I m c main_arg39),
    fun c => L (I m c main_arg16) (I m c main_arg40),
    fun c => L (I m c main_arg17) (I m c main_arg41),
    fun c => L (I m c main_arg18) (I m c main_arg42),
    fun c => L (I m c main_arg19) (I m c main_arg43),
    fun c => L (I m c main_arg20) (I m c main_arg44),
    fun c => L (I m c main_arg21) (I m c main_arg45),
    fun c => L (I m c main_arg22) (I m c main_arg46),
    fun c => L (I m c main_arg23) (I m c main_arg47),
    (θ_run defs _ _).mono (fun r h c => ⟨((h.1 c).1 48).trans (arr_48 m c),
      ((h.1 c).1 49).trans (arr_49 m c),
      ((h.1 c).1 50).trans (arr_50 m c),
      ((h.1 c).1 51).trans (arr_51 m c),
      ((h.1 c).1 52).trans (arr_52 m c),
      ((h.1 c).1 53).trans (arr_53 m c),
      ((h.1 c).1 54).trans (arr_54 m c),
      ((h.1 c).1 55).trans (arr_55 m c),
      ((h.1 c).1 56).trans (arr_56 m c),
      ((h.1 c).1 57).trans (arr_57 m c),
      ((h.1 c).1 58).trans (arr_58 m c),
      ((h.1 c).1 59).trans (arr_59 m c),
      ((h.1 c).1 60).trans (arr_60 m c),
      ((h.1 c).1 61).trans (arr_61 m c),
      ((h.1 c).1 62).trans (arr_62 m c),
      ((h.1 c).1 63).trans (arr_63 m c),
      ((h.1 c).1 64).trans (arr_64 m c),
      ((h.1 c).1 65).trans (arr_65 m c),
      ((h.1 c).1 66).trans (arr_66 m c),
      ((h.1 c).1 67).trans (arr_67 m c),
      ((h.1 c).1 68).trans (arr_68 m c),
      ((h.1 c).1 69).trans (arr_69 m c),
      ((h.1 c).1 70).trans (arr_70 m c),
      ((h.1 c).1 71).trans (arr_71 m c),
      ((h.1 c).1 72).trans (arr_72 m c),
      ((h.1 c).1 73).trans (arr_73 m c),
      ((h.1 c).1 74).trans (arr_74 m c),
      ((h.1 c).1 75).trans (arr_75 m c),
      ((h.1 c).1 76).trans (arr_76 m c),
      ((h.1 c).1 77).trans (arr_77 m c),
      ((h.1 c).1 78).trans (arr_78 m c),
      ((h.1 c).1 79).trans (arr_79 m c),
      ((h.1 c).1 80).trans (arr_80 m c),
      ((h.1 c).1 81).trans (arr_81 m c),
      ((h.1 c).1 82).trans (arr_82 m c),
      ((h.1 c).1 83).trans (arr_83 m c),
      ((h.1 c).1 0).trans (kept m c 0 rfl),
      ((h.1 c).1 1).trans (kept m c 1 rfl),
      ((h.1 c).1 2).trans (kept m c 2 rfl),
      ((h.1 c).1 3).trans (kept m c 3 rfl),
      ((h.1 c).1 4).trans (kept m c 4 rfl),
      ((h.1 c).1 5).trans (kept m c 5 rfl),
      ((h.1 c).1 6).trans (kept m c 6 rfl),
      ((h.1 c).1 7).trans (kept m c 7 rfl),
      ((h.1 c).1 8).trans (kept m c 8 rfl),
      ((h.1 c).1 9).trans (kept m c 9 rfl),
      ((h.1 c).1 10).trans (kept m c 10 rfl),
      ((h.1 c).1 11).trans (kept m c 11 rfl),
      ((h.1 c).1 12).trans (kept m c 12 rfl),
      ((h.1 c).1 13).trans (kept m c 13 rfl),
      ((h.1 c).1 14).trans (kept m c 14 rfl),
      ((h.1 c).1 15).trans (kept m c 15 rfl),
      ((h.1 c).1 16).trans (kept m c 16 rfl),
      ((h.1 c).1 17).trans (kept m c 17 rfl),
      ((h.1 c).1 18).trans (kept m c 18 rfl),
      ((h.1 c).1 19).trans (kept m c 19 rfl),
      ((h.1 c).1 20).trans (kept m c 20 rfl),
      ((h.1 c).1 21).trans (kept m c 21 rfl),
      ((h.1 c).1 22).trans (kept m c 22 rfl),
      ((h.1 c).1 23).trans (kept m c 23 rfl),
      ((h.1 c).1 24).trans (kept m c 24 rfl),
      ((h.1 c).1 25).trans (kept m c 25 rfl),
      ((h.1 c).1 26).trans (kept m c 26 rfl),
      ((h.1 c).1 27).trans (kept m c 27 rfl),
      ((h.1 c).1 28).trans (kept m c 28 rfl),
      ((h.1 c).1 29).trans (kept m c 29 rfl),
      ((h.1 c).1 30).trans (kept m c 30 rfl),
      ((h.1 c).1 31).trans (kept m c 31 rfl),
      ((h.1 c).1 32).trans (kept m c 32 rfl),
      ((h.1 c).1 33).trans (kept m c 33 rfl),
      ((h.1 c).1 34).trans (kept m c 34 rfl),
      ((h.1 c).1 35).trans (kept m c 35 rfl),
      ((h.1 c).1 36).trans (kept m c 36 rfl),
      ((h.1 c).1 37).trans (kept m c 37 rfl),
      ((h.1 c).1 38).trans (kept m c 38 rfl),
      ((h.1 c).1 39).trans (kept m c 39 rfl),
      ((h.1 c).1 40).trans (kept m c 40 rfl),
      ((h.1 c).1 41).trans (kept m c 41 rfl),
      ((h.1 c).1 42).trans (kept m c 42 rfl),
      ((h.1 c).1 43).trans (kept m c 43 rfl),
      ((h.1 c).1 44).trans (kept m c 44 rfl),
      ((h.1 c).1 45).trans (kept m c 45 rfl),
      ((h.1 c).1 46).trans (kept m c 46 rfl),
      ((h.1 c).1 47).trans (kept m c 47 rfl)⟩) (hrun m g), ?_⟩
  refine (θ_run Cert.AdamSmallRefIdeal.defs _ _).mono (fun r h c => ?_) (Cert.AdamSmallRefIdeal.Value.run m' g')
  obtain ⟨h48, h49, h50, h51, h52, h53, h54, h55, h56, h57, h58, h59, h60, h61, h62, h63, h64, h65, h66, h67, h68, h69, h70, h71, h72, h73, h74, h75, h76, h77, h78, h79, h80, h81, h82, h83, hargs⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hag c
  exact ⟨h48.trans ((rD _ _ _ _ _).trans (congr (congr (congr (congrArg D a0) a12) a24) a36)),
    h49.trans ((rD _ _ _ _ _).trans (congr (congr (congr (congrArg D a1) a13) a25) a37)),
    h50.trans ((rD _ _ _ _ _).trans (congr (congr (congr (congrArg D a2) a14) a26) a38)),
    h51.trans ((rD _ _ _ _ _).trans (congr (congr (congr (congrArg D a3) a15) a27) a39)),
    h52.trans ((rD _ _ _ _ _).trans (congr (congr (congr (congrArg D a4) a16) a28) a40)),
    h53.trans ((rD _ _ _ _ _).trans (congr (congr (congr (congrArg D a5) a17) a29) a41)),
    h54.trans ((rD _ _ _ _ _).trans (congr (congr (congr (congrArg D a6) a18) a30) a42)),
    h55.trans ((rD _ _ _ _ _).trans (congr (congr (congr (congrArg D a7) a19) a31) a43)),
    h56.trans ((rD _ _ _ _ _).trans (congr (congr (congr (congrArg D a8) a20) a32) a44)),
    h57.trans ((rD _ _ _ _ _).trans (congr (congr (congr (congrArg D a9) a21) a33) a45)),
    h58.trans ((rD _ _ _ _ _).trans (congr (congr (congr (congrArg D a10) a22) a34) a46)),
    h59.trans ((rD _ _ _ _ _).trans (congr (congr (congr (congrArg D a11) a23) a35) a47)),
    h60.trans ((rM _ _ _).trans (congrArg₂ M a12 a24)),
    h61.trans ((rM _ _ _).trans (congrArg₂ M a13 a25)),
    h62.trans ((rM _ _ _).trans (congrArg₂ M a14 a26)),
    h63.trans ((rM _ _ _).trans (congrArg₂ M a15 a27)),
    h64.trans ((rM _ _ _).trans (congrArg₂ M a16 a28)),
    h65.trans ((rM _ _ _).trans (congrArg₂ M a17 a29)),
    h66.trans ((rM _ _ _).trans (congrArg₂ M a18 a30)),
    h67.trans ((rM _ _ _).trans (congrArg₂ M a19 a31)),
    h68.trans ((rM _ _ _).trans (congrArg₂ M a20 a32)),
    h69.trans ((rM _ _ _).trans (congrArg₂ M a21 a33)),
    h70.trans ((rM _ _ _).trans (congrArg₂ M a22 a34)),
    h71.trans ((rM _ _ _).trans (congrArg₂ M a23 a35)),
    h72.trans ((rL _ _ _).trans (congrArg₂ L a12 a36)),
    h73.trans ((rL _ _ _).trans (congrArg₂ L a13 a37)),
    h74.trans ((rL _ _ _).trans (congrArg₂ L a14 a38)),
    h75.trans ((rL _ _ _).trans (congrArg₂ L a15 a39)),
    h76.trans ((rL _ _ _).trans (congrArg₂ L a16 a40)),
    h77.trans ((rL _ _ _).trans (congrArg₂ L a17 a41)),
    h78.trans ((rL _ _ _).trans (congrArg₂ L a18 a42)),
    h79.trans ((rL _ _ _).trans (congrArg₂ L a19 a43)),
    h80.trans ((rL _ _ _).trans (congrArg₂ L a20 a44)),
    h81.trans ((rL _ _ _).trans (congrArg₂ L a21 a45)),
    h82.trans ((rL _ _ _).trans (congrArg₂ L a22 a46)),
    h83.trans ((rL _ _ _).trans (congrArg₂ L a23 a47)), hargs⟩

/-- The reference leaves its arguments as they were; it declares no semaphore. -/
theorem frame_reference : Cert.quiescent_AdamSmallRefIdeal := fun m ρ _ =>
  (θ_run Cert.AdamSmallRefIdeal.defs _ _).mono
    (fun r h => ⟨fun c => by
      obtain ⟨_, _, _, _, _, _, _, _, _, _, _, _, _, _, _, _, _, _, _, _, _, _, _, _, _, _, _, _, _, _, _, _, _, _, _, _, hargs⟩ := h c; exact hargs,
      Idealize.ShloMosaic.sem_eq_zero_of_no_sems (by decide) r.2⟩)
    (Cert.AdamSmallRefIdeal.Value.run (F := Ideal) m ρ)

end Cert.AdamSmallIdeal.Val

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Square
public import proofs.«01_k».proof.Proof.Gen.Square.Skeleton
public import proofs.«01_k».proof.Proof.Gen.Square.Launch
public import proofs.«01_k».proof.Proof.Gen.Square.Points
public import proofs.«01_k».proof.Proof.Gen.Square.Frame
public import proofs.«01_k».proof.Proof.Gen.SquareIdeal
public import proofs.«01_k».proof.Proof.Gen.SquareIdeal.Skeleton
public import proofs.«01_k».proof.Proof.Gen.SquareIdeal.Launch
public import proofs.«01_k».proof.Proof.Gen.SquareIdeal.Points
public import proofs.«01_k».proof.Proof.Gen.SquareIdeal.Frame
public import proofs.«01_k».proof.Proof.Gen.SquareRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pair
public import proofs.«01_k».proof.Proof.Gen.Pair.Skeleton
public import proofs.«01_k».proof.Proof.Gen.Pair.Launch
public import proofs.«01_k».proof.Proof.Gen.Pair.Points
public import proofs.«01_k».proof.Proof.Gen.Pair.Frame
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Points
public import proofs.«01_k».proof.Proof.Gen.PairIdeal.Frame
public import proofs.«01_k».proof.Proof.Gen.PairRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareRefIdeal
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.SquareIdeal.Value
public import proofs.«01_k».proof.Proof.Gen.SquareRefIdeal.Run
public import proofs.«01_k».proof.Proof.Gen.SquareRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.PairIdeal.Value
public import proofs.«01_k».proof.Proof.Gen.PairRefIdeal.Run
public import proofs.«01_k».proof.Proof.Gen.PairRefIdeal.Read
public import proofs.«01_k».proof.Proof.Gen.WinIdeal.Value
public import proofs.«01_k».proof.Proof.Gen.WinRefIdeal.Run
public import proofs.«01_k».proof.Proof.Gen.WinRefIdeal.Read
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamFfnIdeal.Value
public import proofs.«01_k».proof.Proof.Gen.AdamFfnRefIdeal.Run
public import proofs.«01_k».proof.Proof.Gen.AdamFfnRefIdeal.Read
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.FfnFwdRefIdeal.Run
public import proofs.«01_k».proof.Proof.Gen.FfnFwdRefIdeal.Read
public import proofs.«01_k».proof.Proof.FfnFwdFrame
public import proofs.«01_k».proof.Proof.FfnFwdIdealFrame
public import proofs.«01_k».proof.Proof.MergeValue
public import proofs.«01_k».proof.Proof.SquareValue
public import proofs.«01_k».proof.Proof.DownValue
public import proofs.«01_k».proof.Proof.PairValue
public import proofs.«01_k».proof.Proof.WinValue
public import proofs.«01_k».proof.Proof.InprojValue
public import proofs.«01_k».proof.Proof.FfnValue
public import proofs.«01_k».proof.Proof.AdamInValue
public import proofs.«01_k».proof.Proof.AdamSquareValue
public import proofs.«01_k».proof.Proof.AdamFfnValue
public import proofs.«01_k».proof.Proof.MergeFwdValue
public import proofs.«01_k».proof.Proof.FfnFwdValue
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.AdamGateValue
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallRefIdeal
public import proofs.«01_k».proof.Proof.Gen.AdamSmallRefIdeal.Run
public import proofs.«01_k».proof.Proof.AdamSmallBitsRun
public import proofs.«01_k».proof.Proof.AdamSmallRun
public import proofs.«01_k».proof.Proof.AdamSmallValue
public import Idealize.ShloMosaic.Adequacy
public import Idealize.ShloMosaic.Init

@[expose] public section

noncomputable section

namespace Cert.Proof

open Idealize.ShloMosaic Idealize.SL.Sem Cert.Merge

/-- The reference of the merge's gradient leaves its arguments as they were; it declares no semaphore. -/
theorem frame_merge_reference : Cert.quiescent_MergeRefIdeal := fun m ρ _ =>
  (θ_run Cert.MergeRefIdeal.defs _ _).mono
    (fun r h => ⟨fun c => by obtain ⟨_, _, _, _, _, _, _, hargs⟩ := h c; exact hargs,
      Idealize.ShloMosaic.sem_eq_zero_of_no_sems (by decide) r.2⟩)
    (Cert.MergeRefIdeal.Value.run (F := Ideal) m ρ)

theorem claim : Cert.Claim := ⟨
  Cert.Merge.Gen.facts,
  Cert.MergeIdeal.Gen.facts,
  Cert.MergeRefIdeal.Gen.facts,
  Cert.Square.Gen.facts,
  Cert.SquareIdeal.Gen.facts,
  Cert.SquareRefIdeal.Gen.facts,
  Cert.Down.Gen.facts,
  Cert.DownIdeal.Gen.facts,
  Cert.DownRefIdeal.Gen.facts,
  Cert.Pair.Gen.facts,
  Cert.PairIdeal.Gen.facts,
  Cert.PairRefIdeal.Gen.facts,
  Cert.Win.Gen.facts,
  Cert.WinIdeal.Gen.facts,
  Cert.WinRefIdeal.Gen.facts,
  Cert.Inproj.Gen.facts,
  Cert.InprojIdeal.Gen.facts,
  Cert.InprojRefIdeal.Gen.facts,
  Cert.Ffn.Gen.facts,
  Cert.FfnIdeal.Gen.facts,
  Cert.FfnRefIdeal.Gen.facts,
  Cert.AdamIn.Gen.facts,
  Cert.AdamInIdeal.Gen.facts,
  Cert.AdamInRefIdeal.Gen.facts,
  Cert.AdamSquare.Gen.facts,
  Cert.AdamSquareIdeal.Gen.facts,
  Cert.AdamSquareRefIdeal.Gen.facts,
  Cert.AdamFfn.Gen.facts,
  Cert.AdamFfnIdeal.Gen.facts,
  Cert.AdamFfnRefIdeal.Gen.facts,
  Cert.MergeFwd.Gen.facts,
  Cert.MergeFwdIdeal.Gen.facts,
  Cert.MergeFwdRefIdeal.Gen.facts,
  Cert.FfnFwd.Gen.facts,
  Cert.FfnFwdIdeal.Gen.facts,
  Cert.FfnFwdRefIdeal.Gen.facts,
  Cert.AdamGate.Gen.facts,
  Cert.AdamGateIdeal.Gen.facts,
  Cert.AdamGateRefIdeal.Gen.facts,
  Cert.AdamSmall.Gen.facts,
  Cert.AdamSmallIdeal.Gen.facts,
  Cert.AdamSmallRefIdeal.Gen.facts,
  fun m ρ _ => Cert.Merge.Gen.frame m ρ,
  fun m ρ _ => Cert.MergeIdeal.Gen.frame m ρ,
  frame_merge_reference,
  fun m ρ _ => Cert.Square.Gen.frame m ρ,
  fun m ρ _ => Cert.SquareIdeal.Gen.frame m ρ,
  Cert.SquareIdeal.Val.frame_reference,
  fun m ρ _ => Cert.Down.Gen.frame m ρ,
  fun m ρ _ => Cert.DownIdeal.Gen.frame m ρ,
  Cert.DownIdeal.Val.frame_reference,
  fun m ρ _ => Cert.Pair.Gen.frame m ρ,
  fun m ρ _ => Cert.PairIdeal.Gen.frame m ρ,
  Cert.PairIdeal.Val.frame_reference,
  fun m ρ _ => Cert.Win.Gen.frame m ρ,
  fun m ρ _ => Cert.WinIdeal.Gen.frame m ρ,
  Cert.WinIdeal.Val.frame_reference,
  fun m ρ _ => Cert.Inproj.Gen.frame m ρ,
  fun m ρ _ => Cert.InprojIdeal.Gen.frame m ρ,
  Cert.InprojIdeal.Val.frame_reference,
  fun m ρ _ => Cert.Ffn.Gen.frame m ρ,
  fun m ρ _ => Cert.FfnIdeal.Gen.frame m ρ,
  Cert.FfnIdeal.Val.frame_reference,
  fun m ρ _ => Cert.AdamIn.Gen.frame m ρ,
  fun m ρ _ => Cert.AdamInIdeal.Gen.frame m ρ,
  Cert.AdamInIdeal.Val.frame_reference,
  fun m ρ _ => Cert.AdamSquare.Gen.frame m ρ,
  fun m ρ _ => Cert.AdamSquareIdeal.Gen.frame m ρ,
  Cert.AdamSquareIdeal.Val.frame_reference,
  fun m ρ _ => Cert.AdamFfn.Gen.frame m ρ,
  fun m ρ _ => Cert.AdamFfnIdeal.Gen.frame m ρ,
  Cert.AdamFfnIdeal.Val.frame_reference,
  fun m ρ _ => Cert.MergeFwd.Gen.frame m ρ,
  fun m ρ _ => Cert.MergeFwdIdeal.Gen.frame m ρ,
  Cert.MergeFwdIdeal.Val.frame_reference,
  Cert.FfnFwd.Hand.frame,
  fun m ρ _ => Cert.FfnFwdIdeal.Hand.frame m ρ,
  Cert.FfnFwdIdeal.Val.frame_reference,
  fun m ρ _ => Cert.AdamGate.Gen.frame m ρ,
  fun m ρ _ => Cert.AdamGateIdeal.Gen.frame m ρ,
  Cert.AdamGateIdeal.Val.frame_reference,
  fun m ρ _ => Cert.AdamSmall.Hand.frame m ρ,
  fun m ρ _ => Cert.AdamSmallIdeal.Hand.frame m ρ,
  Cert.AdamSmallIdeal.Val.frame_reference,
  trivial,
  Cert.MergeIdeal.Val.algebraic_merge,
  trivial,
  Cert.SquareIdeal.Val.algebraic,
  trivial,
  Cert.DownIdeal.Val.algebraic,
  trivial,
  Cert.PairIdeal.Val.algebraic,
  trivial,
  Cert.WinIdeal.Val.algebraic,
  trivial,
  Cert.InprojIdeal.Val.algebraic,
  trivial,
  Cert.FfnIdeal.Val.algebraic,
  trivial,
  Cert.AdamInIdeal.Val.algebraic,
  trivial,
  Cert.AdamSquareIdeal.Val.algebraic,
  trivial,
  Cert.AdamFfnIdeal.Val.algebraic,
  trivial,
  Cert.MergeFwdIdeal.Val.algebraic,
  trivial,
  Cert.FfnFwdIdeal.Val.algebraic,
  trivial,
  Cert.AdamGateIdeal.Val.algebraic,
  trivial,
  Cert.AdamSmallIdeal.Val.algebraic_of fun m ρ => Cert.AdamSmallIdeal.Hand.run_main_quiescent m ρ⟩

end Cert.Proof

end
